-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v209_0)) (v1 : (c : Dev Cert.KernelIdeal.nD) → Buf (Elt Ideal) ((c.tc : Thread Cert.KernelIdeal.nD Cert.KernelIdeal.τ).loc Cert.KernelIdeal.main_v209_1)) (v2 : (c : Dev Cert.KernelIdeal.nD) → Buf (Elt Ideal) ((c.tc : Thread Cert.KernelIdeal.nD Cert.KernelIdeal.τ).loc Cert.KernelIdeal.main_v209_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v209_0) = v0 c
          ∧ r.2.mem ((c.tc : Thread Cert.KernelIdeal.nD Cert.KernelIdeal.τ).loc Cert.KernelIdeal.main_v209_1) = v1 c
          ∧ r.2.mem ((c.tc : Thread Cert.KernelIdeal.nD Cert.KernelIdeal.τ).loc Cert.KernelIdeal.main_v209_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v525) = v0 c
          ∧ r.2.mem ((c.tc : Thread Cert.ReferenceIdeal.nD Cert.ReferenceIdeal.τ).loc Cert.ReferenceIdeal.main_v524) = v1 c
          ∧ r.2.mem ((c.tc : Thread Cert.ReferenceIdeal.nD Cert.ReferenceIdeal.τ).loc Cert.ReferenceIdeal.main_v521) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_v14) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v7) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Kernel.lean ====
abbrev S2x2304x512 : Shape := ⟨3, ![2, 2304, 512]⟩
abbrev S2x2304x3840 : Shape := ⟨3, ![2, 2304, 3840]⟩
abbrev S2048x32 : Shape := ⟨2, ![2048, 32]⟩
abbrev S4 : Shape := ⟨1, ![4]⟩
abbrev S2048x128 : Shape := ⟨2, ![2048, 128]⟩
abbrev S_ : Shape := ⟨0, ![]⟩
abbrev S256x128 : Shape := ⟨2, ![256, 128]⟩
abbrev S2304x128 : Shape := ⟨2, ![2304, 128]⟩
abbrev S1x4 : Shape := ⟨2, ![1, 4]⟩
abbrev S1x128 : Shape := ⟨2, ![1, 128]⟩
abbrev S2x2304x4x128 : Shape := ⟨4, ![2, 2304, 4, 128]⟩
abbrev S2x256x4x128 : Shape := ⟨4, ![2, 256, 4, 128]⟩
abbrev S2x2x128x4x128 : Shape := ⟨5, ![2, 2, 128, 4, 128]⟩
abbrev S2x2x4x128x128 : Shape := ⟨5, ![2, 2, 4, 128, 128]⟩
abbrev S2x1x4x128x128 : Shape := ⟨5, ![2, 1, 4, 128, 128]⟩
abbrev S4x1 : Shape := ⟨2, ![4, 1]⟩
abbrev S128 : Shape := ⟨1, ![128]⟩
abbrev S4x128 : Shape := ⟨2, ![4, 128]⟩
abbrev S4x128x1 : Shape := ⟨3, ![4, 128, 1]⟩
abbrev S1x1x4x128x1 : Shape := ⟨5, ![1, 1, 4, 128, 1]⟩
abbrev S4x1x1 : Shape := ⟨3, ![4, 1, 1]⟩
abbrev S1x1x4x1x1 : Shape := ⟨5, ![1, 1, 4, 1, 1]⟩
abbrev S2x2048x4x128 : Shape := ⟨4, ![2, 2048, 4, 128]⟩
abbrev S2x2048x4x64 : Shape := ⟨4, ![2, 2048, 4, 64]⟩
abbrev S2x2048x4x32 : Shape := ⟨4, ![2, 2048, 4, 32]⟩
abbrev S1x2048x1x32 : Shape := ⟨4, ![1, 2048, 1, 32]⟩
abbrev S2x16x128x4x128 : Shape := ⟨5, ![2, 16, 128, 4, 128]⟩
abbrev S2x16x4x128x128 : Shape := ⟨5, ![2, 16, 4, 128, 128]⟩
abbrev S2x18x4x128x128 : Shape := ⟨5, ![2, 18, 4, 128, 128]⟩
abbrev S2x128x512 : Shape := ⟨3, ![2, 128, 512]⟩
abbrev S128x128 : Shape := ⟨2, ![128, 128]⟩
abbrev S2x4x128x128 : Shape := ⟨4, ![2, 4, 128, 128]⟩
abbrev S1x1x1x128x128 : Shape := ⟨5, ![1, 1, 1, 128, 128]⟩
abbrev S1x128x128 : Shape := ⟨3, ![1, 128, 128]⟩
abbrev S1 : Shape := ⟨1, ![1]⟩
abbrev S1x1 : Shape := ⟨2, ![1, 1]⟩
abbrev S128x1 : Shape := ⟨2, ![128, 1]⟩
abbrev S1x1x128x128 : Shape := ⟨4, ![1, 1, 128, 128]⟩
abbrev S1x1x1 : Shape := ⟨3, ![1, 1, 1]⟩

abbrev nBuf : Space → Nat
  | .hbm => 230
  | .vmem => 23
  | .smem => 0
  | _ => 0

abbrev hbmTy0_0 (i : Nat) : BufTy := match i % 128 with
  | 0 => ⟨S2x2304x512, .f32⟩
  | 1 => ⟨S2x2304x3840, .f32⟩
  | 2 => ⟨S2048x32, .f32⟩
  | 3 => ⟨S2048x32, .f32⟩
  | 4 => ⟨S2048x32, .f32⟩
  | 5 => ⟨S2048x32, .f32⟩
  | 6 => ⟨S4, .f32⟩
  | 7 => ⟨S2048x128, .f32⟩
  | 8 => ⟨S2048x32, .f32⟩
  | 9 => ⟨S2048x32, .f32⟩
  | 10 => ⟨S2048x128, .f32⟩
  | 11 => ⟨S_, .f32⟩
  | 12 => ⟨S256x128, .f32⟩
  | 13 => ⟨S2304x128, .f32⟩
  | 14 => ⟨S_, .f32⟩
  | 15 => ⟨S256x128, .f32⟩
  | 16 => ⟨S2304x128, .f32⟩
  | 17 => ⟨S1x4, .f32⟩
  | 18 => ⟨S_, .i32⟩
  | 19 => ⟨S_, .f32⟩
  | 20 => ⟨S1x128, .f32⟩
  | 21 => ⟨S4, .f32⟩
  | 22 => ⟨S4, .f32⟩
  | 23 => ⟨S2x2304x512, .f32⟩
  | 24 => ⟨S2x2304x4x128, .f32⟩
  | 25 => ⟨S_, .f32⟩
  | 26 => ⟨S2x2304x4x128, .f32⟩
  | 27 => ⟨S2x2304x4x128, .f32⟩
  | 28 => ⟨S2x2304x512, .f32⟩
  | 29 => ⟨S2x2304x4x128, .f32⟩
  | 30 => ⟨S2x256x4x128, .f32⟩
  | 31 => ⟨S2x2x128x4x128, .f32⟩
  | 32 => ⟨S2x2x4x128x128, .f32⟩
  | 33 => ⟨S2x256x4x128, .f32⟩
  | 34 => ⟨S2x2x128x4x128, .f32⟩
  | 35 => ⟨S2x2x4x128x128, .f32⟩
  | 36 => ⟨S_, .f32⟩
  | 37 => ⟨S2x1x4x128x128, .f32⟩
  | 38 => ⟨S4x1, .f32⟩
  | 39 => ⟨S128, .f32⟩
  | 40 => ⟨S_, .f32⟩
  | 41 => ⟨S128, .f32⟩
  | 42 => ⟨S128, .f32⟩
  | 43 => ⟨S1x128, .f32⟩
  | 44 => ⟨S4x128, .f32⟩
  | 45 => ⟨S4x128, .f32⟩
  | 46 => ⟨S4x128, .f32⟩
  | 47 => ⟨S4x128, .f32⟩
  | 48 => ⟨S_, .f32⟩
  | 49 => ⟨S4, .f32⟩
  | 50 => ⟨S4, .f32⟩
  | 51 => ⟨S4, .f32⟩
  | 52 => ⟨S4x128x1, .f32⟩
  | 53 => ⟨S1x1x4x128x1, .f32⟩
  | 54 => ⟨S2x2x4x128x128, .f32⟩
  | 55 => ⟨S2x2x4x128x128, .f32⟩
  | 56 => ⟨S2x2x4x128x128, .f32⟩
  | 57 => ⟨S2x1x4x128x128, .f32⟩
  | 58 => ⟨S2x1x4x128x128, .f32⟩
  | 59 => ⟨S4x1x1, .f32⟩
  | 60 => ⟨S1x1x4x1x1, .f32⟩
  | 61 => ⟨S2x1x4x128x128, .f32⟩
  | 62 => ⟨S2x1x4x128x128, .f32⟩
  | 63 => ⟨S2x1x4x128x128, .f32⟩
  | 64 => ⟨S4x1x1, .f32⟩
  | 65 => ⟨S1x1x4x1x1, .f32⟩
  | 66 => ⟨S2x1x4x128x128, .f32⟩
  | 67 => ⟨S2x1x4x128x128, .f32⟩
  | 68 => ⟨S2x1x4x128x128, .f32⟩
  | 69 => ⟨S2x2048x4x128, .f32⟩
  | 70 => ⟨S2x2048x4x64, .f32⟩
  | 71 => ⟨S2x2048x4x32, .f32⟩
  | 72 => ⟨S2x2048x4x32, .f32⟩
  | 73 => ⟨S1x2048x1x32, .f32⟩
  | 74 => ⟨S1x2048x1x32, .f32⟩
  | 75 => ⟨S2x2048x4x32, .f32⟩
  | 76 => ⟨S2x2048x4x32, .f32⟩
  | 77 => ⟨S2x2048x4x32, .f32⟩
  | 78 => ⟨S2x2048x4x32, .f32⟩
  | 79 => ⟨S2x2048x4x32, .f32⟩
  | 80 => ⟨S2x2048x4x32, .f32⟩
  | 81 => ⟨S2x2048x4x32, .f32⟩
  | 82 => ⟨S2x2048x4x32, .f32⟩
  | 83 => ⟨S2x2048x4x32, .f32⟩
  | 84 => ⟨S2x2048x4x32, .f32⟩
  | 85 => ⟨S2x2048x4x64, .f32⟩
  | 86 => ⟨S2x2048x4x64, .f32⟩
  | 87 => ⟨S2x2048x4x32, .f32⟩
  | 88 => ⟨S2x2048x4x32, .f32⟩
  | 89 => ⟨S1x2048x1x32, .f32⟩
  | 90 => ⟨S1x2048x1x32, .f32⟩
  | 91 => ⟨S2x2048x4x32, .f32⟩
  | 92 => ⟨S2x2048x4x32, .f32⟩
  | 93 => ⟨S2x2048x4x32, .f32⟩
  | 94 => ⟨S2x2048x4x32, .f32⟩
  | 95 => ⟨S2x2048x4x32, .f32⟩
  | 96 => ⟨S2x2048x4x32, .f32⟩
  | 97 => ⟨S2x2048x4x32, .f32⟩
  | 98 => ⟨S2x2048x4x32, .f32⟩
  | 99 => ⟨S2x2048x4x32, .f32⟩
  | 100 => ⟨S2x2048x4x32, .f32⟩
  | 101 => ⟨S2x2048x4x64, .f32⟩
  | 102 => ⟨S2x2048x4x128, .f32⟩
  | 103 => ⟨S2x16x128x4x128, .f32⟩
  | 104 => ⟨S2x16x4x128x128, .f32⟩
  | 105 => ⟨S2x2048x4x128, .f32⟩
  | 106 => ⟨S2x16x128x4x128, .f32⟩
  | 107 => ⟨S2x16x4x128x128, .f32⟩
  | 108 => ⟨S4x1, .f32⟩
  | 109 => ⟨S128, .f32⟩
  | 110 => ⟨S_, .f32⟩
  | 111 => ⟨S128, .f32⟩
  | 112 => ⟨S128, .f32⟩
  | 113 => ⟨S1x128, .f32⟩
  | 114 => ⟨S4x128, .f32⟩
  | 115 => ⟨S4x128, .f32⟩
  | 116 => ⟨S4x128, .f32⟩
  | 117 => ⟨S4x128, .f32⟩
  | 118 => ⟨S_, .f32⟩
  | 119 => ⟨S4, .f32⟩
  | 120 => ⟨S4, .f32⟩
  | 121 => ⟨S4, .f32⟩
  | 122 => ⟨S4x128x1, .f32⟩
  | 123 => ⟨S1x1x4x128x1, .f32⟩
  | 124 => ⟨S2x16x4x128x128, .f32⟩
  | 125 => ⟨S2x16x4x128x128, .f32⟩
  | 126 => ⟨S2x16x4x128x128, .f32⟩
  | 127 => ⟨S2x1x4x128x128, .f32⟩
  | _ => ⟨S2x2304x512, .f32⟩

abbrev hbmTy0_1 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x1x4x128x128, .f32⟩
  | 5 => ⟨S2x1x4x128x128, .f32⟩
  | 6 => ⟨S2x1x4x128x128, .f32⟩
  | 7 => ⟨S2x1x4x128x128, .f32⟩
  | 8 => ⟨S2x1x4x128x128, .f32⟩
  | 9 => ⟨S2x1x4x128x128, .f32⟩
  | 10 => ⟨S2x1x4x128x128, .f32⟩
  | 11 => ⟨S2x1x4x128x128, .f32⟩
  | 12 => ⟨S2x1x4x128x128, .f32⟩
  | 13 => ⟨S2x1x4x128x128, .f32⟩
  | 14 => ⟨S2x1x4x128x128, .f32⟩
  | 15 => ⟨S4x1x1, .f32⟩
  | 16 => ⟨S1x1x4x1x1, .f32⟩
  | 17 => ⟨S2x1x4x128x128, .f32⟩
  | 18 => ⟨S2x1x4x128x128, .f32⟩
  | 19 => ⟨S2x1x4x128x128, .f32⟩
  | 20 => ⟨S4x1x1, .f32⟩
  | 21 => ⟨S1x1x4x1x1, .f32⟩
  | 22 => ⟨S2x1x4x128x128, .f32⟩
  | 23 => ⟨S2x1x4x128x128, .f32⟩
  | 24 => ⟨S2x1x4x128x128, .f32⟩
  | 25 => ⟨S4x1x1, .f32⟩
  | 26 => ⟨S1x1x4x1x1, .f32⟩
  | 27 => ⟨S2x1x4x128x128, .f32⟩
  | 28 => ⟨S2x1x4x128x128, .f32⟩
  | 29 => ⟨S2x1x4x128x128, .f32⟩
  | 30 => ⟨S4x1x1, .f32⟩
  | 31 => ⟨S1x1x4x1x1, .f32⟩
  | 32 => ⟨S2x1x4x128x128, .f32⟩
  | 33 => ⟨S2x1x4x128x128, .f32⟩
  | 34 => ⟨S2x1x4x128x128, .f32⟩
  | 35 => ⟨S4x1x1, .f32⟩
  | 36 => ⟨S1x1x4x1x1, .f32⟩
  | 37 => ⟨S2x1x4x128x128, .f32⟩
  | 38 => ⟨S2x1x4x128x128, .f32⟩
  | 39 => ⟨S2x1x4x128x128, .f32⟩
  | 40 => ⟨S4x1x1, .f32⟩
  | 41 => ⟨S1x1x4x1x1, .f32⟩
  | 42 => ⟨S2x1x4x128x128, .f32⟩
  | 43 => ⟨S2x1x4x128x128, .f32⟩
  | 44 => ⟨S2x1x4x128x128, .f32⟩
  | 45 => ⟨S4x1x1, .f32⟩
  | 46 => ⟨S1x1x4x1x1, .f32⟩
  | 47 => ⟨S2x1x4x128x128, .f32⟩
  | 48 => ⟨S2x1x4x128x128, .f32⟩
  | 49 => ⟨S2x1x4x128x128, .f32⟩
  | 50 => ⟨S4x1x1, .f32⟩
  | 51 => ⟨S1x1x4x1x1, .f32⟩
  | 52 => ⟨S2x1x4x128x128, .f32⟩
  | 53 => ⟨S2x1x4x128x128, .f32⟩
  | 54 => ⟨S2x1x4x128x128, .f32⟩
  | 55 => ⟨S4x1x1, .f32⟩
  | 56 => ⟨S1x1x4x1x1, .f32⟩
  | 57 => ⟨S2x1x4x128x128, .f32⟩
  | 58 => ⟨S2x1x4x128x128, .f32⟩
  | 59 => ⟨S2x1x4x128x128, .f32⟩
  | 60 => ⟨S4x1x1, .f32⟩
  | 61 => ⟨S1x1x4x1x1, .f32⟩
  | 62 => ⟨S2x1x4x128x128, .f32⟩
  | 63 => ⟨S2x1x4x128x128, .f32⟩
  | 64 => ⟨S2x1x4x128x128, .f32⟩
  | 65 => ⟨S4x1x1, .f32⟩
  | 66 => ⟨S1x1x4x1x1, .f32⟩
  | 67 => ⟨S2x1x4x128x128, .f32⟩
  | 68 => ⟨S2x1x4x128x128, .f32⟩
  | 69 => ⟨S2x1x4x128x128, .f32⟩
  | 70 => ⟨S4x1x1, .f32⟩
  | 71 => ⟨S1x1x4x1x1, .f32⟩
  | 72 => ⟨S2x1x4x128x128, .f32⟩
  | 73 => ⟨S2x1x4x128x128, .f32⟩
  | 74 => ⟨S2x1x4x128x128, .f32⟩
  | 75 => ⟨S4x1x1, .f32⟩
  | 76 => ⟨S1x1x4x1x1, .f32⟩
  | 77 => ⟨S2x1x4x128x128, .f32⟩
  | 78 => ⟨S2x1x4x128x128, .f32⟩
  | 79 => ⟨S2x1x4x128x128, .f32⟩
  | 80 => ⟨S4x1x1, .f32⟩
  | 81 => ⟨S1x1x4x1x1, .f32⟩
  | 82 => ⟨S2x1x4x128x128, .f32⟩
  | 83 => ⟨S2x1x4x128x128, .f32⟩
  | 84 => ⟨S2x1x4x128x128, .f32⟩
  | 85 => ⟨S4x1x1, .f32⟩
  | 86 => ⟨S1x1x4x1x1, .f32⟩
  | 87 => ⟨S2x1x4x128x128, .f32⟩
  | 88 => ⟨S2x1x4x128x128, .f32⟩
  | 89 => ⟨S2x1x4x128x128, .f32⟩
  | 90 => ⟨S4x1x1, .f32⟩
  | 91 => ⟨S1x1x4x1x1, .f32⟩
  | 92 => ⟨S2x1x4x128x128, .f32⟩
  | 93 => ⟨S2x1x4x128x128, .f32⟩
  | 94 => ⟨S2x1x4x128x128, .f32⟩
  | 95 => ⟨S2x16x4x128x128, .f32⟩
  | 96 => ⟨S2x2x4x128x128, .f32⟩
  | 97 => ⟨S2x18x4x128x128, .f32⟩
  | 98 => ⟨S2x2304x512, .f32⟩
  | 99 => ⟨S2x2304x512, .f32⟩
  | 100 => ⟨S2x2304x512, .f32⟩
  | 101 => ⟨S1x128, .f32⟩
  | _ => ⟨S2x2304x512, .f32⟩

abbrev hbmTy (i : Nat) : BufTy := match i / 128 with
  | 0 => hbmTy0_0 i
  | 1 => hbmTy0_1 i
  | _ => ⟨S2x2304x512, .f32⟩

abbrev bufTy : (tb : Table) → Fin (tcTables nBuf tb) → BufTy
  | .hbm, ⟨i, _⟩ => hbmTy i
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .vmem, ⟨7, _⟩ => ⟨S2x128x512, .f32⟩
  | .local _ .vmem, ⟨8, _⟩ => ⟨S2x1x4x128x128, .f32⟩
  | .local _ .vmem, ⟨9, _⟩ => ⟨S2x1x4x128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S2x128x512, .f32⟩
  | .local _ .vmem, ⟨16, _⟩ => ⟨S2x128x512, .f32⟩
  | .local _ .vmem, ⟨17, _⟩ => ⟨S2x128x512, .f32⟩
  | .local _ .vmem, ⟨18, _⟩ => ⟨S2x128x512, .f32⟩
  | .local _ .vmem, ⟨19, _⟩ => ⟨S2x128x512, .f32⟩
  | .local _ .vmem, ⟨20, _⟩ => ⟨S2x128x512, .f32⟩
  | .local _ .vmem, ⟨21, _⟩ => ⟨S1x128, .f32⟩
  | .local _ .vmem, ⟨22, _⟩ => ⟨S2x4x128x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_5 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_6 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209_0 : Ref sig .tc := ⟨.hbm, 226, rfl⟩
abbrev main_v209_1 : Ref sig .tc := ⟨.hbm, 227, rfl⟩
abbrev main_v209_2 : Ref sig .tc := ⟨.hbm, 228, rfl⟩
abbrev main_v209_3 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c1_i32 : BitVec 32 := 1#32
  let c0_i32_0 : BitVec 32 := 0#32
  ![c0_i32.toNat, v0.toNat, c1_i32.toNat]

def cc0_transform_3 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c2_i32 : BitVec 32 := 2#32
  let c0_i32_0 : BitVec 32 := 0#32
  ![c0_i32.toNat, v0.toNat, c2_i32.toNat]

def cc0_transform_4 (i : grid0.Coords) : Fin 5 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_5 (i : grid0.Coords) : Fin 2 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x2304x512 : Shape := ⟨3, ![2, 2304, 512]⟩
abbrev S2x2304x3840 : Shape := ⟨3, ![2, 2304, 3840]⟩
abbrev S2048x32 : Shape := ⟨2, ![2048, 32]⟩
abbrev S4 : Shape := ⟨1, ![4]⟩
abbrev S2x2304x2048 : Shape := ⟨3, ![2, 2304, 2048]⟩
abbrev S2x2304x4x128 : Shape := ⟨4, ![2, 2304, 4, 128]⟩
abbrev S_ : Shape := ⟨0, ![]⟩
abbrev S2x256x4x128 : Shape := ⟨4, ![2, 256, 4, 128]⟩
abbrev S2x2048x4x128 : Shape := ⟨4, ![2, 2048, 4, 128]⟩
abbrev S2x1x4x128x128 : Shape := ⟨5, ![2, 1, 4, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S2x2x128x4x128 : Shape := ⟨5, ![2, 2, 128, 4, 128]⟩
abbrev S2x2x4x128x128 : Shape := ⟨5, ![2, 2, 4, 128, 128]⟩
abbrev S4x128x1 : Shape := ⟨3, ![4, 128, 1]⟩
abbrev S1x1x4x128x1 : Shape := ⟨5, ![1, 1, 4, 128, 1]⟩
abbrev S1x1x4x1x1 : Shape := ⟨5, ![1, 1, 4, 1, 1]⟩
abbrev S1x1x4x128x128 : Shape := ⟨5, ![1, 1, 4, 128, 128]⟩
abbrev S2x2048x4x64 : Shape := ⟨4, ![2, 2048, 4, 64]⟩
abbrev S2x2048x4x32 : Shape := ⟨4, ![2, 2048, 4, 32]⟩
abbrev S1x2048x1x32 : Shape := ⟨4, ![1, 2048, 1, 32]⟩
abbrev S2x16x128x4x128 : Shape := ⟨5, ![2, 16, 128, 4, 128]⟩
abbrev S2x16x4x128x128 : Shape := ⟨5, ![2, 16, 4, 128, 128]⟩

abbrev nBuf : Space → Nat
  | .hbm => 560
  | .vmem => 0
  | .smem => 0
  | _ => 0

abbrev hbmTy0_0 (i : Nat) : BufTy := match i % 128 with
  | 0 => ⟨S2x2304x512, .f32⟩
  | 1 => ⟨S2x2304x3840, .f32⟩
  | 2 => ⟨S2048x32, .f32⟩
  | 3 => ⟨S2048x32, .f32⟩
  | 4 => ⟨S2048x32, .f32⟩
  | 5 => ⟨S2048x32, .f32⟩
  | 6 => ⟨S4, .f32⟩
  | 7 => ⟨S4, .f32⟩
  | 8 => ⟨S4, .f32⟩
  | 9 => ⟨S2x2304x2048, .f32⟩
  | 10 => ⟨S2x2304x512, .f32⟩
  | 11 => ⟨S2x2304x512, .f32⟩
  | 12 => ⟨S2x2304x512, .f32⟩
  | 13 => ⟨S2x2304x512, .f32⟩
  | 14 => ⟨S2x2304x4x128, .f32⟩
  | 15 => ⟨S2x2304x4x128, .f32⟩
  | 16 => ⟨S_, .f32⟩
  | 17 => ⟨S2x2304x4x128, .f32⟩
  | 18 => ⟨S2x2304x4x128, .f32⟩
  | 19 => ⟨S2x2304x4x128, .f32⟩
  | 20 => ⟨S2x256x4x128, .f32⟩
  | 21 => ⟨S2x2048x4x128, .f32⟩
  | 22 => ⟨S2x256x4x128, .f32⟩
  | 23 => ⟨S2x2048x4x128, .f32⟩
  | 24 => ⟨S2x256x4x128, .f32⟩
  | 25 => ⟨S2x2048x4x128, .f32⟩
  | 26 => ⟨S_, .f32⟩
  | 27 => ⟨S2x1x4x128x128, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S4x1x1, .f32⟩
  | 38 => ⟨S1x128x128, .i1⟩
  | 39 => ⟨S_, .f32⟩
  | 40 => ⟨S128x128, .f32⟩
  | 41 => ⟨S128x128, .f32⟩
  | 42 => ⟨S1x128x128, .f32⟩
  | 43 => ⟨S4x128x128, .f32⟩
  | 44 => ⟨S4x128x128, .f32⟩
  | 45 => ⟨S4x128x128, .f32⟩
  | 46 => ⟨S4x128x128, .f32⟩
  | 47 => ⟨S_, .f32⟩
  | 48 => ⟨S_, .f32⟩
  | 49 => ⟨S4x128x128, .i1⟩
  | 50 => ⟨S4x128x128, .f32⟩
  | 51 => ⟨S4x128x128, .f32⟩
  | 52 => ⟨S4x1, .f32⟩
  | 53 => ⟨S_, .f32⟩
  | 54 => ⟨S128, .f32⟩
  | 55 => ⟨S128, .f32⟩
  | 56 => ⟨S1x128, .f32⟩
  | 57 => ⟨S4x128, .f32⟩
  | 58 => ⟨S4x128, .f32⟩
  | 59 => ⟨S4x128, .f32⟩
  | 60 => ⟨S4x128, .f32⟩
  | 61 => ⟨S2x2x128x4x128, .f32⟩
  | 62 => ⟨S2x2x4x128x128, .f32⟩
  | 63 => ⟨S2x2x128x4x128, .f32⟩
  | 64 => ⟨S2x2x4x128x128, .f32⟩
  | 65 => ⟨S2x2x128x4x128, .f32⟩
  | 66 => ⟨S2x2x4x128x128, .f32⟩
  | 67 => ⟨S4x1, .f32⟩
  | 68 => ⟨S128, .f32⟩
  | 69 => ⟨S_, .f32⟩
  | 70 => ⟨S128, .f32⟩
  | 71 => ⟨S128, .f32⟩
  | 72 => ⟨S1x128, .f32⟩
  | 73 => ⟨S4x128, .f32⟩
  | 74 => ⟨S4x128, .f32⟩
  | 75 => ⟨S4x128, .f32⟩
  | 76 => ⟨S4x128, .f32⟩
  | 77 => ⟨S_, .f32⟩
  | 78 => ⟨S4, .f32⟩
  | 79 => ⟨S4, .f32⟩
  | 80 => ⟨S4, .f32⟩
  | 81 => ⟨S4x128x1, .f32⟩
  | 82 => ⟨S1x1x4x128x1, .f32⟩
  | 83 => ⟨S2x2x4x128x128, .f32⟩
  | 84 => ⟨S2x2x4x128x128, .f32⟩
  | 85 => ⟨S2x2x4x128x128, .f32⟩
  | 86 => ⟨S2x1x4x128x128, .f32⟩
  | 87 => ⟨S2x1x4x128x128, .f32⟩
  | 88 => ⟨S4x1x1, .f32⟩
  | 89 => ⟨S1x1x4x1x1, .f32⟩
  | 90 => ⟨S2x1x4x128x128, .f32⟩
  | 91 => ⟨S2x1x4x128x128, .f32⟩
  | 92 => ⟨S2x1x4x128x128, .f32⟩
  | 93 => ⟨S4x1x1, .f32⟩
  | 94 => ⟨S1x1x4x1x1, .f32⟩
  | 95 => ⟨S2x1x4x128x128, .f32⟩
  | 96 => ⟨S2x1x4x128x128, .f32⟩
  | 97 => ⟨S2x1x4x128x128, .f32⟩
  | 98 => ⟨S2x2x4x128x128, .f32⟩
  | 99 => ⟨S1x1x4x128x128, .f32⟩
  | 100 => ⟨S2x2x4x128x128, .f32⟩
  | 101 => ⟨S2x2x4x128x128, .f32⟩
  | 102 => ⟨S2x2x4x128x128, .f32⟩
  | 103 => ⟨S4x128x1, .f32⟩
  | 104 => ⟨S1x1x4x128x1, .f32⟩
  | 105 => ⟨S2x2x4x128x128, .f32⟩
  | 106 => ⟨S2x2x4x128x128, .f32⟩
  | 107 => ⟨S2x2x4x128x128, .f32⟩
  | 108 => ⟨S_, .f32⟩
  | 109 => ⟨S2x1x4x128x128, .f32⟩
  | 110 => ⟨S2x2x4x128x128, .f32⟩
  | 111 => ⟨S2x2x4x128x128, .f32⟩
  | 112 => ⟨S2x2x128x4x128, .f32⟩
  | 113 => ⟨S2x256x4x128, .f32⟩
  | 114 => ⟨S2x2048x4x64, .f32⟩
  | 115 => ⟨S2x2048x4x32, .f32⟩
  | 116 => ⟨S2x2048x4x32, .f32⟩
  | 117 => ⟨S1x2048x1x32, .f32⟩
  | 118 => ⟨S1x2048x1x32, .f32⟩
  | 119 => ⟨S2x2048x4x32, .f32⟩
  | 120 => ⟨S2x2048x4x32, .f32⟩
  | 121 => ⟨S2x2048x4x32, .f32⟩
  | 122 => ⟨S2x2048x4x32, .f32⟩
  | 123 => ⟨S2x2048x4x32, .f32⟩
  | 124 => ⟨S2x2048x4x32, .f32⟩
  | 125 => ⟨S2x2048x4x32, .f32⟩
  | 126 => ⟨S2x2048x4x32, .f32⟩
  | 127 => ⟨S2x2048x4x32, .f32⟩
  | _ => ⟨S2x2304x512, .f32⟩

abbrev hbmTy0_1 (i : Nat) : BufTy := match i % 128 with
  | 0 => ⟨S2x2048x4x32, .f32⟩
  | 1 => ⟨S2x2048x4x64, .f32⟩
  | 2 => ⟨S2x2048x4x64, .f32⟩
  | 3 => ⟨S2x2048x4x32, .f32⟩
  | 4 => ⟨S2x2048x4x32, .f32⟩
  | 5 => ⟨S1x2048x1x32, .f32⟩
  | 6 => ⟨S1x2048x1x32, .f32⟩
  | 7 => ⟨S2x2048x4x32, .f32⟩
  | 8 => ⟨S2x2048x4x32, .f32⟩
  | 9 => ⟨S2x2048x4x32, .f32⟩
  | 10 => ⟨S2x2048x4x32, .f32⟩
  | 11 => ⟨S2x2048x4x32, .f32⟩
  | 12 => ⟨S2x2048x4x32, .f32⟩
  | 13 => ⟨S2x2048x4x32, .f32⟩
  | 14 => ⟨S2x2048x4x32, .f32⟩
  | 15 => ⟨S2x2048x4x32, .f32⟩
  | 16 => ⟨S2x2048x4x32, .f32⟩
  | 17 => ⟨S2x2048x4x64, .f32⟩
  | 18 => ⟨S2x2048x4x128, .f32⟩
  | 19 => ⟨S2x2048x4x64, .f32⟩
  | 20 => ⟨S2x2048x4x32, .f32⟩
  | 21 => ⟨S2x2048x4x32, .f32⟩
  | 22 => ⟨S1x2048x1x32, .f32⟩
  | 23 => ⟨S1x2048x1x32, .f32⟩
  | 24 => ⟨S2x2048x4x32, .f32⟩
  | 25 => ⟨S2x2048x4x32, .f32⟩
  | 26 => ⟨S2x2048x4x32, .f32⟩
  | 27 => ⟨S2x2048x4x32, .f32⟩
  | 28 => ⟨S2x2048x4x32, .f32⟩
  | 29 => ⟨S2x2048x4x32, .f32⟩
  | 30 => ⟨S2x2048x4x32, .f32⟩
  | 31 => ⟨S2x2048x4x32, .f32⟩
  | 32 => ⟨S2x2048x4x32, .f32⟩
  | 33 => ⟨S2x2048x4x32, .f32⟩
  | 34 => ⟨S2x2048x4x64, .f32⟩
  | 35 => ⟨S2x2048x4x64, .f32⟩
  | 36 => ⟨S2x2048x4x32, .f32⟩
  | 37 => ⟨S2x2048x4x32, .f32⟩
  | 38 => ⟨S1x2048x1x32, .f32⟩
  | 39 => ⟨S1x2048x1x32, .f32⟩
  | 40 => ⟨S2x2048x4x32, .f32⟩
  | 41 => ⟨S2x2048x4x32, .f32⟩
  | 42 => ⟨S2x2048x4x32, .f32⟩
  | 43 => ⟨S2x2048x4x32, .f32⟩
  | 44 => ⟨S2x2048x4x32, .f32⟩
  | 45 => ⟨S2x2048x4x32, .f32⟩
  | 46 => ⟨S2x2048x4x32, .f32⟩
  | 47 => ⟨S2x2048x4x32, .f32⟩
  | 48 => ⟨S2x2048x4x32, .f32⟩
  | 49 => ⟨S2x2048x4x32, .f32⟩
  | 50 => ⟨S2x2048x4x64, .f32⟩
  | 51 => ⟨S2x2048x4x128, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S1x128x128, .i1⟩
  | 63 => ⟨S_, .f32⟩
  | 64 => ⟨S128x128, .f32⟩
  | 65 => ⟨S128x128, .f32⟩
  | 66 => ⟨S1x128x128, .f32⟩
  | 67 => ⟨S4x128x128, .f32⟩
  | 68 => ⟨S4x128x128, .f32⟩
  | 69 => ⟨S4x128x128, .f32⟩
  | 70 => ⟨S4x128x128, .f32⟩
  | 71 => ⟨S_, .f32⟩
  | 72 => ⟨S_, .f32⟩
  | 73 => ⟨S4x128x128, .i1⟩
  | 74 => ⟨S4x128x128, .f32⟩
  | 75 => ⟨S4x128x128, .f32⟩
  | 76 => ⟨S4x1, .f32⟩
  | 77 => ⟨S_, .f32⟩
  | 78 => ⟨S128, .f32⟩
  | 79 => ⟨S128, .f32⟩
  | 80 => ⟨S1x128, .f32⟩
  | 81 => ⟨S4x128, .f32⟩
  | 82 => ⟨S4x128, .f32⟩
  | 83 => ⟨S4x128, .f32⟩
  | 84 => ⟨S4x128, .f32⟩
  | 85 => ⟨S2x16x128x4x128, .f32⟩
  | 86 => ⟨S2x16x4x128x128, .f32⟩
  | 87 => ⟨S2x16x128x4x128, .f32⟩
  | 88 => ⟨S2x16x4x128x128, .f32⟩
  | 89 => ⟨S2x16x128x4x128, .f32⟩
  | 90 => ⟨S2x16x4x128x128, .f32⟩
  | 91 => ⟨S4x1, .f32⟩
  | 92 => ⟨S128, .f32⟩
  | 93 => ⟨S_, .f32⟩
  | 94 => ⟨S128, .f32⟩
  | 95 => ⟨S128, .f32⟩
  | 96 => ⟨S1x128, .f32⟩
  | 97 => ⟨S4x128, .f32⟩
  | 98 => ⟨S4x128, .f32⟩
  | 99 => ⟨S4x128, .f32⟩
  | 100 => ⟨S4x128, .f32⟩
  | 101 => ⟨S_, .f32⟩
  | 102 => ⟨S4, .f32⟩
  | 103 => ⟨S4, .f32⟩
  | 104 => ⟨S4, .f32⟩
  | 105 => ⟨S4x128x1, .f32⟩
  | 106 => ⟨S1x1x4x128x1, .f32⟩
  | 107 => ⟨S2x16x4x128x128, .f32⟩
  | 108 => ⟨S2x16x4x128x128, .f32⟩
  | 109 => ⟨S2x16x4x128x128, .f32⟩
  | 110 => ⟨S2x1x4x128x128, .f32⟩
  | 111 => ⟨S2x1x4x128x128, .f32⟩
  | 112 => ⟨S2x1x4x128x128, .f32⟩
  | 113 => ⟨S2x1x4x128x128, .f32⟩
  | 114 => ⟨S2x1x4x128x128, .f32⟩
  | 115 => ⟨S2x1x4x128x128, .f32⟩
  | 116 => ⟨S2x1x4x128x128, .f32⟩
  | 117 => ⟨S2x1x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S4x1x1, .f32⟩
  | 127 => ⟨S1x1x4x1x1, .f32⟩
  | _ => ⟨S2x2304x512, .f32⟩

abbrev hbmTy0_2 (i : Nat) : BufTy := match i % 128 with
  | 0 => ⟨S2x1x4x128x128, .f32⟩
  | 1 => ⟨S2x1x4x128x128, .f32⟩
  | 2 => ⟨S2x1x4x128x128, .f32⟩
  | 3 => ⟨S4x1x1, .f32⟩
  | 4 => ⟨S1x1x4x1x1, .f32⟩
  | 5 => ⟨S2x1x4x128x128, .f32⟩
  | 6 => ⟨S2x1x4x128x128, .f32⟩
  | 7 => ⟨S2x1x4x128x128, .f32⟩
  | 8 => ⟨S4x1x1, .f32⟩
  | 9 => ⟨S1x1x4x1x1, .f32⟩
  | 10 => ⟨S2x1x4x128x128, .f32⟩
  | 11 => ⟨S2x1x4x128x128, .f32⟩
  | 12 => ⟨S2x1x4x128x128, .f32⟩
  | 13 => ⟨S4x1x1, .f32⟩
  | 14 => ⟨S1x1x4x1x1, .f32⟩
  | 15 => ⟨S2x1x4x128x128, .f32⟩
  | 16 => ⟨S2x1x4x128x128, .f32⟩
  | 17 => ⟨S2x1x4x128x128, .f32⟩
  | 18 => ⟨S4x1x1, .f32⟩
  | 19 => ⟨S1x1x4x1x1, .f32⟩
  | 20 => ⟨S2x1x4x128x128, .f32⟩
  | 21 => ⟨S2x1x4x128x128, .f32⟩
  | 22 => ⟨S2x1x4x128x128, .f32⟩
  | 23 => ⟨S4x1x1, .f32⟩
  | 24 => ⟨S1x1x4x1x1, .f32⟩
  | 25 => ⟨S2x1x4x128x128, .f32⟩
  | 26 => ⟨S2x1x4x128x128, .f32⟩
  | 27 => ⟨S2x1x4x128x128, .f32⟩
  | 28 => ⟨S4x1x1, .f32⟩
  | 29 => ⟨S1x1x4x1x1, .f32⟩
  | 30 => ⟨S2x1x4x128x128, .f32⟩
  | 31 => ⟨S2x1x4x128x128, .f32⟩
  | 32 => ⟨S2x1x4x128x128, .f32⟩
  | 33 => ⟨S4x1x1, .f32⟩
  | 34 => ⟨S1x1x4x1x1, .f32⟩
  | 35 => ⟨S2x1x4x128x128, .f32⟩
  | 36 => ⟨S2x1x4x128x128, .f32⟩
  | 37 => ⟨S2x1x4x128x128, .f32⟩
  | 38 => ⟨S4x1x1, .f32⟩
  | 39 => ⟨S1x1x4x1x1, .f32⟩
  | 40 => ⟨S2x1x4x128x128, .f32⟩
  | 41 => ⟨S2x1x4x128x128, .f32⟩
  | 42 => ⟨S2x1x4x128x128, .f32⟩
  | 43 => ⟨S4x1x1, .f32⟩
  | 44 => ⟨S1x1x4x1x1, .f32⟩
  | 45 => ⟨S2x1x4x128x128, .f32⟩
  | 46 => ⟨S2x1x4x128x128, .f32⟩
  | 47 => ⟨S2x1x4x128x128, .f32⟩
  | 48 => ⟨S4x1x1, .f32⟩
  | 49 => ⟨S1x1x4x1x1, .f32⟩
  | 50 => ⟨S2x1x4x128x128, .f32⟩
  | 51 => ⟨S2x1x4x128x128, .f32⟩
  | 52 => ⟨S2x1x4x128x128, .f32⟩
  | 53 => ⟨S4x1x1, .f32⟩
  | 54 => ⟨S1x1x4x1x1, .f32⟩
  | 55 => ⟨S2x1x4x128x128, .f32⟩
  | 56 => ⟨S2x1x4x128x128, .f32⟩
  | 57 => ⟨S2x1x4x128x128, .f32⟩
  | 58 => ⟨S4x1x1, .f32⟩
  | 59 => ⟨S1x1x4x1x1, .f32⟩
  | 60 => ⟨S2x1x4x128x128, .f32⟩
  | 61 => ⟨S2x1x4x128x128, .f32⟩
  | 62 => ⟨S2x1x4x128x128, .f32⟩
  | 63 => ⟨S4x1x1, .f32⟩
  | 64 => ⟨S1x1x4x1x1, .f32⟩
  | 65 => ⟨S2x1x4x128x128, .f32⟩
  | 66 => ⟨S2x1x4x128x128, .f32⟩
  | 67 => ⟨S2x1x4x128x128, .f32⟩
  | 68 => ⟨S4x1x1, .f32⟩
  | 69 => ⟨S1x1x4x1x1, .f32⟩
  | 70 => ⟨S2x1x4x128x128, .f32⟩
  | 71 => ⟨S2x1x4x128x128, .f32⟩
  | 72 => ⟨S2x1x4x128x128, .f32⟩
  | 73 => ⟨S4x1x1, .f32⟩
  | 74 => ⟨S1x1x4x1x1, .f32⟩
  | 75 => ⟨S2x1x4x128x128, .f32⟩
  | 76 => ⟨S2x1x4x128x128, .f32⟩
  | 77 => ⟨S2x1x4x128x128, .f32⟩
  | 78 => ⟨S2x16x4x128x128, .f32⟩
  | 79 => ⟨S1x1x4x128x128, .f32⟩
  | 80 => ⟨S2x16x4x128x128, .f32⟩
  | 81 => ⟨S2x16x4x128x128, .f32⟩
  | 82 => ⟨S2x16x4x128x128, .f32⟩
  | 83 => ⟨S4x128x1, .f32⟩
  | 84 => ⟨S1x1x4x128x1, .f32⟩
  | 85 => ⟨S2x16x4x128x128, .f32⟩
  | 86 => ⟨S2x16x4x128x128, .f32⟩
  | 87 => ⟨S2x16x4x128x128, .f32⟩
  | 88 => ⟨S2x16x4x128x128, .f32⟩
  | 89 => ⟨S2x16x4x128x128, .f32⟩
  | 90 => ⟨S2x16x128x4x128, .f32⟩
  | 91 => ⟨S2x2048x4x128, .f32⟩
  | 92 => ⟨S2x2304x4x128, .f32⟩
  | 93 => ⟨S2x2304x512, .f32⟩
  | 94 => ⟨S2x2304x4x128, .f32⟩
  | 95 => ⟨S2x256x4x128, .f32⟩
  | 96 => ⟨S2x2048x4x128, .f32⟩
  | 97 => ⟨S2x16x128x4x128, .f32⟩
  | 98 => ⟨S2x16x4x128x128, .f32⟩
  | 99 => ⟨S2x16x4x128x128, .f32⟩
  | 100 => ⟨S2x16x4x128x128, .f32⟩
  | 101 => ⟨S2x16x4x128x128, .f32⟩
  | 102 => ⟨S2x1x4x128x128, .f32⟩
  | 103 => ⟨S2x1x4x128x128, .f32⟩
  | 104 => ⟨S2x1x4x128x128, .f32⟩
  | 105 => ⟨S2x1x4x128x128, .f32⟩
  | 106 => ⟨S2x1x4x128x128, .f32⟩
  | 107 => ⟨S2x1x4x128x128, .f32⟩
  | 108 => ⟨S2x1x4x128x128, .f32⟩
  | 109 => ⟨S2x1x4x128x128, .f32⟩
  | 110 => ⟨S2x1x4x128x128, .f32⟩
  | 111 => ⟨S2x1x4x128x128, .f32⟩
  | 112 => ⟨S2x1x4x128x128, .f32⟩
  | 113 => ⟨S2x1x4x128x128, .f32⟩
  | 114 => ⟨S2x1x4x128x128, .f32⟩
  | 115 => ⟨S2x1x4x128x128, .f32⟩
  | 116 => ⟨S2x1x4x128x128, .f32⟩
  | 117 => ⟨S2x1x4x128x128, .f32⟩
  | 118 => ⟨S2x16x4x128x128, .f32⟩
  | 119 => ⟨S2x16x4x128x128, .f32⟩
  | 120 => ⟨S2x16x4x128x128, .f32⟩
  | 121 => ⟨S2x16x4x128x128, .f32⟩
  | 122 => ⟨S2x16x4x128x128, .f32⟩
  | 123 => ⟨S2x16x4x128x128, .f32⟩
  | 124 => ⟨S2x16x4x128x128, .f32⟩
  | 125 => ⟨S2x16x4x128x128, .f32⟩
  | 126 => ⟨S2x16x4x128x128, .f32⟩
  | 127 => ⟨S2x16x4x128x128, .f32⟩
  | _ => ⟨S2x2304x512, .f32⟩

abbrev hbmTy0_3 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x1x4x128x128, .f32⟩
  | 5 => ⟨S2x1x4x128x128, .f32⟩
  | 6 => ⟨S2x1x4x128x128, .f32⟩
  | 7 => ⟨S2x1x4x128x128, .f32⟩
  | 8 => ⟨S2x1x4x128x128, .f32⟩
  | 9 => ⟨S2x1x4x128x128, .f32⟩
  | 10 => ⟨S2x1x4x128x128, .f32⟩
  | 11 => ⟨S2x1x4x128x128, .f32⟩
  | 12 => ⟨S2x1x4x128x128, .f32⟩
  | 13 => ⟨S2x1x4x128x128, .f32⟩
  | 14 => ⟨S2x1x4x128x128, .f32⟩
  | 15 => ⟨S2x1x4x128x128, .f32⟩
  | 16 => ⟨S2x1x4x128x128, .f32⟩
  | 17 => ⟨S2x1x4x128x128, .f32⟩
  | 18 => ⟨S2x1x4x128x128, .f32⟩
  | 19 => ⟨S2x1x4x128x128, .f32⟩
  | 20 => ⟨S2x1x4x128x128, .f32⟩
  | 21 => ⟨S2x1x4x128x128, .f32⟩
  | 22 => ⟨S2x1x4x128x128, .f32⟩
  | 23 => ⟨S2x1x4x128x128, .f32⟩
  | 24 => ⟨S2x1x4x128x128, .f32⟩
  | 25 => ⟨S2x1x4x128x128, .f32⟩
  | 26 => ⟨S2x1x4x128x128, .f32⟩
  | 27 => ⟨S2x1x4x128x128, .f32⟩
  | 28 => ⟨S2x1x4x128x128, .f32⟩
  | 29 => ⟨S2x1x4x128x128, .f32⟩
  | 30 => ⟨S2x1x4x128x128, .f32⟩
  | 31 => ⟨S2x1x4x128x128, .f32⟩
  | 32 => ⟨S2x1x4x128x128, .f32⟩
  | 33 => ⟨S2x1x4x128x128, .f32⟩
  | 34 => ⟨S2x1x4x128x128, .f32⟩
  | 35 => ⟨S2x1x4x128x128, .f32⟩
  | 36 => ⟨S2x1x4x128x128, .f32⟩
  | 37 => ⟨S2x1x4x128x128, .f32⟩
  | 38 => ⟨S2x1x4x128x128, .f32⟩
  | 39 => ⟨S2x1x4x128x128, .f32⟩
  | 40 => ⟨S2x1x4x128x128, .f32⟩
  | 41 => ⟨S2x1x4x128x128, .f32⟩
  | 42 => ⟨S2x1x4x128x128, .f32⟩
  | 43 => ⟨S2x1x4x128x128, .f32⟩
  | 44 => ⟨S2x1x4x128x128, .f32⟩
  | 45 => ⟨S_, .f32⟩
  | 46 => ⟨S2x1x4x128x128, .f32⟩
  | 47 => ⟨S2x16x4x128x128, .f32⟩
  | 48 => ⟨S2x16x4x128x128, .f32⟩
  | 49 => ⟨S2x16x4x128x128, .f32⟩
  | 50 => ⟨S2x16x4x128x128, .f32⟩
  | 51 => ⟨S2x16x4x128x128, .f32⟩
  | 52 => ⟨S2x16x4x128x128, .f32⟩
  | 53 => ⟨S2x16x4x128x128, .f32⟩
  | 54 => ⟨S2x16x4x128x128, .f32⟩
  | 55 => ⟨S2x16x4x128x128, .f32⟩
  | 56 => ⟨S2x16x128x4x128, .f32⟩
  | 57 => ⟨S2x2048x4x128, .f32⟩
  | 58 => ⟨S2x16x128x4x128, .f32⟩
  | 59 => ⟨S2x2048x4x128, .f32⟩
  | 60 => ⟨S2x16x128x4x128, .f32⟩
  | 61 => ⟨S2x2048x4x128, .f32⟩
  | 62 => ⟨S2x2048x4x64, .f32⟩
  | 63 => ⟨S2x2048x4x64, .f32⟩
  | 64 => ⟨S2x2048x4x32, .f32⟩
  | 65 => ⟨S2x2048x4x32, .f32⟩
  | 66 => ⟨S2x2048x4x32, .f32⟩
  | 67 => ⟨S2x2048x4x32, .f32⟩
  | 68 => ⟨S2x2048x4x32, .f32⟩
  | 69 => ⟨S2x2048x4x32, .f32⟩
  | 70 => ⟨S2x2048x4x32, .f32⟩
  | 71 => ⟨S2x2048x4x32, .f32⟩
  | 72 => ⟨S2x2048x4x32, .f32⟩
  | 73 => ⟨S2x2048x4x32, .f32⟩
  | 74 => ⟨S2x2048x4x32, .f32⟩
  | 75 => ⟨S2x2048x4x32, .f32⟩
  | 76 => ⟨S2x2048x4x32, .f32⟩
  | 77 => ⟨S2x2048x4x64, .f32⟩
  | 78 => ⟨S_, .f32⟩
  | 79 => ⟨S2x2048x4x128, .f32⟩
  | 80 => ⟨S2x2048x4x32, .f32⟩
  | 81 => ⟨S2x2048x4x32, .f32⟩
  | 82 => ⟨S2x2048x4x32, .f32⟩
  | 83 => ⟨S2x2048x4x32, .f32⟩
  | 84 => ⟨S2x2048x4x32, .f32⟩
  | 85 => ⟨S2x2048x4x32, .f32⟩
  | 86 => ⟨S2x2048x4x32, .f32⟩
  | 87 => ⟨S2x2048x4x32, .f32⟩
  | 88 => ⟨S2x2048x4x32, .f32⟩
  | 89 => ⟨S2x2048x4x32, .f32⟩
  | 90 => ⟨S2x2048x4x32, .f32⟩
  | 91 => ⟨S2x2048x4x32, .f32⟩
  | 92 => ⟨S2x2048x4x32, .f32⟩
  | 93 => ⟨S2x2048x4x64, .f32⟩
  | 94 => ⟨S_, .f32⟩
  | 95 => ⟨S2x2048x4x128, .f32⟩
  | 96 => ⟨S2x2048x4x128, .f32⟩
  | 97 => ⟨S2x2048x4x64, .f32⟩
  | 98 => ⟨S2x2048x4x64, .f32⟩
  | 99 => ⟨S2x2048x4x32, .f32⟩
  | 100 => ⟨S2x2048x4x32, .f32⟩
  | 101 => ⟨S2x2048x4x32, .f32⟩
  | 102 => ⟨S2x2048x4x32, .f32⟩
  | 103 => ⟨S2x2048x4x32, .f32⟩
  | 104 => ⟨S2x2048x4x32, .f32⟩
  | 105 => ⟨S2x2048x4x32, .f32⟩
  | 106 => ⟨S2x2048x4x32, .f32⟩
  | 107 => ⟨S2x2048x4x32, .f32⟩
  | 108 => ⟨S2x2048x4x32, .f32⟩
  | 109 => ⟨S2x2048x4x32, .f32⟩
  | 110 => ⟨S2x2048x4x32, .f32⟩
  | 111 => ⟨S2x2048x4x32, .f32⟩
  | 112 => ⟨S2x2048x4x64, .f32⟩
  | 113 => ⟨S_, .f32⟩
  | 114 => ⟨S2x2048x4x128, .f32⟩
  | 115 => ⟨S2x2048x4x32, .f32⟩
  | 116 => ⟨S2x2048x4x32, .f32⟩
  | 117 => ⟨S2x2048x4x32, .f32⟩
  | 118 => ⟨S2x2048x4x32, .f32⟩
  | 119 => ⟨S2x2048x4x32, .f32⟩
  | 120 => ⟨S2x2048x4x32, .f32⟩
  | 121 => ⟨S2x2048x4x32, .f32⟩
  | 122 => ⟨S2x2048x4x32, .f32⟩
  | 123 => ⟨S2x2048x4x32, .f32⟩
  | 124 => ⟨S2x2048x4x32, .f32⟩
  | 125 => ⟨S2x2048x4x32, .f32⟩
  | 126 => ⟨S2x2048x4x32, .f32⟩
  | 127 => ⟨S2x2048x4x32, .f32⟩
  | _ => ⟨S2x2304x512, .f32⟩

abbrev hbmTy0_4 (i : Nat) : BufTy := match i % 128 with
  | 0 => ⟨S2x2048x4x64, .f32⟩
  | 1 => ⟨S_, .f32⟩
  | 2 => ⟨S2x2048x4x128, .f32⟩
  | 3 => ⟨S2x2048x4x128, .f32⟩
  | 4 => ⟨S2x2x128x4x128, .f32⟩
  | 5 => ⟨S2x2x4x128x128, .f32⟩
  | 6 => ⟨S2x2x4x128x128, .f32⟩
  | 7 => ⟨S2x2x4x128x128, .f32⟩
  | 8 => ⟨S2x2x4x128x128, .f32⟩
  | 9 => ⟨S2x1x4x128x128, .f32⟩
  | 10 => ⟨S2x1x4x128x128, .f32⟩
  | 11 => ⟨S2x2x4x128x128, .f32⟩
  | 12 => ⟨S2x2x4x128x128, .f32⟩
  | 13 => ⟨S2x2x4x128x128, .f32⟩
  | 14 => ⟨S2x2x4x128x128, .f32⟩
  | 15 => ⟨S2x2x4x128x128, .f32⟩
  | 16 => ⟨S2x2x4x128x128, .f32⟩
  | 17 => ⟨S2x2x4x128x128, .f32⟩
  | 18 => ⟨S2x2x4x128x128, .f32⟩
  | 19 => ⟨S2x2x4x128x128, .f32⟩
  | 20 => ⟨S2x2x4x128x128, .f32⟩
  | 21 => ⟨S2x1x4x128x128, .f32⟩
  | 22 => ⟨S2x1x4x128x128, .f32⟩
  | 23 => ⟨S2x1x4x128x128, .f32⟩
  | 24 => ⟨S2x2x4x128x128, .f32⟩
  | 25 => ⟨S2x2x4x128x128, .f32⟩
  | 26 => ⟨S2x2x4x128x128, .f32⟩
  | 27 => ⟨S2x2x4x128x128, .f32⟩
  | 28 => ⟨S2x2x4x128x128, .f32⟩
  | 29 => ⟨S2x2x4x128x128, .f32⟩
  | 30 => ⟨S2x2x4x128x128, .f32⟩
  | 31 => ⟨S2x2x4x128x128, .f32⟩
  | 32 => ⟨S2x2x4x128x128, .f32⟩
  | 33 => ⟨S2x2x128x4x128, .f32⟩
  | 34 => ⟨S2x256x4x128, .f32⟩
  | 35 => ⟨S2x2x128x4x128, .f32⟩
  | 36 => ⟨S2x256x4x128, .f32⟩
  | 37 => ⟨S2x2x128x4x128, .f32⟩
  | 38 => ⟨S2x256x4x128, .f32⟩
  | 39 => ⟨S2x2304x4x128, .f32⟩
  | 40 => ⟨S2x2304x4x128, .f32⟩
  | 41 => ⟨S2x2304x4x128, .f32⟩
  | 42 => ⟨S2x2304x512, .f32⟩
  | 43 => ⟨S_, .f32⟩
  | 44 => ⟨S2x2304x4x128, .f32⟩
  | 45 => ⟨S2x2304x4x128, .f32⟩
  | 46 => ⟨S2x2304x512, .f32⟩
  | 47 => ⟨S2x2304x512, .f32⟩
  | _ => ⟨S2x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_7 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_cst_8 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_cst_9 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_cst_10 : Ref sig .tc := ⟨.hbm, 199, rfl⟩
abbrev main_call1_v0 : Ref sig .tc := ⟨.hbm, 200, rfl⟩
abbrev main_call1_v1 : Ref sig .tc := ⟨.hbm, 201, rfl⟩
abbrev main_call1_v2 : Ref sig .tc := ⟨.hbm, 202, rfl⟩
abbrev main_v178 : Ref sig .tc := ⟨.hbm, 203, rfl⟩
abbrev main_v179 : Ref sig .tc := ⟨.hbm, 204, rfl⟩
abbrev main_cst_11 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_cst_12 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_cst_13 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_v335 : Ref sig .tc := ⟨.hbm, 363, rfl⟩
abbrev main_v336 : Ref sig .tc := ⟨.hbm, 364, rfl⟩
abbrev main_v337 : Ref sig .tc := ⟨.hbm, 365, rfl⟩
abbrev main_v338 : Ref sig .tc := ⟨.hbm, 366, rfl⟩
abbrev main_v339 : Ref sig .tc := ⟨.hbm, 367, rfl⟩
abbrev main_v340 : Ref sig .tc := ⟨.hbm, 368, rfl⟩
abbrev main_v341 : Ref sig .tc := ⟨.hbm, 369, rfl⟩
abbrev main_v342 : Ref sig .tc := ⟨.hbm, 370, rfl⟩
abbrev main_v343 : Ref sig .tc := ⟨.hbm, 371, rfl⟩
abbrev main_v344 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_v368 : Ref sig .tc := ⟨.hbm, 396, rfl⟩
abbrev main_v369 : Ref sig .tc := ⟨.hbm, 397, rfl⟩
abbrev main_v370 : Ref sig .tc := ⟨.hbm, 398, rfl⟩
abbrev main_v371 : Ref sig .tc := ⟨.hbm, 399, rfl⟩
abbrev main_v372 : Ref sig .tc := ⟨.hbm, 400, rfl⟩
abbrev main_v373 : Ref sig .tc := ⟨.hbm, 401, rfl⟩
abbrev main_v374 : Ref sig .tc := ⟨.hbm, 402, rfl⟩
abbrev main_v375 : Ref sig .tc := ⟨.hbm, 403, rfl⟩
abbrev main_v376 : Ref sig .tc := ⟨.hbm, 404, rfl⟩
abbrev main_v377 : Ref sig .tc := ⟨.hbm, 405, rfl⟩
abbrev main_v378 : Ref sig .tc := ⟨.hbm, 406, rfl⟩
abbrev main_v379 : Ref sig .tc := ⟨.hbm, 407, rfl⟩
abbrev main_v380 : Ref sig .tc := ⟨.hbm, 408, rfl⟩
abbrev main_v381 : Ref sig .tc := ⟨.hbm, 409, rfl⟩
abbrev main_v382 : Ref sig .tc := ⟨.hbm, 410, rfl⟩
abbrev main_v383 : Ref sig .tc := ⟨.hbm, 411, rfl⟩
abbrev main_v384 : Ref sig .tc := ⟨.hbm, 412, rfl⟩
abbrev main_v385 : Ref sig .tc := ⟨.hbm, 413, rfl⟩
abbrev main_v386 : Ref sig .tc := ⟨.hbm, 414, rfl⟩
abbrev main_v387 : Ref sig .tc := ⟨.hbm, 415, rfl⟩
abbrev main_v388 : Ref sig .tc := ⟨.hbm, 416, rfl⟩
abbrev main_v389 : Ref sig .tc := ⟨.hbm, 417, rfl⟩
abbrev main_v390 : Ref sig .tc := ⟨.hbm, 418, rfl⟩
abbrev main_v391 : Ref sig .tc := ⟨.hbm, 419, rfl⟩
abbrev main_v392 : Ref sig .tc := ⟨.hbm, 420, rfl⟩
abbrev main_v393 : Ref sig .tc := ⟨.hbm, 421, rfl⟩
abbrev main_v394 : Ref sig .tc := ⟨.hbm, 422, rfl⟩
abbrev main_v395 : Ref sig .tc := ⟨.hbm, 423, rfl⟩
abbrev main_v396 : Ref sig .tc := ⟨.hbm, 424, rfl⟩
abbrev main_v397 : Ref sig .tc := ⟨.hbm, 425, rfl⟩
abbrev main_v398 : Ref sig .tc := ⟨.hbm, 426, rfl⟩
abbrev main_v399 : Ref sig .tc := ⟨.hbm, 427, rfl⟩
abbrev main_v400 : Ref sig .tc := ⟨.hbm, 428, rfl⟩
abbrev main_cst_14 : Ref sig .tc := ⟨.hbm, 429, rfl⟩
abbrev main_v401 : Ref sig .tc := ⟨.hbm, 430, rfl⟩
abbrev main_v402 : Ref sig .tc := ⟨.hbm, 431, rfl⟩
abbrev main_v403 : Ref sig .tc := ⟨.hbm, 432, rfl⟩
abbrev main_v404 : Ref sig .tc := ⟨.hbm, 433, rfl⟩
abbrev main_v405 : Ref sig .tc := ⟨.hbm, 434, rfl⟩
abbrev main_v406 : Ref sig .tc := ⟨.hbm, 435, rfl⟩
abbrev main_v407 : Ref sig .tc := ⟨.hbm, 436, rfl⟩
abbrev main_v408 : Ref sig .tc := ⟨.hbm, 437, rfl⟩
abbrev main_v409 : Ref sig .tc := ⟨.hbm, 438, rfl⟩
abbrev main_v410 : Ref sig .tc := ⟨.hbm, 439, rfl⟩
abbrev main_v411 : Ref sig .tc := ⟨.hbm, 440, rfl⟩
abbrev main_v412 : Ref sig .tc := ⟨.hbm, 441, rfl⟩
abbrev main_v413 : Ref sig .tc := ⟨.hbm, 442, rfl⟩
abbrev main_v414 : Ref sig .tc := ⟨.hbm, 443, rfl⟩
abbrev main_v415 : Ref sig .tc := ⟨.hbm, 444, rfl⟩
abbrev main_v416 : Ref sig .tc := ⟨.hbm, 445, rfl⟩
abbrev main_v417 : Ref sig .tc := ⟨.hbm, 446, rfl⟩
abbrev main_v418 : Ref sig .tc := ⟨.hbm, 447, rfl⟩
abbrev main_v419 : Ref sig .tc := ⟨.hbm, 448, rfl⟩
abbrev main_v420 : Ref sig .tc := ⟨.hbm, 449, rfl⟩
abbrev main_v421 : Ref sig .tc := ⟨.hbm, 450, rfl⟩
abbrev main_v422 : Ref sig .tc := ⟨.hbm, 451, rfl⟩
abbrev main_v423 : Ref sig .tc := ⟨.hbm, 452, rfl⟩
abbrev main_v424 : Ref sig .tc := ⟨.hbm, 453, rfl⟩
abbrev main_v425 : Ref sig .tc := ⟨.hbm, 454, rfl⟩
abbrev main_v426 : Ref sig .tc := ⟨.hbm, 455, rfl⟩
abbrev main_v427 : Ref sig .tc := ⟨.hbm, 456, rfl⟩
abbrev main_v428 : Ref sig .tc := ⟨.hbm, 457, rfl⟩
abbrev main_v429 : Ref sig .tc := ⟨.hbm, 458, rfl⟩
abbrev main_v430 : Ref sig .tc := ⟨.hbm, 459, rfl⟩
abbrev main_v431 : Ref sig .tc := ⟨.hbm, 460, rfl⟩
abbrev main_v432 : Ref sig .tc := ⟨.hbm, 461, rfl⟩
abbrev main_cst_15 : Ref sig .tc := ⟨.hbm, 462, rfl⟩
abbrev main_v433 : Ref sig .tc := ⟨.hbm, 463, rfl⟩
abbrev main_v434 : Ref sig .tc := ⟨.hbm, 464, rfl⟩
abbrev main_v435 : Ref sig .tc := ⟨.hbm, 465, rfl⟩
abbrev main_v436 : Ref sig .tc := ⟨.hbm, 466, rfl⟩
abbrev main_v437 : Ref sig .tc := ⟨.hbm, 467, rfl⟩
abbrev main_v438 : Ref sig .tc := ⟨.hbm, 468, rfl⟩
abbrev main_v439 : Ref sig .tc := ⟨.hbm, 469, rfl⟩
abbrev main_v440 : Ref sig .tc := ⟨.hbm, 470, rfl⟩
abbrev main_v441 : Ref sig .tc := ⟨.hbm, 471, rfl⟩
abbrev main_v442 : Ref sig .tc := ⟨.hbm, 472, rfl⟩
abbrev main_v443 : Ref sig .tc := ⟨.hbm, 473, rfl⟩
abbrev main_v444 : Ref sig .tc := ⟨.hbm, 474, rfl⟩
abbrev main_v445 : Ref sig .tc := ⟨.hbm, 475, rfl⟩
abbrev main_v446 : Ref sig .tc := ⟨.hbm, 476, rfl⟩
abbrev main_v447 : Ref sig .tc := ⟨.hbm, 477, rfl⟩
abbrev main_cst_16 : Ref sig .tc := ⟨.hbm, 478, rfl⟩
abbrev main_v448 : Ref sig .tc := ⟨.hbm, 479, rfl⟩
abbrev main_v449 : Ref sig .tc := ⟨.hbm, 480, rfl⟩
abbrev main_v450 : Ref sig .tc := ⟨.hbm, 481, rfl⟩
abbrev main_v451 : Ref sig .tc := ⟨.hbm, 482, rfl⟩
abbrev main_v452 : Ref sig .tc := ⟨.hbm, 483, rfl⟩
abbrev main_v453 : Ref sig .tc := ⟨.hbm, 484, rfl⟩
abbrev main_v454 : Ref sig .tc := ⟨.hbm, 485, rfl⟩
abbrev main_v455 : Ref sig .tc := ⟨.hbm, 486, rfl⟩
abbrev main_v456 : Ref sig .tc := ⟨.hbm, 487, rfl⟩
abbrev main_v457 : Ref sig .tc := ⟨.hbm, 488, rfl⟩
abbrev main_v458 : Ref sig .tc := ⟨.hbm, 489, rfl⟩
abbrev main_v459 : Ref sig .tc := ⟨.hbm, 490, rfl⟩
abbrev main_v460 : Ref sig .tc := ⟨.hbm, 491, rfl⟩
abbrev main_v461 : Ref sig .tc := ⟨.hbm, 492, rfl⟩
abbrev main_v462 : Ref sig .tc := ⟨.hbm, 493, rfl⟩
abbrev main_v463 : Ref sig .tc := ⟨.hbm, 494, rfl⟩
abbrev main_v464 : Ref sig .tc := ⟨.hbm, 495, rfl⟩
abbrev main_v465 : Ref sig .tc := ⟨.hbm, 496, rfl⟩
abbrev main_cst_17 : Ref sig .tc := ⟨.hbm, 497, rfl⟩
abbrev main_v466 : Ref sig .tc := ⟨.hbm, 498, rfl⟩
abbrev main_v467 : Ref sig .tc := ⟨.hbm, 499, rfl⟩
abbrev main_v468 : Ref sig .tc := ⟨.hbm, 500, rfl⟩
abbrev main_v469 : Ref sig .tc := ⟨.hbm, 501, rfl⟩
abbrev main_v470 : Ref sig .tc := ⟨.hbm, 502, rfl⟩
abbrev main_v471 : Ref sig .tc := ⟨.hbm, 503, rfl⟩
abbrev main_v472 : Ref sig .tc := ⟨.hbm, 504, rfl⟩
abbrev main_v473 : Ref sig .tc := ⟨.hbm, 505, rfl⟩
abbrev main_v474 : Ref sig .tc := ⟨.hbm, 506, rfl⟩
abbrev main_v475 : Ref sig .tc := ⟨.hbm, 507, rfl⟩
abbrev main_v476 : Ref sig .tc := ⟨.hbm, 508, rfl⟩
abbrev main_v477 : Ref sig .tc := ⟨.hbm, 509, rfl⟩
abbrev main_v478 : Ref sig .tc := ⟨.hbm, 510, rfl⟩
abbrev main_v479 : Ref sig .tc := ⟨.hbm, 511, rfl⟩
abbrev main_v480 : Ref sig .tc := ⟨.hbm, 512, rfl⟩
abbrev main_cst_18 : Ref sig .tc := ⟨.hbm, 513, rfl⟩
abbrev main_v481 : Ref sig .tc := ⟨.hbm, 514, rfl⟩
abbrev main_v482 : Ref sig .tc := ⟨.hbm, 515, rfl⟩
abbrev main_v483 : Ref sig .tc := ⟨.hbm, 516, rfl⟩
abbrev main_v484 : Ref sig .tc := ⟨.hbm, 517, rfl⟩
abbrev main_v485 : Ref sig .tc := ⟨.hbm, 518, rfl⟩
abbrev main_v486 : Ref sig .tc := ⟨.hbm, 519, rfl⟩
abbrev main_v487 : Ref sig .tc := ⟨.hbm, 520, rfl⟩
abbrev main_v488 : Ref sig .tc := ⟨.hbm, 521, rfl⟩
abbrev main_v489 : Ref sig .tc := ⟨.hbm, 522, rfl⟩
abbrev main_v490 : Ref sig .tc := ⟨.hbm, 523, rfl⟩
abbrev main_v491 : Ref sig .tc := ⟨.hbm, 524, rfl⟩
abbrev main_v492 : Ref sig .tc := ⟨.hbm, 525, rfl⟩
abbrev main_v493 : Ref sig .tc := ⟨.hbm, 526, rfl⟩
abbrev main_v494 : Ref sig .tc := ⟨.hbm, 527, rfl⟩
abbrev main_v495 : Ref sig .tc := ⟨.hbm, 528, rfl⟩
abbrev main_v496 : Ref sig .tc := ⟨.hbm, 529, rfl⟩
abbrev main_v497 : Ref sig .tc := ⟨.hbm, 530, rfl⟩
abbrev main_v498 : Ref sig .tc := ⟨.hbm, 531, rfl⟩
abbrev main_v499 : Ref sig .tc := ⟨.hbm, 532, rfl⟩
abbrev main_v500 : Ref sig .tc := ⟨.hbm, 533, rfl⟩
abbrev main_v501 : Ref sig .tc := ⟨.hbm, 534, rfl⟩
abbrev main_v502 : Ref sig .tc := ⟨.hbm, 535, rfl⟩
abbrev main_v503 : Ref sig .tc := ⟨.hbm, 536, rfl⟩
abbrev main_v504 : Ref sig .tc := ⟨.hbm, 537, rfl⟩
abbrev main_v505 : Ref sig .tc := ⟨.hbm, 538, rfl⟩
abbrev main_v506 : Ref sig .tc := ⟨.hbm, 539, rfl⟩
abbrev main_v507 : Ref sig .tc := ⟨.hbm, 540, rfl⟩
abbrev main_v508 : Ref sig .tc := ⟨.hbm, 541, rfl⟩
abbrev main_v509 : Ref sig .tc := ⟨.hbm, 542, rfl⟩
abbrev main_v510 : Ref sig .tc := ⟨.hbm, 543, rfl⟩
abbrev main_v511 : Ref sig .tc := ⟨.hbm, 544, rfl⟩
abbrev main_v512 : Ref sig .tc := ⟨.hbm, 545, rfl⟩
abbrev main_v513 : Ref sig .tc := ⟨.hbm, 546, rfl⟩
abbrev main_v514 : Ref sig .tc := ⟨.hbm, 547, rfl⟩
abbrev main_v515 : Ref sig .tc := ⟨.hbm, 548, rfl⟩
abbrev main_v516 : Ref sig .tc := ⟨.hbm, 549, rfl⟩
abbrev main_v517 : Ref sig .tc := ⟨.hbm, 550, rfl⟩
abbrev main_v518 : Ref sig .tc := ⟨.hbm, 551, rfl⟩
abbrev main_v519 : Ref sig .tc := ⟨.hbm, 552, rfl⟩
abbrev main_v520 : Ref sig .tc := ⟨.hbm, 553, rfl⟩
abbrev main_v521 : Ref sig .tc := ⟨.hbm, 554, rfl⟩
abbrev main_cst_19 : Ref sig .tc := ⟨.hbm, 555, rfl⟩
abbrev main_v522 : Ref sig .tc := ⟨.hbm, 556, rfl⟩
abbrev main_v523 : Ref sig .tc := ⟨.hbm, 557, rfl⟩
abbrev main_v524 : Ref sig .tc := ⟨.hbm, 558, rfl⟩
abbrev main_v525 : Ref sig .tc := ⟨.hbm, 559, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4608x1024 : Shape := ⟨2, ![4608, 1024]⟩
abbrev S4608x3840 : Shape := ⟨2, ![4608, 3840]⟩
abbrev S1024x3840 : Shape := ⟨2, ![1024, 3840]⟩
abbrev S768x1024 : Shape := ⟨2, ![768, 1024]⟩
abbrev S768x768 : Shape := ⟨2, ![768, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S4608x3840, .bf16⟩
  | .hbm, ⟨2, _⟩ => ⟨S1024x3840, .bf16⟩
  | .local _ .vmem, ⟨0, _⟩ => ⟨S768x1024, .bf16⟩
  | .local _ .vmem, ⟨1, _⟩ => ⟨S768x1024, .bf16⟩
  | .local _ .vmem, ⟨2, _⟩ => ⟨S768x768, .bf16⟩
  | .local _ .vmem, ⟨3, _⟩ => ⟨S768x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4608x1024 : Shape := ⟨2, ![4608, 1024]⟩
abbrev S4608x3840 : Shape := ⟨2, ![4608, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x3840, .bf16⟩
  | .hbm, ⟨2, _⟩ => ⟨S_, .f32⟩
  | .hbm, ⟨3, _⟩ => ⟨S1024x3840, .f32⟩
  | .hbm, ⟨4, _⟩ => ⟨S4608x1024, .f32⟩
  | .hbm, ⟨5, _⟩ => ⟨S4608x3840, .f32⟩
  | .hbm, ⟨6, _⟩ => ⟨S4608x3840, .f32⟩
  | .hbm, ⟨7, _⟩ => ⟨S3840x1024, .f32⟩
  | .hbm, ⟨8, _⟩ => ⟨S1024x3840, .f32⟩
  | .hbm, ⟨9, _⟩ => ⟨S1024x3840, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4608x3840 : Shape := ⟨2, ![4608, 3840]⟩
abbrev S1024x3840 : Shape := ⟨2, ![1024, 3840]⟩
abbrev S1x1024 : Shape := ⟨2, ![1, 1024]⟩
abbrev S4608x1024 : Shape := ⟨2, ![4608, 1024]⟩
abbrev S768x768 : Shape := ⟨2, ![768, 768]⟩
abbrev S1024x768 : Shape := ⟨2, ![1024, 768]⟩
abbrev S768x1024 : Shape := ⟨2, ![768, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x3840, .bf16⟩
  | .hbm, ⟨1, _⟩ => ⟨S1024x3840, .bf16⟩
  | .hbm, ⟨2, _⟩ => ⟨S1x1024, .f32⟩
  | .hbm, ⟨3, _⟩ => ⟨S4608x1024, .f32⟩
  | .local _ .vmem, ⟨0, _⟩ => ⟨S768x768, .bf16⟩
  | .local _ .vmem, ⟨1, _⟩ => ⟨S768x768, .bf16⟩
  | .local _ .vmem, ⟨2, _⟩ => ⟨S1024x768, .bf16⟩
  | .local _ .vmem, ⟨3, _⟩ => ⟨S1024x768, .bf16⟩
  | .local _ .vmem, ⟨4, _⟩ => ⟨S1x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S4608x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![6, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4608x3840 : Shape := ⟨2, ![4608, 3840]⟩
abbrev S1024x3840 : Shape := ⟨2, ![1024, 3840]⟩
abbrev S1x1024 : Shape := ⟨2, ![1, 1024]⟩
abbrev S_ : Shape := ⟨0, ![]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4608x3840, .bf16⟩
  | .hbm, ⟨1, _⟩ => ⟨S1024x3840, .bf16⟩
  | .hbm, ⟨2, _⟩ => ⟨S1x1024, .f32⟩
  | .hbm, ⟨3, _⟩ => ⟨S_, .f32⟩
  | .hbm, ⟨4, _⟩ => ⟨S4608x1024, .f32⟩
  | .hbm, ⟨5, _⟩ => ⟨S1024x3840, .f32⟩
  | .hbm, ⟨6, _⟩ => ⟨S4608x3840, .f32⟩
  | .hbm, ⟨7, _⟩ => ⟨S4608x3840, .f32⟩
  | .hbm, ⟨8, _⟩ => ⟨S4608x1024, .f32⟩
  | .hbm, ⟨9, _⟩ => ⟨S4608x1024, .f32⟩
  | .hbm, ⟨10, _⟩ => ⟨S4608x1024, .f32⟩
  | _, _ => ⟨S4608x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4608x1024 : Shape := ⟨2, ![4608, 1024]⟩
abbrev S1024x3840 : Shape := ⟨2, ![1024, 3840]⟩
abbrev S4608x3840 : Shape := ⟨2, ![4608, 3840]⟩
abbrev S768x1024 : Shape := ⟨2, ![768, 1024]⟩
abbrev S1024x768 : Shape := ⟨2, ![1024, 768]⟩
abbrev S768x768 : Shape := ⟨2, ![768, 768]⟩

abbrev nBuf : Space → Nat
  | .hbm => 3
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x3840, .bf16⟩
  | .hbm, ⟨2, _⟩ => ⟨S4608x3840, .f32⟩
  | .local _ .vmem, ⟨0, _⟩ => ⟨S768x1024, .bf16⟩
  | .local _ .vmem, ⟨1, _⟩ => ⟨S768x1024, .bf16⟩
  | .local _ .vmem, ⟨2, _⟩ => ⟨S1024x768, .bf16⟩
  | .local _ .vmem, ⟨3, _⟩ => ⟨S1024x768, .bf16⟩
  | .local _ .vmem, ⟨4, _⟩ => ⟨S768x768, .f32⟩
  | .local _ .vmem, ⟨5, _⟩ => ⟨S768x768, .f32⟩
  | .local _ .vmem, ⟨6, _⟩ => ⟨S768x768, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4608x1024 : Shape := ⟨2, ![4608, 1024]⟩
abbrev S1024x3840 : Shape := ⟨2, ![1024, 3840]⟩
abbrev S4608x3840 : Shape := ⟨2, ![4608, 3840]⟩

abbrev nBuf : Space → Nat
  | .hbm => 5
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x3840, .bf16⟩
  | .hbm, ⟨2, _⟩ => ⟨S4608x1024, .f32⟩
  | .hbm, ⟨3, _⟩ => ⟨S1024x3840, .f32⟩
  | .hbm, ⟨4, _⟩ => ⟨S4608x3840, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x4096 : Shape := ⟨2, ![1024, 4096]⟩
abbrev S1x4096 : Shape := ⟨2, ![1, 4096]⟩
abbrev S4096x4096 : Shape := ⟨2, ![4096, 4096]⟩
abbrev S1024x1024 : Shape := ⟨2, ![1024, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024x4096 : Shape := ⟨2, ![1024, 4096]⟩
abbrev S1x4096 : Shape := ⟨2, ![1, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1x4096, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2x2048x4096 : Shape := ⟨3, ![2, 2048, 4096]⟩
abbrev S_ : Shape := ⟨0, ![]⟩
abbrev S1x4096 : Shape := ⟨2, ![1, 4096]⟩
abbrev S1x256x4096 : Shape := ⟨3, ![1, 256, 4096]⟩
abbrev S256x4096 : Shape := ⟨2, ![256, 4096]⟩
abbrev S4096 : Shape := ⟨1, ![4096]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .bf16⟩
  | .hbm, ⟨2, _⟩ => ⟨S_, .f32⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S2x2048x4096, .bf16⟩
  | .hbm, ⟨7, _⟩ => ⟨S2x2048x4096, .bf16⟩
  | .hbm, ⟨8, _⟩ => ⟨S1x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference14Ideal.lean ====
abbrev S2x2048x4096 : Shape := ⟨3, ![2, 2048, 4096]⟩
abbrev S_ : Shape := ⟨0, ![]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .bf16⟩
  | .hbm, ⟨2, _⟩ => ⟨S_, .f32⟩
  | .hbm, ⟨3, _⟩ => ⟨S2x2048x4096, .f32⟩
  | .hbm, ⟨4, _⟩ => ⟨S2x2048x4096, .f32⟩
  | .hbm, ⟨5, _⟩ => ⟨S_, .f32⟩
  | .hbm, ⟨6, _⟩ => ⟨S2x2048x4096, .f32⟩
  | .hbm, ⟨7, _⟩ => ⟨S2x2048x4096, .i1⟩
  | .hbm, ⟨8, _⟩ => ⟨S_, .f32⟩
  | .hbm, ⟨9, _⟩ => ⟨S2x2048x4096, .f32⟩
  | .hbm, ⟨10, _⟩ => ⟨S2x2048x4096, .f32⟩
  | .hbm, ⟨11, _⟩ => ⟨S_, .f32⟩
  | .hbm, ⟨12, _⟩ => ⟨S2x2048x4096, .f32⟩
  | .hbm, ⟨13, _⟩ => ⟨S2x2048x4096, .f32⟩
  | .hbm, ⟨14, _⟩ => ⟨S2x2048x4096, .f32⟩
  | .hbm, ⟨15, _⟩ => ⟨S2x2048x4096, .f32⟩
  | .hbm, ⟨16, _⟩ => ⟨S_, .f32⟩
  | .hbm, ⟨17, _⟩ => ⟨S2x2048x4096, .f32⟩
  | .hbm, ⟨18, _⟩ => ⟨S2x2048x4096, .f32⟩
  | .hbm, ⟨19, _⟩ => ⟨S2x2048x4096, .bf16⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S1x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel15.lean ====
abbrev S24x1024 : Shape := ⟨2, ![24, 1024]⟩
abbrev S24x1536 : Shape := ⟨2, ![24, 1536]⟩
abbrev S1024x1536 : Shape := ⟨2, ![1024, 1536]⟩

abbrev nBuf : Space → Nat
  | .hbm => 5
  | .vmem => 5
  | .smem => 0
  | _ => 0

abbrev bufTy : (tb : Table) → Fin (tcTables nBuf tb) → BufTy
  | .hbm, ⟨0, _⟩ => ⟨S24x1024, .f32⟩
  | .hbm, ⟨1, _⟩ => ⟨S24x1536, .f32⟩
  | .hbm, ⟨2, _⟩ => ⟨S1024x1536, .f32⟩
  | .hbm, ⟨3, _⟩ => ⟨S1024x1536, .f32⟩
  | .hbm, ⟨4, _⟩ => ⟨S24x1024, .f32⟩
  | .local _ .vmem, ⟨0, _⟩ => ⟨S24x1024, .f32⟩
  | .local _ .vmem, ⟨1, _⟩ => ⟨S24x1536, .f32⟩
  | .local _ .vmem, ⟨2, _⟩ => ⟨S1024x1536, .f32⟩
  | .local _ .vmem, ⟨3, _⟩ => ⟨S1024x1536, .f32⟩
  | .local _ .vmem, ⟨4, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference15Ideal.lean ====
abbrev S24x1024 : Shape := ⟨2, ![24, 1024]⟩
abbrev S24x1536 : Shape := ⟨2, ![24, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 21
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1536, .f32⟩
  | .hbm, ⟨2, _⟩ => ⟨S1024x1536, .f32⟩
  | .hbm, ⟨3, _⟩ => ⟨S_, .f32⟩
  | .hbm, ⟨4, _⟩ => ⟨S1024x1536, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S24x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S24x1024, .f32⟩
  | .hbm, ⟨19, _⟩ => ⟨S24x1536, .f32⟩
  | .hbm, ⟨20, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel16.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x960 : Shape := ⟨2, ![1024, 960]⟩
abbrev S256x960 : Shape := ⟨2, ![256, 960]⟩

abbrev nBuf : Space → Nat
  | .hbm => 7
  | .vmem => 14
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S1024x960, .f32⟩
  | .hbm, ⟨5, _⟩ => ⟨S1024x960, .f32⟩
  | .hbm, ⟨6, _⟩ => ⟨S1024x960, .f32⟩
  | .local _ .vmem, ⟨0, _⟩ => ⟨S256x960, .f32⟩
  | .local _ .vmem, ⟨1, _⟩ => ⟨S256x960, .f32⟩
  | .local _ .vmem, ⟨2, _⟩ => ⟨S256x960, .f32⟩
  | .local _ .vmem, ⟨3, _⟩ => ⟨S256x960, .f32⟩
  | .local _ .vmem, ⟨4, _⟩ => ⟨S256x960, .f32⟩
  | .local _ .vmem, ⟨5, _⟩ => ⟨S256x960, .f32⟩
  | .local _ .vmem, ⟨6, _⟩ => ⟨S256x960, .f32⟩
  | .local _ .vmem, ⟨7, _⟩ => ⟨S256x960, .f32⟩
  | .local _ .vmem, ⟨8, _⟩ => ⟨S256x960, .f32⟩
  | .local _ .vmem, ⟨9, _⟩ => ⟨S256x960, .f32⟩
  | .local _ .vmem, ⟨10, _⟩ => ⟨S256x960, .f32⟩
  | .local _ .vmem, ⟨11, _⟩ => ⟨S256x960, .f32⟩
  | .local _ .vmem, ⟨12, _⟩ => ⟨S256x960, .f32⟩
  | .local _ .vmem, ⟨13, _⟩ => ⟨S256x960, .f32⟩
  | _, _ => ⟨S1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x960 : Shape := ⟨2, ![1024, 960]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S_, .f32⟩
  | .hbm, ⟨5, _⟩ => ⟨S1024x960, .f32⟩
  | .hbm, ⟨6, _⟩ => ⟨S1024x960, .f32⟩
  | .hbm, ⟨7, _⟩ => ⟨S_, .f32⟩
  | .hbm, ⟨8, _⟩ => ⟨S1024x960, .f32⟩
  | .hbm, ⟨9, _⟩ => ⟨S1024x960, .f32⟩
  | .hbm, ⟨10, _⟩ => ⟨S1024x960, .f32⟩
  | .hbm, ⟨11, _⟩ => ⟨S_, .f32⟩
  | .hbm, ⟨12, _⟩ => ⟨S1024x960, .f32⟩
  | .hbm, ⟨13, _⟩ => ⟨S1024x960, .f32⟩
  | .hbm, ⟨14, _⟩ => ⟨S1024x960, .f32⟩
  | .hbm, ⟨15, _⟩ => ⟨S_, .f32⟩
  | .hbm, ⟨16, _⟩ => ⟨S1024x960, .f32⟩
  | .hbm, ⟨17, _⟩ => ⟨S1024x960, .f32⟩
  | .hbm, ⟨18, _⟩ => ⟨S1024x960, .f32⟩
  | .hbm, ⟨19, _⟩ => ⟨S_, .f32⟩
  | .hbm, ⟨20, _⟩ => ⟨S1024x960, .f32⟩
  | .hbm, ⟨21, _⟩ => ⟨S1024x960, .f32⟩
  | .hbm, ⟨22, _⟩ => ⟨S_, .f32⟩
  | .hbm, ⟨23, _⟩ => ⟨S1024x960, .f32⟩
  | .hbm, ⟨24, _⟩ => ⟨S1024x960, .f32⟩
  | .hbm, ⟨25, _⟩ => ⟨S1024x960, .f32⟩
  | .hbm, ⟨26, _⟩ => ⟨S_, .f32⟩
  | .hbm, ⟨27, _⟩ => ⟨S1024x960, .f32⟩
  | .hbm, ⟨28, _⟩ => ⟨S1024x960, .f32⟩
  | .hbm, ⟨29, _⟩ => ⟨S1024x960, .f32⟩
  | .hbm, ⟨30, _⟩ => ⟨S_, .f32⟩
  | .hbm, ⟨31, _⟩ => ⟨S1024x960, .f32⟩
  | .hbm, ⟨32, _⟩ => ⟨S1024x960, .f32⟩
  | .hbm, ⟨33, _⟩ => ⟨S1024x960, .f32⟩
  | .hbm, ⟨34, _⟩ => ⟨S_, .f32⟩
  | .hbm, ⟨35, _⟩ => ⟨S1024x960, .f32⟩
  | .hbm, ⟨36, _⟩ => ⟨S1024x960, .f32⟩
  | _, _ => ⟨S1024x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S176x1024 : Shape := ⟨2, ![176, 1024]⟩
abbrev S16x1024 : Shape := ⟨2, ![16, 1024]⟩

abbrev nBuf : Space → Nat
  | .hbm => 7
  | .vmem => 14
  | .smem => 0
  | _ => 0

abbrev bufTy : (tb : Table) → Fin (tcTables nBuf tb) → BufTy
  | .hbm, ⟨0, _⟩ => ⟨S176x1024, .f32⟩
  | .hbm, ⟨1, _⟩ => ⟨S176x1024, .f32⟩
  | .hbm, ⟨2, _⟩ => ⟨S176x1024, .f32⟩
  | .hbm, ⟨3, _⟩ => ⟨S176x1024, .f32⟩
  | .hbm, ⟨4, _⟩ => ⟨S176x1024, .f32⟩
  | .hbm, ⟨5, _⟩ => ⟨S176x1024, .f32⟩
  | .hbm, ⟨6, _⟩ => ⟨S176x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | _, _ => ⟨S176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S176x1024 : Shape := ⟨2, ![176, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S176x1024, .f32⟩
  | .hbm, ⟨1, _⟩ => ⟨S176x1024, .f32⟩
  | .hbm, ⟨2, _⟩ => ⟨S176x1024, .f32⟩
  | .hbm, ⟨3, _⟩ => ⟨S176x1024, .f32⟩
  | .hbm, ⟨4, _⟩ => ⟨S_, .f32⟩
  | .hbm, ⟨5, _⟩ => ⟨S176x1024, .f32⟩
  | .hbm, ⟨6, _⟩ => ⟨S176x1024, .f32⟩
  | .hbm, ⟨7, _⟩ => ⟨S_, .f32⟩
  | .hbm, ⟨8, _⟩ => ⟨S176x1024, .f32⟩
  | .hbm, ⟨9, _⟩ => ⟨S176x1024, .f32⟩
  | .hbm, ⟨10, _⟩ => ⟨S176x1024, .f32⟩
  | .hbm, ⟨11, _⟩ => ⟨S_, .f32⟩
  | .hbm, ⟨12, _⟩ => ⟨S176x1024, .f32⟩
  | .hbm, ⟨13, _⟩ => ⟨S176x1024, .f32⟩
  | .hbm, ⟨14, _⟩ => ⟨S176x1024, .f32⟩
  | .hbm, ⟨15, _⟩ => ⟨S_, .f32⟩
  | .hbm, ⟨16, _⟩ => ⟨S176x1024, .f32⟩
  | .hbm, ⟨17, _⟩ => ⟨S176x1024, .f32⟩
  | .hbm, ⟨18, _⟩ => ⟨S176x1024, .f32⟩
  | .hbm, ⟨19, _⟩ => ⟨S_, .f32⟩
  | .hbm, ⟨20, _⟩ => ⟨S176x1024, .f32⟩
  | .hbm, ⟨21, _⟩ => ⟨S176x1024, .f32⟩
  | .hbm, ⟨22, _⟩ => ⟨S_, .f32⟩
  | .hbm, ⟨23, _⟩ => ⟨S176x1024, .f32⟩
  | .hbm, ⟨24, _⟩ => ⟨S176x1024, .f32⟩
  | .hbm, ⟨25, _⟩ => ⟨S176x1024, .f32⟩
  | .hbm, ⟨26, _⟩ => ⟨S_, .f32⟩
  | .hbm, ⟨27, _⟩ => ⟨S176x1024, .f32⟩
  | .hbm, ⟨28, _⟩ => ⟨S176x1024, .f32⟩
  | .hbm, ⟨29, _⟩ => ⟨S176x1024, .f32⟩
  | .hbm, ⟨30, _⟩ => ⟨S_, .f32⟩
  | .hbm, ⟨31, _⟩ => ⟨S176x1024, .f32⟩
  | .hbm, ⟨32, _⟩ => ⟨S176x1024, .f32⟩
  | .hbm, ⟨33, _⟩ => ⟨S176x1024, .f32⟩
  | .hbm, ⟨34, _⟩ => ⟨S_, .f32⟩
  | .hbm, ⟨35, _⟩ => ⟨S176x1024, .f32⟩
  | .hbm, ⟨36, _⟩ => ⟨S176x1024, .f32⟩
  | _, _ => ⟨S176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S24x6144 : Shape := ⟨2, ![24, 6144]⟩
abbrev S1x6144 : Shape := ⟨2, ![1, 6144]⟩
abbrev S6144 : Shape := ⟨1, ![6144]⟩

abbrev nBuf : Space → Nat
  | .hbm => 2
  | .vmem => 2
  | .smem => 0
  | _ => 0

abbrev bufTy : (tb : Table) → Fin (tcTables nBuf tb) → BufTy
  | .hbm, ⟨0, _⟩ => ⟨S24x6144, .f32⟩
  | .hbm, ⟨1, _⟩ => ⟨S1x6144, .f32⟩
  | .local _ .vmem, ⟨0, _⟩ => ⟨S24x6144, .f32⟩
  | .local _ .vmem, ⟨1, _⟩ => ⟨S1x6144, .f32⟩
  | _, _ => ⟨S24x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference21Ideal.lean ====
abbrev S24x6144 : Shape := ⟨2, ![24, 6144]⟩
abbrev S_ : Shape := ⟨0, ![]⟩
abbrev S6144 : Shape := ⟨1, ![6144]⟩
abbrev S1x6144 : Shape := ⟨2, ![1, 6144]⟩

abbrev nBuf : Space → Nat
  | .hbm => 4
  | .vmem => 0
  | .smem => 0
  | _ => 0

abbrev bufTy : (tb : Table) → Fin (tcTables nBuf tb) → BufTy
  | .hbm, ⟨0, _⟩ => ⟨S24x6144, .f32⟩
  | .hbm, ⟨1, _⟩ => ⟨S_, .f32⟩
  | .hbm, ⟨2, _⟩ => ⟨S6144, .f32⟩
  | .hbm, ⟨3, _⟩ => ⟨S1x6144, .f32⟩
  | _, _ => ⟨S24x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S4x8x1024 : Shape := ⟨3, ![4, 8, 1024]⟩
abbrev S1x1024 : Shape := ⟨2, ![1, 1024]⟩
abbrev S1x1x1024 : Shape := ⟨3, ![1, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x8x1024, .f32⟩
  | .hbm, ⟨1, _⟩ => ⟨S1x1024, .f32⟩
  | .hbm, ⟨2, _⟩ => ⟨S1x1024, .f32⟩
  | .local _ .vmem, ⟨0, _⟩ => ⟨S4x8x1024, .f32⟩
  | .local _ .vmem, ⟨1, _⟩ => ⟨S1x1024, .f32⟩
  | .local _ .vmem, ⟨2, _⟩ => ⟨S1x1024, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference22Ideal.lean ====
abbrev S4x8x1024 : Shape := ⟨3, ![4, 8, 1024]⟩
abbrev S1x1024 : Shape := ⟨2, ![1, 1024]⟩
abbrev S_ : Shape := ⟨0, ![]⟩
abbrev S4x1x1024 : Shape := ⟨3, ![4, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4x1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Kernel23.lean ====
abbrev S24x1024 : Shape := ⟨2, ![24, 1024]⟩
abbrev S1024x1536 : Shape := ⟨2, ![1024, 1536]⟩
abbrev S1x1536 : Shape := ⟨2, ![1, 1536]⟩
abbrev S24x1536 : Shape := ⟨2, ![24, 1536]⟩

abbrev nBuf : Space → Nat
  | .hbm => 4
  | .vmem => 4
  | .smem => 0
  | _ => 0

abbrev bufTy : (tb : Table) → Fin (tcTables nBuf tb) → BufTy
  | .hbm, ⟨0, _⟩ => ⟨S24x1024, .f32⟩
  | .hbm, ⟨1, _⟩ => ⟨S1024x1536, .f32⟩
  | .hbm, ⟨2, _⟩ => ⟨S1x1536, .f32⟩
  | .hbm, ⟨3, _⟩ => ⟨S24x1536, .f32⟩
  | .local _ .vmem, ⟨0, _⟩ => ⟨S24x1024, .f32⟩
  | .local _ .vmem, ⟨1, _⟩ => ⟨S1024x1536, .f32⟩
  | .local _ .vmem, ⟨2, _⟩ => ⟨S1x1536, .f32⟩
  | .local _ .vmem, ⟨3, _⟩ => ⟨S24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference23Ideal.lean ====
abbrev S24x1024 : Shape := ⟨2, ![24, 1024]⟩
abbrev S1024x1536 : Shape := ⟨2, ![1024, 1536]⟩
abbrev S1x1536 : Shape := ⟨2, ![1, 1536]⟩
abbrev S_ : Shape := ⟨0, ![]⟩
abbrev S24x1536 : Shape := ⟨2, ![24, 1536]⟩

abbrev nBuf : Space → Nat
  | .hbm => 15
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S1024x1536, .f32⟩
  | .hbm, ⟨2, _⟩ => ⟨S1x1536, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S24x1536, .f32⟩
  | .hbm, ⟨13, _⟩ => ⟨S24x1536, .f32⟩
  | .hbm, ⟨14, _⟩ => ⟨S24x1536, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel24.lean ====
abbrev S8x512x960 : Shape := ⟨3, ![8, 512, 960]⟩
abbrev S512x960 : Shape := ⟨2, ![512, 960]⟩
abbrev S8x256x960 : Shape := ⟨3, ![8, 256, 960]⟩
abbrev S256x960 : Shape := ⟨2, ![256, 960]⟩
abbrev S1x256x960 : Shape := ⟨3, ![1, 256, 960]⟩

abbrev nBuf : Space → Nat
  | .hbm => 2
  | .vmem => 4
  | .smem => 0
  | _ => 0

abbrev bufTy : (tb : Table) → Fin (tcTables nBuf tb) → BufTy
  | .hbm, ⟨0, _⟩ => ⟨S8x512x960, .bf16⟩
  | .hbm, ⟨1, _⟩ => ⟨S512x960, .f32⟩
  | .local _ .vmem, ⟨0, _⟩ => ⟨S8x256x960, .bf16⟩
  | .local _ .vmem, ⟨1, _⟩ => ⟨S8x256x960, .bf16⟩
  | .local _ .vmem, ⟨2, _⟩ => ⟨S256x960, .f32⟩
  | .local _ .vmem, ⟨3, _⟩ => ⟨S256x960, .f32⟩
  | _, _ => ⟨S8x512x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference24Ideal.lean ====
abbrev S8x512x960 : Shape := ⟨3, ![8, 512, 960]⟩
abbrev S_ : Shape := ⟨0, ![]⟩
abbrev S512x960 : Shape := ⟨2, ![512, 960]⟩

abbrev nBuf : Space → Nat
  | .hbm => 4
  | .vmem => 0
  | .smem => 0
  | _ => 0

abbrev bufTy : (tb : Table) → Fin (tcTables nBuf tb) → BufTy
  | .hbm, ⟨0, _⟩ => ⟨S8x512x960, .bf16⟩
  | .hbm, ⟨1, _⟩ => ⟨S8x512x960, .f32⟩
  | .hbm, ⟨2, _⟩ => ⟨S_, .f32⟩
  | .hbm, ⟨3, _⟩ => ⟨S512x960, .f32⟩
  | _, _ => ⟨S8x512x960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference25Ideal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .f32⟩
  | .hbm, ⟨2, _⟩ => ⟨S_, .f32⟩
  | .hbm, ⟨3, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S8x40x1024 : Shape := ⟨3, ![8, 40, 1024]⟩
abbrev S40x1024 : Shape := ⟨2, ![40, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S8x120x1024 : Shape := ⟨3, ![8, 120, 1024]⟩
abbrev S120x1024 : Shape := ⟨2, ![120, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x120x1024, .f32⟩
  | .hbm, ⟨1, _⟩ => ⟨S120x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference28Ideal.lean ====
abbrev S8x120x1024 : Shape := ⟨3, ![8, 120, 1024]⟩
abbrev S_ : Shape := ⟨0, ![]⟩
abbrev S120x1024 : Shape := ⟨2, ![120, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x120x1024, .f32⟩
  | .hbm, ⟨1, _⟩ => ⟨S_, .f32⟩
  | .hbm, ⟨2, _⟩ => ⟨S120x1024, .f32⟩
  | _, _ => ⟨S8x120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Retention.Spec.lean ====
/-
  The gradient of the chunked retention, index by index over the extended reals: one vocabulary in which both the kernel
  and the reference are read. A chunk has 128 tokens; one example has 18 of them (2 of context, 16 of the image), and a
  head has 128 features. Everything is stated per example `b` and head `h`.
-/
module

public import Idealize.ShloMosaic.Lib.Pointwise

@[expose] public section

noncomputable section

namespace Cert.Retention

open Idealize.ShloMosaic

/-- A 128 × 128 matrix of extended reals. -/
abbrev M : Type := Fin 128 → Fin 128 → EReal

/-- The float word of a token's position inside its chunk, read as an extended real. -/
def pos (i : Fin 128) : EReal := FloatOps.sitofp (F := Ideal) .f32 (BitVec.ofNat 32 i.val)

/-- The scale of the keys, the float nearest to the inverse square root of 128. -/
def scale : EReal := Ideal.ofBits .f32 0x3DB504F3#32

/-- The decay between two tokens of a chunk, zero above the diagonal. -/
def decay (lg : EReal) : M := fun i j =>
  Scalar.select (FloatOps.cmpf (F := Ideal) (φ := .f32) .oge (pos i - pos j) 0) (Ideal.exp (lg * max (pos i - pos j) 0)) 0

/-- The decay of the state as a token's query sees it. -/
def qexp (lg : EReal) (i : Fin 128) : EReal := Ideal.exp (lg * (pos i + 1))

/-- The decay of a token's key and value until the chunk's end. -/
def kexp (lg : EReal) (j : Fin 128) : EReal := Ideal.exp (lg * (Ideal.ofBits .f32 0x42FE0000#32 - pos j))

/-- The decay of the state over a whole chunk. -/
def cexp (lg : EReal) : EReal := Ideal.exp (lg * Ideal.ofBits .f32 0x43000000#32)

/-- The state after a chunk. -/
def sNext (lg : EReal) (K V S : M) : M := fun d e => S d e * cexp lg + ∑ j, (K j d * kexp lg j) * V j e

/-- The state's cotangent before a chunk, from the one after it. -/
def dNext (lg : EReal) (Q O D : M) : M := fun d e => (∑ i, O i e * (Q i d * qexp lg i)) + D d e * cexp lg

/-- The decayed scores of a chunk. -/
def scores (lg : EReal) (Q K : M) : M := fun i j => (∑ d, Q i d * K j d) * decay lg i j

/-- The cotangent of the scores before their decay. -/
def dscores (lg : EReal) (O V : M) : M := fun i j => (∑ e, O i e * V j e) * decay lg i j

/-- The cotangent of a chunk's rotated queries. -/
def dq (lg : EReal) (K V S O : M) : M := fun i d =>
  (∑ e, O i e * S d e) * qexp lg i + ∑ j, dscores lg O V i j * K j d

/-- The cotangent of a chunk's rotated and scaled keys. -/
def dk (lg : EReal) (Q V O D : M) : M := fun j d =>
  (∑ i, dscores lg O V i j * Q i d) + (∑ e, D d e * V j e) * kexp lg j

/-- The cotangent of a chunk's values. -/
def dv (lg : EReal) (Q K O D : M) : M := fun j e =>
  (∑ i, O i e * scores lg Q K i j) + ∑ d, D d e * (K j d * kexp lg j)

/-- The feature a feature is paired with by the rotation: 32 further on or back inside its half of 64. -/
def sw (d : Fin 128) : Fin 128 := if d.val % 64 < 32 then Fin.ofNat 128 (d.val + 32) else Fin.ofNat 128 (d.val - 32)

/-- The rotation of rows by the tables `cs`, `sn`. -/
def rot (cs sn x : M) : M := fun i d => x i d * cs i d + x i (sw d) * sn i d

/-- The transposed rotation. -/
def unrot (cs sn g : M) : M := fun i d => g i (sw d) * sn i (sw d) + g i d * cs i d

/-- Token `i` of chunk `n` among the 2304 of an example. -/
def tk (n : ℕ) (i : Fin 128) : Fin 2304 := Fin.ofNat 2304 (n * 128 + i.val)

/-- Feature `d` of head `h` among the 512 of a gradient's row. -/
def hc (h : Fin 4) (d : Fin 128) : Fin 512 := Fin.ofNat 512 (h.val * 128 + d.val)

/-- Feature `d` of head `h` in the projection's columns from `o` on. -/
def pc (o : ℕ) (h : Fin 4) (d : Fin 128) : Fin 3840 := Fin.ofNat 3840 (o + h.val * 128 + d.val)

section

variable (x0 : (⟨3, ![2, 2304, 512]⟩ : Shape).Idx → EReal) (x1 : (⟨3, ![2, 2304, 3840]⟩ : Shape).Idx → EReal)
  (x2 x3 x4 x5 : (⟨2, ![2048, 32]⟩ : Shape).Idx → EReal) (x6 : (⟨1, ![4]⟩ : Shape).Idx → EReal)

/-- The logarithm of a head's decay. -/
def lg (h : Fin 4) : EReal := -Ideal.exp (x6 (ix1 h))

/-- The output's cotangent of chunk `n`. -/
def O (b : Fin 2) (h : Fin 4) (n : ℕ) : M := fun i e => x0 (ix3 b (tk n i) (hc h e))

/-- The columns of the projection from `o` on, of chunk `n`. -/
def P (o : ℕ) (b : Fin 2) (h : Fin 4) (n : ℕ) : M := fun i d => x1 (ix3 b (tk n i) (pc o h d))

/-- The cosine table: one over the context's chunks, then the row table over the first half and the column table. -/
def cs (n : ℕ) : M := fun i d =>
  if n < 2 then 1
  else if d.val < 64 then x2 (ix2 (Fin.ofNat 2048 ((n - 2) * 128 + i.val)) (Fin.ofNat 32 d.val))
  else x4 (ix2 (Fin.ofNat 2048 ((n - 2) * 128 + i.val)) (Fin.ofNat 32 d.val))

/-- The sine table, with the sign the rotation gives it. -/
def sn (n : ℕ) : M := fun i d =>
  if n < 2 then 0
  else if d.val < 64 then
    (if d.val < 32 then -x3 (ix2 (Fin.ofNat 2048 ((n - 2) * 128 + i.val)) (Fin.ofNat 32 d.val))
     else x3 (ix2 (Fin.ofNat 2048 ((n - 2) * 128 + i.val)) (Fin.ofNat 32 d.val)))
  else
    (if d.val < 96 then -x5 (ix2 (Fin.ofNat 2048 ((n - 2) * 128 + i.val)) (Fin.ofNat 32 d.val))
     else x5 (ix2 (Fin.ofNat 2048 ((n - 2) * 128 + i.val)) (Fin.ofNat 32 d.val)))

/-- The rotated queries of chunk `n`. -/
def Q (b : Fin 2) (h : Fin 4) (n : ℕ) : M := rot (cs x2 x4 n) (sn x3 x5 n) (P x1 0 b h n)

/-- The scaled and rotated keys of chunk `n`. -/
def K (b : Fin 2) (h : Fin 4) (n : ℕ) : M :=
  rot (cs x2 x4 n) (sn x3 x5 n) (fun i d => P x1 512 b h n i d * scale)

/-- The state before chunk `n`. -/
def St (b : Fin 2) (h : Fin 4) : ℕ → M
  | 0 => fun _ _ => 0
  | n + 1 => sNext (lg x6 h) (K x1 x2 x3 x4 x5 b h n) (P x1 1024 b h n) (St b h n)

/-- The cotangent of the state after chunk `17 - k`. -/
def Dt (b : Fin 2) (h : Fin 4) : ℕ → M
  | 0 => fun _ _ => 0
  | k + 1 => dNext (lg x6 h) (Q x1 x2 x3 x4 x5 b h (17 - k)) (O x0 b h (17 - k)) (Dt b h k)

/-- The gradient of chunk `n`'s queries. -/
def dQ (b : Fin 2) (h : Fin 4) (n : ℕ) : M :=
  unrot (cs x2 x4 n) (sn x3 x5 n)
    (dq (lg x6 h) (K x1 x2 x3 x4 x5 b h n) (P x1 1024 b h n) (St x1 x2 x3 x4 x5 x6 b h n) (O x0 b h n))

/-- The gradient of chunk `n`'s keys. -/
def dK (b : Fin 2) (h : Fin 4) (n : ℕ) : M := fun i d =>
  unrot (cs x2 x4 n) (sn x3 x5 n)
    (dk (lg x6 h) (Q x1 x2 x3 x4 x5 b h n) (P x1 1024 b h n) (O x0 b h n) (Dt x0 x1 x2 x3 x4 x5 x6 b h (17 - n))) i d * scale

/-- The gradient of chunk `n`'s values. -/
def dV (b : Fin 2) (h : Fin 4) (n : ℕ) : M :=
  dv (lg x6 h) (Q x1 x2 x3 x4 x5 b h n) (K x1 x2 x3 x4 x5 b h n) (O x0 b h n) (Dt x0 x1 x2 x3 x4 x5 x6 b h (17 - n))

end

/-- The entry of a gradient's array at `j`, from its chunks. -/
def entry (g : Fin 2 → Fin 4 → ℕ → M) (j : (⟨3, ![2, 2304, 512]⟩ : Shape).Idx) : EReal :=
  g (j 0) (Fin.ofNat 4 ((j 2).val / 128)) ((j 1).val / 128) (Fin.ofNat 128 (j 1).val) (Fin.ofNat 128 (j 2).val)

end Cert.Retention

end
-- ==== Proof.Retention.RefLayout.lean ====
/-
  The reference's layout lines at an index: how an array of rows of tokens is cut into chunks and heads, and put together
  again.
-/
module

public import proofs.«01_k».proof.Proof.Gen.ReferenceIdeal
public import proofs.«01_k».proof.Proof.Retention.Spec
public import Idealize.ShloMosaic.Lib.Pipeline.Value
public import Idealize.ShloMosaic.PureOps.Ideal.Laws

@[expose] public section

noncomputable section

namespace Cert.ReferenceIdeal.Chunks

open Cert.ReferenceIdeal Cert.ReferenceIdeal.Gen Idealize.ShloMosaic Idealize.ShloMosaic.TcCoe Cert.Retention

/-- Rows of 2048 tokens, cut into 16 chunks with the heads before the tokens. -/
theorem chunk16 (y : FVec Ideal S2x2048x4x128 .f32) (b : Fin 2) (n : Fin 16) (h : Fin 4) (i d : Fin 128) :
    transpose S2x16x4x128x128 [0, 1, 3, 2, 4] (shapeCast S2x16x128x4x128 y shapeCasts_S2x2048x4x128_S2x16x128x4x128)
      transposes_S2x16x128x4x128_S2x16x4x128x128_0_1_3_2_4 (ix5 b n h i d) =
    y (ix4 b (Fin.ofNat 2048 (n.val * 128 + i.val)) h d) := by
  refine (transpose_apply [0, 1, 3, 2, 4] _ _ (ix5 b n h i d) (ix5 b n i h d) (fun a => match a with
    | ⟨0, _⟩ => rfl | ⟨1, _⟩ => rfl | ⟨2, _⟩ => rfl | ⟨3, _⟩ => rfl | ⟨4, _⟩ => rfl)).trans ?_
  refine shapeCast_apply y _ _ _ ?_
  rw [Shape.rowMajor_val_four, Shape.rowMajor_val_five]
  have hn := n.isLt
  have hi := i.isLt
  show ((b.val * 2048 + (n.val * 128 + i.val) % 2048) * 4 + h.val) * 128 + d.val =
    (((b.val * 16 + n.val) * 128 + i.val) * 4 + h.val) * 128 + d.val
  omega

/-- Chunks put together again as rows of 2048 tokens. -/
theorem unchunk16 (y : FVec Ideal S2x16x4x128x128 .f32) (b : Fin 2) (t : Fin 2048) (h : Fin 4) (d : Fin 128) :
    shapeCast S2x2048x4x128 (transpose S2x16x128x4x128 [0, 1, 3, 2, 4] y transposes_S2x16x4x128x128_S2x16x128x4x128_0_1_3_2_4)
      shapeCasts_S2x16x128x4x128_S2x2048x4x128 (ix4 b t h d) =
    y (ix5 b (Fin.ofNat 16 (t.val / 128)) h (Fin.ofNat 128 t.val) d) := by
  refine (shapeCast_apply _ _ (ix4 b t h d) (ix5 b (Fin.ofNat 16 (t.val / 128)) (Fin.ofNat 128 t.val) h d) ?_).trans ?_
  · rw [Shape.rowMajor_val_four, Shape.rowMajor_val_five]
    have ht := t.isLt
    show (((b.val * 16 + t.val / 128 % 16) * 128 + t.val % 128) * 4 + h.val) * 128 + d.val =
      ((b.val * 2048 + t.val) * 4 + h.val) * 128 + d.val
    omega
  · exact transpose_apply [0, 1, 3, 2, 4] y _ _ _ (fun a => match a with
      | ⟨0, _⟩ => rfl | ⟨1, _⟩ => rfl | ⟨2, _⟩ => rfl | ⟨3, _⟩ => rfl | ⟨4, _⟩ => rfl)

/-- Rows of 256 tokens, cut into 2 chunks with the heads before the tokens. -/
theorem chunk2 (y : FVec Ideal S2x256x4x128 .f32) (b : Fin 2) (n : Fin 2) (h : Fin 4) (i d : Fin 128) :
    transpose S2x2x4x128x128 [0, 1, 3, 2, 4] (shapeCast S2x2x128x4x128 y shapeCasts_S2x256x4x128_S2x2x128x4x128)
      transposes_S2x2x128x4x128_S2x2x4x128x128_0_1_3_2_4 (ix5 b n h i d) =
    y (ix4 b (Fin.ofNat 256 (n.val * 128 + i.val)) h d) := by
  refine (transpose_apply [0, 1, 3, 2, 4] _ _ (ix5 b n h i d) (ix5 b n i h d) (fun a => match a with
    | ⟨0, _⟩ => rfl | ⟨1, _⟩ => rfl | ⟨2, _⟩ => rfl | ⟨3, _⟩ => rfl | ⟨4, _⟩ => rfl)).trans ?_
  refine shapeCast_apply y _ _ _ ?_
  rw [Shape.rowMajor_val_four, Shape.rowMajor_val_five]
  have hn := n.isLt
  have hi := i.isLt
  show ((b.val * 256 + (n.val * 128 + i.val) % 256) * 4 + h.val) * 128 + d.val =
    (((b.val * 2 + n.val) * 128 + i.val) * 4 + h.val) * 128 + d.val
  omega

/-- Chunks put together again as rows of 256 tokens. -/
theorem unchunk2 (y : FVec Ideal S2x2x4x128x128 .f32) (b : Fin 2) (t : Fin 256) (h : Fin 4) (d : Fin 128) :
    shapeCast S2x256x4x128 (transpose S2x2x128x4x128 [0, 1, 3, 2, 4] y transposes_S2x2x4x128x128_S2x2x128x4x128_0_1_3_2_4)
      shapeCasts_S2x2x128x4x128_S2x256x4x128 (ix4 b t h d) =
    y (ix5 b (Fin.ofNat 2 (t.val / 128)) h (Fin.ofNat 128 t.val) d) := by
  refine (shapeCast_apply _ _ (ix4 b t h d) (ix5 b (Fin.ofNat 2 (t.val / 128)) (Fin.ofNat 128 t.val) h d) ?_).trans ?_
  · rw [Shape.rowMajor_val_four, Shape.rowMajor_val_five]
    have ht := t.isLt
    show (((b.val * 2 + t.val / 128 % 2) * 128 + t.val % 128) * 4 + h.val) * 128 + d.val =
      ((b.val * 256 + t.val) * 4 + h.val) * 128 + d.val
    omega
  · exact transpose_apply [0, 1, 3, 2, 4] y _ _ _ (fun a => match a with
      | ⟨0, _⟩ => rfl | ⟨1, _⟩ => rfl | ⟨2, _⟩ => rfl | ⟨3, _⟩ => rfl | ⟨4, _⟩ => rfl)

/-- The last 2048 of the tokens' rows. -/
theorem lastRows (y : FVec Ideal S2x2304x4x128 .f32) (b : Fin 2) (t : Fin 2048) (h : Fin 4) (d : Fin 128) :
    extractStridedSlice S2x2048x4x128 ![0, 256, 0, 0] y slices_S2x2304x4x128_S2x2048x4x128_0_256_0_0 (ix4 b t h d) =
      y (ix4 b (Fin.ofNat 2304 (256 + t.val)) h d) :=
  extractStridedSlice_apply _ y _ _ _ (fun a => match a with
    | ⟨0, _⟩ => (Nat.zero_add b.val).symm
    | ⟨1, _⟩ => Nat.mod_eq_of_lt (by have := t.isLt; omega)
    | ⟨2, _⟩ => (Nat.zero_add h.val).symm | ⟨3, _⟩ => (Nat.zero_add d.val).symm)

/-- The first 256 of the tokens' rows. -/
theorem firstRows (y : FVec Ideal S2x2304x4x128 .f32) (b : Fin 2) (t : Fin 256) (h : Fin 4) (d : Fin 128) :
    extractStridedSlice S2x256x4x128 ![0, 0, 0, 0] y slices_S2x2304x4x128_S2x256x4x128_0_0_0_0 (ix4 b t h d) =
      y (ix4 b (Fin.ofNat 2304 t.val) h d) :=
  extractStridedSlice_apply _ y _ _ _ (fun a => match a with
    | ⟨0, _⟩ => (Nat.zero_add b.val).symm
    | ⟨1, _⟩ => (Nat.mod_eq_of_lt (by have := t.isLt; omega)).trans (Nat.zero_add t.val).symm
    | ⟨2, _⟩ => (Nat.zero_add h.val).symm | ⟨3, _⟩ => (Nat.zero_add d.val).symm)

/-- A row's 512 features as four heads. -/
theorem heads (y : FVec Ideal S2x2304x512 .f32) (b : Fin 2) (t : Fin 2304) (h : Fin 4) (d : Fin 128) :
    shapeCast S2x2304x4x128 y shapeCasts_S2x2304x512_S2x2304x4x128 (ix4 b t h d) = y (ix3 b t (hc h d)) := by
  refine shapeCast_apply y _ _ _ ?_
  rw [Shape.rowMajor_val_four, Shape.rowMajor_val_three]
  have hh := h.isLt
  have hd := d.isLt
  show (b.val * 2304 + t.val) * 512 + (h.val * 128 + d.val) % 512 = ((b.val * 2304 + t.val) * 4 + h.val) * 128 + d.val
  omega

/-- Four heads as a row's 512 features. -/
theorem unheads (y : FVec Ideal S2x2304x4x128 .f32) (b : Fin 2) (t : Fin 2304) (c : Fin 512) :
    shapeCast S2x2304x512 y shapeCasts_S2x2304x4x128_S2x2304x512 (ix3 b t c) =
      y (ix4 b t (Fin.ofNat 4 (c.val / 128)) (Fin.ofNat 128 c.val)) := by
  refine shapeCast_apply y _ _ _ ?_
  rw [Shape.rowMajor_val_four, Shape.rowMajor_val_three]
  have hc := c.isLt
  show ((b.val * 2304 + t.val) * 4 + c.val / 128 % 4) * 128 + c.val % 128 = (b.val * 2304 + t.val) * 512 + c.val
  omega

/-- A number for every head and token of a chunk, at every chunk and feature. -/
theorem row16 (y : FVec Ideal S4x128 .f32) (b : Fin 2) (n : Fin 16) (h : Fin 4) (i d : Fin 128) :
    broadcastInDim S2x16x4x128x128 ![0, 1, 2, 3, 4] bcast_S1x1x4x128x1_S2x16x4x128x128_0_1_2_3_4
      (broadcastInDim S1x1x4x128x1 ![2, 3, 4] bcast_S4x128x1_S1x1x4x128x1_2_3_4
        (broadcastInDim S4x128x1 ![0, 1] bcast_S4x128_S4x128x1_0_1 y)) (ix5 b n h i d) = y (ix2 h i) := by
  refine (broadcastInDim_apply _ _ _ (ix5 b n h i d) (ix5 0 0 h i 0) (fun a => match a with
    | ⟨0, _⟩ => rfl | ⟨1, _⟩ => rfl | ⟨2, _⟩ => rfl | ⟨3, _⟩ => rfl | ⟨4, _⟩ => rfl)).trans ?_
  refine (broadcastInDim_apply _ _ _ (ix5 0 0 h i 0) (ix3 h i 0) (fun a => match a with
    | ⟨0, _⟩ => rfl | ⟨1, _⟩ => rfl | ⟨2, _⟩ => rfl)).trans ?_
  exact broadcastInDim_apply _ _ _ (ix3 h i 0) (ix2 h i) (fun a => match a with | ⟨0, _⟩ => rfl | ⟨1, _⟩ => rfl)

/-- A matrix for every head, at every chunk. -/
theorem mat16 (y : FVec Ideal S4x128x128 .f32) (b : Fin 2) (n : Fin 16) (h : Fin 4) (i d : Fin 128) :
    broadcastInDim S2x16x4x128x128 ![0, 1, 2, 3, 4] bcast_S1x1x4x128x128_S2x16x4x128x128_0_1_2_3_4
      (broadcastInDim S1x1x4x128x128 ![2, 3, 4] bcast_S4x128x128_S1x1x4x128x128_2_3_4 y) (ix5 b n h i d) = y (ix3 h i d) := by
  refine (broadcastInDim_apply _ _ _ (ix5 b n h i d) (ix5 0 0 h i d) (fun a => match a with
    | ⟨0, _⟩ => rfl | ⟨1, _⟩ => rfl | ⟨2, _⟩ => rfl | ⟨3, _⟩ => rfl | ⟨4, _⟩ => rfl)).trans ?_
  exact broadcastInDim_apply _ _ _ (ix5 0 0 h i d) (ix3 h i d) (fun a => match a with
    | ⟨0, _⟩ => rfl | ⟨1, _⟩ => rfl | ⟨2, _⟩ => rfl)

/-- The chunks' matrices with rows and columns exchanged. -/
theorem swap16 (y : FVec Ideal S2x16x4x128x128 .f32) (b : Fin 2) (n : Fin 16) (h : Fin 4) (i d : Fin 128) :
    transpose S2x16x4x128x128 [0, 1, 2, 4, 3] y transposes_S2x16x4x128x128_S2x16x4x128x128_0_1_2_4_3 (ix5 b n h i d) =
      y (ix5 b n h d i) :=
  transpose_apply [0, 1, 2, 4, 3] y _ _ _ (fun a => match a with
    | ⟨0, _⟩ => rfl | ⟨1, _⟩ => rfl | ⟨2, _⟩ => rfl | ⟨3, _⟩ => rfl | ⟨4, _⟩ => rfl)

/-- A number for every head and token of a chunk, at every chunk and feature. -/
theorem row2 (y : FVec Ideal S4x128 .f32) (b : Fin 2) (n : Fin 2) (h : Fin 4) (i d : Fin 128) :
    broadcastInDim S2x2x4x128x128 ![0, 1, 2, 3, 4] bcast_S1x1x4x128x1_S2x2x4x128x128_0_1_2_3_4
      (broadcastInDim S1x1x4x128x1 ![2, 3, 4] bcast_S4x128x1_S1x1x4x128x1_2_3_4
        (broadcastInDim S4x128x1 ![0, 1] bcast_S4x128_S4x128x1_0_1 y)) (ix5 b n h i d) = y (ix2 h i) := by
  refine (broadcastInDim_apply _ _ _ (ix5 b n h i d) (ix5 0 0 h i 0) (fun a => match a with
    | ⟨0, _⟩ => rfl | ⟨1, _⟩ => rfl | ⟨2, _⟩ => rfl | ⟨3, _⟩ => rfl | ⟨4, _⟩ => rfl)).trans ?_
  refine (broadcastInDim_apply _ _ _ (ix5 0 0 h i 0) (ix3 h i 0) (fun a => match a with
    | ⟨0, _⟩ => rfl | ⟨1, _⟩ => rfl | ⟨2, _⟩ => rfl)).trans ?_
  exact broadcastInDim_apply _ _ _ (ix3 h i 0) (ix2 h i) (fun a => match a with | ⟨0, _⟩ => rfl | ⟨1, _⟩ => rfl)

/-- A matrix for every head, at every chunk. -/
theorem mat2 (y : FVec Ideal S4x128x128 .f32) (b : Fin 2) (n : Fin 2) (h : Fin 4) (i d : Fin 128) :
    broadcastInDim S2x2x4x128x128 ![0, 1, 2, 3, 4] bcast_S1x1x4x128x128_S2x2x4x128x128_0_1_2_3_4
      (broadcastInDim S1x1x4x128x128 ![2, 3, 4] bcast_S4x128x128_S1x1x4x128x128_2_3_4 y) (ix5 b n h i d) = y (ix3 h i d) := by
  refine (broadcastInDim_apply _ _ _ (ix5 b n h i d) (ix5 0 0 h i d) (fun a => match a with
    | ⟨0, _⟩ => rfl | ⟨1, _⟩ => rfl | ⟨2, _⟩ => rfl | ⟨3, _⟩ => rfl | ⟨4, _⟩ => rfl)).trans ?_
  exact broadcastInDim_apply _ _ _ (ix5 0 0 h i d) (ix3 h i d) (fun a => match a with
    | ⟨0, _⟩ => rfl | ⟨1, _⟩ => rfl | ⟨2, _⟩ => rfl)

/-- The chunks' matrices with rows and columns exchanged. -/
theorem swap2 (y : FVec Ideal S2x2x4x128x128 .f32) (b : Fin 2) (n : Fin 2) (h : Fin 4) (i d : Fin 128) :
    transpose S2x2x4x128x128 [0, 1, 2, 4, 3] y transposes_S2x2x4x128x128_S2x2x4x128x128_0_1_2_4_3 (ix5 b n h i d) =
      y (ix5 b n h d i) :=
  transpose_apply [0, 1, 2, 4, 3] y _ _ _ (fun a => match a with
    | ⟨0, _⟩ => rfl | ⟨1, _⟩ => rfl | ⟨2, _⟩ => rfl | ⟨3, _⟩ => rfl | ⟨4, _⟩ => rfl)

/-- A number for every head, at every entry of the heads' matrices. -/
theorem num (y : FVec Ideal S4 .f32) (b : Fin 2) (h : Fin 4) (i d : Fin 128) :
    broadcastInDim S2x1x4x128x128 ![0, 1, 2, 3, 4] bcast_S1x1x4x1x1_S2x1x4x128x128_0_1_2_3_4
      (broadcastInDim S1x1x4x1x1 ![2, 3, 4] bcast_S4x1x1_S1x1x4x1x1_2_3_4
        (broadcastInDim S4x1x1 ![0] bcast_S4_S4x1x1_0 y)) (ix5 b 0 h i d) = y (ix1 h) := by
  refine (broadcastInDim_apply _ _ _ (ix5 b 0 h i d) (ix5 0 0 h 0 0) (fun a => match a with
    | ⟨0, _⟩ => rfl | ⟨1, _⟩ => rfl | ⟨2, _⟩ => rfl | ⟨3, _⟩ => rfl | ⟨4, _⟩ => rfl)).trans ?_
  refine (broadcastInDim_apply _ _ _ (ix5 0 0 h 0 0) (ix3 h 0 0) (fun a => match a with
    | ⟨0, _⟩ => rfl | ⟨1, _⟩ => rfl | ⟨2, _⟩ => rfl)).trans ?_
  exact broadcastInDim_apply _ _ _ (ix3 h 0 0) (ix1 h) (fun a => match a with | ⟨0, _⟩ => rfl)

/-- A chunk out of sixteen. -/
theorem pick16 (y : FVec Ideal S2x16x4x128x128 .f32) (o : ℕ) (hs : S2x16x4x128x128.Slices ![0, o, 0, 0, 0] S2x1x4x128x128)
    (n : Fin 16) (e : n.val = o) (b : Fin 2) (h : Fin 4) (i d : Fin 128) :
    extractStridedSlice S2x1x4x128x128 ![0, o, 0, 0, 0] y hs (ix5 b 0 h i d) = y (ix5 b n h i d) :=
  extractStridedSlice_apply _ y hs _ _ (fun a => match a with
    | ⟨0, _⟩ => (Nat.zero_add b.val).symm | ⟨1, _⟩ => e | ⟨2, _⟩ => (Nat.zero_add h.val).symm
    | ⟨3, _⟩ => (Nat.zero_add i.val).symm | ⟨4, _⟩ => (Nat.zero_add d.val).symm)

/-- A chunk out of two. -/
theorem pick2 (y : FVec Ideal S2x2x4x128x128 .f32) (o : ℕ) (hs : S2x2x4x128x128.Slices ![0, o, 0, 0, 0] S2x1x4x128x128)
    (n : Fin 2) (e : n.val = o) (b : Fin 2) (h : Fin 4) (i d : Fin 128) :
    extractStridedSlice S2x1x4x128x128 ![0, o, 0, 0, 0] y hs (ix5 b 0 h i d) = y (ix5 b n h i d) :=
  extractStridedSlice_apply _ y hs _ _ (fun a => match a with
    | ⟨0, _⟩ => (Nat.zero_add b.val).symm | ⟨1, _⟩ => e | ⟨2, _⟩ => (Nat.zero_add h.val).symm
    | ⟨3, _⟩ => (Nat.zero_add i.val).symm | ⟨4, _⟩ => (Nat.zero_add d.val).symm)

/-! Products of the chunks' matrices, by the axes that are summed over. -/

theorem dotA16 (x y : FVec Ideal S2x16x4x128x128 .f32) (b : Fin 2) (n : Fin 16) (h : Fin 4) (i j : Fin 128) :
    Host.dotGeneral dot_S2x16x4x128x128_S2x16x4x128x128_S2x16x4x128x128_3_3_4_4_012_012 none x y (ix5 b n h i j) =
      ∑ k : Fin 128, x (ix5 b n h k i) * y (ix5 b n h k j) := by
  pointwise []

theorem dotB16 (x y : FVec Ideal S2x16x4x128x128 .f32) (b : Fin 2) (n : Fin 16) (h : Fin 4) (i j : Fin 128) :
    Host.dotGeneral dot_S2x16x4x128x128_S2x16x4x128x128_S2x16x4x128x128_4_4_3_3_012_012 none x y (ix5 b n h i j) =
      ∑ k : Fin 128, x (ix5 b n h i k) * y (ix5 b n h j k) := by
  pointwise []

theorem dotC16 (x y : FVec Ideal S2x16x4x128x128 .f32) (b : Fin 2) (n : Fin 16) (h : Fin 4) (i j : Fin 128) :
    Host.dotGeneral dot_S2x16x4x128x128_S2x16x4x128x128_S2x16x4x128x128_4_3_3_4_012_012 none x y (ix5 b n h i j) =
      ∑ k : Fin 128, x (ix5 b n h i k) * y (ix5 b n h k j) := by
  pointwise []

theorem dotD16 (x y : FVec Ideal S2x16x4x128x128 .f32) (b : Fin 2) (n : Fin 16) (h : Fin 4) (i j : Fin 128) :
    Host.dotGeneral dot_S2x16x4x128x128_S2x16x4x128x128_S2x16x4x128x128_3_4_4_3_012_012 none x y (ix5 b n h i j) =
      ∑ k : Fin 128, x (ix5 b n h k i) * y (ix5 b n h j k) := by
  pointwise []

theorem dotA2 (x y : FVec Ideal S2x2x4x128x128 .f32) (b : Fin 2) (n : Fin 2) (h : Fin 4) (i j : Fin 128) :
    Host.dotGeneral dot_S2x2x4x128x128_S2x2x4x128x128_S2x2x4x128x128_3_3_4_4_012_012 none x y (ix5 b n h i j) =
      ∑ k : Fin 128, x (ix5 b n h k i) * y (ix5 b n h k j) := by
  pointwise []

theorem dotB2 (x y : FVec Ideal S2x2x4x128x128 .f32) (b : Fin 2) (n : Fin 2) (h : Fin 4) (i j : Fin 128) :
    Host.dotGeneral dot_S2x2x4x128x128_S2x2x4x128x128_S2x2x4x128x128_4_4_3_3_012_012 none x y (ix5 b n h i j) =
      ∑ k : Fin 128, x (ix5 b n h i k) * y (ix5 b n h j k) := by
  pointwise []

theorem dotC2 (x y : FVec Ideal S2x2x4x128x128 .f32) (b : Fin 2) (n : Fin 2) (h : Fin 4) (i j : Fin 128) :
    Host.dotGeneral dot_S2x2x4x128x128_S2x2x4x128x128_S2x2x4x128x128_4_3_3_4_012_012 none x y (ix5 b n h i j) =
      ∑ k : Fin 128, x (ix5 b n h i k) * y (ix5 b n h k j) := by
  pointwise []

theorem dotD2 (x y : FVec Ideal S2x2x4x128x128 .f32) (b : Fin 2) (n : Fin 2) (h : Fin 4) (i j : Fin 128) :
    Host.dotGeneral dot_S2x2x4x128x128_S2x2x4x128x128_S2x2x4x128x128_3_4_4_3_012_012 none x y (ix5 b n h i j) =
      ∑ k : Fin 128, x (ix5 b n h k i) * y (ix5 b n h j k) := by
  pointwise []

/-- Sixteen single chunks put together. -/
theorem cat16 (y : Fin 16 → FVec Ideal S2x1x4x128x128 .f32) (hc) (b : Fin 2) (n : Fin 16) (h : Fin 4) (i d : Fin 128) :
    concatenate S2x16x4x128x128 1 [⟨S2x1x4x128x128, y 0⟩, ⟨S2x1x4x128x128, y 1⟩, ⟨S2x1x4x128x128, y 2⟩, ⟨S2x1x4x128x128, y 3⟩, ⟨S2x1x4x128x128, y 4⟩, ⟨S2x1x4x128x128, y 5⟩, ⟨S2x1x4x128x128, y 6⟩, ⟨S2x1x4x128x128, y 7⟩, ⟨S2x1x4x128x128, y 8⟩, ⟨S2x1x4x128x128, y 9⟩, ⟨S2x1x4x128x128, y 10⟩, ⟨S2x1x4x128x128, y 11⟩, ⟨S2x1x4x128x128, y 12⟩, ⟨S2x1x4x128x128, y 13⟩, ⟨S2x1x4x128x128, y 14⟩, ⟨S2x1x4x128x128, y 15⟩] hc (ix5 b n h i d) = y n (ix5 b 0 h i d) :=
  concatenate_ofFn_unit_apply 1 y hc rfl rfl (ix5 b n h i d) n rfl (ix5 b 0 h i d) (fun a => match a with
    | ⟨0, _⟩ => fun _ => rfl | ⟨1, _⟩ => fun q => absurd rfl q | ⟨2, _⟩ => fun _ => rfl | ⟨3, _⟩ => fun _ => rfl
    | ⟨4, _⟩ => fun _ => rfl)

/-- Two single chunks put together. -/
theorem cat2 (y : Fin 2 → FVec Ideal S2x1x4x128x128 .f32) (hc) (b : Fin 2) (n : Fin 2) (h : Fin 4) (i d : Fin 128) :
    concatenate S2x2x4x128x128 1 [⟨S2x1x4x128x128, y 0⟩, ⟨S2x1x4x128x128, y 1⟩] hc (ix5 b n h i d) = y n (ix5 b 0 h i d) :=
  concatenate_ofFn_unit_apply 1 y hc rfl rfl (ix5 b n h i d) n rfl (ix5 b 0 h i d) (fun a => match a with
    | ⟨0, _⟩ => fun _ => rfl | ⟨1, _⟩ => fun q => absurd rfl q | ⟨2, _⟩ => fun _ => rfl | ⟨3, _⟩ => fun _ => rfl
    | ⟨4, _⟩ => fun _ => rfl)

end Cert.ReferenceIdeal.Chunks

end
-- ==== Proof.Retention.Host.lean ====
/-
  The kernel program's host operations: what each buffer holds when the kernel call is entered. The states of the chunks are computed there by the same
  operations as in the reference, buffer by buffer.
-/
module

public import proofs.«01_k».proof.Proof.Gen.KernelIdeal.Value
public import proofs.«01_k».proof.Proof.Gen.ReferenceIdeal.Read
public import Idealize.ShloMosaic.Lib.StableHlo.RunRead
public import proofs.«01_k».proof.Proof.Retention.RefLayout

@[expose] public section

set_option maxRecDepth 16384

noncomputable section

namespace Cert.KernelIdeal.HostLines

open Cert.KernelIdeal Cert.KernelIdeal.Gen Cert.ReferenceIdeal.Read Idealize.ShloMosaic Idealize.ShloMosaic.TcCoe

/-- The host operations before the kernel call, in order. -/
noncomputable abbrev line : List (HloOp τ sig (Elt Ideal)) := List.flatten [hostOps0, hostOps0_1, hostOps0_2]

/-- The buffer each of them writes. -/
noncomputable def written : List (Ref sig .tc) :=
  [main_v0, main_v1, main_v2, main_v3, main_cst, main_v4, main_v5, main_cst_0, main_v6, main_v7, main_v8, main_c, main_call0_v0, main_v9, main_v10, main_v11, main_v12, main_v13, main_cst_1, main_v14, main_v15, main_v16, main_v17, main_v18, main_v19, main_v20, main_v21, main_v22, main_v23, main_cst_2, main_v24, main_v25, main_v26, main_cst_3, main_v27, main_v28, main_v29, main_v30, main_v31, main_v32, main_v33, main_cst_4, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_cst_5, main_v95, main_v96, main_v97, main_v98, main_v99, main_v100, main_v101, main_cst_6, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208]

theorem line_writes : line.map HloOp.writes = written.map fun w => {Proc.devRef (τ := τ) .tc w} := rfl

variable (m : (ℓ : Loc nD τ sig) → Buf (Elt Ideal) ℓ) (c : Dev nD)

theorem drop_writes (i : ℕ) : (line.drop i).map HloOp.writes = (written.drop i).map fun w => {Proc.devRef (τ := τ) .tc w} := by
  rw [List.map_drop, line_writes, List.map_drop]

/-- A buffer that no operation from position `i` on writes holds there what it holds at the end. -/
theorem before {i : ℕ} {a : Ref sig .tc} (h : a ∉ written.drop i) :
    StableHlo.upto line (fun b => m (c, b)) i (Proc.devRef .tc a) = V m c a := by
  have e := StableHlo.after_append (line.take i) (line.drop i) (fun b => m (c, b))
  rw [List.take_append_drop] at e
  show _ = StableHlo.after line (fun b => m (c, b)) (Proc.devRef .tc a)
  rw [e, StableHlo.after_of_writes_sub (line.drop i) _ (StableHlo.forall_writes_sub_of_map (drop_writes i)) h]
  rfl

/-- A buffer holds at the end what the operation at position `i` leaves in it, when no later one writes it. -/
theorem last {i : ℕ} {op : HloOp τ sig (Elt Ideal)} {rest : List (HloOp τ sig (Elt Ideal))} {y : Ref sig .tc}
    (hseg : line.drop i = op :: rest) (hy : y ∉ written.drop (i + 1)) :
    V m c y = op.result (StableHlo.upto line (fun b => m (c, b)) i) (Proc.devRef .tc y) := by
  refine StableHlo.after_last_write (written.drop (i + 1)) hseg ?_ hy _
  have e : rest = line.drop (i + 1) := by rw [← List.tail_drop, hseg]; rfl
  rw [e]; exact drop_writes (i + 1)

theorem read0 {i : ℕ} {rest : List (HloOp τ sig (Elt Ideal))} {y : Ref sig .tc} {v : y.ty.Contents (Elt Ideal)} {hy}
    (hseg : line.drop i = StableHlo.nullary y v hy :: rest) (ny : y ∉ written.drop (i + 1)) : V m c y = v :=
  (last m c hseg ny).trans (StableHlo.nullary_result' ..)

theorem read1 {i : ℕ} {rest : List (HloOp τ sig (Elt Ideal))} {a y : Ref sig .tc} {f : a.ty.Contents (Elt Ideal) → y.ty.Contents (Elt Ideal)} {ha hy}
    (hseg : line.drop i = StableHlo.unary a y f ha hy :: rest) (ny : y ∉ written.drop (i + 1)) (na : a ∉ written.drop i)
    {u : a.ty.Contents (Elt Ideal)} (ea : V m c a = u) : V m c y = f u :=
  (last m c hseg ny).trans ((StableHlo.unary_result' ..).trans (congrArg f ((before m c na).trans ea)))

theorem read2 {i : ℕ} {rest : List (HloOp τ sig (Elt Ideal))} {a b y : Ref sig .tc}
    {f : a.ty.Contents (Elt Ideal) → b.ty.Contents (Elt Ideal) → y.ty.Contents (Elt Ideal)} {ha hb hy}
    (hseg : line.drop i = StableHlo.binary a b y f ha hb hy :: rest) (ny : y ∉ written.drop (i + 1)) (na : a ∉ written.drop i)
    (nb : b ∉ written.drop i) {u : a.ty.Contents (Elt Ideal)} {w : b.ty.Contents (Elt Ideal)} (ea : V m c a = u) (eb : V m c b = w) :
    V m c y = f u w :=
  (last m c hseg ny).trans ((StableHlo.binary_result' ..).trans
    (congrArg₂ f ((before m c na).trans ea) ((before m c nb).trans eb)))

theorem readR {i : ℕ} {rest : List (HloOp τ sig (Elt Ideal))} {a y : Ref sig .tc} {he hn ha hy}
    (hseg : line.drop i = StableHlo.reshape a y he hn ha hy :: rest) (ny : y ∉ written.drop (i + 1)) (na : a ∉ written.drop i)
    {u : a.ty.Contents (Elt Ideal)} (ea : V m c a = u) : V m c y = fun j => he ▸ shapeCast y.ty.shape u hn j :=
  (last m c hseg ny).trans ((StableHlo.reshape_result' ..).trans
    (congrArg (fun u : a.ty.Contents (Elt Ideal) => (fun j => he ▸ shapeCast y.ty.shape u hn j : y.ty.Contents (Elt Ideal)))
      ((before m c na).trans ea)))

theorem readN {i : ℕ} {rest : List (HloOp τ sig (Elt Ideal))} {n : ℕ} {xs : Fin n → Ref sig .tc} {y : Ref sig .tc}
    {f : ((k : Fin n) → (xs k).ty.Contents (Elt Ideal)) → y.ty.Contents (Elt Ideal)} {ha hy}
    (hseg : line.drop i = StableHlo.nary xs y f ha hy :: rest) (ny : y ∉ written.drop (i + 1)) (na : ∀ k, xs k ∉ written.drop i) :
    V m c y = f fun k => V m c (xs k) :=
  (last m c hseg ny).trans ((StableHlo.nary_result' ..).trans (congrArg f (funext fun k => before m c (na k))))

theorem v10_eq : V m c main_v10 = val_main_v0 (F := Ideal) (m ((c : Thread nD τ).loc main_arg6)) :=
  (read1 m c (i := 14) rfl (by decide +kernel) (by decide +kernel) (V_main_arg6 m c)).trans rfl

theorem v11_eq : V m c main_v11 = val_main_v1 (F := Ideal) (m ((c : Thread nD τ).loc main_arg6)) :=
  (read1 m c (i := 15) rfl (by decide +kernel) (by decide +kernel) (v10_eq m c)).trans rfl

theorem v12_eq : V m c main_v12 = val_main_v4 (F := Ideal) (m ((c : Thread nD τ).loc main_arg1)) :=
  (read1 m c (i := 16) rfl (by decide +kernel) (by decide +kernel) (V_main_arg1 m c)).trans (by unfold val_main_v4 val_main_v2; funext j; pointwise [])

theorem v13_eq : V m c main_v13 = val_main_v8 (F := Ideal) (m ((c : Thread nD τ).loc main_arg1)) :=
  (readR m c (i := 17) rfl (by decide +kernel) (by decide +kernel) (v12_eq m c)).trans rfl

theorem cst_1_eq : V m c main_cst_1 = val_main_cst (F := Ideal) :=
  (read0 m c (i := 18) rfl (by decide +kernel)).trans rfl

theorem v14_eq : V m c main_v14 = val_main_v9 (F := Ideal) :=
  (read1 m c (i := 19) rfl (by decide +kernel) (by decide +kernel) (cst_1_eq m c)).trans rfl

theorem v15_eq : V m c main_v15 = val_main_v10 (F := Ideal) (m ((c : Thread nD τ).loc main_arg1)) :=
  (read2 m c (i := 20) rfl (by decide +kernel) (by decide +kernel) (by decide +kernel) (v13_eq m c) (v14_eq m c)).trans rfl

theorem v16_eq : V m c main_v16 = val_main_v5 (F := Ideal) (m ((c : Thread nD τ).loc main_arg1)) :=
  (read1 m c (i := 21) rfl (by decide +kernel) (by decide +kernel) (V_main_arg1 m c)).trans (by unfold val_main_v5 val_main_v2; funext j; pointwise [])

theorem v17_eq : V m c main_v17 = val_main_v11 (F := Ideal) (m ((c : Thread nD τ).loc main_arg1)) :=
  (readR m c (i := 22) rfl (by decide +kernel) (by decide +kernel) (v16_eq m c)).trans rfl

theorem v18_eq : V m c main_v18 = val_main_v14 (F := Ideal) (m ((c : Thread nD τ).loc main_arg1)) :=
  (read1 m c (i := 23) rfl (by decide +kernel) (by decide +kernel) (v15_eq m c)).trans rfl

theorem v19_eq : V m c main_v19 = val_main_v47 (F := Ideal) (m ((c : Thread nD τ).loc main_arg1)) :=
  (readR m c (i := 24) rfl (by decide +kernel) (by decide +kernel) (v18_eq m c)).trans rfl

theorem v20_eq : V m c main_v20 = val_main_v48 (F := Ideal) (m ((c : Thread nD τ).loc main_arg1)) :=
  (read1 m c (i := 25) rfl (by decide +kernel) (by decide +kernel) (v19_eq m c)).trans rfl

theorem v21_eq : V m c main_v21 = val_main_v16 (F := Ideal) (m ((c : Thread nD τ).loc main_arg1)) :=
  (read1 m c (i := 26) rfl (by decide +kernel) (by decide +kernel) (v17_eq m c)).trans rfl

theorem v22_eq : V m c main_v22 = val_main_v49 (F := Ideal) (m ((c : Thread nD τ).loc main_arg1)) :=
  (readR m c (i := 27) rfl (by decide +kernel) (by decide +kernel) (v21_eq m c)).trans rfl

theorem v23_eq : V m c main_v23 = val_main_v50 (F := Ideal) (m ((c : Thread nD τ).loc main_arg1)) :=
  (read1 m c (i := 28) rfl (by decide +kernel) (by decide +kernel) (v22_eq m c)).trans rfl

theorem cst_2_eq : V m c main_cst_2 = val_main_cst_0 (F := Ideal) :=
  (read0 m c (i := 29) rfl (by decide +kernel)).trans rfl

theorem v24_eq : V m c main_v24 = val_main_v18 (F := Ideal) :=
  (read1 m c (i := 30) rfl (by decide +kernel) (by decide +kernel) (cst_2_eq m c)).trans rfl

theorem v25_eq : V m c main_v25 = val_main_v51 (F := Ideal) (m ((c : Thread nD τ).loc main_arg6)) :=
  (read1 m c (i := 31) rfl (by decide +kernel) (by decide +kernel) (v11_eq m c)).trans rfl

theorem v26_eq : V m c main_v26 = val_main_v52 (F := Ideal) :=
  (read0 m c (i := 32) rfl (by decide +kernel)).trans rfl

theorem cst_3_eq : V m c main_cst_3 = val_main_cst_5 (F := Ideal) :=
  (read0 m c (i := 33) rfl (by decide +kernel)).trans rfl

theorem v27_eq : V m c main_v27 = val_main_v53 (F := Ideal) :=
  (read1 m c (i := 34) rfl (by decide +kernel) (by decide +kernel) (cst_3_eq m c)).trans rfl

theorem v28_eq : V m c main_v28 = val_main_v54 (F := Ideal) :=
  (read2 m c (i := 35) rfl (by decide +kernel) (by decide +kernel) (by decide +kernel) (v27_eq m c) (v26_eq m c)).trans rfl

theorem v29_eq : V m c main_v29 = val_main_v55 (F := Ideal) :=
  (read1 m c (i := 36) rfl (by decide +kernel) (by decide +kernel) (v28_eq m c)).trans rfl

theorem v30_eq : V m c main_v30 = val_main_v56 (F := Ideal) (m ((c : Thread nD τ).loc main_arg6)) :=
  (read1 m c (i := 37) rfl (by decide +kernel) (by decide +kernel) (v25_eq m c)).trans rfl

theorem v31_eq : V m c main_v31 = val_main_v57 (F := Ideal) :=
  (read1 m c (i := 38) rfl (by decide +kernel) (by decide +kernel) (v29_eq m c)).trans rfl

theorem v32_eq : V m c main_v32 = val_main_v58 (F := Ideal) (m ((c : Thread nD τ).loc main_arg6)) :=
  (read2 m c (i := 39) rfl (by decide +kernel) (by decide +kernel) (by decide +kernel) (v30_eq m c) (v31_eq m c)).trans rfl

theorem v33_eq : V m c main_v33 = val_main_v59 (F := Ideal) (m ((c : Thread nD τ).loc main_arg6)) :=
  (read1 m c (i := 40) rfl (by decide +kernel) (by decide +kernel) (v32_eq m c)).trans rfl

theorem cst_4_eq : V m c main_cst_4 = val_main_cst_6 (F := Ideal) :=
  (read0 m c (i := 41) rfl (by decide +kernel)).trans rfl

theorem v34_eq : V m c main_v34 = val_main_v60 (F := Ideal) :=
  (read1 m c (i := 42) rfl (by decide +kernel) (by decide +kernel) (cst_4_eq m c)).trans rfl

theorem v35_eq : V m c main_v35 = val_main_v61 (F := Ideal) (m ((c : Thread nD τ).loc main_arg6)) :=
  (read2 m c (i := 43) rfl (by decide +kernel) (by decide +kernel) (by decide +kernel) (v11_eq m c) (v34_eq m c)).trans rfl

theorem v36_eq : V m c main_v36 = val_main_v62 (F := Ideal) (m ((c : Thread nD τ).loc main_arg6)) :=
  (read1 m c (i := 44) rfl (by decide +kernel) (by decide +kernel) (v35_eq m c)).trans rfl

theorem v37_eq : V m c main_v37 = val_main_v63 (F := Ideal) (m ((c : Thread nD τ).loc main_arg6)) :=
  (read1 m c (i := 45) rfl (by decide +kernel) (by decide +kernel) (v33_eq m c)).trans rfl

theorem v38_eq : V m c main_v38 = val_main_v64 (F := Ideal) (m ((c : Thread nD τ).loc main_arg6)) :=
  (read1 m c (i := 46) rfl (by decide +kernel) (by decide +kernel) (v37_eq m c)).trans rfl

theorem v39_eq : V m c main_v39 = val_main_v65 (F := Ideal) (m ((c : Thread nD τ).loc main_arg6)) :=
  (read1 m c (i := 47) rfl (by decide +kernel) (by decide +kernel) (v38_eq m c)).trans rfl

theorem v40_eq : V m c main_v40 = val_main_v66 (F := Ideal) (m ((c : Thread nD τ).loc main_arg1)) (m ((c : Thread nD τ).loc main_arg6)) :=
  (read2 m c (i := 48) rfl (by decide +kernel) (by decide +kernel) (by decide +kernel) (v20_eq m c) (v39_eq m c)).trans rfl

theorem v41_eq : V m c main_v41 = val_main_v67 (F := Ideal) (m ((c : Thread nD τ).loc main_arg1)) (m ((c : Thread nD τ).loc main_arg6)) :=
  (read2 m c (i := 49) rfl (by decide +kernel) (by decide +kernel) (by decide +kernel) (v40_eq m c) (v23_eq m c)).trans rfl

theorem v42_eq : V m c main_v42 = val_main_v68 (F := Ideal) (m ((c : Thread nD τ).loc main_arg1)) (m ((c : Thread nD τ).loc main_arg6)) :=
  (read1 m c (i := 50) rfl (by decide +kernel) (by decide +kernel) (v41_eq m c)).trans rfl

theorem v43_eq : V m c main_v43 = val_main_v69 (F := Ideal) (m ((c : Thread nD τ).loc main_arg1)) (m ((c : Thread nD τ).loc main_arg6)) :=
  (read1 m c (i := 51) rfl (by decide +kernel) (by decide +kernel) (v41_eq m c)).trans rfl

theorem v44_eq : V m c main_v44 = val_main_v70 (F := Ideal) (m ((c : Thread nD τ).loc main_arg6)) :=
  (read1 m c (i := 52) rfl (by decide +kernel) (by decide +kernel) (v36_eq m c)).trans rfl

theorem v45_eq : V m c main_v45 = val_main_v71 (F := Ideal) (m ((c : Thread nD τ).loc main_arg6)) :=
  (read1 m c (i := 53) rfl (by decide +kernel) (by decide +kernel) (v44_eq m c)).trans rfl

theorem v46_eq : V m c main_v46 = val_main_v72 (F := Ideal) (m ((c : Thread nD τ).loc main_arg6)) :=
  (read1 m c (i := 54) rfl (by decide +kernel) (by decide +kernel) (v45_eq m c)).trans rfl

theorem v47_eq : V m c main_v47 = val_main_v73 (F := Ideal) (m ((c : Thread nD τ).loc main_arg6)) :=
  (read2 m c (i := 55) rfl (by decide +kernel) (by decide +kernel) (by decide +kernel) (v24_eq m c) (v46_eq m c)).trans rfl

theorem v48_eq : V m c main_v48 = val_main_v74 (F := Ideal) (m ((c : Thread nD τ).loc main_arg1)) (m ((c : Thread nD τ).loc main_arg6)) :=
  (read2 m c (i := 56) rfl (by decide +kernel) (by decide +kernel) (by decide +kernel) (v47_eq m c) (v42_eq m c)).trans rfl

theorem v49_eq : V m c main_v49 = val_main_v75 (F := Ideal) (m ((c : Thread nD τ).loc main_arg6)) :=
  (read1 m c (i := 57) rfl (by decide +kernel) (by decide +kernel) (v36_eq m c)).trans rfl

theorem v50_eq : V m c main_v50 = val_main_v76 (F := Ideal) (m ((c : Thread nD τ).loc main_arg6)) :=
  (read1 m c (i := 58) rfl (by decide +kernel) (by decide +kernel) (v49_eq m c)).trans rfl

theorem v51_eq : V m c main_v51 = val_main_v77 (F := Ideal) (m ((c : Thread nD τ).loc main_arg6)) :=
  (read1 m c (i := 59) rfl (by decide +kernel) (by decide +kernel) (v50_eq m c)).trans rfl

theorem v52_eq : V m c main_v52 = val_main_v78 (F := Ideal) (m ((c : Thread nD τ).loc main_arg1)) (m ((c : Thread nD τ).loc main_arg6)) :=
  (read2 m c (i := 60) rfl (by decide +kernel) (by decide +kernel) (by decide +kernel) (v48_eq m c) (v51_eq m c)).trans rfl

theorem v53_eq : V m c main_v53 = val_main_v79 (F := Ideal) (m ((c : Thread nD τ).loc main_arg1)) (m ((c : Thread nD τ).loc main_arg6)) :=
  (read2 m c (i := 61) rfl (by decide +kernel) (by decide +kernel) (by decide +kernel) (v52_eq m c) (v43_eq m c)).trans rfl

theorem v54_eq : V m c main_v54 = val_main_v15 (F := Ideal) (m ((c : Thread nD τ).loc main_arg1)) :=
  (read1 m c (i := 62) rfl (by decide +kernel) (by decide +kernel) (v15_eq m c)).trans rfl

theorem v55_eq : V m c main_v55 = val_main_v128 (F := Ideal) (m ((c : Thread nD τ).loc main_arg1)) :=
  (read1 m c (i := 63) rfl (by decide +kernel) (by decide +kernel) (v54_eq m c)).trans rfl

theorem v56_eq : V m c main_v56 = val_main_v129 (F := Ideal) (m ((c : Thread nD τ).loc main_arg1)) :=
  (read1 m c (i := 64) rfl (by decide +kernel) (by decide +kernel) (v55_eq m c)).trans rfl

theorem v57_eq : V m c main_v57 = val_main_v130 (F := Ideal) (m ((c : Thread nD τ).loc main_arg1)) :=
  (read1 m c (i := 65) rfl (by decide +kernel) (by decide +kernel) (v55_eq m c)).trans rfl

theorem v58_eq : V m c main_v58 = val_main_v131 (F := Ideal) (m ((c : Thread nD τ).loc main_arg2)) :=
  (read1 m c (i := 66) rfl (by decide +kernel) (by decide +kernel) (V_main_arg2 m c)).trans rfl

theorem v59_eq : V m c main_v59 = val_main_v132 (F := Ideal) (m ((c : Thread nD τ).loc main_arg3)) :=
  (read1 m c (i := 67) rfl (by decide +kernel) (by decide +kernel) (V_main_arg3 m c)).trans rfl

theorem v60_eq : V m c main_v60 = val_main_v133 (F := Ideal) (m ((c : Thread nD τ).loc main_arg2)) :=
  (read1 m c (i := 68) rfl (by decide +kernel) (by decide +kernel) (v58_eq m c)).trans rfl

theorem v61_eq : V m c main_v61 = val_main_v134 (F := Ideal) (m ((c : Thread nD τ).loc main_arg1)) (m ((c : Thread nD τ).loc main_arg2)) :=
  (read2 m c (i := 69) rfl (by decide +kernel) (by decide +kernel) (by decide +kernel) (v56_eq m c) (v60_eq m c)).trans rfl

theorem v62_eq : V m c main_v62 = val_main_v135 (F := Ideal) (m ((c : Thread nD τ).loc main_arg3)) :=
  (read1 m c (i := 70) rfl (by decide +kernel) (by decide +kernel) (v59_eq m c)).trans rfl

theorem v63_eq : V m c main_v63 = val_main_v136 (F := Ideal) (m ((c : Thread nD τ).loc main_arg1)) (m ((c : Thread nD τ).loc main_arg3)) :=
  (read2 m c (i := 71) rfl (by decide +kernel) (by decide +kernel) (by decide +kernel) (v57_eq m c) (v62_eq m c)).trans rfl

theorem v64_eq : V m c main_v64 = val_main_v137 (F := Ideal) (m ((c : Thread nD τ).loc main_arg1)) (m ((c : Thread nD τ).loc main_arg2)) (m ((c : Thread nD τ).loc main_arg3)) :=
  (read2 m c (i := 72) rfl (by decide +kernel) (by decide +kernel) (by decide +kernel) (v61_eq m c) (v63_eq m c)).trans rfl

theorem v65_eq : V m c main_v65 = val_main_v138 (F := Ideal) (m ((c : Thread nD τ).loc main_arg3)) :=
  (read1 m c (i := 73) rfl (by decide +kernel) (by decide +kernel) (v59_eq m c)).trans rfl

theorem v66_eq : V m c main_v66 = val_main_v139 (F := Ideal) (m ((c : Thread nD τ).loc main_arg1)) (m ((c : Thread nD τ).loc main_arg3)) :=
  (read2 m c (i := 74) rfl (by decide +kernel) (by decide +kernel) (by decide +kernel) (v56_eq m c) (v65_eq m c)).trans rfl

theorem v67_eq : V m c main_v67 = val_main_v140 (F := Ideal) (m ((c : Thread nD τ).loc main_arg2)) :=
  (read1 m c (i := 75) rfl (by decide +kernel) (by decide +kernel) (v58_eq m c)).trans rfl

theorem v68_eq : V m c main_v68 = val_main_v141 (F := Ideal) (m ((c : Thread nD τ).loc main_arg1)) (m ((c : Thread nD τ).loc main_arg2)) :=
  (read2 m c (i := 76) rfl (by decide +kernel) (by decide +kernel) (by decide +kernel) (v57_eq m c) (v67_eq m c)).trans rfl

theorem v69_eq : V m c main_v69 = val_main_v142 (F := Ideal) (m ((c : Thread nD τ).loc main_arg1)) (m ((c : Thread nD τ).loc main_arg2)) (m ((c : Thread nD τ).loc main_arg3)) :=
  (read2 m c (i := 77) rfl (by decide +kernel) (by decide +kernel) (by decide +kernel) (v66_eq m c) (v68_eq m c)).trans rfl

theorem v70_eq : V m c main_v70 = val_main_v143 (F := Ideal) (m ((c : Thread nD τ).loc main_arg1)) (m ((c : Thread nD τ).loc main_arg2)) (m ((c : Thread nD τ).loc main_arg3)) :=
  (read2 m c (i := 78) rfl (by decide +kernel) (by decide +kernel) (by decide +kernel) (v64_eq m c) (v69_eq m c)).trans rfl

theorem v71_eq : V m c main_v71 = val_main_v144 (F := Ideal) (m ((c : Thread nD τ).loc main_arg1)) :=
  (read1 m c (i := 79) rfl (by decide +kernel) (by decide +kernel) (v54_eq m c)).trans rfl

theorem v72_eq : V m c main_v72 = val_main_v145 (F := Ideal) (m ((c : Thread nD τ).loc main_arg1)) :=
  (read1 m c (i := 80) rfl (by decide +kernel) (by decide +kernel) (v71_eq m c)).trans rfl

theorem v73_eq : V m c main_v73 = val_main_v146 (F := Ideal) (m ((c : Thread nD τ).loc main_arg1)) :=
  (read1 m c (i := 81) rfl (by decide +kernel) (by decide +kernel) (v71_eq m c)).trans rfl

theorem v74_eq : V m c main_v74 = val_main_v147 (F := Ideal) (m ((c : Thread nD τ).loc main_arg4)) :=
  (read1 m c (i := 82) rfl (by decide +kernel) (by decide +kernel) (V_main_arg4 m c)).trans rfl

theorem v75_eq : V m c main_v75 = val_main_v148 (F := Ideal) (m ((c : Thread nD τ).loc main_arg5)) :=
  (read1 m c (i := 83) rfl (by decide +kernel) (by decide +kernel) (V_main_arg5 m c)).trans rfl

theorem v76_eq : V m c main_v76 = val_main_v149 (F := Ideal) (m ((c : Thread nD τ).loc main_arg4)) :=
  (read1 m c (i := 84) rfl (by decide +kernel) (by decide +kernel) (v74_eq m c)).trans rfl

theorem v77_eq : V m c main_v77 = val_main_v150 (F := Ideal) (m ((c : Thread nD τ).loc main_arg1)) (m ((c : Thread nD τ).loc main_arg4)) :=
  (read2 m c (i := 85) rfl (by decide +kernel) (by decide +kernel) (by decide +kernel) (v72_eq m c) (v76_eq m c)).trans rfl

theorem v78_eq : V m c main_v78 = val_main_v151 (F := Ideal) (m ((c : Thread nD τ).loc main_arg5)) :=
  (read1 m c (i := 86) rfl (by decide +kernel) (by decide +kernel) (v75_eq m c)).trans rfl

theorem v79_eq : V m c main_v79 = val_main_v152 (F := Ideal) (m ((c : Thread nD τ).loc main_arg1)) (m ((c : Thread nD τ).loc main_arg5)) :=
  (read2 m c (i := 87) rfl (by decide +kernel) (by decide +kernel) (by decide +kernel) (v73_eq m c) (v78_eq m c)).trans rfl

theorem v80_eq : V m c main_v80 = val_main_v153 (F := Ideal) (m ((c : Thread nD τ).loc main_arg1)) (m ((c : Thread nD τ).loc main_arg4)) (m ((c : Thread nD τ).loc main_arg5)) :=
  (read2 m c (i := 88) rfl (by decide +kernel) (by decide +kernel) (by decide +kernel) (v77_eq m c) (v79_eq m c)).trans rfl

theorem v81_eq : V m c main_v81 = val_main_v154 (F := Ideal) (m ((c : Thread nD τ).loc main_arg5)) :=
  (read1 m c (i := 89) rfl (by decide +kernel) (by decide +kernel) (v75_eq m c)).trans rfl

theorem v82_eq : V m c main_v82 = val_main_v155 (F := Ideal) (m ((c : Thread nD τ).loc main_arg1)) (m ((c : Thread nD τ).loc main_arg5)) :=
  (read2 m c (i := 90) rfl (by decide +kernel) (by decide +kernel) (by decide +kernel) (v72_eq m c) (v81_eq m c)).trans rfl

theorem v83_eq : V m c main_v83 = val_main_v156 (F := Ideal) (m ((c : Thread nD τ).loc main_arg4)) :=
  (read1 m c (i := 91) rfl (by decide +kernel) (by decide +kernel) (v74_eq m c)).trans rfl

theorem v84_eq : V m c main_v84 = val_main_v157 (F := Ideal) (m ((c : Thread nD τ).loc main_arg1)) (m ((c : Thread nD τ).loc main_arg4)) :=
  (read2 m c (i := 92) rfl (by decide +kernel) (by decide +kernel) (by decide +kernel) (v73_eq m c) (v83_eq m c)).trans rfl

theorem v85_eq : V m c main_v85 = val_main_v158 (F := Ideal) (m ((c : Thread nD τ).loc main_arg1)) (m ((c : Thread nD τ).loc main_arg4)) (m ((c : Thread nD τ).loc main_arg5)) :=
  (read2 m c (i := 93) rfl (by decide +kernel) (by decide +kernel) (by decide +kernel) (v82_eq m c) (v84_eq m c)).trans rfl

theorem v86_eq : V m c main_v86 = val_main_v159 (F := Ideal) (m ((c : Thread nD τ).loc main_arg1)) (m ((c : Thread nD τ).loc main_arg4)) (m ((c : Thread nD τ).loc main_arg5)) :=
  (read2 m c (i := 94) rfl (by decide +kernel) (by decide +kernel) (by decide +kernel) (v80_eq m c) (v85_eq m c)).trans rfl

theorem v87_eq : V m c main_v87 = val_main_v160 (F := Ideal) (m ((c : Thread nD τ).loc main_arg1)) (m ((c : Thread nD τ).loc main_arg2)) (m ((c : Thread nD τ).loc main_arg3)) (m ((c : Thread nD τ).loc main_arg4)) (m ((c : Thread nD τ).loc main_arg5)) :=
  (read2 m c (i := 95) rfl (by decide +kernel) (by decide +kernel) (by decide +kernel) (v70_eq m c) (v86_eq m c)).trans rfl

theorem v88_eq : V m c main_v88 = val_main_v189 (F := Ideal) (m ((c : Thread nD τ).loc main_arg1)) (m ((c : Thread nD τ).loc main_arg2)) (m ((c : Thread nD τ).loc main_arg3)) (m ((c : Thread nD τ).loc main_arg4)) (m ((c : Thread nD τ).loc main_arg5)) :=
  (readR m c (i := 96) rfl (by decide +kernel) (by decide +kernel) (v87_eq m c)).trans rfl

theorem v89_eq : V m c main_v89 = val_main_v190 (F := Ideal) (m ((c : Thread nD τ).loc main_arg1)) (m ((c : Thread nD τ).loc main_arg2)) (m ((c : Thread nD τ).loc main_arg3)) (m ((c : Thread nD τ).loc main_arg4)) (m ((c : Thread nD τ).loc main_arg5)) :=
  (read1 m c (i := 97) rfl (by decide +kernel) (by decide +kernel) (v88_eq m c)).trans rfl

theorem v90_eq : V m c main_v90 = val_main_v17 (F := Ideal) (m ((c : Thread nD τ).loc main_arg1)) :=
  (read1 m c (i := 98) rfl (by decide +kernel) (by decide +kernel) (v17_eq m c)).trans rfl

theorem v91_eq : V m c main_v91 = val_main_v191 (F := Ideal) (m ((c : Thread nD τ).loc main_arg1)) :=
  (readR m c (i := 99) rfl (by decide +kernel) (by decide +kernel) (v90_eq m c)).trans rfl

theorem v92_eq : V m c main_v92 = val_main_v192 (F := Ideal) (m ((c : Thread nD τ).loc main_arg1)) :=
  (read1 m c (i := 100) rfl (by decide +kernel) (by decide +kernel) (v91_eq m c)).trans rfl

theorem v93_eq : V m c main_v93 = val_main_v193 (F := Ideal) (m ((c : Thread nD τ).loc main_arg6)) :=
  (read1 m c (i := 101) rfl (by decide +kernel) (by decide +kernel) (v11_eq m c)).trans rfl

theorem v94_eq : V m c main_v94 = val_main_v194 (F := Ideal) :=
  (read0 m c (i := 102) rfl (by decide +kernel)).trans rfl

theorem cst_5_eq : V m c main_cst_5 = val_main_cst_12 (F := Ideal) :=
  (read0 m c (i := 103) rfl (by decide +kernel)).trans rfl

theorem v95_eq : V m c main_v95 = val_main_v195 (F := Ideal) :=
  (read1 m c (i := 104) rfl (by decide +kernel) (by decide +kernel) (cst_5_eq m c)).trans rfl

theorem v96_eq : V m c main_v96 = val_main_v196 (F := Ideal) :=
  (read2 m c (i := 105) rfl (by decide +kernel) (by decide +kernel) (by decide +kernel) (v95_eq m c) (v94_eq m c)).trans rfl

theorem v97_eq : V m c main_v97 = val_main_v197 (F := Ideal) :=
  (read1 m c (i := 106) rfl (by decide +kernel) (by decide +kernel) (v96_eq m c)).trans rfl

theorem v98_eq : V m c main_v98 = val_main_v198 (F := Ideal) (m ((c : Thread nD τ).loc main_arg6)) :=
  (read1 m c (i := 107) rfl (by decide +kernel) (by decide +kernel) (v93_eq m c)).trans rfl

theorem v99_eq : V m c main_v99 = val_main_v199 (F := Ideal) :=
  (read1 m c (i := 108) rfl (by decide +kernel) (by decide +kernel) (v97_eq m c)).trans rfl

theorem v100_eq : V m c main_v100 = val_main_v200 (F := Ideal) (m ((c : Thread nD τ).loc main_arg6)) :=
  (read2 m c (i := 109) rfl (by decide +kernel) (by decide +kernel) (by decide +kernel) (v98_eq m c) (v99_eq m c)).trans rfl

theorem v101_eq : V m c main_v101 = val_main_v201 (F := Ideal) (m ((c : Thread nD τ).loc main_arg6)) :=
  (read1 m c (i := 110) rfl (by decide +kernel) (by decide +kernel) (v100_eq m c)).trans rfl

theorem cst_6_eq : V m c main_cst_6 = val_main_cst_13 (F := Ideal) :=
  (read0 m c (i := 111) rfl (by decide +kernel)).trans rfl

theorem v102_eq : V m c main_v102 = val_main_v202 (F := Ideal) :=
  (read1 m c (i := 112) rfl (by decide +kernel) (by decide +kernel) (cst_6_eq m c)).trans rfl

theorem v103_eq : V m c main_v103 = val_main_v203 (F := Ideal) (m ((c : Thread nD τ).loc main_arg6)) :=
  (read2 m c (i := 113) rfl (by decide +kernel) (by decide +kernel) (by decide +kernel) (v11_eq m c) (v102_eq m c)).trans rfl

theorem v104_eq : V m c main_v104 = val_main_v204 (F := Ideal) (m ((c : Thread nD τ).loc main_arg6)) :=
  (read1 m c (i := 114) rfl (by decide +kernel) (by decide +kernel) (v103_eq m c)).trans rfl

theorem v105_eq : V m c main_v105 = val_main_v205 (F := Ideal) (m ((c : Thread nD τ).loc main_arg6)) :=
  (read1 m c (i := 115) rfl (by decide +kernel) (by decide +kernel) (v101_eq m c)).trans rfl

theorem v106_eq : V m c main_v106 = val_main_v206 (F := Ideal) (m ((c : Thread nD τ).loc main_arg6)) :=
  (read1 m c (i := 116) rfl (by decide +kernel) (by decide +kernel) (v105_eq m c)).trans rfl

theorem v107_eq : V m c main_v107 = val_main_v207 (F := Ideal) (m ((c : Thread nD τ).loc main_arg6)) :=
  (read1 m c (i := 117) rfl (by decide +kernel) (by decide +kernel) (v106_eq m c)).trans rfl

theorem v108_eq : V m c main_v108 = val_main_v208 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 118) rfl (by decide +kernel) (by decide +kernel) (by decide +kernel) (v89_eq m c) (v107_eq m c)).trans rfl

theorem v109_eq : V m c main_v109 = val_main_v209 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 119) rfl (by decide +kernel) (by decide +kernel) (by decide +kernel) (v108_eq m c) (v92_eq m c)).trans rfl

theorem v110_eq : V m c main_v110 = val_main_v210 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 120) rfl (by decide +kernel) (by decide +kernel) (v109_eq m c)).trans rfl

theorem v111_eq : V m c main_v111 = val_main_v211 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 121) rfl (by decide +kernel) (by decide +kernel) (v109_eq m c)).trans rfl

theorem v112_eq : V m c main_v112 = val_main_v212 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 122) rfl (by decide +kernel) (by decide +kernel) (v109_eq m c)).trans rfl

theorem v113_eq : V m c main_v113 = val_main_v213 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 123) rfl (by decide +kernel) (by decide +kernel) (v109_eq m c)).trans rfl

theorem v114_eq : V m c main_v114 = val_main_v214 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 124) rfl (by decide +kernel) (by decide +kernel) (v109_eq m c)).trans rfl

theorem v115_eq : V m c main_v115 = val_main_v215 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 125) rfl (by decide +kernel) (by decide +kernel) (v109_eq m c)).trans rfl

theorem v116_eq : V m c main_v116 = val_main_v216 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 126) rfl (by decide +kernel) (by decide +kernel) (v109_eq m c)).trans rfl

theorem v117_eq : V m c main_v117 = val_main_v217 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 127) rfl (by decide +kernel) (by decide +kernel) (v109_eq m c)).trans rfl

theorem v118_eq : V m c main_v118 = val_main_v218 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 128) rfl (by decide +kernel) (by decide +kernel) (v109_eq m c)).trans rfl

theorem v119_eq : V m c main_v119 = val_main_v219 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 129) rfl (by decide +kernel) (by decide +kernel) (v109_eq m c)).trans rfl

theorem v120_eq : V m c main_v120 = val_main_v220 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 130) rfl (by decide +kernel) (by decide +kernel) (v109_eq m c)).trans rfl

theorem v121_eq : V m c main_v121 = val_main_v221 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 131) rfl (by decide +kernel) (by decide +kernel) (v109_eq m c)).trans rfl

theorem v122_eq : V m c main_v122 = val_main_v222 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 132) rfl (by decide +kernel) (by decide +kernel) (v109_eq m c)).trans rfl

theorem v123_eq : V m c main_v123 = val_main_v223 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 133) rfl (by decide +kernel) (by decide +kernel) (v109_eq m c)).trans rfl

theorem v124_eq : V m c main_v124 = val_main_v224 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 134) rfl (by decide +kernel) (by decide +kernel) (v109_eq m c)).trans rfl

theorem v125_eq : V m c main_v125 = val_main_v225 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read1 m c (i := 135) rfl (by decide +kernel) (by decide +kernel) (v109_eq m c)).trans rfl

theorem v126_eq : V m c main_v126 = val_main_v226 (F := Ideal) (m ((c : Thread nD τ).loc main_arg6)) :=
  (read1 m c (i := 136) rfl (by decide +kernel) (by decide +kernel) (v104_eq m c)).trans rfl

theorem v127_eq : V m c main_v127 = val_main_v227 (F := Ideal) (m ((c : Thread nD τ).loc main_arg6)) :=
  (read1 m c (i := 137) rfl (by decide +kernel) (by decide +kernel) (v126_eq m c)).trans rfl

theorem v128_eq : V m c main_v128 = val_main_v228 (F := Ideal) (m ((c : Thread nD τ).loc main_arg6)) :=
  (read1 m c (i := 138) rfl (by decide +kernel) (by decide +kernel) (v127_eq m c)).trans rfl

theorem v129_eq : V m c main_v129 = val_main_v229 (F := Ideal) (m ((c : Thread nD τ).loc main_arg1)) (m ((c : Thread nD τ).loc main_arg6)) :=
  (read2 m c (i := 139) rfl (by decide +kernel) (by decide +kernel) (by decide +kernel) (v53_eq m c) (v128_eq m c)).trans rfl

theorem v130_eq : V m c main_v130 = val_main_v230 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 140) rfl (by decide +kernel) (by decide +kernel) (by decide +kernel) (v129_eq m c) (v110_eq m c)).trans rfl

theorem v131_eq : V m c main_v131 = val_main_v231 (F := Ideal) (m ((c : Thread nD τ).loc main_arg6)) :=
  (read1 m c (i := 141) rfl (by decide +kernel) (by decide +kernel) (v104_eq m c)).trans rfl

theorem v132_eq : V m c main_v132 = val_main_v232 (F := Ideal) (m ((c : Thread nD τ).loc main_arg6)) :=
  (read1 m c (i := 142) rfl (by decide +kernel) (by decide +kernel) (v131_eq m c)).trans rfl

theorem v133_eq : V m c main_v133 = val_main_v233 (F := Ideal) (m ((c : Thread nD τ).loc main_arg6)) :=
  (read1 m c (i := 143) rfl (by decide +kernel) (by decide +kernel) (v132_eq m c)).trans rfl

theorem v134_eq : V m c main_v134 = val_main_v234 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 144) rfl (by decide +kernel) (by decide +kernel) (by decide +kernel) (v130_eq m c) (v133_eq m c)).trans rfl

theorem v135_eq : V m c main_v135 = val_main_v235 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 145) rfl (by decide +kernel) (by decide +kernel) (by decide +kernel) (v134_eq m c) (v111_eq m c)).trans rfl

theorem v136_eq : V m c main_v136 = val_main_v236 (F := Ideal) (m ((c : Thread nD τ).loc main_arg6)) :=
  (read1 m c (i := 146) rfl (by decide +kernel) (by decide +kernel) (v104_eq m c)).trans rfl

theorem v137_eq : V m c main_v137 = val_main_v237 (F := Ideal) (m ((c : Thread nD τ).loc main_arg6)) :=
  (read1 m c (i := 147) rfl (by decide +kernel) (by decide +kernel) (v136_eq m c)).trans rfl

theorem v138_eq : V m c main_v138 = val_main_v238 (F := Ideal) (m ((c : Thread nD τ).loc main_arg6)) :=
  (read1 m c (i := 148) rfl (by decide +kernel) (by decide +kernel) (v137_eq m c)).trans rfl

theorem v139_eq : V m c main_v139 = val_main_v239 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 149) rfl (by decide +kernel) (by decide +kernel) (by decide +kernel) (v135_eq m c) (v138_eq m c)).trans rfl

theorem v140_eq : V m c main_v140 = val_main_v240 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 150) rfl (by decide +kernel) (by decide +kernel) (by decide +kernel) (v139_eq m c) (v112_eq m c)).trans rfl

theorem v141_eq : V m c main_v141 = val_main_v241 (F := Ideal) (m ((c : Thread nD τ).loc main_arg6)) :=
  (read1 m c (i := 151) rfl (by decide +kernel) (by decide +kernel) (v104_eq m c)).trans rfl

theorem v142_eq : V m c main_v142 = val_main_v242 (F := Ideal) (m ((c : Thread nD τ).loc main_arg6)) :=
  (read1 m c (i := 152) rfl (by decide +kernel) (by decide +kernel) (v141_eq m c)).trans rfl

theorem v143_eq : V m c main_v143 = val_main_v243 (F := Ideal) (m ((c : Thread nD τ).loc main_arg6)) :=
  (read1 m c (i := 153) rfl (by decide +kernel) (by decide +kernel) (v142_eq m c)).trans rfl

theorem v144_eq : V m c main_v144 = val_main_v244 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 154) rfl (by decide +kernel) (by decide +kernel) (by decide +kernel) (v140_eq m c) (v143_eq m c)).trans rfl

theorem v145_eq : V m c main_v145 = val_main_v245 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 155) rfl (by decide +kernel) (by decide +kernel) (by decide +kernel) (v144_eq m c) (v113_eq m c)).trans rfl

theorem v146_eq : V m c main_v146 = val_main_v246 (F := Ideal) (m ((c : Thread nD τ).loc main_arg6)) :=
  (read1 m c (i := 156) rfl (by decide +kernel) (by decide +kernel) (v104_eq m c)).trans rfl

theorem v147_eq : V m c main_v147 = val_main_v247 (F := Ideal) (m ((c : Thread nD τ).loc main_arg6)) :=
  (read1 m c (i := 157) rfl (by decide +kernel) (by decide +kernel) (v146_eq m c)).trans rfl

theorem v148_eq : V m c main_v148 = val_main_v248 (F := Ideal) (m ((c : Thread nD τ).loc main_arg6)) :=
  (read1 m c (i := 158) rfl (by decide +kernel) (by decide +kernel) (v147_eq m c)).trans rfl

theorem v149_eq : V m c main_v149 = val_main_v249 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 159) rfl (by decide +kernel) (by decide +kernel) (by decide +kernel) (v145_eq m c) (v148_eq m c)).trans rfl

theorem v150_eq : V m c main_v150 = val_main_v250 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 160) rfl (by decide +kernel) (by decide +kernel) (by decide +kernel) (v149_eq m c) (v114_eq m c)).trans rfl

theorem v151_eq : V m c main_v151 = val_main_v251 (F := Ideal) (m ((c : Thread nD τ).loc main_arg6)) :=
  (read1 m c (i := 161) rfl (by decide +kernel) (by decide +kernel) (v104_eq m c)).trans rfl

theorem v152_eq : V m c main_v152 = val_main_v252 (F := Ideal) (m ((c : Thread nD τ).loc main_arg6)) :=
  (read1 m c (i := 162) rfl (by decide +kernel) (by decide +kernel) (v151_eq m c)).trans rfl

theorem v153_eq : V m c main_v153 = val_main_v253 (F := Ideal) (m ((c : Thread nD τ).loc main_arg6)) :=
  (read1 m c (i := 163) rfl (by decide +kernel) (by decide +kernel) (v152_eq m c)).trans rfl

theorem v154_eq : V m c main_v154 = val_main_v254 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 164) rfl (by decide +kernel) (by decide +kernel) (by decide +kernel) (v150_eq m c) (v153_eq m c)).trans rfl

theorem v155_eq : V m c main_v155 = val_main_v255 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 165) rfl (by decide +kernel) (by decide +kernel) (by decide +kernel) (v154_eq m c) (v115_eq m c)).trans rfl

theorem v156_eq : V m c main_v156 = val_main_v256 (F := Ideal) (m ((c : Thread nD τ).loc main_arg6)) :=
  (read1 m c (i := 166) rfl (by decide +kernel) (by decide +kernel) (v104_eq m c)).trans rfl

theorem v157_eq : V m c main_v157 = val_main_v257 (F := Ideal) (m ((c : Thread nD τ).loc main_arg6)) :=
  (read1 m c (i := 167) rfl (by decide +kernel) (by decide +kernel) (v156_eq m c)).trans rfl

theorem v158_eq : V m c main_v158 = val_main_v258 (F := Ideal) (m ((c : Thread nD τ).loc main_arg6)) :=
  (read1 m c (i := 168) rfl (by decide +kernel) (by decide +kernel) (v157_eq m c)).trans rfl

theorem v159_eq : V m c main_v159 = val_main_v259 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 169) rfl (by decide +kernel) (by decide +kernel) (by decide +kernel) (v155_eq m c) (v158_eq m c)).trans rfl

theorem v160_eq : V m c main_v160 = val_main_v260 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 170) rfl (by decide +kernel) (by decide +kernel) (by decide +kernel) (v159_eq m c) (v116_eq m c)).trans rfl

theorem v161_eq : V m c main_v161 = val_main_v261 (F := Ideal) (m ((c : Thread nD τ).loc main_arg6)) :=
  (read1 m c (i := 171) rfl (by decide +kernel) (by decide +kernel) (v104_eq m c)).trans rfl

theorem v162_eq : V m c main_v162 = val_main_v262 (F := Ideal) (m ((c : Thread nD τ).loc main_arg6)) :=
  (read1 m c (i := 172) rfl (by decide +kernel) (by decide +kernel) (v161_eq m c)).trans rfl

theorem v163_eq : V m c main_v163 = val_main_v263 (F := Ideal) (m ((c : Thread nD τ).loc main_arg6)) :=
  (read1 m c (i := 173) rfl (by decide +kernel) (by decide +kernel) (v162_eq m c)).trans rfl

theorem v164_eq : V m c main_v164 = val_main_v264 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 174) rfl (by decide +kernel) (by decide +kernel) (by decide +kernel) (v160_eq m c) (v163_eq m c)).trans rfl

theorem v165_eq : V m c main_v165 = val_main_v265 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 175) rfl (by decide +kernel) (by decide +kernel) (by decide +kernel) (v164_eq m c) (v117_eq m c)).trans rfl

theorem v166_eq : V m c main_v166 = val_main_v266 (F := Ideal) (m ((c : Thread nD τ).loc main_arg6)) :=
  (read1 m c (i := 176) rfl (by decide +kernel) (by decide +kernel) (v104_eq m c)).trans rfl

theorem v167_eq : V m c main_v167 = val_main_v267 (F := Ideal) (m ((c : Thread nD τ).loc main_arg6)) :=
  (read1 m c (i := 177) rfl (by decide +kernel) (by decide +kernel) (v166_eq m c)).trans rfl

theorem v168_eq : V m c main_v168 = val_main_v268 (F := Ideal) (m ((c : Thread nD τ).loc main_arg6)) :=
  (read1 m c (i := 178) rfl (by decide +kernel) (by decide +kernel) (v167_eq m c)).trans rfl

theorem v169_eq : V m c main_v169 = val_main_v269 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 179) rfl (by decide +kernel) (by decide +kernel) (by decide +kernel) (v165_eq m c) (v168_eq m c)).trans rfl

theorem v170_eq : V m c main_v170 = val_main_v270 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 180) rfl (by decide +kernel) (by decide +kernel) (by decide +kernel) (v169_eq m c) (v118_eq m c)).trans rfl

theorem v171_eq : V m c main_v171 = val_main_v271 (F := Ideal) (m ((c : Thread nD τ).loc main_arg6)) :=
  (read1 m c (i := 181) rfl (by decide +kernel) (by decide +kernel) (v104_eq m c)).trans rfl

theorem v172_eq : V m c main_v172 = val_main_v272 (F := Ideal) (m ((c : Thread nD τ).loc main_arg6)) :=
  (read1 m c (i := 182) rfl (by decide +kernel) (by decide +kernel) (v171_eq m c)).trans rfl

theorem v173_eq : V m c main_v173 = val_main_v273 (F := Ideal) (m ((c : Thread nD τ).loc main_arg6)) :=
  (read1 m c (i := 183) rfl (by decide +kernel) (by decide +kernel) (v172_eq m c)).trans rfl

theorem v174_eq : V m c main_v174 = val_main_v274 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 184) rfl (by decide +kernel) (by decide +kernel) (by decide +kernel) (v170_eq m c) (v173_eq m c)).trans rfl

theorem v175_eq : V m c main_v175 = val_main_v275 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 185) rfl (by decide +kernel) (by decide +kernel) (by decide +kernel) (v174_eq m c) (v119_eq m c)).trans rfl

theorem v176_eq : V m c main_v176 = val_main_v276 (F := Ideal) (m ((c : Thread nD τ).loc main_arg6)) :=
  (read1 m c (i := 186) rfl (by decide +kernel) (by decide +kernel) (v104_eq m c)).trans rfl

theorem v177_eq : V m c main_v177 = val_main_v277 (F := Ideal) (m ((c : Thread nD τ).loc main_arg6)) :=
  (read1 m c (i := 187) rfl (by decide +kernel) (by decide +kernel) (v176_eq m c)).trans rfl

theorem v178_eq : V m c main_v178 = val_main_v278 (F := Ideal) (m ((c : Thread nD τ).loc main_arg6)) :=
  (read1 m c (i := 188) rfl (by decide +kernel) (by decide +kernel) (v177_eq m c)).trans rfl

theorem v179_eq : V m c main_v179 = val_main_v279 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 189) rfl (by decide +kernel) (by decide +kernel) (by decide +kernel) (v175_eq m c) (v178_eq m c)).trans rfl

theorem v180_eq : V m c main_v180 = val_main_v280 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 190) rfl (by decide +kernel) (by decide +kernel) (by decide +kernel) (v179_eq m c) (v120_eq m c)).trans rfl

theorem v181_eq : V m c main_v181 = val_main_v281 (F := Ideal) (m ((c : Thread nD τ).loc main_arg6)) :=
  (read1 m c (i := 191) rfl (by decide +kernel) (by decide +kernel) (v104_eq m c)).trans rfl

theorem v182_eq : V m c main_v182 = val_main_v282 (F := Ideal) (m ((c : Thread nD τ).loc main_arg6)) :=
  (read1 m c (i := 192) rfl (by decide +kernel) (by decide +kernel) (v181_eq m c)).trans rfl

theorem v183_eq : V m c main_v183 = val_main_v283 (F := Ideal) (m ((c : Thread nD τ).loc main_arg6)) :=
  (read1 m c (i := 193) rfl (by decide +kernel) (by decide +kernel) (v182_eq m c)).trans rfl

theorem v184_eq : V m c main_v184 = val_main_v284 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 194) rfl (by decide +kernel) (by decide +kernel) (by decide +kernel) (v180_eq m c) (v183_eq m c)).trans rfl

theorem v185_eq : V m c main_v185 = val_main_v285 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 195) rfl (by decide +kernel) (by decide +kernel) (by decide +kernel) (v184_eq m c) (v121_eq m c)).trans rfl

theorem v186_eq : V m c main_v186 = val_main_v286 (F := Ideal) (m ((c : Thread nD τ).loc main_arg6)) :=
  (read1 m c (i := 196) rfl (by decide +kernel) (by decide +kernel) (v104_eq m c)).trans rfl

theorem v187_eq : V m c main_v187 = val_main_v287 (F := Ideal) (m ((c : Thread nD τ).loc main_arg6)) :=
  (read1 m c (i := 197) rfl (by decide +kernel) (by decide +kernel) (v186_eq m c)).trans rfl

theorem v188_eq : V m c main_v188 = val_main_v288 (F := Ideal) (m ((c : Thread nD τ).loc main_arg6)) :=
  (read1 m c (i := 198) rfl (by decide +kernel) (by decide +kernel) (v187_eq m c)).trans rfl

theorem v189_eq : V m c main_v189 = val_main_v289 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 199) rfl (by decide +kernel) (by decide +kernel) (by decide +kernel) (v185_eq m c) (v188_eq m c)).trans rfl

theorem v190_eq : V m c main_v190 = val_main_v290 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 200) rfl (by decide +kernel) (by decide +kernel) (by decide +kernel) (v189_eq m c) (v122_eq m c)).trans rfl

theorem v191_eq : V m c main_v191 = val_main_v291 (F := Ideal) (m ((c : Thread nD τ).loc main_arg6)) :=
  (read1 m c (i := 201) rfl (by decide +kernel) (by decide +kernel) (v104_eq m c)).trans rfl

theorem v192_eq : V m c main_v192 = val_main_v292 (F := Ideal) (m ((c : Thread nD τ).loc main_arg6)) :=
  (read1 m c (i := 202) rfl (by decide +kernel) (by decide +kernel) (v191_eq m c)).trans rfl

theorem v193_eq : V m c main_v193 = val_main_v293 (F := Ideal) (m ((c : Thread nD τ).loc main_arg6)) :=
  (read1 m c (i := 203) rfl (by decide +kernel) (by decide +kernel) (v192_eq m c)).trans rfl

theorem v194_eq : V m c main_v194 = val_main_v294 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 204) rfl (by decide +kernel) (by decide +kernel) (by decide +kernel) (v190_eq m c) (v193_eq m c)).trans rfl

theorem v195_eq : V m c main_v195 = val_main_v295 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 205) rfl (by decide +kernel) (by decide +kernel) (by decide +kernel) (v194_eq m c) (v123_eq m c)).trans rfl

theorem v196_eq : V m c main_v196 = val_main_v296 (F := Ideal) (m ((c : Thread nD τ).loc main_arg6)) :=
  (read1 m c (i := 206) rfl (by decide +kernel) (by decide +kernel) (v104_eq m c)).trans rfl

theorem v197_eq : V m c main_v197 = val_main_v297 (F := Ideal) (m ((c : Thread nD τ).loc main_arg6)) :=
  (read1 m c (i := 207) rfl (by decide +kernel) (by decide +kernel) (v196_eq m c)).trans rfl

theorem v198_eq : V m c main_v198 = val_main_v298 (F := Ideal) (m ((c : Thread nD τ).loc main_arg6)) :=
  (read1 m c (i := 208) rfl (by decide +kernel) (by decide +kernel) (v197_eq m c)).trans rfl

theorem v199_eq : V m c main_v199 = val_main_v299 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 209) rfl (by decide +kernel) (by decide +kernel) (by decide +kernel) (v195_eq m c) (v198_eq m c)).trans rfl

theorem v200_eq : V m c main_v200 = val_main_v300 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 210) rfl (by decide +kernel) (by decide +kernel) (by decide +kernel) (v199_eq m c) (v124_eq m c)).trans rfl

theorem v201_eq : V m c main_v201 = val_main_v301 (F := Ideal) (m ((c : Thread nD τ).loc main_arg6)) :=
  (read1 m c (i := 211) rfl (by decide +kernel) (by decide +kernel) (v104_eq m c)).trans rfl

theorem v202_eq : V m c main_v202 = val_main_v302 (F := Ideal) (m ((c : Thread nD τ).loc main_arg6)) :=
  (read1 m c (i := 212) rfl (by decide +kernel) (by decide +kernel) (v201_eq m c)).trans rfl

theorem v203_eq : V m c main_v203 = val_main_v303 (F := Ideal) (m ((c : Thread nD τ).loc main_arg6)) :=
  (read1 m c (i := 213) rfl (by decide +kernel) (by decide +kernel) (v202_eq m c)).trans rfl

theorem v204_eq : V m c main_v204 = val_main_v304 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 214) rfl (by decide +kernel) (by decide +kernel) (by decide +kernel) (v200_eq m c) (v203_eq m c)).trans rfl

theorem v205_eq : V m c main_v205 = val_main_v305 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (read2 m c (i := 215) rfl (by decide +kernel) (by decide +kernel) (by decide +kernel) (v204_eq m c) (v125_eq m c)).trans rfl

end Cert.KernelIdeal.HostLines

end
-- ==== Proof.Retention.RefParts.lean ====
/-
  The reference's decays and its queries, keys and values in chunks, at an index, in the vocabulary of Spec.lean.
-/
module

public import proofs.«01_k».proof.Proof.Gen.ReferenceIdeal.Read
public import proofs.«01_k».proof.Proof.Retention.RefLayout

@[expose] public section

noncomputable section

namespace Cert.ReferenceIdeal.Chunks

open Cert.ReferenceIdeal Cert.ReferenceIdeal.Gen Cert.ReferenceIdeal.Read Idealize.ShloMosaic Idealize.ShloMosaic.TcCoe Cert.Retention

variable (x0 : (⟨S2x2304x512, .f32⟩ : BufTy).Contents (Elt Ideal)) (x1 : (⟨S2x2304x3840, .f32⟩ : BufTy).Contents (Elt Ideal))
  (x2 x3 x4 x5 : (⟨S2048x32, .f32⟩ : BufTy).Contents (Elt Ideal)) (x6 : (⟨S4, .f32⟩ : BufTy).Contents (Elt Ideal))

/-- The cosine and the sine of a token and a feature, with the sine's sign. -/
def csT (t : Fin 2048) (d : Fin 128) : EReal :=
  if d.val < 64 then x2 (ix2 t (Fin.ofNat 32 d.val)) else x4 (ix2 t (Fin.ofNat 32 d.val))
@[inherit_doc csT] def snT (t : Fin 2048) (d : Fin 128) : EReal :=
  if d.val < 64 then (if d.val < 32 then -x3 (ix2 t (Fin.ofNat 32 d.val)) else x3 (ix2 t (Fin.ofNat 32 d.val)))
  else (if d.val < 96 then -x5 (ix2 t (Fin.ofNat 32 d.val)) else x5 (ix2 t (Fin.ofNat 32 d.val)))

theorem cs_x (n : ℕ) (i d : Fin 128) : cs x2 x4 (n + 2) i d = csT x2 x4 (Fin.ofNat 2048 (n * 128 + i.val)) d :=
  if_neg (by omega)

theorem sn_x (n : ℕ) (i d : Fin 128) : sn x3 x5 (n + 2) i d = snT x3 x5 (Fin.ofNat 2048 (n * 128 + i.val)) d :=
  if_neg (by omega)

theorem sw_lo (d : Fin 128) (h : d.val % 64 < 32) : (sw d).val = d.val + 32 := by
  have hd := d.isLt
  rw [sw, if_pos h]; simp only [Fin.ofNat]; omega

theorem sw_hi (d : Fin 128) (h : ¬ d.val % 64 < 32) : (sw d).val = d.val - 32 := by
  have hd := d.isLt
  rw [sw, if_neg h]; simp only [Fin.ofNat]; omega

/-! ## Decays -/

theorem lg_eq (h : Fin 4) : val_main_v1 (F := Ideal) x6 (ix1 h) = lg x6 h := by
  unfold val_main_v1 val_main_v0
  pointwise [lg]

theorem v36_eq (h : Fin 4) (i j : Fin 128) : val_main_v36 (F := Ideal) x6 (ix3 h i j) = decay (lg x6 h) i j := by
  have h0 := lg_eq x6
  unfold val_main_v36 val_main_call0_v2 val_main_call0_v1 val_main_call0_v0 val_main_cst_3 val_main_v35 val_main_v34 val_main_v33 val_main_v32 val_main_v31 val_main_v30 val_main_v29 val_main_cst_2 val_main_v28 val_main_v27 val_main_v26 val_main_v25 val_main_cst_1 val_main_v24 val_main_v23 val_main_v22 val_main_v21 val_main_v20 val_main_v19
  generalize val_main_v1 (F := Ideal) x6 = y0 at h0 ⊢
  pointwise [h0, decay, pos, id_eq]

theorem v44_eq (h : Fin 4) (i : Fin 128) : val_main_v44 (F := Ideal) x6 (ix2 h i) = qexp (lg x6 h) i := by
  have h0 := lg_eq x6
  unfold val_main_v44 val_main_v43 val_main_v42 val_main_v41 val_main_v40 val_main_v39 val_main_v38 val_main_cst_4 val_main_v37 val_main_v19
  generalize val_main_v1 (F := Ideal) x6 = y0 at h0 ⊢
  pointwise [h0, qexp, pos]

theorem v59_eq (h : Fin 4) (i : Fin 128) : val_main_v59 (F := Ideal) x6 (ix2 h i) = kexp (lg x6 h) i := by
  have h0 := lg_eq x6
  unfold val_main_v59 val_main_v58 val_main_v57 val_main_v56 val_main_v55 val_main_v54 val_main_v53 val_main_cst_5 val_main_v52 val_main_v51
  generalize val_main_v1 (F := Ideal) x6 = y0 at h0 ⊢
  pointwise [h0, kexp, pos]

theorem v62_eq (h : Fin 4) : val_main_v62 (F := Ideal) x6 (ix1 h) = cexp (lg x6 h) := by
  have h0 := lg_eq x6
  unfold val_main_v62 val_main_v61 val_main_v60 val_main_cst_6
  generalize val_main_v1 (F := Ideal) x6 = y0 at h0 ⊢
  pointwise [h0, cexp]

theorem v178_eq (h : Fin 4) (i j : Fin 128) : val_main_v178 (F := Ideal) x6 (ix3 h i j) = decay (lg x6 h) i j := by
  have h0 := lg_eq x6
  unfold val_main_v178 val_main_call1_v2 val_main_call1_v1 val_main_call1_v0 val_main_cst_10 val_main_v177 val_main_v176 val_main_v175 val_main_v174 val_main_v173 val_main_v172 val_main_v171 val_main_cst_9 val_main_v170 val_main_v169 val_main_v168 val_main_v167 val_main_cst_8 val_main_v166 val_main_v165 val_main_v164 val_main_v163 val_main_v162 val_main_v161
  generalize val_main_v1 (F := Ideal) x6 = y0 at h0 ⊢
  pointwise [h0, decay, pos, id_eq]

theorem v186_eq (h : Fin 4) (i : Fin 128) : val_main_v186 (F := Ideal) x6 (ix2 h i) = qexp (lg x6 h) i := by
  have h0 := lg_eq x6
  unfold val_main_v186 val_main_v185 val_main_v184 val_main_v183 val_main_v182 val_main_v181 val_main_v180 val_main_cst_11 val_main_v179 val_main_v161
  generalize val_main_v1 (F := Ideal) x6 = y0 at h0 ⊢
  pointwise [h0, qexp, pos]

theorem v201_eq (h : Fin 4) (i : Fin 128) : val_main_v201 (F := Ideal) x6 (ix2 h i) = kexp (lg x6 h) i := by
  have h0 := lg_eq x6
  unfold val_main_v201 val_main_v200 val_main_v199 val_main_v198 val_main_v197 val_main_v196 val_main_v195 val_main_cst_12 val_main_v194 val_main_v193
  generalize val_main_v1 (F := Ideal) x6 = y0 at h0 ⊢
  pointwise [h0, kexp, pos]

theorem v204_eq (h : Fin 4) : val_main_v204 (F := Ideal) x6 (ix1 h) = cexp (lg x6 h) := by
  have h0 := lg_eq x6
  unfold val_main_v204 val_main_v203 val_main_v202 val_main_cst_13
  generalize val_main_v1 (F := Ideal) x6 = y0 at h0 ⊢
  pointwise [h0, cexp]

/-! ## Queries, keys, values and the cotangent, before the rotation -/

theorem v7_eq (b : Fin 2) (t : Fin 2304) (h : Fin 4) (d : Fin 128) : val_main_v7 (F := Ideal) x1 (ix4 b t h d) = x1 (ix3 b t (pc 0 h d)) := by
  unfold val_main_v7 val_main_v3 val_main_v2
  pointwise []
  refine congrArg x1 (congrArg (ix3 b t) (Fin.ext ?_))
  have := h.isLt
  have := d.isLt
  simp only [pc, Fin.ofNat]
  omega

theorem v10_eq (b : Fin 2) (t : Fin 2304) (h : Fin 4) (d : Fin 128) : val_main_v10 (F := Ideal) x1 (ix4 b t h d) = x1 (ix3 b t (pc 512 h d)) * scale := by
  unfold val_main_v10 val_main_v9 val_main_cst val_main_v8 val_main_v4 val_main_v2
  pointwise [scale]
  refine congrArg (fun j => x1 j * _) (congrArg (ix3 b t) (Fin.ext ?_))
  have := h.isLt
  have := d.isLt
  simp only [pc, Fin.ofNat]
  omega

theorem v11_eq (b : Fin 2) (t : Fin 2304) (h : Fin 4) (d : Fin 128) : val_main_v11 (F := Ideal) x1 (ix4 b t h d) = x1 (ix3 b t (pc 1024 h d)) := by
  unfold val_main_v11 val_main_v5 val_main_v2
  pointwise []
  refine congrArg x1 (congrArg (ix3 b t) (Fin.ext ?_))
  have := h.isLt
  have := d.isLt
  simp only [pc, Fin.ofNat]
  omega

/-! ## The rotation -/

theorem v104_eq (b : Fin 2) (t : Fin 2048) (h : Fin 4) (d : Fin 32) : val_main_v104 (F := Ideal) x1 x2 x3 (ix4 b t h d) =
      val_main_v13 (F := Ideal) x1 (ix4 b t h (Fin.ofNat 128 (d.val + 0))) * x2 (ix2 t d) - val_main_v13 (F := Ideal) x1 (ix4 b t h (Fin.ofNat 128 (d.val + 32))) * x3 (ix2 t d) := by
  unfold val_main_v104 val_main_v103 val_main_v102 val_main_v101 val_main_v100 val_main_v99 val_main_v98 val_main_v97 val_main_v96 val_main_v95
  generalize val_main_v13 (F := Ideal) x1 = y0
  pointwise []
  have hd := d.isLt
  refine congrArg₂ (fun i j => y0 (ix4 b t h i) * _ - y0 (ix4 b t h j) * _) (Fin.ext ?_) (Fin.ext ?_) <;>
    (simp only [Fin.ofNat]; omega)

theorem v109_eq (b : Fin 2) (t : Fin 2048) (h : Fin 4) (d : Fin 32) : val_main_v109 (F := Ideal) x1 x2 x3 (ix4 b t h d) =
      val_main_v13 (F := Ideal) x1 (ix4 b t h (Fin.ofNat 128 (d.val + 0))) * x3 (ix2 t d) + val_main_v13 (F := Ideal) x1 (ix4 b t h (Fin.ofNat 128 (d.val + 32))) * x2 (ix2 t d) := by
  unfold val_main_v109 val_main_v108 val_main_v107 val_main_v106 val_main_v105 val_main_v99 val_main_v98 val_main_v97 val_main_v96 val_main_v95
  generalize val_main_v13 (F := Ideal) x1 = y0
  pointwise []
  have hd := d.isLt
  refine congrArg₂ (fun i j => y0 (ix4 b t h i) * _ + y0 (ix4 b t h j) * _) (Fin.ext ?_) (Fin.ext ?_) <;>
    (simp only [Fin.ofNat]; omega)

theorem v120_eq (b : Fin 2) (t : Fin 2048) (h : Fin 4) (d : Fin 32) : val_main_v120 (F := Ideal) x1 x4 x5 (ix4 b t h d) =
      val_main_v13 (F := Ideal) x1 (ix4 b t h (Fin.ofNat 128 (d.val + 64))) * x4 (ix2 t d) - val_main_v13 (F := Ideal) x1 (ix4 b t h (Fin.ofNat 128 (d.val + 96))) * x5 (ix2 t d) := by
  unfold val_main_v120 val_main_v119 val_main_v118 val_main_v117 val_main_v116 val_main_v115 val_main_v114 val_main_v113 val_main_v112 val_main_v111
  generalize val_main_v13 (F := Ideal) x1 = y0
  pointwise []
  have hd := d.isLt
  refine congrArg₂ (fun i j => y0 (ix4 b t h i) * _ - y0 (ix4 b t h j) * _) (Fin.ext ?_) (Fin.ext ?_) <;>
    (simp only [Fin.ofNat]; omega)

theorem v125_eq (b : Fin 2) (t : Fin 2048) (h : Fin 4) (d : Fin 32) : val_main_v125 (F := Ideal) x1 x4 x5 (ix4 b t h d) =
      val_main_v13 (F := Ideal) x1 (ix4 b t h (Fin.ofNat 128 (d.val + 64))) * x5 (ix2 t d) + val_main_v13 (F := Ideal) x1 (ix4 b t h (Fin.ofNat 128 (d.val + 96))) * x4 (ix2 t d) := by
  unfold val_main_v125 val_main_v124 val_main_v123 val_main_v122 val_main_v121 val_main_v115 val_main_v114 val_main_v113 val_main_v112 val_main_v111
  generalize val_main_v13 (F := Ideal) x1 = y0
  pointwise []
  have hd := d.isLt
  refine congrArg₂ (fun i j => y0 (ix4 b t h i) * _ + y0 (ix4 b t h j) * _) (Fin.ext ?_) (Fin.ext ?_) <;>
    (simp only [Fin.ofNat]; omega)

theorem v110_eq (b : Fin 2) (t : Fin 2048) (h : Fin 4) (d : Fin 64) : val_main_v110 (F := Ideal) x1 x2 x3 (ix4 b t h d) =
      if d.val < 32 then val_main_v104 (F := Ideal) x1 x2 x3 (ix4 b t h (Fin.ofNat 32 d.val)) else val_main_v109 (F := Ideal) x1 x2 x3 (ix4 b t h (Fin.ofNat 32 d.val)) := by
  unfold val_main_v110
  generalize val_main_v104 (F := Ideal) x1 x2 x3 = y0
  generalize val_main_v109 (F := Ideal) x1 x2 x3 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v126_eq (b : Fin 2) (t : Fin 2048) (h : Fin 4) (d : Fin 64) : val_main_v126 (F := Ideal) x1 x4 x5 (ix4 b t h d) =
      if d.val < 32 then val_main_v120 (F := Ideal) x1 x4 x5 (ix4 b t h (Fin.ofNat 32 d.val)) else val_main_v125 (F := Ideal) x1 x4 x5 (ix4 b t h (Fin.ofNat 32 d.val)) := by
  unfold val_main_v126
  generalize val_main_v120 (F := Ideal) x1 x4 x5 = y0
  generalize val_main_v125 (F := Ideal) x1 x4 x5 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v127_cat (b : Fin 2) (t : Fin 2048) (h : Fin 4) (d : Fin 128) : val_main_v127 (F := Ideal) x1 x2 x3 x4 x5 (ix4 b t h d) =
      if d.val < 64 then val_main_v110 (F := Ideal) x1 x2 x3 (ix4 b t h (Fin.ofNat 64 d.val)) else val_main_v126 (F := Ideal) x1 x4 x5 (ix4 b t h (Fin.ofNat 64 d.val)) := by
  unfold val_main_v127
  generalize val_main_v110 (F := Ideal) x1 x2 x3 = y0
  generalize val_main_v126 (F := Ideal) x1 x4 x5 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v127_eq (b : Fin 2) (t : Fin 2048) (h : Fin 4) (d : Fin 128) : val_main_v127 (F := Ideal) x1 x2 x3 x4 x5 (ix4 b t h d) =
    val_main_v13 (F := Ideal) x1 (ix4 b t h d) * csT x2 x4 t d + val_main_v13 (F := Ideal) x1 (ix4 b t h (sw d)) * snT x3 x5 t d := by
  rw [v127_cat]
  have hd := d.isLt
  by_cases h1 : d.val < 64
  · rw [if_pos h1, v110_eq]
    have i0 : Fin.ofNat 32 (Fin.ofNat 64 d.val).val = Fin.ofNat 32 d.val := Fin.ext (by simp only [Fin.ofNat]; omega)
    rw [i0]
    by_cases h2 : d.val < 32
    · have i1 : Fin.ofNat 128 ((Fin.ofNat 32 d.val).val + 0) = d := Fin.ext (by simp only [Fin.ofNat]; omega)
      have i2 : Fin.ofNat 128 ((Fin.ofNat 32 d.val).val + 32) = sw d :=
        Fin.ext (by rw [sw_lo d (by omega)]; simp only [Fin.ofNat]; omega)
      rw [if_pos (by simp only [Fin.ofNat]; omega), v104_eq, i1, i2, csT, snT, if_pos h1, if_pos h1, if_pos h2, mul_neg,
        sub_eq_add_neg]
    · have i1 : Fin.ofNat 128 ((Fin.ofNat 32 d.val).val + 32) = d := Fin.ext (by simp only [Fin.ofNat]; omega)
      have i2 : Fin.ofNat 128 ((Fin.ofNat 32 d.val).val + 0) = sw d :=
        Fin.ext (by rw [sw_hi d (by omega)]; simp only [Fin.ofNat]; omega)
      rw [if_neg (by simp only [Fin.ofNat]; omega), v109_eq, i1, i2, csT, snT, if_pos h1, if_pos h1, if_neg h2, add_comm]
  · rw [if_neg h1, v126_eq]
    have i0 : Fin.ofNat 32 (Fin.ofNat 64 d.val).val = Fin.ofNat 32 d.val := Fin.ext (by simp only [Fin.ofNat]; omega)
    rw [i0]
    by_cases h2 : d.val < 96
    · have i1 : Fin.ofNat 128 ((Fin.ofNat 32 d.val).val + 64) = d := Fin.ext (by simp only [Fin.ofNat]; omega)
      have i2 : Fin.ofNat 128 ((Fin.ofNat 32 d.val).val + 96) = sw d :=
        Fin.ext (by rw [sw_lo d (by omega)]; simp only [Fin.ofNat]; omega)
      rw [if_pos (by simp only [Fin.ofNat]; omega), v120_eq, i1, i2, csT, snT, if_neg h1, if_neg h1, if_pos h2, mul_neg,
        sub_eq_add_neg]
    · have i1 : Fin.ofNat 128 ((Fin.ofNat 32 d.val).val + 96) = d := Fin.ext (by simp only [Fin.ofNat]; omega)
      have i2 : Fin.ofNat 128 ((Fin.ofNat 32 d.val).val + 64) = sw d :=
        Fin.ext (by rw [sw_hi d (by omega)]; simp only [Fin.ofNat]; omega)
      rw [if_neg (by simp only [Fin.ofNat]; omega), v125_eq, i1, i2, csT, snT, if_neg h1, if_neg h1, if_neg h2, add_comm]

theorem v137_eq (b : Fin 2) (t : Fin 2048) (h : Fin 4) (d : Fin 32) : val_main_v137 (F := Ideal) x1 x2 x3 (ix4 b t h d) =
      val_main_v15 (F := Ideal) x1 (ix4 b t h (Fin.ofNat 128 (d.val + 0))) * x2 (ix2 t d) - val_main_v15 (F := Ideal) x1 (ix4 b t h (Fin.ofNat 128 (d.val + 32))) * x3 (ix2 t d) := by
  unfold val_main_v137 val_main_v136 val_main_v135 val_main_v134 val_main_v133 val_main_v132 val_main_v131 val_main_v130 val_main_v129 val_main_v128
  generalize val_main_v15 (F := Ideal) x1 = y0
  pointwise []
  have hd := d.isLt
  refine congrArg₂ (fun i j => y0 (ix4 b t h i) * _ - y0 (ix4 b t h j) * _) (Fin.ext ?_) (Fin.ext ?_) <;>
    (simp only [Fin.ofNat]; omega)

theorem v142_eq (b : Fin 2) (t : Fin 2048) (h : Fin 4) (d : Fin 32) : val_main_v142 (F := Ideal) x1 x2 x3 (ix4 b t h d) =
      val_main_v15 (F := Ideal) x1 (ix4 b t h (Fin.ofNat 128 (d.val + 0))) * x3 (ix2 t d) + val_main_v15 (F := Ideal) x1 (ix4 b t h (Fin.ofNat 128 (d.val + 32))) * x2 (ix2 t d) := by
  unfold val_main_v142 val_main_v141 val_main_v140 val_main_v139 val_main_v138 val_main_v132 val_main_v131 val_main_v130 val_main_v129 val_main_v128
  generalize val_main_v15 (F := Ideal) x1 = y0
  pointwise []
  have hd := d.isLt
  refine congrArg₂ (fun i j => y0 (ix4 b t h i) * _ + y0 (ix4 b t h j) * _) (Fin.ext ?_) (Fin.ext ?_) <;>
    (simp only [Fin.ofNat]; omega)

theorem v153_eq (b : Fin 2) (t : Fin 2048) (h : Fin 4) (d : Fin 32) : val_main_v153 (F := Ideal) x1 x4 x5 (ix4 b t h d) =
      val_main_v15 (F := Ideal) x1 (ix4 b t h (Fin.ofNat 128 (d.val + 64))) * x4 (ix2 t d) - val_main_v15 (F := Ideal) x1 (ix4 b t h (Fin.ofNat 128 (d.val + 96))) * x5 (ix2 t d) := by
  unfold val_main_v153 val_main_v152 val_main_v151 val_main_v150 val_main_v149 val_main_v148 val_main_v147 val_main_v146 val_main_v145 val_main_v144
  generalize val_main_v15 (F := Ideal) x1 = y0
  pointwise []
  have hd := d.isLt
  refine congrArg₂ (fun i j => y0 (ix4 b t h i) * _ - y0 (ix4 b t h j) * _) (Fin.ext ?_) (Fin.ext ?_) <;>
    (simp only [Fin.ofNat]; omega)

theorem v158_eq (b : Fin 2) (t : Fin 2048) (h : Fin 4) (d : Fin 32) : val_main_v158 (F := Ideal) x1 x4 x5 (ix4 b t h d) =
      val_main_v15 (F := Ideal) x1 (ix4 b t h (Fin.ofNat 128 (d.val + 64))) * x5 (ix2 t d) + val_main_v15 (F := Ideal) x1 (ix4 b t h (Fin.ofNat 128 (d.val + 96))) * x4 (ix2 t d) := by
  unfold val_main_v158 val_main_v157 val_main_v156 val_main_v155 val_main_v154 val_main_v148 val_main_v147 val_main_v146 val_main_v145 val_main_v144
  generalize val_main_v15 (F := Ideal) x1 = y0
  pointwise []
  have hd := d.isLt
  refine congrArg₂ (fun i j => y0 (ix4 b t h i) * _ + y0 (ix4 b t h j) * _) (Fin.ext ?_) (Fin.ext ?_) <;>
    (simp only [Fin.ofNat]; omega)

theorem v143_eq (b : Fin 2) (t : Fin 2048) (h : Fin 4) (d : Fin 64) : val_main_v143 (F := Ideal) x1 x2 x3 (ix4 b t h d) =
      if d.val < 32 then val_main_v137 (F := Ideal) x1 x2 x3 (ix4 b t h (Fin.ofNat 32 d.val)) else val_main_v142 (F := Ideal) x1 x2 x3 (ix4 b t h (Fin.ofNat 32 d.val)) := by
  unfold val_main_v143
  generalize val_main_v137 (F := Ideal) x1 x2 x3 = y0
  generalize val_main_v142 (F := Ideal) x1 x2 x3 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v159_eq (b : Fin 2) (t : Fin 2048) (h : Fin 4) (d : Fin 64) : val_main_v159 (F := Ideal) x1 x4 x5 (ix4 b t h d) =
      if d.val < 32 then val_main_v153 (F := Ideal) x1 x4 x5 (ix4 b t h (Fin.ofNat 32 d.val)) else val_main_v158 (F := Ideal) x1 x4 x5 (ix4 b t h (Fin.ofNat 32 d.val)) := by
  unfold val_main_v159
  generalize val_main_v153 (F := Ideal) x1 x4 x5 = y0
  generalize val_main_v158 (F := Ideal) x1 x4 x5 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v160_cat (b : Fin 2) (t : Fin 2048) (h : Fin 4) (d : Fin 128) : val_main_v160 (F := Ideal) x1 x2 x3 x4 x5 (ix4 b t h d) =
      if d.val < 64 then val_main_v143 (F := Ideal) x1 x2 x3 (ix4 b t h (Fin.ofNat 64 d.val)) else val_main_v159 (F := Ideal) x1 x4 x5 (ix4 b t h (Fin.ofNat 64 d.val)) := by
  unfold val_main_v160
  generalize val_main_v143 (F := Ideal) x1 x2 x3 = y0
  generalize val_main_v159 (F := Ideal) x1 x4 x5 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v160_eq (b : Fin 2) (t : Fin 2048) (h : Fin 4) (d : Fin 128) : val_main_v160 (F := Ideal) x1 x2 x3 x4 x5 (ix4 b t h d) =
    val_main_v15 (F := Ideal) x1 (ix4 b t h d) * csT x2 x4 t d + val_main_v15 (F := Ideal) x1 (ix4 b t h (sw d)) * snT x3 x5 t d := by
  rw [v160_cat]
  have hd := d.isLt
  by_cases h1 : d.val < 64
  · rw [if_pos h1, v143_eq]
    have i0 : Fin.ofNat 32 (Fin.ofNat 64 d.val).val = Fin.ofNat 32 d.val := Fin.ext (by simp only [Fin.ofNat]; omega)
    rw [i0]
    by_cases h2 : d.val < 32
    · have i1 : Fin.ofNat 128 ((Fin.ofNat 32 d.val).val + 0) = d := Fin.ext (by simp only [Fin.ofNat]; omega)
      have i2 : Fin.ofNat 128 ((Fin.ofNat 32 d.val).val + 32) = sw d :=
        Fin.ext (by rw [sw_lo d (by omega)]; simp only [Fin.ofNat]; omega)
      rw [if_pos (by simp only [Fin.ofNat]; omega), v137_eq, i1, i2, csT, snT, if_pos h1, if_pos h1, if_pos h2, mul_neg,
        sub_eq_add_neg]
    · have i1 : Fin.ofNat 128 ((Fin.ofNat 32 d.val).val + 32) = d := Fin.ext (by simp only [Fin.ofNat]; omega)
      have i2 : Fin.ofNat 128 ((Fin.ofNat 32 d.val).val + 0) = sw d :=
        Fin.ext (by rw [sw_hi d (by omega)]; simp only [Fin.ofNat]; omega)
      rw [if_neg (by simp only [Fin.ofNat]; omega), v142_eq, i1, i2, csT, snT, if_pos h1, if_pos h1, if_neg h2, add_comm]
  · rw [if_neg h1, v159_eq]
    have i0 : Fin.ofNat 32 (Fin.ofNat 64 d.val).val = Fin.ofNat 32 d.val := Fin.ext (by simp only [Fin.ofNat]; omega)
    rw [i0]
    by_cases h2 : d.val < 96
    · have i1 : Fin.ofNat 128 ((Fin.ofNat 32 d.val).val + 64) = d := Fin.ext (by simp only [Fin.ofNat]; omega)
      have i2 : Fin.ofNat 128 ((Fin.ofNat 32 d.val).val + 96) = sw d :=
        Fin.ext (by rw [sw_lo d (by omega)]; simp only [Fin.ofNat]; omega)
      rw [if_pos (by simp only [Fin.ofNat]; omega), v153_eq, i1, i2, csT, snT, if_neg h1, if_neg h1, if_pos h2, mul_neg,
        sub_eq_add_neg]
    · have i1 : Fin.ofNat 128 ((Fin.ofNat 32 d.val).val + 96) = d := Fin.ext (by simp only [Fin.ofNat]; omega)
      have i2 : Fin.ofNat 128 ((Fin.ofNat 32 d.val).val + 64) = sw d :=
        Fin.ext (by rw [sw_hi d (by omega)]; simp only [Fin.ofNat]; omega)
      rw [if_neg (by simp only [Fin.ofNat]; omega), v158_eq, i1, i2, csT, snT, if_neg h1, if_neg h1, if_neg h2, add_comm]

/-! ## In chunks -/

theorem v192_eq (b : Fin 2) (n : Fin 16) (h : Fin 4) (i d : Fin 128) : val_main_v192 (F := Ideal) x1 (ix5 b n h i d) = P x1 1024 b h (n.val + 2) i d := by
  have h0 := v11_eq x1
  unfold val_main_v192 val_main_v191 val_main_v17
  generalize val_main_v11 (F := Ideal) x1 = y0 at h0 ⊢
  refine (chunk16 _ b n h i d).trans ?_
  refine (lastRows y0 b _ h d).trans ((h0 _ _ _ _).trans ?_)
  exact congrArg (fun t => x1 (ix3 b t (pc 1024 h d))) (Fin.ext (by have := n.isLt; have := i.isLt; simp only [tk, Fin.ofNat]; omega))

theorem v50_eq (b : Fin 2) (n : Fin 2) (h : Fin 4) (i d : Fin 128) : val_main_v50 (F := Ideal) x1 (ix5 b n h i d) = P x1 1024 b h n.val i d := by
  have h0 := v11_eq x1
  unfold val_main_v50 val_main_v49 val_main_v16
  generalize val_main_v11 (F := Ideal) x1 = y0 at h0 ⊢
  refine (chunk2 _ b n h i d).trans ?_
  refine (firstRows y0 b _ h d).trans ((h0 _ _ _ _).trans ?_)
  exact congrArg (fun t => x1 (ix3 b t (pc 1024 h d))) (Fin.ext (by have := n.isLt; have := i.isLt; simp only [tk, Fin.ofNat]; omega))

theorem v46_eq (b : Fin 2) (n : Fin 2) (h : Fin 4) (i d : Fin 128) : val_main_v46 (F := Ideal) x1 (ix5 b n h i d) = Q x1 x2 x3 x4 x5 b h n.val i d := by
  have h0 := v7_eq x1
  unfold val_main_v46 val_main_v45 val_main_v12
  generalize val_main_v7 (F := Ideal) x1 = y0 at h0 ⊢
  refine (chunk2 _ b n h i d).trans ?_
  refine (firstRows y0 b _ h d).trans ((h0 _ _ _ _).trans ?_)
  rw [Q, rot, cs, sn, if_pos n.isLt, if_pos n.isLt, mul_one, mul_zero, add_zero]
  exact congrArg (fun t => x1 (ix3 b t (pc 0 h d))) (Fin.ext (by have := n.isLt; have := i.isLt; simp only [tk, Fin.ofNat]; omega))

theorem v48_eq (b : Fin 2) (n : Fin 2) (h : Fin 4) (i d : Fin 128) : val_main_v48 (F := Ideal) x1 (ix5 b n h i d) = K x1 x2 x3 x4 x5 b h n.val i d := by
  have h0 := v10_eq x1
  unfold val_main_v48 val_main_v47 val_main_v14
  generalize val_main_v10 (F := Ideal) x1 = y0 at h0 ⊢
  refine (chunk2 _ b n h i d).trans ?_
  refine (firstRows y0 b _ h d).trans ((h0 _ _ _ _).trans ?_)
  rw [K, rot, cs, sn, if_pos n.isLt, if_pos n.isLt, mul_one, mul_zero, add_zero]
  exact congrArg (fun t => x1 (ix3 b t (pc 512 h d)) * scale) (Fin.ext (by have := n.isLt; have := i.isLt; simp only [tk, Fin.ofNat]; omega))

theorem v484_eq (b : Fin 2) (n : Fin 2) (h : Fin 4) (i d : Fin 128) : val_main_v484 (F := Ideal) x0 (ix5 b n h i d) = O x0 b h n.val i d := by
  unfold val_main_v484 val_main_v483 val_main_v323 val_main_v322
  refine (chunk2 _ b n h i d).trans ?_
  refine (firstRows _ b _ h d).trans ((heads x0 b _ h d).trans ?_)
  exact congrArg (fun t => x0 (ix3 b t (hc h d))) (Fin.ext (by have := n.isLt; have := i.isLt; simp only [tk, Fin.ofNat]; omega))

theorem v326_eq (b : Fin 2) (n : Fin 16) (h : Fin 4) (i d : Fin 128) : val_main_v326 (F := Ideal) x0 (ix5 b n h i d) = O x0 b h (n.val + 2) i d := by
  unfold val_main_v326 val_main_v325 val_main_v324 val_main_v322
  refine (chunk16 _ b n h i d).trans ?_
  refine (lastRows _ b _ h d).trans ((heads x0 b _ h d).trans ?_)
  exact congrArg (fun t => x0 (ix3 b t (hc h d))) (Fin.ext (by have := n.isLt; have := i.isLt; simp only [tk, Fin.ofNat]; omega))

theorem v13_eq (b : Fin 2) (t : Fin 2048) (h : Fin 4) (d : Fin 128) : val_main_v13 (F := Ideal) x1 (ix4 b t h d) = x1 (ix3 b (Fin.ofNat 2304 (256 + t.val)) (pc 0 h d)) := by
  have h0 := v7_eq x1
  unfold val_main_v13
  generalize val_main_v7 (F := Ideal) x1 = y0 at h0 ⊢
  exact (lastRows y0 b _ h d).trans (h0 _ _ _ _)

theorem v15_eq (b : Fin 2) (t : Fin 2048) (h : Fin 4) (d : Fin 128) : val_main_v15 (F := Ideal) x1 (ix4 b t h d) = x1 (ix3 b (Fin.ofNat 2304 (256 + t.val)) (pc 512 h d)) * scale := by
  have h0 := v10_eq x1
  unfold val_main_v15
  generalize val_main_v10 (F := Ideal) x1 = y0 at h0 ⊢
  exact (lastRows y0 b _ h d).trans (h0 _ _ _ _)

theorem v188_eq (b : Fin 2) (n : Fin 16) (h : Fin 4) (i d : Fin 128) : val_main_v188 (F := Ideal) x1 x2 x3 x4 x5 (ix5 b n h i d) = Q x1 x2 x3 x4 x5 b h (n.val + 2) i d := by
  have h0 := v127_eq x1 x2 x3 x4 x5
  unfold val_main_v188 val_main_v187
  generalize val_main_v127 (F := Ideal) x1 x2 x3 x4 x5 = y0 at h0 ⊢
  refine (chunk16 _ b n h i d).trans ((h0 _ _ _ _).trans ?_)
  have e : Fin.ofNat 2304 (256 + (Fin.ofNat 2048 (n.val * 128 + i.val)).val) = tk (n.val + 2) i := Fin.ext (by have := n.isLt; have := i.isLt; simp only [tk, Fin.ofNat]; omega)
  rw [v13_eq, v13_eq, e, Q, rot, cs_x, sn_x]
  rfl

theorem v190_eq (b : Fin 2) (n : Fin 16) (h : Fin 4) (i d : Fin 128) : val_main_v190 (F := Ideal) x1 x2 x3 x4 x5 (ix5 b n h i d) = K x1 x2 x3 x4 x5 b h (n.val + 2) i d := by
  have h0 := v160_eq x1 x2 x3 x4 x5
  unfold val_main_v190 val_main_v189
  generalize val_main_v160 (F := Ideal) x1 x2 x3 x4 x5 = y0 at h0 ⊢
  refine (chunk16 _ b n h i d).trans ((h0 _ _ _ _).trans ?_)
  have e : Fin.ofNat 2304 (256 + (Fin.ofNat 2048 (n.val * 128 + i.val)).val) = tk (n.val + 2) i := Fin.ext (by have := n.isLt; have := i.isLt; simp only [tk, Fin.ofNat]; omega)
  rw [v15_eq, v15_eq, e, K, rot, cs_x, sn_x]
  rfl

end Cert.ReferenceIdeal.Chunks

end
-- ==== Proof.Retention.Tables.lean ====
/-
  The cosine and sine tables and the padded row of decays at an index, when the kernel call is entered.
-/
module

public import proofs.«01_k».proof.Proof.Retention.Host
public import proofs.«01_k».proof.Proof.Retention.RefParts
public import Idealize.ShloMosaic.Lib.KernelVsHost

@[expose] public section

set_option maxRecDepth 16384

noncomputable section

namespace Cert.KernelIdeal.HostLines

open Cert.KernelIdeal Cert.KernelIdeal.Gen Idealize.ShloMosaic Idealize.ShloMosaic.TcCoe Cert.Retention

variable (m : (ℓ : Loc nD τ sig) → Buf (Elt Ideal) ℓ) (c : Dev nD)

/-- The launched arguments. -/
abbrev a0 : (⟨S2x2304x512, .f32⟩ : BufTy).Contents (Elt Ideal) := m ((c : Thread nD τ).loc main_arg0)
@[inherit_doc a0] abbrev a1 : (⟨S2x2304x3840, .f32⟩ : BufTy).Contents (Elt Ideal) := m ((c : Thread nD τ).loc main_arg1)
@[inherit_doc a0] abbrev a2 : (⟨S2048x32, .f32⟩ : BufTy).Contents (Elt Ideal) := m ((c : Thread nD τ).loc main_arg2)
@[inherit_doc a0] abbrev a3 : (⟨S2048x32, .f32⟩ : BufTy).Contents (Elt Ideal) := m ((c : Thread nD τ).loc main_arg3)
@[inherit_doc a0] abbrev a4 : (⟨S2048x32, .f32⟩ : BufTy).Contents (Elt Ideal) := m ((c : Thread nD τ).loc main_arg4)
@[inherit_doc a0] abbrev a5 : (⟨S2048x32, .f32⟩ : BufTy).Contents (Elt Ideal) := m ((c : Thread nD τ).loc main_arg5)
@[inherit_doc a0] abbrev a6 : (⟨S4, .f32⟩ : BufTy).Contents (Elt Ideal) := m ((c : Thread nD τ).loc main_arg6)

/-! ## Concatenations at an index -/

/-- Four tables of 32 columns side by side. -/
theorem cat4 (y : Fin 4 → FVec Ideal S2048x32 .f32) (hc) (t : Fin 2048) (d : Fin 128) :
    concatenate S2048x128 1 [⟨S2048x32, y 0⟩, ⟨S2048x32, y 1⟩, ⟨S2048x32, y 2⟩, ⟨S2048x32, y 3⟩] hc (ix2 t d)
      = y (Fin.ofNat 4 (d.val / 32)) (ix2 t (Fin.ofNat 32 d.val)) :=
  concatenate_ofFn_apply 1 y hc rfl 32 rfl (ix2 t d) (Fin.ofNat 4 (d.val / 32))
    (by have := d.isLt; show d.val / 32 = d.val / 32 % 4; omega) (ix2 t (Fin.ofNat 32 d.val)) rfl
    (fun a => match a with | ⟨0, _⟩ => fun _ => rfl | ⟨1, _⟩ => fun q => absurd rfl q)

/-- The first 256 rows are the first piece's. -/
theorem rows_ctx (x : FVec Ideal S256x128 .f32) (y : FVec Ideal S2048x128 .f32) (hc) (n : ℕ) (hn : n < 2) (i d : Fin 128) :
    concatenate S2304x128 0 [⟨S256x128, x⟩, ⟨S2048x128, y⟩] hc (ix2 (Fin.ofNat 2304 (n * 128 + i.val)) d)
      = x (ix2 (Fin.ofNat 256 (n * 128 + i.val)) d) :=
  concatenate_pair_apply_left 0 x y hc _ rfl _ (fun a => match a with
    | ⟨0, _⟩ => by have := i.isLt; show (n * 128 + i.val) % 256 = (n * 128 + i.val) % 2304; omega
    | ⟨1, _⟩ => rfl)

/-- The rows after them are the second piece's. -/
theorem rows_x (x : FVec Ideal S256x128 .f32) (y : FVec Ideal S2048x128 .f32) (hc) (n : ℕ) (hn : ¬ n < 2) (hn' : n < 18) (i d : Fin 128) :
    concatenate S2304x128 0 [⟨S256x128, x⟩, ⟨S2048x128, y⟩] hc (ix2 (Fin.ofNat 2304 (n * 128 + i.val)) d)
      = y (ix2 (Fin.ofNat 2048 ((n - 2) * 128 + i.val)) d) :=
  concatenate_pair_apply_right 0 x y hc _ rfl rfl _ (fun a => match a with
    | ⟨0, _⟩ => fun q => absurd rfl q
    | ⟨1, _⟩ => fun _ => rfl)
    (by have := i.isLt; show ((n - 2) * 128 + i.val) % 2048 + 256 = (n * 128 + i.val) % 2304; omega)

/-! ## The tables -/

theorem one_f32 : Ideal.ofBits .f32 0x3F800000#32 = 1 := by
  simp [Ideal.ofBits, Ideal.ieee]
  rw [← EReal.coe_mul]
  norm_num

theorem v0_eq : V m c main_v0 = (concatenate S2048x128 1 [⟨S2048x32, a2 m c⟩, ⟨S2048x32, a2 m c⟩, ⟨S2048x32, a4 m c⟩, ⟨S2048x32, a4 m c⟩]
    concatenates_S2048x32_S2048x32_S2048x32_S2048x32_S2048x128_d1 : (⟨S2048x128, .f32⟩ : BufTy).Contents (Elt Ideal)) := by
  refine (readN m c (i := 0) rfl (by decide +kernel) (by decide +kernel)).trans ?_
  exact StableHlo.concatenate_congr (xs := [⟨S2048x32, V m c main_arg2⟩, ⟨S2048x32, V m c main_arg2⟩, ⟨S2048x32, V m c main_arg4⟩, ⟨S2048x32, V m c main_arg4⟩])
    _ _ (by rw [V_main_arg2 m c, V_main_arg4 m c]) _ _

theorem v1_eq : V m c main_v1 = (Host.negf (a3 m c : FVec Ideal S2048x32 .f32) : FVec Ideal S2048x32 .f32) :=
  read1 m c (i := 1) rfl (by decide +kernel) (by decide +kernel) (V_main_arg3 m c)

theorem v2_eq : V m c main_v2 = (Host.negf (a5 m c : FVec Ideal S2048x32 .f32) : FVec Ideal S2048x32 .f32) :=
  read1 m c (i := 2) rfl (by decide +kernel) (by decide +kernel) (V_main_arg5 m c)

theorem v3_eq : V m c main_v3 = (concatenate S2048x128 1 [⟨S2048x32, (Host.negf (a3 m c : FVec Ideal S2048x32 .f32) : FVec Ideal S2048x32 .f32)⟩, ⟨S2048x32, a3 m c⟩,
      ⟨S2048x32, (Host.negf (a5 m c : FVec Ideal S2048x32 .f32) : FVec Ideal S2048x32 .f32)⟩, ⟨S2048x32, a5 m c⟩]
    concatenates_S2048x32_S2048x32_S2048x32_S2048x32_S2048x128_d1 : (⟨S2048x128, .f32⟩ : BufTy).Contents (Elt Ideal)) := by
  refine (readN m c (i := 3) rfl (by decide +kernel) (by decide +kernel)).trans ?_
  exact StableHlo.concatenate_congr (xs := [⟨S2048x32, V m c main_v1⟩, ⟨S2048x32, V m c main_arg3⟩, ⟨S2048x32, V m c main_v2⟩, ⟨S2048x32, V m c main_arg5⟩])
    _ _ (by rw [v1_eq, v2_eq, V_main_arg3 m c, V_main_arg5 m c]) _ _

theorem v4_eq : V m c main_v4 = (broadcastInDim S256x128 ![] bcast_S_S256x128 (constant (F := Ideal) S_ .f32 0x3F800000#32) : (⟨S256x128, .f32⟩ : BufTy).Contents (Elt Ideal)) :=
  read1 m c (i := 5) rfl (by decide +kernel) (by decide +kernel) (read0 m c (i := 4) rfl (by decide +kernel))

theorem v6_eq : V m c main_v6 = (broadcastInDim S256x128 ![] bcast_S_S256x128 (constant (F := Ideal) S_ .f32 0x00000000#32) : (⟨S256x128, .f32⟩ : BufTy).Contents (Elt Ideal)) :=
  read1 m c (i := 8) rfl (by decide +kernel) (by decide +kernel) (read0 m c (i := 7) rfl (by decide +kernel))

/-- The concatenated cosines are the four tables of Spec.lean. -/
theorem v0_apply (t : Fin 2048) (d : Fin 128) : V m c main_v0 (ix2 t d) = Cert.ReferenceIdeal.Chunks.csT (a2 m c) (a4 m c) t d := by
  rw [v0_eq]
  refine (cat4 ![a2 m c, a2 m c, a4 m c, a4 m c] _ t d).trans ?_
  have hd := d.isLt
  unfold Cert.ReferenceIdeal.Chunks.csT
  rcases (by omega : d.val / 32 = 0 ∨ d.val / 32 = 1 ∨ d.val / 32 = 2 ∨ d.val / 32 = 3) with e | e | e | e <;> rw [e]
  · rw [if_pos (by omega)]; rfl
  · rw [if_pos (by omega)]; rfl
  · rw [if_neg (by omega)]; rfl
  · rw [if_neg (by omega)]; rfl

/-- The concatenated sines, the first and third table negated. -/
theorem v3_apply (t : Fin 2048) (d : Fin 128) : V m c main_v3 (ix2 t d) = Cert.ReferenceIdeal.Chunks.snT (a3 m c) (a5 m c) t d := by
  rw [v3_eq]
  refine (cat4 ![(Host.negf (a3 m c : FVec Ideal S2048x32 .f32) : FVec Ideal S2048x32 .f32), a3 m c,
    (Host.negf (a5 m c : FVec Ideal S2048x32 .f32) : FVec Ideal S2048x32 .f32), a5 m c] _ t d).trans ?_
  have hd := d.isLt
  unfold Cert.ReferenceIdeal.Chunks.snT
  rcases (by omega : d.val / 32 = 0 ∨ d.val / 32 = 1 ∨ d.val / 32 = 2 ∨ d.val / 32 = 3) with e | e | e | e <;> rw [e]
  · rw [if_pos (by omega), if_pos (by omega)]; rfl
  · rw [if_pos (by omega), if_neg (by omega)]; rfl
  · rw [if_neg (by omega), if_pos (by omega)]; rfl
  · rw [if_neg (by omega), if_neg (by omega)]; rfl

/-- The cosine window's array: rows of chunk `n`. -/
theorem v5_apply (n : ℕ) (hn : n < 18) (i d : Fin 128) :
    V m c main_v5 (ix2 (Fin.ofNat 2304 (n * 128 + i.val)) d) = cs (a2 m c) (a4 m c) n i d := by
  rw [read2 m c (y := main_v5) (i := 6) rfl (by decide +kernel) (by decide +kernel) (by decide +kernel) (v4_eq m c) rfl]
  by_cases h : n < 2
  · exact (rows_ctx _ _ _ n h i d).trans (((broadcastInDim_apply _ _ _ _ ix0 (fun a => a.elim0)).trans one_f32).trans (if_pos h).symm)
  · refine (rows_x _ _ _ n h hn i d).trans ((v0_apply m c _ d).trans (if_neg h).symm)

/-- The sine window's array: rows of chunk `n`. -/
theorem v7_apply (n : ℕ) (hn : n < 18) (i d : Fin 128) :
    V m c main_v7 (ix2 (Fin.ofNat 2304 (n * 128 + i.val)) d) = sn (a3 m c) (a5 m c) n i d := by
  rw [read2 m c (y := main_v7) (i := 9) rfl (by decide +kernel) (by decide +kernel) (by decide +kernel) (v6_eq m c) rfl]
  by_cases h : n < 2
  · exact (rows_ctx _ _ _ n h i d).trans (((broadcastInDim_apply _ _ _ _ ix0 (fun a => a.elim0)).trans Ideal.ofBits_zero_f32).trans (if_pos h).symm)
  · refine (rows_x _ _ _ n h hn i d).trans ((v3_apply m c _ d).trans (if_neg h).symm)

/-- The row of decays: column `h` is head `h`'s. -/
theorem v9_apply (h : Fin 4) : V m c main_v9 (ix2 0 (Fin.ofNat 128 h.val)) = a6 m c (ix1 h) := by
  refine (congrFun (read2 m c (y := main_v9) (i := 13) rfl (by decide +kernel) (by decide +kernel) (by decide +kernel)
    (read1 m c (i := 10) rfl (by decide +kernel) (by decide +kernel) (V_main_arg6 m c)) rfl) _).trans ?_
  refine Eq.trans (b := pad S1x128 ![0, 0] ![0, 124] ![0, 0] (broadcastInDim S1x4 ![1] bcast_S4_S1x4_1 (a6 m c))
    (V m c main_call0_v0 : FVec Ideal S_ .f32) pads_S1x4_S1x128_000_01240 h_S_ (ix2 0 (Fin.ofNat 128 h.val))) rfl ?_
  refine (pad_apply_of_inside _ _ _ _ _ _ _ _ (ix2 0 h) (fun a => match a with
    | ⟨0, _⟩ => rfl
    | ⟨1, _⟩ => by have := h.isLt; show h.val % 128 = 0 + h.val * (0 + 1); omega)).trans ?_
  exact broadcastInDim_apply _ _ _ _ (ix1 h) (fun a => match a with | ⟨0, _⟩ => rfl)

end Cert.KernelIdeal.HostLines

end
-- ==== Proof.Retention.RefChunks.lean ====
/-
  The reference's products, states, cotangents of the states and gradients, chunk by chunk, at an index, in the vocabulary of Spec.lean.
-/
module

public import proofs.«01_k».proof.Proof.Gen.ReferenceIdeal.Read
public import proofs.«01_k».proof.Proof.Retention.RefParts

@[expose] public section

noncomputable section

namespace Cert.ReferenceIdeal.Chunks

open Cert.ReferenceIdeal Cert.ReferenceIdeal.Gen Cert.ReferenceIdeal.Read Idealize.ShloMosaic Idealize.ShloMosaic.TcCoe Cert.Retention

variable (x0 : (⟨S2x2304x512, .f32⟩ : BufTy).Contents (Elt Ideal)) (x1 : (⟨S2x2304x3840, .f32⟩ : BufTy).Contents (Elt Ideal))
  (x2 x3 x4 x5 : (⟨S2048x32, .f32⟩ : BufTy).Contents (Elt Ideal)) (x6 : (⟨S4, .f32⟩ : BufTy).Contents (Elt Ideal))

/-! ## Products within chunks -/

theorem v65_eq (b : Fin 2) (n : Fin 2) (h : Fin 4) (i j : Fin 128) :
    val_main_v65 (F := Ideal) x6 (ix5 b n h i j) = kexp (lg x6 h) i :=
  (row2 (val_main_v59 (F := Ideal) x6) b n h i j).trans (v59_eq x6 h i)

theorem v66_eq (b : Fin 2) (n : Fin 2) (h : Fin 4) (i j : Fin 128) :
    val_main_v66 (F := Ideal) x1 x6 (ix5 b n h i j) = K x1 x2 x3 x4 x5 b h n.val i j * kexp (lg x6 h) i :=
  congrArg₂ (· * ·) (v48_eq x1 x2 x3 x4 x5 b n h i j) (v65_eq x6 b n h i j)

theorem v67_eq (b : Fin 2) (n : Fin 2) (h : Fin 4) (i j : Fin 128) :
    val_main_v67 (F := Ideal) x1 x6 (ix5 b n h i j) = ∑ k, (K x1 x2 x3 x4 x5 b h n.val k i * kexp (lg x6 h) k) * P x1 1024 b h n.val k j :=
  (dotA2 (val_main_v66 (F := Ideal) x1 x6) (val_main_v50 (F := Ideal) x1) b n h i j).trans
    (Finset.sum_congr rfl fun k _ => congrArg₂ (· * ·) (v66_eq x1 x2 x3 x4 x5 x6 b n h k i) (v50_eq x1 b n h k j))

theorem v82_eq (b : Fin 2) (n : Fin 2) (h : Fin 4) (i j : Fin 128) :
    val_main_v82 (F := Ideal) x6 (ix5 b n h i j) = decay (lg x6 h) i j :=
  (mat2 (val_main_v36 (F := Ideal) x6) b n h i j).trans (v36_eq x6 h i j)

theorem v80_eq (b : Fin 2) (n : Fin 2) (h : Fin 4) (i j : Fin 128) :
    val_main_v80 (F := Ideal) x1 (ix5 b n h i j) = ∑ k, Q x1 x2 x3 x4 x5 b h n.val i k * K x1 x2 x3 x4 x5 b h n.val j k :=
  (dotB2 (val_main_v46 (F := Ideal) x1) (val_main_v48 (F := Ideal) x1) b n h i j).trans
    (Finset.sum_congr rfl fun k _ => congrArg₂ (· * ·) (v46_eq x1 x2 x3 x4 x5 b n h i k) (v48_eq x1 x2 x3 x4 x5 b n h j k))

/-- Scores. -/
theorem v83_eq (b : Fin 2) (n : Fin 2) (h : Fin 4) (i j : Fin 128) :
    val_main_v83 (F := Ideal) x1 x6 (ix5 b n h i j) = scores (lg x6 h) (Q x1 x2 x3 x4 x5 b h n.val) (K x1 x2 x3 x4 x5 b h n.val) i j :=
  congrArg₂ (· * ·) (v80_eq x1 x2 x3 x4 x5 b n h i j) (v82_eq x6 b n h i j)

theorem v87_eq (b : Fin 2) (n : Fin 2) (h : Fin 4) (i j : Fin 128) :
    val_main_v87 (F := Ideal) x6 (ix5 b n h i j) = qexp (lg x6 h) i :=
  (row2 (val_main_v44 (F := Ideal) x6) b n h i j).trans (v44_eq x6 h i)

theorem v88_eq (b : Fin 2) (n : Fin 2) (h : Fin 4) (i j : Fin 128) :
    val_main_v88 (F := Ideal) x1 x6 (ix5 b n h i j) = Q x1 x2 x3 x4 x5 b h n.val i j * qexp (lg x6 h) i :=
  congrArg₂ (· * ·) (v46_eq x1 x2 x3 x4 x5 b n h i j) (v87_eq x6 b n h i j)

theorem v207_eq (b : Fin 2) (n : Fin 16) (h : Fin 4) (i j : Fin 128) :
    val_main_v207 (F := Ideal) x6 (ix5 b n h i j) = kexp (lg x6 h) i :=
  (row16 (val_main_v201 (F := Ideal) x6) b n h i j).trans (v201_eq x6 h i)

theorem v208_eq (b : Fin 2) (n : Fin 16) (h : Fin 4) (i j : Fin 128) :
    val_main_v208 (F := Ideal) x1 x2 x3 x4 x5 x6 (ix5 b n h i j) = K x1 x2 x3 x4 x5 b h (n.val + 2) i j * kexp (lg x6 h) i :=
  congrArg₂ (· * ·) (v190_eq x1 x2 x3 x4 x5 b n h i j) (v207_eq x6 b n h i j)

theorem v209_eq (b : Fin 2) (n : Fin 16) (h : Fin 4) (i j : Fin 128) :
    val_main_v209 (F := Ideal) x1 x2 x3 x4 x5 x6 (ix5 b n h i j) = ∑ k, (K x1 x2 x3 x4 x5 b h (n.val + 2) k i * kexp (lg x6 h) k) * P x1 1024 b h (n.val + 2) k j :=
  (dotA16 (val_main_v208 (F := Ideal) x1 x2 x3 x4 x5 x6) (val_main_v192 (F := Ideal) x1) b n h i j).trans
    (Finset.sum_congr rfl fun k _ => congrArg₂ (· * ·) (v208_eq x1 x2 x3 x4 x5 x6 b n h k i) (v192_eq x1 b n h k j))

theorem v308_eq (b : Fin 2) (n : Fin 16) (h : Fin 4) (i j : Fin 128) :
    val_main_v308 (F := Ideal) x6 (ix5 b n h i j) = decay (lg x6 h) i j :=
  (mat16 (val_main_v178 (F := Ideal) x6) b n h i j).trans (v178_eq x6 h i j)

theorem v306_eq (b : Fin 2) (n : Fin 16) (h : Fin 4) (i j : Fin 128) :
    val_main_v306 (F := Ideal) x1 x2 x3 x4 x5 (ix5 b n h i j) = ∑ k, Q x1 x2 x3 x4 x5 b h (n.val + 2) i k * K x1 x2 x3 x4 x5 b h (n.val + 2) j k :=
  (dotB16 (val_main_v188 (F := Ideal) x1 x2 x3 x4 x5) (val_main_v190 (F := Ideal) x1 x2 x3 x4 x5) b n h i j).trans
    (Finset.sum_congr rfl fun k _ => congrArg₂ (· * ·) (v188_eq x1 x2 x3 x4 x5 b n h i k) (v190_eq x1 x2 x3 x4 x5 b n h j k))

/-- Scores. -/
theorem v309_eq (b : Fin 2) (n : Fin 16) (h : Fin 4) (i j : Fin 128) :
    val_main_v309 (F := Ideal) x1 x2 x3 x4 x5 x6 (ix5 b n h i j) = scores (lg x6 h) (Q x1 x2 x3 x4 x5 b h (n.val + 2)) (K x1 x2 x3 x4 x5 b h (n.val + 2)) i j :=
  congrArg₂ (· * ·) (v306_eq x1 x2 x3 x4 x5 b n h i j) (v308_eq x6 b n h i j)

theorem v313_eq (b : Fin 2) (n : Fin 16) (h : Fin 4) (i j : Fin 128) :
    val_main_v313 (F := Ideal) x6 (ix5 b n h i j) = qexp (lg x6 h) i :=
  (row16 (val_main_v186 (F := Ideal) x6) b n h i j).trans (v186_eq x6 h i)

theorem v314_eq (b : Fin 2) (n : Fin 16) (h : Fin 4) (i j : Fin 128) :
    val_main_v314 (F := Ideal) x1 x2 x3 x4 x5 x6 (ix5 b n h i j) = Q x1 x2 x3 x4 x5 b h (n.val + 2) i j * qexp (lg x6 h) i :=
  congrArg₂ (· * ·) (v188_eq x1 x2 x3 x4 x5 b n h i j) (v313_eq x6 b n h i j)

/-! ## States -/

/-- The state before the first chunk. -/
theorem v18_eq (b : Fin 2) (h : Fin 4) (i j : Fin 128) : val_main_v18 (F := Ideal) (ix5 b 0 h i j) = St x1 x2 x3 x4 x5 x6 b h 0 i j := by
  unfold val_main_v18 val_main_cst_0
  exact (broadcastInDim_apply _ _ _ _ ix0 (fun a => a.elim0)).trans Ideal.ofBits_zero_f32

theorem v68_eq (b : Fin 2) (h : Fin 4) (i j : Fin 128) :
    val_main_v68 (F := Ideal) x1 x6 (ix5 b 0 h i j) = ∑ k, (K x1 x2 x3 x4 x5 b h 0 k i * kexp (lg x6 h) k) * P x1 1024 b h 0 k j :=
  (pick2 (val_main_v67 (F := Ideal) x1 x6) 0 _ 0 rfl b h i j).trans (v67_eq x1 x2 x3 x4 x5 x6 b 0 h i j)

theorem v69_eq (b : Fin 2) (h : Fin 4) (i j : Fin 128) :
    val_main_v69 (F := Ideal) x1 x6 (ix5 b 0 h i j) = ∑ k, (K x1 x2 x3 x4 x5 b h 1 k i * kexp (lg x6 h) k) * P x1 1024 b h 1 k j :=
  (pick2 (val_main_v67 (F := Ideal) x1 x6) 1 _ 1 rfl b h i j).trans (v67_eq x1 x2 x3 x4 x5 x6 b 1 h i j)

theorem v72_eq (b : Fin 2) (h : Fin 4) (i j : Fin 128) :
    val_main_v72 (F := Ideal) x6 (ix5 b 0 h i j) = cexp (lg x6 h) :=
  (num (val_main_v62 (F := Ideal) x6) b h i j).trans (v62_eq x6 h)

theorem v77_eq (b : Fin 2) (h : Fin 4) (i j : Fin 128) :
    val_main_v77 (F := Ideal) x6 (ix5 b 0 h i j) = cexp (lg x6 h) :=
  (num (val_main_v62 (F := Ideal) x6) b h i j).trans (v62_eq x6 h)

theorem v73_eq (b : Fin 2) (h : Fin 4) (i j : Fin 128) :
    val_main_v73 (F := Ideal) x6 (ix5 b 0 h i j) = St x1 x2 x3 x4 x5 x6 b h 0 i j * cexp (lg x6 h) :=
  congrArg₂ (· * ·) (v18_eq x1 x2 x3 x4 x5 x6 b h i j) (v72_eq x6 b h i j)

theorem v74_eq (b : Fin 2) (h : Fin 4) (i j : Fin 128) :
    val_main_v74 (F := Ideal) x1 x6 (ix5 b 0 h i j) = St x1 x2 x3 x4 x5 x6 b h 1 i j :=
  congrArg₂ (· + ·) (v73_eq x1 x2 x3 x4 x5 x6 b h i j) (v68_eq x1 x2 x3 x4 x5 x6 b h i j)

theorem v78_eq (b : Fin 2) (h : Fin 4) (i j : Fin 128) :
    val_main_v78 (F := Ideal) x1 x6 (ix5 b 0 h i j) = St x1 x2 x3 x4 x5 x6 b h 1 i j * cexp (lg x6 h) :=
  congrArg₂ (· * ·) (v74_eq x1 x2 x3 x4 x5 x6 b h i j) (v77_eq x6 b h i j)

theorem v79_eq (b : Fin 2) (h : Fin 4) (i j : Fin 128) :
    val_main_v79 (F := Ideal) x1 x6 (ix5 b 0 h i j) = St x1 x2 x3 x4 x5 x6 b h 2 i j :=
  congrArg₂ (· + ·) (v78_eq x1 x2 x3 x4 x5 x6 b h i j) (v69_eq x1 x2 x3 x4 x5 x6 b h i j)

theorem v210_eq (b : Fin 2) (h : Fin 4) (i j : Fin 128) :
    val_main_v210 (F := Ideal) x1 x2 x3 x4 x5 x6 (ix5 b 0 h i j) = ∑ k, (K x1 x2 x3 x4 x5 b h 2 k i * kexp (lg x6 h) k) * P x1 1024 b h 2 k j :=
  (pick16 (val_main_v209 (F := Ideal) x1 x2 x3 x4 x5 x6) 0 _ 0 rfl b h i j).trans (v209_eq x1 x2 x3 x4 x5 x6 b 0 h i j)

theorem v228_eq (b : Fin 2) (h : Fin 4) (i j : Fin 128) :
    val_main_v228 (F := Ideal) x6 (ix5 b 0 h i j) = cexp (lg x6 h) :=
  (num (val_main_v204 (F := Ideal) x6) b h i j).trans (v204_eq x6 h)

theorem v229_eq (b : Fin 2) (h : Fin 4) (i j : Fin 128) :
    val_main_v229 (F := Ideal) x1 x6 (ix5 b 0 h i j) = St x1 x2 x3 x4 x5 x6 b h 2 i j * cexp (lg x6 h) :=
  congrArg₂ (· * ·) (v79_eq x1 x2 x3 x4 x5 x6 b h i j) (v228_eq x6 b h i j)

theorem v230_eq (b : Fin 2) (h : Fin 4) (i j : Fin 128) :
    val_main_v230 (F := Ideal) x1 x2 x3 x4 x5 x6 (ix5 b 0 h i j) = St x1 x2 x3 x4 x5 x6 b h 3 i j :=
  congrArg₂ (· + ·) (v229_eq x1 x2 x3 x4 x5 x6 b h i j) (v210_eq x1 x2 x3 x4 x5 x6 b h i j)

theorem v211_eq (b : Fin 2) (h : Fin 4) (i j : Fin 128) :
    val_main_v211 (F := Ideal) x1 x2 x3 x4 x5 x6 (ix5 b 0 h i j) = ∑ k, (K x1 x2 x3 x4 x5 b h 3 k i * kexp (lg x6 h) k) * P x1 1024 b h 3 k j :=
  (pick16 (val_main_v209 (F := Ideal) x1 x2 x3 x4 x5 x6) 1 _ 1 rfl b h i j).trans (v209_eq x1 x2 x3 x4 x5 x6 b 1 h i j)

theorem v233_eq (b : Fin 2) (h : Fin 4) (i j : Fin 128) :
    val_main_v233 (F := Ideal) x6 (ix5 b 0 h i j) = cexp (lg x6 h) :=
  (num (val_main_v204 (F := Ideal) x6) b h i j).trans (v204_eq x6 h)

theorem v234_eq (b : Fin 2) (h : Fin 4) (i j : Fin 128) :
    val_main_v234 (F := Ideal) x1 x2 x3 x4 x5 x6 (ix5 b 0 h i j) = St x1 x2 x3 x4 x5 x6 b h 3 i j * cexp (lg x6 h) :=
  congrArg₂ (· * ·) (v230_eq x1 x2 x3 x4 x5 x6 b h i j) (v233_eq x6 b h i j)

theorem v235_eq (b : Fin 2) (h : Fin 4) (i j : Fin 128) :
    val_main_v235 (F := Ideal) x1 x2 x3 x4 x5 x6 (ix5 b 0 h i j) = St x1 x2 x3 x4 x5 x6 b h 4 i j :=
  congrArg₂ (· + ·) (v234_eq x1 x2 x3 x4 x5 x6 b h i j) (v211_eq x1 x2 x3 x4 x5 x6 b h i j)

theorem v212_eq (b : Fin 2) (h : Fin 4) (i j : Fin 128) :
    val_main_v212 (F := Ideal) x1 x2 x3 x4 x5 x6 (ix5 b 0 h i j) = ∑ k, (K x1 x2 x3 x4 x5 b h 4 k i * kexp (lg x6 h) k) * P x1 1024 b h 4 k j :=
  (pick16 (val_main_v209 (F := Ideal) x1 x2 x3 x4 x5 x6) 2 _ 2 rfl b h i j).trans (v209_eq x1 x2 x3 x4 x5 x6 b 2 h i j)

theorem v238_eq (b : Fin 2) (h : Fin 4) (i j : Fin 128) :
    val_main_v238 (F := Ideal) x6 (ix5 b 0 h i j) = cexp (lg x6 h) :=
  (num (val_main_v204 (F := Ideal) x6) b h i j).trans (v204_eq x6 h)

theorem v239_eq (b : Fin 2) (h : Fin 4) (i j : Fin 128) :
    val_main_v239 (F := Ideal) x1 x2 x3 x4 x5 x6 (ix5 b 0 h i j) = St x1 x2 x3 x4 x5 x6 b h 4 i j * cexp (lg x6 h) :=
  congrArg₂ (· * ·) (v235_eq x1 x2 x3 x4 x5 x6 b h i j) (v238_eq x6 b h i j)

theorem v240_eq (b : Fin 2) (h : Fin 4) (i j : Fin 128) :
    val_main_v240 (F := Ideal) x1 x2 x3 x4 x5 x6 (ix5 b 0 h i j) = St x1 x2 x3 x4 x5 x6 b h 5 i j :=
  congrArg₂ (· + ·) (v239_eq x1 x2 x3 x4 x5 x6 b h i j) (v212_eq x1 x2 x3 x4 x5 x6 b h i j)

theorem v213_eq (b : Fin 2) (h : Fin 4) (i j : Fin 128) :
    val_main_v213 (F := Ideal) x1 x2 x3 x4 x5 x6 (ix5 b 0 h i j) = ∑ k, (K x1 x2 x3 x4 x5 b h 5 k i * kexp (lg x6 h) k) * P x1 1024 b h 5 k j :=
  (pick16 (val_main_v209 (F := Ideal) x1 x2 x3 x4 x5 x6) 3 _ 3 rfl b h i j).trans (v209_eq x1 x2 x3 x4 x5 x6 b 3 h i j)

theorem v243_eq (b : Fin 2) (h : Fin 4) (i j : Fin 128) :
    val_main_v243 (F := Ideal) x6 (ix5 b 0 h i j) = cexp (lg x6 h) :=
  (num (val_main_v204 (F := Ideal) x6) b h i j).trans (v204_eq x6 h)

theorem v244_eq (b : Fin 2) (h : Fin 4) (i j : Fin 128) :
    val_main_v244 (F := Ideal) x1 x2 x3 x4 x5 x6 (ix5 b 0 h i j) = St x1 x2 x3 x4 x5 x6 b h 5 i j * cexp (lg x6 h) :=
  congrArg₂ (· * ·) (v240_eq x1 x2 x3 x4 x5 x6 b h i j) (v243_eq x6 b h i j)

theorem v245_eq (b : Fin 2) (h : Fin 4) (i j : Fin 128) :
    val_main_v245 (F := Ideal) x1 x2 x3 x4 x5 x6 (ix5 b 0 h i j) = St x1 x2 x3 x4 x5 x6 b h 6 i j :=
  congrArg₂ (· + ·) (v244_eq x1 x2 x3 x4 x5 x6 b h i j) (v213_eq x1 x2 x3 x4 x5 x6 b h i j)

theorem v214_eq (b : Fin 2) (h : Fin 4) (i j : Fin 128) :
    val_main_v214 (F := Ideal) x1 x2 x3 x4 x5 x6 (ix5 b 0 h i j) = ∑ k, (K x1 x2 x3 x4 x5 b h 6 k i * kexp (lg x6 h) k) * P x1 1024 b h 6 k j :=
  (pick16 (val_main_v209 (F := Ideal) x1 x2 x3 x4 x5 x6) 4 _ 4 rfl b h i j).trans (v209_eq x1 x2 x3 x4 x5 x6 b 4 h i j)

theorem v248_eq (b : Fin 2) (h : Fin 4) (i j : Fin 128) :
    val_main_v248 (F := Ideal) x6 (ix5 b 0 h i j) = cexp (lg x6 h) :=
  (num (val_main_v204 (F := Ideal) x6) b h i j).trans (v204_eq x6 h)

theorem v249_eq (b : Fin 2) (h : Fin 4) (i j : Fin 128) :
    val_main_v249 (F := Ideal) x1 x2 x3 x4 x5 x6 (ix5 b 0 h i j) = St x1 x2 x3 x4 x5 x6 b h 6 i j * cexp (lg x6 h) :=
  congrArg₂ (· * ·) (v245_eq x1 x2 x3 x4 x5 x6 b h i j) (v248_eq x6 b h i j)

theorem v250_eq (b : Fin 2) (h : Fin 4) (i j : Fin 128) :
    val_main_v250 (F := Ideal) x1 x2 x3 x4 x5 x6 (ix5 b 0 h i j) = St x1 x2 x3 x4 x5 x6 b h 7 i j :=
  congrArg₂ (· + ·) (v249_eq x1 x2 x3 x4 x5 x6 b h i j) (v214_eq x1 x2 x3 x4 x5 x6 b h i j)

theorem v215_eq (b : Fin 2) (h : Fin 4) (i j : Fin 128) :
    val_main_v215 (F := Ideal) x1 x2 x3 x4 x5 x6 (ix5 b 0 h i j) = ∑ k, (K x1 x2 x3 x4 x5 b h 7 k i * kexp (lg x6 h) k) * P x1 1024 b h 7 k j :=
  (pick16 (val_main_v209 (F := Ideal) x1 x2 x3 x4 x5 x6) 5 _ 5 rfl b h i j).trans (v209_eq x1 x2 x3 x4 x5 x6 b 5 h i j)

theorem v253_eq (b : Fin 2) (h : Fin 4) (i j : Fin 128) :
    val_main_v253 (F := Ideal) x6 (ix5 b 0 h i j) = cexp (lg x6 h) :=
  (num (val_main_v204 (F := Ideal) x6) b h i j).trans (v204_eq x6 h)

theorem v254_eq (b : Fin 2) (h : Fin 4) (i j : Fin 128) :
    val_main_v254 (F := Ideal) x1 x2 x3 x4 x5 x6 (ix5 b 0 h i j) = St x1 x2 x3 x4 x5 x6 b h 7 i j * cexp (lg x6 h) :=
  congrArg₂ (· * ·) (v250_eq x1 x2 x3 x4 x5 x6 b h i j) (v253_eq x6 b h i j)

theorem v255_eq (b : Fin 2) (h : Fin 4) (i j : Fin 128) :
    val_main_v255 (F := Ideal) x1 x2 x3 x4 x5 x6 (ix5 b 0 h i j) = St x1 x2 x3 x4 x5 x6 b h 8 i j :=
  congrArg₂ (· + ·) (v254_eq x1 x2 x3 x4 x5 x6 b h i j) (v215_eq x1 x2 x3 x4 x5 x6 b h i j)

theorem v216_eq (b : Fin 2) (h : Fin 4) (i j : Fin 128) :
    val_main_v216 (F := Ideal) x1 x2 x3 x4 x5 x6 (ix5 b 0 h i j) = ∑ k, (K x1 x2 x3 x4 x5 b h 8 k i * kexp (lg x6 h) k) * P x1 1024 b h 8 k j :=
  (pick16 (val_main_v209 (F := Ideal) x1 x2 x3 x4 x5 x6) 6 _ 6 rfl b h i j).trans (v209_eq x1 x2 x3 x4 x5 x6 b 6 h i j)

theorem v258_eq (b : Fin 2) (h : Fin 4) (i j : Fin 128) :
    val_main_v258 (F := Ideal) x6 (ix5 b 0 h i j) = cexp (lg x6 h) :=
  (num (val_main_v204 (F := Ideal) x6) b h i j).trans (v204_eq x6 h)

theorem v259_eq (b : Fin 2) (h : Fin 4) (i j : Fin 128) :
    val_main_v259 (F := Ideal) x1 x2 x3 x4 x5 x6 (ix5 b 0 h i j) = St x1 x2 x3 x4 x5 x6 b h 8 i j * cexp (lg x6 h) :=
  congrArg₂ (· * ·) (v255_eq x1 x2 x3 x4 x5 x6 b h i j) (v258_eq x6 b h i j)

theorem v260_eq (b : Fin 2) (h : Fin 4) (i j : Fin 128) :
    val_main_v260 (F := Ideal) x1 x2 x3 x4 x5 x6 (ix5 b 0 h i j) = St x1 x2 x3 x4 x5 x6 b h 9 i j :=
  congrArg₂ (· + ·) (v259_eq x1 x2 x3 x4 x5 x6 b h i j) (v216_eq x1 x2 x3 x4 x5 x6 b h i j)

theorem v217_eq (b : Fin 2) (h : Fin 4) (i j : Fin 128) :
    val_main_v217 (F := Ideal) x1 x2 x3 x4 x5 x6 (ix5 b 0 h i j) = ∑ k, (K x1 x2 x3 x4 x5 b h 9 k i * kexp (lg x6 h) k) * P x1 1024 b h 9 k j :=
  (pick16 (val_main_v209 (F := Ideal) x1 x2 x3 x4 x5 x6) 7 _ 7 rfl b h i j).trans (v209_eq x1 x2 x3 x4 x5 x6 b 7 h i j)

theorem v263_eq (b : Fin 2) (h : Fin 4) (i j : Fin 128) :
    val_main_v263 (F := Ideal) x6 (ix5 b 0 h i j) = cexp (lg x6 h) :=
  (num (val_main_v204 (F := Ideal) x6) b h i j).trans (v204_eq x6 h)

theorem v264_eq (b : Fin 2) (h : Fin 4) (i j : Fin 128) :
    val_main_v264 (F := Ideal) x1 x2 x3 x4 x5 x6 (ix5 b 0 h i j) = St x1 x2 x3 x4 x5 x6 b h 9 i j * cexp (lg x6 h) :=
  congrArg₂ (· * ·) (v260_eq x1 x2 x3 x4 x5 x6 b h i j) (v263_eq x6 b h i j)

theorem v265_eq (b : Fin 2) (h : Fin 4) (i j : Fin 128) :
    val_main_v265 (F := Ideal) x1 x2 x3 x4 x5 x6 (ix5 b 0 h i j) = St x1 x2 x3 x4 x5 x6 b h 10 i j :=
  congrArg₂ (· + ·) (v264_eq x1 x2 x3 x4 x5 x6 b h i j) (v217_eq x1 x2 x3 x4 x5 x6 b h i j)

theorem v218_eq (b : Fin 2) (h : Fin 4) (i j : Fin 128) :
    val_main_v218 (F := Ideal) x1 x2 x3 x4 x5 x6 (ix5 b 0 h i j) = ∑ k, (K x1 x2 x3 x4 x5 b h 10 k i * kexp (lg x6 h) k) * P x1 1024 b h 10 k j :=
  (pick16 (val_main_v209 (F := Ideal) x1 x2 x3 x4 x5 x6) 8 _ 8 rfl b h i j).trans (v209_eq x1 x2 x3 x4 x5 x6 b 8 h i j)

theorem v268_eq (b : Fin 2) (h : Fin 4) (i j : Fin 128) :
    val_main_v268 (F := Ideal) x6 (ix5 b 0 h i j) = cexp (lg x6 h) :=
  (num (val_main_v204 (F := Ideal) x6) b h i j).trans (v204_eq x6 h)

theorem v269_eq (b : Fin 2) (h : Fin 4) (i j : Fin 128) :
    val_main_v269 (F := Ideal) x1 x2 x3 x4 x5 x6 (ix5 b 0 h i j) = St x1 x2 x3 x4 x5 x6 b h 10 i j * cexp (lg x6 h) :=
  congrArg₂ (· * ·) (v265_eq x1 x2 x3 x4 x5 x6 b h i j) (v268_eq x6 b h i j)

theorem v270_eq (b : Fin 2) (h : Fin 4) (i j : Fin 128) :
    val_main_v270 (F := Ideal) x1 x2 x3 x4 x5 x6 (ix5 b 0 h i j) = St x1 x2 x3 x4 x5 x6 b h 11 i j :=
  congrArg₂ (· + ·) (v269_eq x1 x2 x3 x4 x5 x6 b h i j) (v218_eq x1 x2 x3 x4 x5 x6 b h i j)

theorem v219_eq (b : Fin 2) (h : Fin 4) (i j : Fin 128) :
    val_main_v219 (F := Ideal) x1 x2 x3 x4 x5 x6 (ix5 b 0 h i j) = ∑ k, (K x1 x2 x3 x4 x5 b h 11 k i * kexp (lg x6 h) k) * P x1 1024 b h 11 k j :=
  (pick16 (val_main_v209 (F := Ideal) x1 x2 x3 x4 x5 x6) 9 _ 9 rfl b h i j).trans (v209_eq x1 x2 x3 x4 x5 x6 b 9 h i j)

theorem v273_eq (b : Fin 2) (h : Fin 4) (i j : Fin 128) :
    val_main_v273 (F := Ideal) x6 (ix5 b 0 h i j) = cexp (lg x6 h) :=
  (num (val_main_v204 (F := Ideal) x6) b h i j).trans (v204_eq x6 h)

theorem v274_eq (b : Fin 2) (h : Fin 4) (i j : Fin 128) :
    val_main_v274 (F := Ideal) x1 x2 x3 x4 x5 x6 (ix5 b 0 h i j) = St x1 x2 x3 x4 x5 x6 b h 11 i j * cexp (lg x6 h) :=
  congrArg₂ (· * ·) (v270_eq x1 x2 x3 x4 x5 x6 b h i j) (v273_eq x6 b h i j)

theorem v275_eq (b : Fin 2) (h : Fin 4) (i j : Fin 128) :
    val_main_v275 (F := Ideal) x1 x2 x3 x4 x5 x6 (ix5 b 0 h i j) = St x1 x2 x3 x4 x5 x6 b h 12 i j :=
  congrArg₂ (· + ·) (v274_eq x1 x2 x3 x4 x5 x6 b h i j) (v219_eq x1 x2 x3 x4 x5 x6 b h i j)

theorem v220_eq (b : Fin 2) (h : Fin 4) (i j : Fin 128) :
    val_main_v220 (F := Ideal) x1 x2 x3 x4 x5 x6 (ix5 b 0 h i j) = ∑ k, (K x1 x2 x3 x4 x5 b h 12 k i * kexp (lg x6 h) k) * P x1 1024 b h 12 k j :=
  (pick16 (val_main_v209 (F := Ideal) x1 x2 x3 x4 x5 x6) 10 _ 10 rfl b h i j).trans (v209_eq x1 x2 x3 x4 x5 x6 b 10 h i j)

theorem v278_eq (b : Fin 2) (h : Fin 4) (i j : Fin 128) :
    val_main_v278 (F := Ideal) x6 (ix5 b 0 h i j) = cexp (lg x6 h) :=
  (num (val_main_v204 (F := Ideal) x6) b h i j).trans (v204_eq x6 h)

theorem v279_eq (b : Fin 2) (h : Fin 4) (i j : Fin 128) :
    val_main_v279 (F := Ideal) x1 x2 x3 x4 x5 x6 (ix5 b 0 h i j) = St x1 x2 x3 x4 x5 x6 b h 12 i j * cexp (lg x6 h) :=
  congrArg₂ (· * ·) (v275_eq x1 x2 x3 x4 x5 x6 b h i j) (v278_eq x6 b h i j)

theorem v280_eq (b : Fin 2) (h : Fin 4) (i j : Fin 128) :
    val_main_v280 (F := Ideal) x1 x2 x3 x4 x5 x6 (ix5 b 0 h i j) = St x1 x2 x3 x4 x5 x6 b h 13 i j :=
  congrArg₂ (· + ·) (v279_eq x1 x2 x3 x4 x5 x6 b h i j) (v220_eq x1 x2 x3 x4 x5 x6 b h i j)

theorem v221_eq (b : Fin 2) (h : Fin 4) (i j : Fin 128) :
    val_main_v221 (F := Ideal) x1 x2 x3 x4 x5 x6 (ix5 b 0 h i j) = ∑ k, (K x1 x2 x3 x4 x5 b h 13 k i * kexp (lg x6 h) k) * P x1 1024 b h 13 k j :=
  (pick16 (val_main_v209 (F := Ideal) x1 x2 x3 x4 x5 x6) 11 _ 11 rfl b h i j).trans (v209_eq x1 x2 x3 x4 x5 x6 b 11 h i j)

theorem v283_eq (b : Fin 2) (h : Fin 4) (i j : Fin 128) :
    val_main_v283 (F := Ideal) x6 (ix5 b 0 h i j) = cexp (lg x6 h) :=
  (num (val_main_v204 (F := Ideal) x6) b h i j).trans (v204_eq x6 h)

theorem v284_eq (b : Fin 2) (h : Fin 4) (i j : Fin 128) :
    val_main_v284 (F := Ideal) x1 x2 x3 x4 x5 x6 (ix5 b 0 h i j) = St x1 x2 x3 x4 x5 x6 b h 13 i j * cexp (lg x6 h) :=
  congrArg₂ (· * ·) (v280_eq x1 x2 x3 x4 x5 x6 b h i j) (v283_eq x6 b h i j)

theorem v285_eq (b : Fin 2) (h : Fin 4) (i j : Fin 128) :
    val_main_v285 (F := Ideal) x1 x2 x3 x4 x5 x6 (ix5 b 0 h i j) = St x1 x2 x3 x4 x5 x6 b h 14 i j :=
  congrArg₂ (· + ·) (v284_eq x1 x2 x3 x4 x5 x6 b h i j) (v221_eq x1 x2 x3 x4 x5 x6 b h i j)

theorem v222_eq (b : Fin 2) (h : Fin 4) (i j : Fin 128) :
    val_main_v222 (F := Ideal) x1 x2 x3 x4 x5 x6 (ix5 b 0 h i j) = ∑ k, (K x1 x2 x3 x4 x5 b h 14 k i * kexp (lg x6 h) k) * P x1 1024 b h 14 k j :=
  (pick16 (val_main_v209 (F := Ideal) x1 x2 x3 x4 x5 x6) 12 _ 12 rfl b h i j).trans (v209_eq x1 x2 x3 x4 x5 x6 b 12 h i j)

theorem v288_eq (b : Fin 2) (h : Fin 4) (i j : Fin 128) :
    val_main_v288 (F := Ideal) x6 (ix5 b 0 h i j) = cexp (lg x6 h) :=
  (num (val_main_v204 (F := Ideal) x6) b h i j).trans (v204_eq x6 h)

theorem v289_eq (b : Fin 2) (h : Fin 4) (i j : Fin 128) :
    val_main_v289 (F := Ideal) x1 x2 x3 x4 x5 x6 (ix5 b 0 h i j) = St x1 x2 x3 x4 x5 x6 b h 14 i j * cexp (lg x6 h) :=
  congrArg₂ (· * ·) (v285_eq x1 x2 x3 x4 x5 x6 b h i j) (v288_eq x6 b h i j)

theorem v290_eq (b : Fin 2) (h : Fin 4) (i j : Fin 128) :
    val_main_v290 (F := Ideal) x1 x2 x3 x4 x5 x6 (ix5 b 0 h i j) = St x1 x2 x3 x4 x5 x6 b h 15 i j :=
  congrArg₂ (· + ·) (v289_eq x1 x2 x3 x4 x5 x6 b h i j) (v222_eq x1 x2 x3 x4 x5 x6 b h i j)

theorem v223_eq (b : Fin 2) (h : Fin 4) (i j : Fin 128) :
    val_main_v223 (F := Ideal) x1 x2 x3 x4 x5 x6 (ix5 b 0 h i j) = ∑ k, (K x1 x2 x3 x4 x5 b h 15 k i * kexp (lg x6 h) k) * P x1 1024 b h 15 k j :=
  (pick16 (val_main_v209 (F := Ideal) x1 x2 x3 x4 x5 x6) 13 _ 13 rfl b h i j).trans (v209_eq x1 x2 x3 x4 x5 x6 b 13 h i j)

theorem v293_eq (b : Fin 2) (h : Fin 4) (i j : Fin 128) :
    val_main_v293 (F := Ideal) x6 (ix5 b 0 h i j) = cexp (lg x6 h) :=
  (num (val_main_v204 (F := Ideal) x6) b h i j).trans (v204_eq x6 h)

theorem v294_eq (b : Fin 2) (h : Fin 4) (i j : Fin 128) :
    val_main_v294 (F := Ideal) x1 x2 x3 x4 x5 x6 (ix5 b 0 h i j) = St x1 x2 x3 x4 x5 x6 b h 15 i j * cexp (lg x6 h) :=
  congrArg₂ (· * ·) (v290_eq x1 x2 x3 x4 x5 x6 b h i j) (v293_eq x6 b h i j)

theorem v295_eq (b : Fin 2) (h : Fin 4) (i j : Fin 128) :
    val_main_v295 (F := Ideal) x1 x2 x3 x4 x5 x6 (ix5 b 0 h i j) = St x1 x2 x3 x4 x5 x6 b h 16 i j :=
  congrArg₂ (· + ·) (v294_eq x1 x2 x3 x4 x5 x6 b h i j) (v223_eq x1 x2 x3 x4 x5 x6 b h i j)

theorem v224_eq (b : Fin 2) (h : Fin 4) (i j : Fin 128) :
    val_main_v224 (F := Ideal) x1 x2 x3 x4 x5 x6 (ix5 b 0 h i j) = ∑ k, (K x1 x2 x3 x4 x5 b h 16 k i * kexp (lg x6 h) k) * P x1 1024 b h 16 k j :=
  (pick16 (val_main_v209 (F := Ideal) x1 x2 x3 x4 x5 x6) 14 _ 14 rfl b h i j).trans (v209_eq x1 x2 x3 x4 x5 x6 b 14 h i j)

theorem v298_eq (b : Fin 2) (h : Fin 4) (i j : Fin 128) :
    val_main_v298 (F := Ideal) x6 (ix5 b 0 h i j) = cexp (lg x6 h) :=
  (num (val_main_v204 (F := Ideal) x6) b h i j).trans (v204_eq x6 h)

theorem v299_eq (b : Fin 2) (h : Fin 4) (i j : Fin 128) :
    val_main_v299 (F := Ideal) x1 x2 x3 x4 x5 x6 (ix5 b 0 h i j) = St x1 x2 x3 x4 x5 x6 b h 16 i j * cexp (lg x6 h) :=
  congrArg₂ (· * ·) (v295_eq x1 x2 x3 x4 x5 x6 b h i j) (v298_eq x6 b h i j)

theorem v300_eq (b : Fin 2) (h : Fin 4) (i j : Fin 128) :
    val_main_v300 (F := Ideal) x1 x2 x3 x4 x5 x6 (ix5 b 0 h i j) = St x1 x2 x3 x4 x5 x6 b h 17 i j :=
  congrArg₂ (· + ·) (v299_eq x1 x2 x3 x4 x5 x6 b h i j) (v224_eq x1 x2 x3 x4 x5 x6 b h i j)

theorem v89_eq (b : Fin 2) (n : Fin 2) (h : Fin 4) (i j : Fin 128) :
    val_main_v89 (F := Ideal) x1 x6 (ix5 b n h i j) = St x1 x2 x3 x4 x5 x6 b h n.val i j :=
  (cat2 ![val_main_v18 (F := Ideal), val_main_v74 (F := Ideal) x1 x6] _ b n h i j).trans
    (match n with
     | ⟨0, _⟩ => v18_eq x1 x2 x3 x4 x5 x6 b h i j
     | ⟨1, _⟩ => v74_eq x1 x2 x3 x4 x5 x6 b h i j
     | ⟨k + 2, hk⟩ => absurd hk (by omega))

theorem v315_eq (b : Fin 2) (n : Fin 16) (h : Fin 4) (i j : Fin 128) :
    val_main_v315 (F := Ideal) x1 x2 x3 x4 x5 x6 (ix5 b n h i j) = St x1 x2 x3 x4 x5 x6 b h (n.val + 2) i j :=
  (cat16 ![val_main_v79 (F := Ideal) x1 x6, val_main_v230 (F := Ideal) x1 x2 x3 x4 x5 x6, val_main_v235 (F := Ideal) x1 x2 x3 x4 x5 x6, val_main_v240 (F := Ideal) x1 x2 x3 x4 x5 x6, val_main_v245 (F := Ideal) x1 x2 x3 x4 x5 x6, val_main_v250 (F := Ideal) x1 x2 x3 x4 x5 x6, val_main_v255 (F := Ideal) x1 x2 x3 x4 x5 x6, val_main_v260 (F := Ideal) x1 x2 x3 x4 x5 x6, val_main_v265 (F := Ideal) x1 x2 x3 x4 x5 x6, val_main_v270 (F := Ideal) x1 x2 x3 x4 x5 x6, val_main_v275 (F := Ideal) x1 x2 x3 x4 x5 x6, val_main_v280 (F := Ideal) x1 x2 x3 x4 x5 x6, val_main_v285 (F := Ideal) x1 x2 x3 x4 x5 x6, val_main_v290 (F := Ideal) x1 x2 x3 x4 x5 x6, val_main_v295 (F := Ideal) x1 x2 x3 x4 x5 x6, val_main_v300 (F := Ideal) x1 x2 x3 x4 x5 x6] _ b n h i j).trans
    (match n with
     | ⟨0, _⟩ => v79_eq x1 x2 x3 x4 x5 x6 b h i j
     | ⟨1, _⟩ => v230_eq x1 x2 x3 x4 x5 x6 b h i j
     | ⟨2, _⟩ => v235_eq x1 x2 x3 x4 x5 x6 b h i j
     | ⟨3, _⟩ => v240_eq x1 x2 x3 x4 x5 x6 b h i j
     | ⟨4, _⟩ => v245_eq x1 x2 x3 x4 x5 x6 b h i j
     | ⟨5, _⟩ => v250_eq x1 x2 x3 x4 x5 x6 b h i j
     | ⟨6, _⟩ => v255_eq x1 x2 x3 x4 x5 x6 b h i j
     | ⟨7, _⟩ => v260_eq x1 x2 x3 x4 x5 x6 b h i j
     | ⟨8, _⟩ => v265_eq x1 x2 x3 x4 x5 x6 b h i j
     | ⟨9, _⟩ => v270_eq x1 x2 x3 x4 x5 x6 b h i j
     | ⟨10, _⟩ => v275_eq x1 x2 x3 x4 x5 x6 b h i j
     | ⟨11, _⟩ => v280_eq x1 x2 x3 x4 x5 x6 b h i j
     | ⟨12, _⟩ => v285_eq x1 x2 x3 x4 x5 x6 b h i j
     | ⟨13, _⟩ => v290_eq x1 x2 x3 x4 x5 x6 b h i j
     | ⟨14, _⟩ => v295_eq x1 x2 x3 x4 x5 x6 b h i j
     | ⟨15, _⟩ => v300_eq x1 x2 x3 x4 x5 x6 b h i j
     | ⟨k + 16, hk⟩ => absurd hk (by omega))

/-! ## The states' cotangents -/

theorem v327_eq (b : Fin 2) (n : Fin 16) (h : Fin 4) (i j : Fin 128) :
    val_main_v327 (F := Ideal) x0 x1 x2 x3 x4 x5 x6 (ix5 b n h i j) = ∑ k, O x0 b h (n.val + 2) k i * (Q x1 x2 x3 x4 x5 b h (n.val + 2) k j * qexp (lg x6 h) k) :=
  (dotA16 (val_main_v326 (F := Ideal) x0) (val_main_v314 (F := Ideal) x1 x2 x3 x4 x5 x6) b n h i j).trans
    (Finset.sum_congr rfl fun k _ => congrArg₂ (· * ·) (v326_eq x0 b n h k i) (v314_eq x1 x2 x3 x4 x5 x6 b n h k j))

theorem v328_eq (b : Fin 2) (n : Fin 16) (h : Fin 4) (i j : Fin 128) :
    val_main_v328 (F := Ideal) x0 x1 x2 x3 x4 x5 x6 (ix5 b n h i j) = ∑ k, O x0 b h (n.val + 2) k j * (Q x1 x2 x3 x4 x5 b h (n.val + 2) k i * qexp (lg x6 h) k) :=
  (swap16 (val_main_v327 (F := Ideal) x0 x1 x2 x3 x4 x5 x6) b n h i j).trans (v327_eq x0 x1 x2 x3 x4 x5 x6 b n h j i)

/-- No state after the last chunk enters the result. -/
theorem v401_eq (b : Fin 2) (h : Fin 4) (i j : Fin 128) : val_main_v401 (F := Ideal) (ix5 b 0 h i j) = Dt x0 x1 x2 x3 x4 x5 x6 b h 0 i j := by
  unfold val_main_v401 val_main_cst_14
  exact (broadcastInDim_apply _ _ _ _ ix0 (fun a => a.elim0)).trans Ideal.ofBits_zero_f32

theorem v330_eq (b : Fin 2) (h : Fin 4) (i j : Fin 128) :
    val_main_v330 (F := Ideal) x0 x1 x2 x3 x4 x5 x6 (ix5 b 0 h i j) = ∑ k, O x0 b h 2 k j * (Q x1 x2 x3 x4 x5 b h 2 k i * qexp (lg x6 h) k) :=
  (pick16 (val_main_v328 (F := Ideal) x0 x1 x2 x3 x4 x5 x6) 0 _ 0 rfl b h i j).trans (v328_eq x0 x1 x2 x3 x4 x5 x6 b 0 h i j)

theorem v331_eq (b : Fin 2) (h : Fin 4) (i j : Fin 128) :
    val_main_v331 (F := Ideal) x0 x1 x2 x3 x4 x5 x6 (ix5 b 0 h i j) = ∑ k, O x0 b h 3 k j * (Q x1 x2 x3 x4 x5 b h 3 k i * qexp (lg x6 h) k) :=
  (pick16 (val_main_v328 (F := Ideal) x0 x1 x2 x3 x4 x5 x6) 1 _ 1 rfl b h i j).trans (v328_eq x0 x1 x2 x3 x4 x5 x6 b 1 h i j)

theorem v332_eq (b : Fin 2) (h : Fin 4) (i j : Fin 128) :
    val_main_v332 (F := Ideal) x0 x1 x2 x3 x4 x5 x6 (ix5 b 0 h i j) = ∑ k, O x0 b h 4 k j * (Q x1 x2 x3 x4 x5 b h 4 k i * qexp (lg x6 h) k) :=
  (pick16 (val_main_v328 (F := Ideal) x0 x1 x2 x3 x4 x5 x6) 2 _ 2 rfl b h i j).trans (v328_eq x0 x1 x2 x3 x4 x5 x6 b 2 h i j)

theorem v333_eq (b : Fin 2) (h : Fin 4) (i j : Fin 128) :
    val_main_v333 (F := Ideal) x0 x1 x2 x3 x4 x5 x6 (ix5 b 0 h i j) = ∑ k, O x0 b h 5 k j * (Q x1 x2 x3 x4 x5 b h 5 k i * qexp (lg x6 h) k) :=
  (pick16 (val_main_v328 (F := Ideal) x0 x1 x2 x3 x4 x5 x6) 3 _ 3 rfl b h i j).trans (v328_eq x0 x1 x2 x3 x4 x5 x6 b 3 h i j)

theorem v334_eq (b : Fin 2) (h : Fin 4) (i j : Fin 128) :
    val_main_v334 (F := Ideal) x0 x1 x2 x3 x4 x5 x6 (ix5 b 0 h i j) = ∑ k, O x0 b h 6 k j * (Q x1 x2 x3 x4 x5 b h 6 k i * qexp (lg x6 h) k) :=
  (pick16 (val_main_v328 (F := Ideal) x0 x1 x2 x3 x4 x5 x6) 4 _ 4 rfl b h i j).trans (v328_eq x0 x1 x2 x3 x4 x5 x6 b 4 h i j)

theorem v335_eq (b : Fin 2) (h : Fin 4) (i j : Fin 128) :
    val_main_v335 (F := Ideal) x0 x1 x2 x3 x4 x5 x6 (ix5 b 0 h i j) = ∑ k, O x0 b h 7 k j * (Q x1 x2 x3 x4 x5 b h 7 k i * qexp (lg x6 h) k) :=
  (pick16 (val_main_v328 (F := Ideal) x0 x1 x2 x3 x4 x5 x6) 5 _ 5 rfl b h i j).trans (v328_eq x0 x1 x2 x3 x4 x5 x6 b 5 h i j)

theorem v336_eq (b : Fin 2) (h : Fin 4) (i j : Fin 128) :
    val_main_v336 (F := Ideal) x0 x1 x2 x3 x4 x5 x6 (ix5 b 0 h i j) = ∑ k, O x0 b h 8 k j * (Q x1 x2 x3 x4 x5 b h 8 k i * qexp (lg x6 h) k) :=
  (pick16 (val_main_v328 (F := Ideal) x0 x1 x2 x3 x4 x5 x6) 6 _ 6 rfl b h i j).trans (v328_eq x0 x1 x2 x3 x4 x5 x6 b 6 h i j)

theorem v337_eq (b : Fin 2) (h : Fin 4) (i j : Fin 128) :
    val_main_v337 (F := Ideal) x0 x1 x2 x3 x4 x5 x6 (ix5 b 0 h i j) = ∑ k, O x0 b h 9 k j * (Q x1 x2 x3 x4 x5 b h 9 k i * qexp (lg x6 h) k) :=
  (pick16 (val_main_v328 (F := Ideal) x0 x1 x2 x3 x4 x5 x6) 7 _ 7 rfl b h i j).trans (v328_eq x0 x1 x2 x3 x4 x5 x6 b 7 h i j)

theorem v338_eq (b : Fin 2) (h : Fin 4) (i j : Fin 128) :
    val_main_v338 (F := Ideal) x0 x1 x2 x3 x4 x5 x6 (ix5 b 0 h i j) = ∑ k, O x0 b h 10 k j * (Q x1 x2 x3 x4 x5 b h 10 k i * qexp (lg x6 h) k) :=
  (pick16 (val_main_v328 (F := Ideal) x0 x1 x2 x3 x4 x5 x6) 8 _ 8 rfl b h i j).trans (v328_eq x0 x1 x2 x3 x4 x5 x6 b 8 h i j)

theorem v339_eq (b : Fin 2) (h : Fin 4) (i j : Fin 128) :
    val_main_v339 (F := Ideal) x0 x1 x2 x3 x4 x5 x6 (ix5 b 0 h i j) = ∑ k, O x0 b h 11 k j * (Q x1 x2 x3 x4 x5 b h 11 k i * qexp (lg x6 h) k) :=
  (pick16 (val_main_v328 (F := Ideal) x0 x1 x2 x3 x4 x5 x6) 9 _ 9 rfl b h i j).trans (v328_eq x0 x1 x2 x3 x4 x5 x6 b 9 h i j)

theorem v340_eq (b : Fin 2) (h : Fin 4) (i j : Fin 128) :
    val_main_v340 (F := Ideal) x0 x1 x2 x3 x4 x5 x6 (ix5 b 0 h i j) = ∑ k, O x0 b h 12 k j * (Q x1 x2 x3 x4 x5 b h 12 k i * qexp (lg x6 h) k) :=
  (pick16 (val_main_v328 (F := Ideal) x0 x1 x2 x3 x4 x5 x6) 10 _ 10 rfl b h i j).trans (v328_eq x0 x1 x2 x3 x4 x5 x6 b 10 h i j)

theorem v341_eq (b : Fin 2) (h : Fin 4) (i j : Fin 128) :
    val_main_v341 (F := Ideal) x0 x1 x2 x3 x4 x5 x6 (ix5 b 0 h i j) = ∑ k, O x0 b h 13 k j * (Q x1 x2 x3 x4 x5 b h 13 k i * qexp (lg x6 h) k) :=
  (pick16 (val_main_v328 (F := Ideal) x0 x1 x2 x3 x4 x5 x6) 11 _ 11 rfl b h i j).trans (v328_eq x0 x1 x2 x3 x4 x5 x6 b 11 h i j)

theorem v342_eq (b : Fin 2) (h : Fin 4) (i j : Fin 128) :
    val_main_v342 (F := Ideal) x0 x1 x2 x3 x4 x5 x6 (ix5 b 0 h i j) = ∑ k, O x0 b h 14 k j * (Q x1 x2 x3 x4 x5 b h 14 k i * qexp (lg x6 h) k) :=
  (pick16 (val_main_v328 (F := Ideal) x0 x1 x2 x3 x4 x5 x6) 12 _ 12 rfl b h i j).trans (v328_eq x0 x1 x2 x3 x4 x5 x6 b 12 h i j)

theorem v343_eq (b : Fin 2) (h : Fin 4) (i j : Fin 128) :
    val_main_v343 (F := Ideal) x0 x1 x2 x3 x4 x5 x6 (ix5 b 0 h i j) = ∑ k, O x0 b h 15 k j * (Q x1 x2 x3 x4 x5 b h 15 k i * qexp (lg x6 h) k) :=
  (pick16 (val_main_v328 (F := Ideal) x0 x1 x2 x3 x4 x5 x6) 13 _ 13 rfl b h i j).trans (v328_eq x0 x1 x2 x3 x4 x5 x6 b 13 h i j)

theorem v344_eq (b : Fin 2) (h : Fin 4) (i j : Fin 128) :
    val_main_v344 (F := Ideal) x0 x1 x2 x3 x4 x5 x6 (ix5 b 0 h i j) = ∑ k, O x0 b h 16 k j * (Q x1 x2 x3 x4 x5 b h 16 k i * qexp (lg x6 h) k) :=
  (pick16 (val_main_v328 (F := Ideal) x0 x1 x2 x3 x4 x5 x6) 14 _ 14 rfl b h i j).trans (v328_eq x0 x1 x2 x3 x4 x5 x6 b 14 h i j)

theorem v345_eq (b : Fin 2) (h : Fin 4) (i j : Fin 128) : val_main_v345 (F := Ideal) x0 x1 x2 x3 x4 x5 x6 (ix5 b 0 h i j) = Dt x0 x1 x2 x3 x4 x5 x6 b h 1 i j := by
  refine (pick16 (val_main_v328 (F := Ideal) x0 x1 x2 x3 x4 x5 x6) 15 _ 15 rfl b h i j).trans ((v328_eq x0 x1 x2 x3 x4 x5 x6 b 15 h i j).trans ?_)
  rw [Dt, dNext, Dt, zero_mul, add_zero]
  rfl

theorem v356_eq (b : Fin 2) (h : Fin 4) (i j : Fin 128) :
    val_main_v356 (F := Ideal) x6 (ix5 b 0 h i j) = cexp (lg x6 h) :=
  (num (val_main_v204 (F := Ideal) x6) b h i j).trans (v204_eq x6 h)

theorem v357_eq (b : Fin 2) (h : Fin 4) (i j : Fin 128) :
    val_main_v357 (F := Ideal) x0 x1 x2 x3 x4 x5 x6 (ix5 b 0 h i j) = Dt x0 x1 x2 x3 x4 x5 x6 b h 1 i j * cexp (lg x6 h) :=
  congrArg₂ (· * ·) (v345_eq x0 x1 x2 x3 x4 x5 x6 b h i j) (v356_eq x6 b h i j)

theorem v358_eq (b : Fin 2) (h : Fin 4) (i j : Fin 128) :
    val_main_v358 (F := Ideal) x0 x1 x2 x3 x4 x5 x6 (ix5 b 0 h i j) = Dt x0 x1 x2 x3 x4 x5 x6 b h 2 i j :=
  congrArg₂ (· + ·) (v344_eq x0 x1 x2 x3 x4 x5 x6 b h i j) (v357_eq x0 x1 x2 x3 x4 x5 x6 b h i j)

theorem v359_eq (b : Fin 2) (h : Fin 4) (i j : Fin 128) :
    val_main_v359 (F := Ideal) x6 (ix5 b 0 h i j) = cexp (lg x6 h) :=
  (num (val_main_v204 (F := Ideal) x6) b h i j).trans (v204_eq x6 h)

theorem v360_eq (b : Fin 2) (h : Fin 4) (i j : Fin 128) :
    val_main_v360 (F := Ideal) x0 x1 x2 x3 x4 x5 x6 (ix5 b 0 h i j) = Dt x0 x1 x2 x3 x4 x5 x6 b h 2 i j * cexp (lg x6 h) :=
  congrArg₂ (· * ·) (v358_eq x0 x1 x2 x3 x4 x5 x6 b h i j) (v359_eq x6 b h i j)

theorem v361_eq (b : Fin 2) (h : Fin 4) (i j : Fin 128) :
    val_main_v361 (F := Ideal) x0 x1 x2 x3 x4 x5 x6 (ix5 b 0 h i j) = Dt x0 x1 x2 x3 x4 x5 x6 b h 3 i j :=
  congrArg₂ (· + ·) (v343_eq x0 x1 x2 x3 x4 x5 x6 b h i j) (v360_eq x0 x1 x2 x3 x4 x5 x6 b h i j)

theorem v362_eq (b : Fin 2) (h : Fin 4) (i j : Fin 128) :
    val_main_v362 (F := Ideal) x6 (ix5 b 0 h i j) = cexp (lg x6 h) :=
  (num (val_main_v204 (F := Ideal) x6) b h i j).trans (v204_eq x6 h)

theorem v363_eq (b : Fin 2) (h : Fin 4) (i j : Fin 128) :
    val_main_v363 (F := Ideal) x0 x1 x2 x3 x4 x5 x6 (ix5 b 0 h i j) = Dt x0 x1 x2 x3 x4 x5 x6 b h 3 i j * cexp (lg x6 h) :=
  congrArg₂ (· * ·) (v361_eq x0 x1 x2 x3 x4 x5 x6 b h i j) (v362_eq x6 b h i j)

theorem v364_eq (b : Fin 2) (h : Fin 4) (i j : Fin 128) :
    val_main_v364 (F := Ideal) x0 x1 x2 x3 x4 x5 x6 (ix5 b 0 h i j) = Dt x0 x1 x2 x3 x4 x5 x6 b h 4 i j :=
  congrArg₂ (· + ·) (v342_eq x0 x1 x2 x3 x4 x5 x6 b h i j) (v363_eq x0 x1 x2 x3 x4 x5 x6 b h i j)

theorem v365_eq (b : Fin 2) (h : Fin 4) (i j : Fin 128) :
    val_main_v365 (F := Ideal) x6 (ix5 b 0 h i j) = cexp (lg x6 h) :=
  (num (val_main_v204 (F := Ideal) x6) b h i j).trans (v204_eq x6 h)

theorem v366_eq (b : Fin 2) (h : Fin 4) (i j : Fin 128) :
    val_main_v366 (F := Ideal) x0 x1 x2 x3 x4 x5 x6 (ix5 b 0 h i j) = Dt x0 x1 x2 x3 x4 x5 x6 b h 4 i j * cexp (lg x6 h) :=
  congrArg₂ (· * ·) (v364_eq x0 x1 x2 x3 x4 x5 x6 b h i j) (v365_eq x6 b h i j)

theorem v367_eq (b : Fin 2) (h : Fin 4) (i j : Fin 128) :
    val_main_v367 (F := Ideal) x0 x1 x2 x3 x4 x5 x6 (ix5 b 0 h i j) = Dt x0 x1 x2 x3 x4 x5 x6 b h 5 i j :=
  congrArg₂ (· + ·) (v341_eq x0 x1 x2 x3 x4 x5 x6 b h i j) (v366_eq x0 x1 x2 x3 x4 x5 x6 b h i j)

theorem v368_eq (b : Fin 2) (h : Fin 4) (i j : Fin 128) :
    val_main_v368 (F := Ideal) x6 (ix5 b 0 h i j) = cexp (lg x6 h) :=
  (num (val_main_v204 (F := Ideal) x6) b h i j).trans (v204_eq x6 h)

theorem v369_eq (b : Fin 2) (h : Fin 4) (i j : Fin 128) :
    val_main_v369 (F := Ideal) x0 x1 x2 x3 x4 x5 x6 (ix5 b 0 h i j) = Dt x0 x1 x2 x3 x4 x5 x6 b h 5 i j * cexp (lg x6 h) :=
  congrArg₂ (· * ·) (v367_eq x0 x1 x2 x3 x4 x5 x6 b h i j) (v368_eq x6 b h i j)

theorem v370_eq (b : Fin 2) (h : Fin 4) (i j : Fin 128) :
    val_main_v370 (F := Ideal) x0 x1 x2 x3 x4 x5 x6 (ix5 b 0 h i j) = Dt x0 x1 x2 x3 x4 x5 x6 b h 6 i j :=
  congrArg₂ (· + ·) (v340_eq x0 x1 x2 x3 x4 x5 x6 b h i j) (v369_eq x0 x1 x2 x3 x4 x5 x6 b h i j)

theorem v371_eq (b : Fin 2) (h : Fin 4) (i j : Fin 128) :
    val_main_v371 (F := Ideal) x6 (ix5 b 0 h i j) = cexp (lg x6 h) :=
  (num (val_main_v204 (F := Ideal) x6) b h i j).trans (v204_eq x6 h)

theorem v372_eq (b : Fin 2) (h : Fin 4) (i j : Fin 128) :
    val_main_v372 (F := Ideal) x0 x1 x2 x3 x4 x5 x6 (ix5 b 0 h i j) = Dt x0 x1 x2 x3 x4 x5 x6 b h 6 i j * cexp (lg x6 h) :=
  congrArg₂ (· * ·) (v370_eq x0 x1 x2 x3 x4 x5 x6 b h i j) (v371_eq x6 b h i j)

theorem v373_eq (b : Fin 2) (h : Fin 4) (i j : Fin 128) :
    val_main_v373 (F := Ideal) x0 x1 x2 x3 x4 x5 x6 (ix5 b 0 h i j) = Dt x0 x1 x2 x3 x4 x5 x6 b h 7 i j :=
  congrArg₂ (· + ·) (v339_eq x0 x1 x2 x3 x4 x5 x6 b h i j) (v372_eq x0 x1 x2 x3 x4 x5 x6 b h i j)

theorem v374_eq (b : Fin 2) (h : Fin 4) (i j : Fin 128) :
    val_main_v374 (F := Ideal) x6 (ix5 b 0 h i j) = cexp (lg x6 h) :=
  (num (val_main_v204 (F := Ideal) x6) b h i j).trans (v204_eq x6 h)

theorem v375_eq (b : Fin 2) (h : Fin 4) (i j : Fin 128) :
    val_main_v375 (F := Ideal) x0 x1 x2 x3 x4 x5 x6 (ix5 b 0 h i j) = Dt x0 x1 x2 x3 x4 x5 x6 b h 7 i j * cexp (lg x6 h) :=
  congrArg₂ (· * ·) (v373_eq x0 x1 x2 x3 x4 x5 x6 b h i j) (v374_eq x6 b h i j)

theorem v376_eq (b : Fin 2) (h : Fin 4) (i j : Fin 128) :
    val_main_v376 (F := Ideal) x0 x1 x2 x3 x4 x5 x6 (ix5 b 0 h i j) = Dt x0 x1 x2 x3 x4 x5 x6 b h 8 i j :=
  congrArg₂ (· + ·) (v338_eq x0 x1 x2 x3 x4 x5 x6 b h i j) (v375_eq x0 x1 x2 x3 x4 x5 x6 b h i j)

theorem v377_eq (b : Fin 2) (h : Fin 4) (i j : Fin 128) :
    val_main_v377 (F := Ideal) x6 (ix5 b 0 h i j) = cexp (lg x6 h) :=
  (num (val_main_v204 (F := Ideal) x6) b h i j).trans (v204_eq x6 h)

theorem v378_eq (b : Fin 2) (h : Fin 4) (i j : Fin 128) :
    val_main_v378 (F := Ideal) x0 x1 x2 x3 x4 x5 x6 (ix5 b 0 h i j) = Dt x0 x1 x2 x3 x4 x5 x6 b h 8 i j * cexp (lg x6 h) :=
  congrArg₂ (· * ·) (v376_eq x0 x1 x2 x3 x4 x5 x6 b h i j) (v377_eq x6 b h i j)

theorem v379_eq (b : Fin 2) (h : Fin 4) (i j : Fin 128) :
    val_main_v379 (F := Ideal) x0 x1 x2 x3 x4 x5 x6 (ix5 b 0 h i j) = Dt x0 x1 x2 x3 x4 x5 x6 b h 9 i j :=
  congrArg₂ (· + ·) (v337_eq x0 x1 x2 x3 x4 x5 x6 b h i j) (v378_eq x0 x1 x2 x3 x4 x5 x6 b h i j)

theorem v380_eq (b : Fin 2) (h : Fin 4) (i j : Fin 128) :
    val_main_v380 (F := Ideal) x6 (ix5 b 0 h i j) = cexp (lg x6 h) :=
  (num (val_main_v204 (F := Ideal) x6) b h i j).trans (v204_eq x6 h)

theorem v381_eq (b : Fin 2) (h : Fin 4) (i j : Fin 128) :
    val_main_v381 (F := Ideal) x0 x1 x2 x3 x4 x5 x6 (ix5 b 0 h i j) = Dt x0 x1 x2 x3 x4 x5 x6 b h 9 i j * cexp (lg x6 h) :=
  congrArg₂ (· * ·) (v379_eq x0 x1 x2 x3 x4 x5 x6 b h i j) (v380_eq x6 b h i j)

theorem v382_eq (b : Fin 2) (h : Fin 4) (i j : Fin 128) :
    val_main_v382 (F := Ideal) x0 x1 x2 x3 x4 x5 x6 (ix5 b 0 h i j) = Dt x0 x1 x2 x3 x4 x5 x6 b h 10 i j :=
  congrArg₂ (· + ·) (v336_eq x0 x1 x2 x3 x4 x5 x6 b h i j) (v381_eq x0 x1 x2 x3 x4 x5 x6 b h i j)

theorem v383_eq (b : Fin 2) (h : Fin 4) (i j : Fin 128) :
    val_main_v383 (F := Ideal) x6 (ix5 b 0 h i j) = cexp (lg x6 h) :=
  (num (val_main_v204 (F := Ideal) x6) b h i j).trans (v204_eq x6 h)

theorem v384_eq (b : Fin 2) (h : Fin 4) (i j : Fin 128) :
    val_main_v384 (F := Ideal) x0 x1 x2 x3 x4 x5 x6 (ix5 b 0 h i j) = Dt x0 x1 x2 x3 x4 x5 x6 b h 10 i j * cexp (lg x6 h) :=
  congrArg₂ (· * ·) (v382_eq x0 x1 x2 x3 x4 x5 x6 b h i j) (v383_eq x6 b h i j)

theorem v385_eq (b : Fin 2) (h : Fin 4) (i j : Fin 128) :
    val_main_v385 (F := Ideal) x0 x1 x2 x3 x4 x5 x6 (ix5 b 0 h i j) = Dt x0 x1 x2 x3 x4 x5 x6 b h 11 i j :=
  congrArg₂ (· + ·) (v335_eq x0 x1 x2 x3 x4 x5 x6 b h i j) (v384_eq x0 x1 x2 x3 x4 x5 x6 b h i j)

theorem v386_eq (b : Fin 2) (h : Fin 4) (i j : Fin 128) :
    val_main_v386 (F := Ideal) x6 (ix5 b 0 h i j) = cexp (lg x6 h) :=
  (num (val_main_v204 (F := Ideal) x6) b h i j).trans (v204_eq x6 h)

theorem v387_eq (b : Fin 2) (h : Fin 4) (i j : Fin 128) :
    val_main_v387 (F := Ideal) x0 x1 x2 x3 x4 x5 x6 (ix5 b 0 h i j) = Dt x0 x1 x2 x3 x4 x5 x6 b h 11 i j * cexp (lg x6 h) :=
  congrArg₂ (· * ·) (v385_eq x0 x1 x2 x3 x4 x5 x6 b h i j) (v386_eq x6 b h i j)

theorem v388_eq (b : Fin 2) (h : Fin 4) (i j : Fin 128) :
    val_main_v388 (F := Ideal) x0 x1 x2 x3 x4 x5 x6 (ix5 b 0 h i j) = Dt x0 x1 x2 x3 x4 x5 x6 b h 12 i j :=
  congrArg₂ (· + ·) (v334_eq x0 x1 x2 x3 x4 x5 x6 b h i j) (v387_eq x0 x1 x2 x3 x4 x5 x6 b h i j)

theorem v389_eq (b : Fin 2) (h : Fin 4) (i j : Fin 128) :
    val_main_v389 (F := Ideal) x6 (ix5 b 0 h i j) = cexp (lg x6 h) :=
  (num (val_main_v204 (F := Ideal) x6) b h i j).trans (v204_eq x6 h)

theorem v390_eq (b : Fin 2) (h : Fin 4) (i j : Fin 128) :
    val_main_v390 (F := Ideal) x0 x1 x2 x3 x4 x5 x6 (ix5 b 0 h i j) = Dt x0 x1 x2 x3 x4 x5 x6 b h 12 i j * cexp (lg x6 h) :=
  congrArg₂ (· * ·) (v388_eq x0 x1 x2 x3 x4 x5 x6 b h i j) (v389_eq x6 b h i j)

theorem v391_eq (b : Fin 2) (h : Fin 4) (i j : Fin 128) :
    val_main_v391 (F := Ideal) x0 x1 x2 x3 x4 x5 x6 (ix5 b 0 h i j) = Dt x0 x1 x2 x3 x4 x5 x6 b h 13 i j :=
  congrArg₂ (· + ·) (v333_eq x0 x1 x2 x3 x4 x5 x6 b h i j) (v390_eq x0 x1 x2 x3 x4 x5 x6 b h i j)

theorem v392_eq (b : Fin 2) (h : Fin 4) (i j : Fin 128) :
    val_main_v392 (F := Ideal) x6 (ix5 b 0 h i j) = cexp (lg x6 h) :=
  (num (val_main_v204 (F := Ideal) x6) b h i j).trans (v204_eq x6 h)

theorem v393_eq (b : Fin 2) (h : Fin 4) (i j : Fin 128) :
    val_main_v393 (F := Ideal) x0 x1 x2 x3 x4 x5 x6 (ix5 b 0 h i j) = Dt x0 x1 x2 x3 x4 x5 x6 b h 13 i j * cexp (lg x6 h) :=
  congrArg₂ (· * ·) (v391_eq x0 x1 x2 x3 x4 x5 x6 b h i j) (v392_eq x6 b h i j)

theorem v394_eq (b : Fin 2) (h : Fin 4) (i j : Fin 128) :
    val_main_v394 (F := Ideal) x0 x1 x2 x3 x4 x5 x6 (ix5 b 0 h i j) = Dt x0 x1 x2 x3 x4 x5 x6 b h 14 i j :=
  congrArg₂ (· + ·) (v332_eq x0 x1 x2 x3 x4 x5 x6 b h i j) (v393_eq x0 x1 x2 x3 x4 x5 x6 b h i j)

theorem v395_eq (b : Fin 2) (h : Fin 4) (i j : Fin 128) :
    val_main_v395 (F := Ideal) x6 (ix5 b 0 h i j) = cexp (lg x6 h) :=
  (num (val_main_v204 (F := Ideal) x6) b h i j).trans (v204_eq x6 h)

theorem v396_eq (b : Fin 2) (h : Fin 4) (i j : Fin 128) :
    val_main_v396 (F := Ideal) x0 x1 x2 x3 x4 x5 x6 (ix5 b 0 h i j) = Dt x0 x1 x2 x3 x4 x5 x6 b h 14 i j * cexp (lg x6 h) :=
  congrArg₂ (· * ·) (v394_eq x0 x1 x2 x3 x4 x5 x6 b h i j) (v395_eq x6 b h i j)

theorem v397_eq (b : Fin 2) (h : Fin 4) (i j : Fin 128) :
    val_main_v397 (F := Ideal) x0 x1 x2 x3 x4 x5 x6 (ix5 b 0 h i j) = Dt x0 x1 x2 x3 x4 x5 x6 b h 15 i j :=
  congrArg₂ (· + ·) (v331_eq x0 x1 x2 x3 x4 x5 x6 b h i j) (v396_eq x0 x1 x2 x3 x4 x5 x6 b h i j)

theorem v398_eq (b : Fin 2) (h : Fin 4) (i j : Fin 128) :
    val_main_v398 (F := Ideal) x6 (ix5 b 0 h i j) = cexp (lg x6 h) :=
  (num (val_main_v204 (F := Ideal) x6) b h i j).trans (v204_eq x6 h)

theorem v399_eq (b : Fin 2) (h : Fin 4) (i j : Fin 128) :
    val_main_v399 (F := Ideal) x0 x1 x2 x3 x4 x5 x6 (ix5 b 0 h i j) = Dt x0 x1 x2 x3 x4 x5 x6 b h 15 i j * cexp (lg x6 h) :=
  congrArg₂ (· * ·) (v397_eq x0 x1 x2 x3 x4 x5 x6 b h i j) (v398_eq x6 b h i j)

theorem v400_eq (b : Fin 2) (h : Fin 4) (i j : Fin 128) :
    val_main_v400 (F := Ideal) x0 x1 x2 x3 x4 x5 x6 (ix5 b 0 h i j) = Dt x0 x1 x2 x3 x4 x5 x6 b h 16 i j :=
  congrArg₂ (· + ·) (v330_eq x0 x1 x2 x3 x4 x5 x6 b h i j) (v399_eq x0 x1 x2 x3 x4 x5 x6 b h i j)

theorem v485_eq (b : Fin 2) (n : Fin 2) (h : Fin 4) (i j : Fin 128) :
    val_main_v485 (F := Ideal) x0 x1 x6 (ix5 b n h i j) = ∑ k, O x0 b h n.val k i * (Q x1 x2 x3 x4 x5 b h n.val k j * qexp (lg x6 h) k) :=
  (dotA2 (val_main_v484 (F := Ideal) x0) (val_main_v88 (F := Ideal) x1 x6) b n h i j).trans
    (Finset.sum_congr rfl fun k _ => congrArg₂ (· * ·) (v484_eq x0 b n h k i) (v88_eq x1 x2 x3 x4 x5 x6 b n h k j))

theorem v486_eq (b : Fin 2) (n : Fin 2) (h : Fin 4) (i j : Fin 128) :
    val_main_v486 (F := Ideal) x0 x1 x6 (ix5 b n h i j) = ∑ k, O x0 b h n.val k j * (Q x1 x2 x3 x4 x5 b h n.val k i * qexp (lg x6 h) k) :=
  (swap2 (val_main_v485 (F := Ideal) x0 x1 x6) b n h i j).trans (v485_eq x0 x1 x2 x3 x4 x5 x6 b n h j i)

theorem v489_eq (b : Fin 2) (h : Fin 4) (i j : Fin 128) :
    val_main_v489 (F := Ideal) x0 x1 x6 (ix5 b 0 h i j) = ∑ k, O x0 b h 1 k j * (Q x1 x2 x3 x4 x5 b h 1 k i * qexp (lg x6 h) k) :=
  (pick2 (val_main_v486 (F := Ideal) x0 x1 x6) 1 _ 1 rfl b h i j).trans (v486_eq x0 x1 x2 x3 x4 x5 x6 b 1 h i j)

theorem v500_eq (b : Fin 2) (h : Fin 4) (i j : Fin 128) :
    val_main_v500 (F := Ideal) x6 (ix5 b 0 h i j) = cexp (lg x6 h) :=
  (num (val_main_v62 (F := Ideal) x6) b h i j).trans (v62_eq x6 h)

theorem v501_eq (b : Fin 2) (h : Fin 4) (i j : Fin 128) :
    val_main_v501 (F := Ideal) x0 x1 x2 x3 x4 x5 x6 (ix5 b 0 h i j) = Dt x0 x1 x2 x3 x4 x5 x6 b h 16 i j * cexp (lg x6 h) :=
  congrArg₂ (· * ·) (v400_eq x0 x1 x2 x3 x4 x5 x6 b h i j) (v500_eq x6 b h i j)

theorem v502_eq (b : Fin 2) (h : Fin 4) (i j : Fin 128) :
    val_main_v502 (F := Ideal) x0 x1 x2 x3 x4 x5 x6 (ix5 b 0 h i j) = Dt x0 x1 x2 x3 x4 x5 x6 b h 17 i j :=
  congrArg₂ (· + ·) (v489_eq x0 x1 x2 x3 x4 x5 x6 b h i j) (v501_eq x0 x1 x2 x3 x4 x5 x6 b h i j)

theorem v402_eq (b : Fin 2) (n : Fin 16) (h : Fin 4) (i j : Fin 128) :
    val_main_v402 (F := Ideal) x0 x1 x2 x3 x4 x5 x6 (ix5 b n h i j) = Dt x0 x1 x2 x3 x4 x5 x6 b h (15 - n.val) i j :=
  (cat16 ![val_main_v397 (F := Ideal) x0 x1 x2 x3 x4 x5 x6, val_main_v394 (F := Ideal) x0 x1 x2 x3 x4 x5 x6, val_main_v391 (F := Ideal) x0 x1 x2 x3 x4 x5 x6, val_main_v388 (F := Ideal) x0 x1 x2 x3 x4 x5 x6, val_main_v385 (F := Ideal) x0 x1 x2 x3 x4 x5 x6, val_main_v382 (F := Ideal) x0 x1 x2 x3 x4 x5 x6, val_main_v379 (F := Ideal) x0 x1 x2 x3 x4 x5 x6, val_main_v376 (F := Ideal) x0 x1 x2 x3 x4 x5 x6, val_main_v373 (F := Ideal) x0 x1 x2 x3 x4 x5 x6, val_main_v370 (F := Ideal) x0 x1 x2 x3 x4 x5 x6, val_main_v367 (F := Ideal) x0 x1 x2 x3 x4 x5 x6, val_main_v364 (F := Ideal) x0 x1 x2 x3 x4 x5 x6, val_main_v361 (F := Ideal) x0 x1 x2 x3 x4 x5 x6, val_main_v358 (F := Ideal) x0 x1 x2 x3 x4 x5 x6, val_main_v345 (F := Ideal) x0 x1 x2 x3 x4 x5 x6, val_main_v401 (F := Ideal)] _ b n h i j).trans
    (match n with
     | ⟨0, _⟩ => v397_eq x0 x1 x2 x3 x4 x5 x6 b h i j
     | ⟨1, _⟩ => v394_eq x0 x1 x2 x3 x4 x5 x6 b h i j
     | ⟨2, _⟩ => v391_eq x0 x1 x2 x3 x4 x5 x6 b h i j
     | ⟨3, _⟩ => v388_eq x0 x1 x2 x3 x4 x5 x6 b h i j
     | ⟨4, _⟩ => v385_eq x0 x1 x2 x3 x4 x5 x6 b h i j
     | ⟨5, _⟩ => v382_eq x0 x1 x2 x3 x4 x5 x6 b h i j
     | ⟨6, _⟩ => v379_eq x0 x1 x2 x3 x4 x5 x6 b h i j
     | ⟨7, _⟩ => v376_eq x0 x1 x2 x3 x4 x5 x6 b h i j
     | ⟨8, _⟩ => v373_eq x0 x1 x2 x3 x4 x5 x6 b h i j
     | ⟨9, _⟩ => v370_eq x0 x1 x2 x3 x4 x5 x6 b h i j
     | ⟨10, _⟩ => v367_eq x0 x1 x2 x3 x4 x5 x6 b h i j
     | ⟨11, _⟩ => v364_eq x0 x1 x2 x3 x4 x5 x6 b h i j
     | ⟨12, _⟩ => v361_eq x0 x1 x2 x3 x4 x5 x6 b h i j
     | ⟨13, _⟩ => v358_eq x0 x1 x2 x3 x4 x5 x6 b h i j
     | ⟨14, _⟩ => v345_eq x0 x1 x2 x3 x4 x5 x6 b h i j
     | ⟨15, _⟩ => v401_eq x0 x1 x2 x3 x4 x5 x6 b h i j
     | ⟨k + 16, hk⟩ => absurd hk (by omega))

theorem v503_eq (b : Fin 2) (n : Fin 2) (h : Fin 4) (i j : Fin 128) :
    val_main_v503 (F := Ideal) x0 x1 x2 x3 x4 x5 x6 (ix5 b n h i j) = Dt x0 x1 x2 x3 x4 x5 x6 b h (17 - n.val) i j :=
  (cat2 ![val_main_v502 (F := Ideal) x0 x1 x2 x3 x4 x5 x6, val_main_v400 (F := Ideal) x0 x1 x2 x3 x4 x5 x6] _ b n h i j).trans
    (match n with
     | ⟨0, _⟩ => v502_eq x0 x1 x2 x3 x4 x5 x6 b h i j
     | ⟨1, _⟩ => v400_eq x0 x1 x2 x3 x4 x5 x6 b h i j
     | ⟨k + 2, hk⟩ => absurd hk (by omega))

/-! ## The gradients in chunks -/

theorem v329_eq (b : Fin 2) (n : Fin 16) (h : Fin 4) (i j : Fin 128) :
    val_main_v329 (F := Ideal) x0 x1 x2 x3 x4 x5 x6 (ix5 b n h i j) = ∑ k, O x0 b h (n.val + 2) i k * St x1 x2 x3 x4 x5 x6 b h (n.val + 2) j k :=
  (dotB16 (val_main_v326 (F := Ideal) x0) (val_main_v315 (F := Ideal) x1 x2 x3 x4 x5 x6) b n h i j).trans
    (Finset.sum_congr rfl fun k _ => congrArg₂ (· * ·) (v326_eq x0 b n h i k) (v315_eq x1 x2 x3 x4 x5 x6 b n h j k))

theorem v346_eq (b : Fin 2) (n : Fin 16) (h : Fin 4) (i j : Fin 128) :
    val_main_v346 (F := Ideal) x6 (ix5 b n h i j) = qexp (lg x6 h) i :=
  (row16 (val_main_v186 (F := Ideal) x6) b n h i j).trans (v186_eq x6 h i)

theorem v347_eq (b : Fin 2) (n : Fin 16) (h : Fin 4) (i j : Fin 128) :
    val_main_v347 (F := Ideal) x0 x1 x2 x3 x4 x5 x6 (ix5 b n h i j) = (∑ k, O x0 b h (n.val + 2) i k * St x1 x2 x3 x4 x5 x6 b h (n.val + 2) j k) * qexp (lg x6 h) i :=
  congrArg₂ (· * ·) (v329_eq x0 x1 x2 x3 x4 x5 x6 b n h i j) (v346_eq x6 b n h i j)

theorem v348_eq (b : Fin 2) (n : Fin 16) (h : Fin 4) (i j : Fin 128) :
    val_main_v348 (F := Ideal) x0 x1 x2 x3 x4 x5 x6 (ix5 b n h i j) = ∑ k, O x0 b h (n.val + 2) k i * scores (lg x6 h) (Q x1 x2 x3 x4 x5 b h (n.val + 2)) (K x1 x2 x3 x4 x5 b h (n.val + 2)) k j :=
  (dotA16 (val_main_v326 (F := Ideal) x0) (val_main_v309 (F := Ideal) x1 x2 x3 x4 x5 x6) b n h i j).trans
    (Finset.sum_congr rfl fun k _ => congrArg₂ (· * ·) (v326_eq x0 b n h k i) (v309_eq x1 x2 x3 x4 x5 x6 b n h k j))

theorem v349_eq (b : Fin 2) (n : Fin 16) (h : Fin 4) (i j : Fin 128) :
    val_main_v349 (F := Ideal) x0 x1 x2 x3 x4 x5 x6 (ix5 b n h i j) = ∑ k, O x0 b h (n.val + 2) k j * scores (lg x6 h) (Q x1 x2 x3 x4 x5 b h (n.val + 2)) (K x1 x2 x3 x4 x5 b h (n.val + 2)) k i :=
  (swap16 (val_main_v348 (F := Ideal) x0 x1 x2 x3 x4 x5 x6) b n h i j).trans (v348_eq x0 x1 x2 x3 x4 x5 x6 b n h j i)

theorem v350_eq (b : Fin 2) (n : Fin 16) (h : Fin 4) (i j : Fin 128) :
    val_main_v350 (F := Ideal) x0 x1 (ix5 b n h i j) = ∑ k, O x0 b h (n.val + 2) i k * P x1 1024 b h (n.val + 2) j k :=
  (dotB16 (val_main_v326 (F := Ideal) x0) (val_main_v192 (F := Ideal) x1) b n h i j).trans
    (Finset.sum_congr rfl fun k _ => congrArg₂ (· * ·) (v326_eq x0 b n h i k) (v192_eq x1 b n h j k))

theorem v351_eq (b : Fin 2) (n : Fin 16) (h : Fin 4) (i j : Fin 128) :
    val_main_v351 (F := Ideal) x6 (ix5 b n h i j) = decay (lg x6 h) i j :=
  (mat16 (val_main_v178 (F := Ideal) x6) b n h i j).trans (v178_eq x6 h i j)

theorem v352_eq (b : Fin 2) (n : Fin 16) (h : Fin 4) (i j : Fin 128) :
    val_main_v352 (F := Ideal) x0 x1 x6 (ix5 b n h i j) = dscores (lg x6 h) (O x0 b h (n.val + 2)) (P x1 1024 b h (n.val + 2)) i j :=
  congrArg₂ (· * ·) (v350_eq x0 x1 b n h i j) (v351_eq x6 b n h i j)

theorem v353_eq (b : Fin 2) (n : Fin 16) (h : Fin 4) (i j : Fin 128) :
    val_main_v353 (F := Ideal) x0 x1 x2 x3 x4 x5 x6 (ix5 b n h i j) = ∑ k, dscores (lg x6 h) (O x0 b h (n.val + 2)) (P x1 1024 b h (n.val + 2)) k i * Q x1 x2 x3 x4 x5 b h (n.val + 2) k j :=
  (dotA16 (val_main_v352 (F := Ideal) x0 x1 x6) (val_main_v188 (F := Ideal) x1 x2 x3 x4 x5) b n h i j).trans
    (Finset.sum_congr rfl fun k _ => congrArg₂ (· * ·) (v352_eq x0 x1 x6 b n h k i) (v188_eq x1 x2 x3 x4 x5 b n h k j))

theorem v354_eq (b : Fin 2) (n : Fin 16) (h : Fin 4) (i j : Fin 128) :
    val_main_v354 (F := Ideal) x0 x1 x2 x3 x4 x5 x6 (ix5 b n h i j) = ∑ k, dscores (lg x6 h) (O x0 b h (n.val + 2)) (P x1 1024 b h (n.val + 2)) i k * K x1 x2 x3 x4 x5 b h (n.val + 2) k j :=
  (dotC16 (val_main_v352 (F := Ideal) x0 x1 x6) (val_main_v190 (F := Ideal) x1 x2 x3 x4 x5) b n h i j).trans
    (Finset.sum_congr rfl fun k _ => congrArg₂ (· * ·) (v352_eq x0 x1 x6 b n h i k) (v190_eq x1 x2 x3 x4 x5 b n h k j))

/-- The queries' gradients. -/
theorem v355_eq (b : Fin 2) (n : Fin 16) (h : Fin 4) (i j : Fin 128) :
    val_main_v355 (F := Ideal) x0 x1 x2 x3 x4 x5 x6 (ix5 b n h i j) = dq (lg x6 h) (K x1 x2 x3 x4 x5 b h (n.val + 2)) (P x1 1024 b h (n.val + 2)) (St x1 x2 x3 x4 x5 x6 b h (n.val + 2)) (O x0 b h (n.val + 2)) i j :=
  congrArg₂ (· + ·) (v347_eq x0 x1 x2 x3 x4 x5 x6 b n h i j) (v354_eq x0 x1 x2 x3 x4 x5 x6 b n h i j)

theorem v403_eq (b : Fin 2) (n : Fin 16) (h : Fin 4) (i j : Fin 128) :
    val_main_v403 (F := Ideal) x0 x1 x2 x3 x4 x5 x6 (ix5 b n h i j) = ∑ k, Dt x0 x1 x2 x3 x4 x5 x6 b h (15 - n.val) k i * (K x1 x2 x3 x4 x5 b h (n.val + 2) j k * kexp (lg x6 h) j) :=
  (dotD16 (val_main_v402 (F := Ideal) x0 x1 x2 x3 x4 x5 x6) (val_main_v208 (F := Ideal) x1 x2 x3 x4 x5 x6) b n h i j).trans
    (Finset.sum_congr rfl fun k _ => congrArg₂ (· * ·) (v402_eq x0 x1 x2 x3 x4 x5 x6 b n h k i) (v208_eq x1 x2 x3 x4 x5 x6 b n h j k))

theorem v404_eq (b : Fin 2) (n : Fin 16) (h : Fin 4) (i j : Fin 128) :
    val_main_v404 (F := Ideal) x0 x1 x2 x3 x4 x5 x6 (ix5 b n h i j) = ∑ k, Dt x0 x1 x2 x3 x4 x5 x6 b h (15 - n.val) k j * (K x1 x2 x3 x4 x5 b h (n.val + 2) i k * kexp (lg x6 h) i) :=
  (swap16 (val_main_v403 (F := Ideal) x0 x1 x2 x3 x4 x5 x6) b n h i j).trans (v403_eq x0 x1 x2 x3 x4 x5 x6 b n h j i)

/-- The values' gradients. -/
theorem v405_eq (b : Fin 2) (n : Fin 16) (h : Fin 4) (i j : Fin 128) :
    val_main_v405 (F := Ideal) x0 x1 x2 x3 x4 x5 x6 (ix5 b n h i j) = dv (lg x6 h) (Q x1 x2 x3 x4 x5 b h (n.val + 2)) (K x1 x2 x3 x4 x5 b h (n.val + 2)) (O x0 b h (n.val + 2)) (Dt x0 x1 x2 x3 x4 x5 x6 b h (15 - n.val)) i j :=
  congrArg₂ (· + ·) (v349_eq x0 x1 x2 x3 x4 x5 x6 b n h i j) (v404_eq x0 x1 x2 x3 x4 x5 x6 b n h i j)

theorem v406_eq (b : Fin 2) (n : Fin 16) (h : Fin 4) (i j : Fin 128) :
    val_main_v406 (F := Ideal) x0 x1 x2 x3 x4 x5 x6 (ix5 b n h i j) = ∑ k, Dt x0 x1 x2 x3 x4 x5 x6 b h (15 - n.val) i k * P x1 1024 b h (n.val + 2) j k :=
  (dotB16 (val_main_v402 (F := Ideal) x0 x1 x2 x3 x4 x5 x6) (val_main_v192 (F := Ideal) x1) b n h i j).trans
    (Finset.sum_congr rfl fun k _ => congrArg₂ (· * ·) (v402_eq x0 x1 x2 x3 x4 x5 x6 b n h i k) (v192_eq x1 b n h j k))

theorem v407_eq (b : Fin 2) (n : Fin 16) (h : Fin 4) (i j : Fin 128) :
    val_main_v407 (F := Ideal) x0 x1 x2 x3 x4 x5 x6 (ix5 b n h i j) = ∑ k, Dt x0 x1 x2 x3 x4 x5 x6 b h (15 - n.val) j k * P x1 1024 b h (n.val + 2) i k :=
  (swap16 (val_main_v406 (F := Ideal) x0 x1 x2 x3 x4 x5 x6) b n h i j).trans (v406_eq x0 x1 x2 x3 x4 x5 x6 b n h j i)

theorem v408_eq (b : Fin 2) (n : Fin 16) (h : Fin 4) (i j : Fin 128) :
    val_main_v408 (F := Ideal) x6 (ix5 b n h i j) = kexp (lg x6 h) i :=
  (row16 (val_main_v201 (F := Ideal) x6) b n h i j).trans (v201_eq x6 h i)

theorem v409_eq (b : Fin 2) (n : Fin 16) (h : Fin 4) (i j : Fin 128) :
    val_main_v409 (F := Ideal) x0 x1 x2 x3 x4 x5 x6 (ix5 b n h i j) = (∑ k, Dt x0 x1 x2 x3 x4 x5 x6 b h (15 - n.val) j k * P x1 1024 b h (n.val + 2) i k) * kexp (lg x6 h) i :=
  congrArg₂ (· * ·) (v407_eq x0 x1 x2 x3 x4 x5 x6 b n h i j) (v408_eq x6 b n h i j)

/-- The keys' gradients. -/
theorem v410_eq (b : Fin 2) (n : Fin 16) (h : Fin 4) (i j : Fin 128) :
    val_main_v410 (F := Ideal) x0 x1 x2 x3 x4 x5 x6 (ix5 b n h i j) = dk (lg x6 h) (Q x1 x2 x3 x4 x5 b h (n.val + 2)) (P x1 1024 b h (n.val + 2)) (O x0 b h (n.val + 2)) (Dt x0 x1 x2 x3 x4 x5 x6 b h (15 - n.val)) i j :=
  congrArg₂ (· + ·) (v353_eq x0 x1 x2 x3 x4 x5 x6 b n h i j) (v409_eq x0 x1 x2 x3 x4 x5 x6 b n h i j)

theorem v487_eq (b : Fin 2) (n : Fin 2) (h : Fin 4) (i j : Fin 128) :
    val_main_v487 (F := Ideal) x0 x1 x6 (ix5 b n h i j) = ∑ k, O x0 b h n.val i k * St x1 x2 x3 x4 x5 x6 b h n.val j k :=
  (dotB2 (val_main_v484 (F := Ideal) x0) (val_main_v89 (F := Ideal) x1 x6) b n h i j).trans
    (Finset.sum_congr rfl fun k _ => congrArg₂ (· * ·) (v484_eq x0 b n h i k) (v89_eq x1 x2 x3 x4 x5 x6 b n h j k))

theorem v490_eq (b : Fin 2) (n : Fin 2) (h : Fin 4) (i j : Fin 128) :
    val_main_v490 (F := Ideal) x6 (ix5 b n h i j) = qexp (lg x6 h) i :=
  (row2 (val_main_v44 (F := Ideal) x6) b n h i j).trans (v44_eq x6 h i)

theorem v491_eq (b : Fin 2) (n : Fin 2) (h : Fin 4) (i j : Fin 128) :
    val_main_v491 (F := Ideal) x0 x1 x6 (ix5 b n h i j) = (∑ k, O x0 b h n.val i k * St x1 x2 x3 x4 x5 x6 b h n.val j k) * qexp (lg x6 h) i :=
  congrArg₂ (· * ·) (v487_eq x0 x1 x2 x3 x4 x5 x6 b n h i j) (v490_eq x6 b n h i j)

theorem v492_eq (b : Fin 2) (n : Fin 2) (h : Fin 4) (i j : Fin 128) :
    val_main_v492 (F := Ideal) x0 x1 x6 (ix5 b n h i j) = ∑ k, O x0 b h n.val k i * scores (lg x6 h) (Q x1 x2 x3 x4 x5 b h n.val) (K x1 x2 x3 x4 x5 b h n.val) k j :=
  (dotA2 (val_main_v484 (F := Ideal) x0) (val_main_v83 (F := Ideal) x1 x6) b n h i j).trans
    (Finset.sum_congr rfl fun k _ => congrArg₂ (· * ·) (v484_eq x0 b n h k i) (v83_eq x1 x2 x3 x4 x5 x6 b n h k j))

theorem v493_eq (b : Fin 2) (n : Fin 2) (h : Fin 4) (i j : Fin 128) :
    val_main_v493 (F := Ideal) x0 x1 x6 (ix5 b n h i j) = ∑ k, O x0 b h n.val k j * scores (lg x6 h) (Q x1 x2 x3 x4 x5 b h n.val) (K x1 x2 x3 x4 x5 b h n.val) k i :=
  (swap2 (val_main_v492 (F := Ideal) x0 x1 x6) b n h i j).trans (v492_eq x0 x1 x2 x3 x4 x5 x6 b n h j i)

theorem v494_eq (b : Fin 2) (n : Fin 2) (h : Fin 4) (i j : Fin 128) :
    val_main_v494 (F := Ideal) x0 x1 (ix5 b n h i j) = ∑ k, O x0 b h n.val i k * P x1 1024 b h n.val j k :=
  (dotB2 (val_main_v484 (F := Ideal) x0) (val_main_v50 (F := Ideal) x1) b n h i j).trans
    (Finset.sum_congr rfl fun k _ => congrArg₂ (· * ·) (v484_eq x0 b n h i k) (v50_eq x1 b n h j k))

theorem v495_eq (b : Fin 2) (n : Fin 2) (h : Fin 4) (i j : Fin 128) :
    val_main_v495 (F := Ideal) x6 (ix5 b n h i j) = decay (lg x6 h) i j :=
  (mat2 (val_main_v36 (F := Ideal) x6) b n h i j).trans (v36_eq x6 h i j)

theorem v496_eq (b : Fin 2) (n : Fin 2) (h : Fin 4) (i j : Fin 128) :
    val_main_v496 (F := Ideal) x0 x1 x6 (ix5 b n h i j) = dscores (lg x6 h) (O x0 b h n.val) (P x1 1024 b h n.val) i j :=
  congrArg₂ (· * ·) (v494_eq x0 x1 b n h i j) (v495_eq x6 b n h i j)

theorem v497_eq (b : Fin 2) (n : Fin 2) (h : Fin 4) (i j : Fin 128) :
    val_main_v497 (F := Ideal) x0 x1 x6 (ix5 b n h i j) = ∑ k, dscores (lg x6 h) (O x0 b h n.val) (P x1 1024 b h n.val) k i * Q x1 x2 x3 x4 x5 b h n.val k j :=
  (dotA2 (val_main_v496 (F := Ideal) x0 x1 x6) (val_main_v46 (F := Ideal) x1) b n h i j).trans
    (Finset.sum_congr rfl fun k _ => congrArg₂ (· * ·) (v496_eq x0 x1 x6 b n h k i) (v46_eq x1 x2 x3 x4 x5 b n h k j))

theorem v498_eq (b : Fin 2) (n : Fin 2) (h : Fin 4) (i j : Fin 128) :
    val_main_v498 (F := Ideal) x0 x1 x6 (ix5 b n h i j) = ∑ k, dscores (lg x6 h) (O x0 b h n.val) (P x1 1024 b h n.val) i k * K x1 x2 x3 x4 x5 b h n.val k j :=
  (dotC2 (val_main_v496 (F := Ideal) x0 x1 x6) (val_main_v48 (F := Ideal) x1) b n h i j).trans
    (Finset.sum_congr rfl fun k _ => congrArg₂ (· * ·) (v496_eq x0 x1 x6 b n h i k) (v48_eq x1 x2 x3 x4 x5 b n h k j))

/-- The queries' gradients. -/
theorem v499_eq (b : Fin 2) (n : Fin 2) (h : Fin 4) (i j : Fin 128) :
    val_main_v499 (F := Ideal) x0 x1 x6 (ix5 b n h i j) = dq (lg x6 h) (K x1 x2 x3 x4 x5 b h n.val) (P x1 1024 b h n.val) (St x1 x2 x3 x4 x5 x6 b h n.val) (O x0 b h n.val) i j :=
  congrArg₂ (· + ·) (v491_eq x0 x1 x2 x3 x4 x5 x6 b n h i j) (v498_eq x0 x1 x2 x3 x4 x5 x6 b n h i j)

theorem v504_eq (b : Fin 2) (n : Fin 2) (h : Fin 4) (i j : Fin 128) :
    val_main_v504 (F := Ideal) x0 x1 x2 x3 x4 x5 x6 (ix5 b n h i j) = ∑ k, Dt x0 x1 x2 x3 x4 x5 x6 b h (17 - n.val) k i * (K x1 x2 x3 x4 x5 b h n.val j k * kexp (lg x6 h) j) :=
  (dotD2 (val_main_v503 (F := Ideal) x0 x1 x2 x3 x4 x5 x6) (val_main_v66 (F := Ideal) x1 x6) b n h i j).trans
    (Finset.sum_congr rfl fun k _ => congrArg₂ (· * ·) (v503_eq x0 x1 x2 x3 x4 x5 x6 b n h k i) (v66_eq x1 x2 x3 x4 x5 x6 b n h j k))

theorem v505_eq (b : Fin 2) (n : Fin 2) (h : Fin 4) (i j : Fin 128) :
    val_main_v505 (F := Ideal) x0 x1 x2 x3 x4 x5 x6 (ix5 b n h i j) = ∑ k, Dt x0 x1 x2 x3 x4 x5 x6 b h (17 - n.val) k j * (K x1 x2 x3 x4 x5 b h n.val i k * kexp (lg x6 h) i) :=
  (swap2 (val_main_v504 (F := Ideal) x0 x1 x2 x3 x4 x5 x6) b n h i j).trans (v504_eq x0 x1 x2 x3 x4 x5 x6 b n h j i)

/-- The values' gradients. -/
theorem v506_eq (b : Fin 2) (n : Fin 2) (h : Fin 4) (i j : Fin 128) :
    val_main_v506 (F := Ideal) x0 x1 x2 x3 x4 x5 x6 (ix5 b n h i j) = dv (lg x6 h) (Q x1 x2 x3 x4 x5 b h n.val) (K x1 x2 x3 x4 x5 b h n.val) (O x0 b h n.val) (Dt x0 x1 x2 x3 x4 x5 x6 b h (17 - n.val)) i j :=
  congrArg₂ (· + ·) (v493_eq x0 x1 x2 x3 x4 x5 x6 b n h i j) (v505_eq x0 x1 x2 x3 x4 x5 x6 b n h i j)

theorem v507_eq (b : Fin 2) (n : Fin 2) (h : Fin 4) (i j : Fin 128) :
    val_main_v507 (F := Ideal) x0 x1 x2 x3 x4 x5 x6 (ix5 b n h i j) = ∑ k, Dt x0 x1 x2 x3 x4 x5 x6 b h (17 - n.val) i k * P x1 1024 b h n.val j k :=
  (dotB2 (val_main_v503 (F := Ideal) x0 x1 x2 x3 x4 x5 x6) (val_main_v50 (F := Ideal) x1) b n h i j).trans
    (Finset.sum_congr rfl fun k _ => congrArg₂ (· * ·) (v503_eq x0 x1 x2 x3 x4 x5 x6 b n h i k) (v50_eq x1 b n h j k))

theorem v508_eq (b : Fin 2) (n : Fin 2) (h : Fin 4) (i j : Fin 128) :
    val_main_v508 (F := Ideal) x0 x1 x2 x3 x4 x5 x6 (ix5 b n h i j) = ∑ k, Dt x0 x1 x2 x3 x4 x5 x6 b h (17 - n.val) j k * P x1 1024 b h n.val i k :=
  (swap2 (val_main_v507 (F := Ideal) x0 x1 x2 x3 x4 x5 x6) b n h i j).trans (v507_eq x0 x1 x2 x3 x4 x5 x6 b n h j i)

theorem v509_eq (b : Fin 2) (n : Fin 2) (h : Fin 4) (i j : Fin 128) :
    val_main_v509 (F := Ideal) x6 (ix5 b n h i j) = kexp (lg x6 h) i :=
  (row2 (val_main_v59 (F := Ideal) x6) b n h i j).trans (v59_eq x6 h i)

theorem v510_eq (b : Fin 2) (n : Fin 2) (h : Fin 4) (i j : Fin 128) :
    val_main_v510 (F := Ideal) x0 x1 x2 x3 x4 x5 x6 (ix5 b n h i j) = (∑ k, Dt x0 x1 x2 x3 x4 x5 x6 b h (17 - n.val) j k * P x1 1024 b h n.val i k) * kexp (lg x6 h) i :=
  congrArg₂ (· * ·) (v508_eq x0 x1 x2 x3 x4 x5 x6 b n h i j) (v509_eq x6 b n h i j)

/-- The keys' gradients. -/
theorem v511_eq (b : Fin 2) (n : Fin 2) (h : Fin 4) (i j : Fin 128) :
    val_main_v511 (F := Ideal) x0 x1 x2 x3 x4 x5 x6 (ix5 b n h i j) = dk (lg x6 h) (Q x1 x2 x3 x4 x5 b h n.val) (P x1 1024 b h n.val) (O x0 b h n.val) (Dt x0 x1 x2 x3 x4 x5 x6 b h (17 - n.val)) i j :=
  congrArg₂ (· + ·) (v497_eq x0 x1 x2 x3 x4 x5 x6 b n h i j) (v510_eq x0 x1 x2 x3 x4 x5 x6 b n h i j)

end Cert.ReferenceIdeal.Chunks

end
-- ==== Proof.Retention.States.lean ====
/-
  The array of states at an index, when the kernel call is entered.
-/
module

public import proofs.«01_k».proof.Proof.Retention.Tables
public import proofs.«01_k».proof.Proof.Retention.RefChunks

@[expose] public section

set_option maxRecDepth 16384

noncomputable section

namespace Cert.KernelIdeal.HostLines

open Cert.KernelIdeal Cert.KernelIdeal.Gen Idealize.ShloMosaic Idealize.ShloMosaic.TcCoe Cert.Retention

variable (m : (ℓ : Loc nD τ sig) → Buf (Elt Ideal) ℓ) (c : Dev nD)

/-- Sixteen single chunks put together, entry by entry. -/
theorem sixteen (s0 s1 s2 s3 s4 s5 s6 s7 s8 s9 s10 s11 s12 s13 s14 s15 : FVec Ideal S2x1x4x128x128 .f32) (hc) (b : Fin 2) (n : Fin 16) (h : Fin 4) (i d : Fin 128) (T : ℕ → EReal)
    (e0 : s0 (ix5 b 0 h i d) = T 0) (e1 : s1 (ix5 b 0 h i d) = T 1) (e2 : s2 (ix5 b 0 h i d) = T 2) (e3 : s3 (ix5 b 0 h i d) = T 3) (e4 : s4 (ix5 b 0 h i d) = T 4) (e5 : s5 (ix5 b 0 h i d) = T 5) (e6 : s6 (ix5 b 0 h i d) = T 6) (e7 : s7 (ix5 b 0 h i d) = T 7) (e8 : s8 (ix5 b 0 h i d) = T 8) (e9 : s9 (ix5 b 0 h i d) = T 9) (e10 : s10 (ix5 b 0 h i d) = T 10) (e11 : s11 (ix5 b 0 h i d) = T 11) (e12 : s12 (ix5 b 0 h i d) = T 12) (e13 : s13 (ix5 b 0 h i d) = T 13) (e14 : s14 (ix5 b 0 h i d) = T 14) (e15 : s15 (ix5 b 0 h i d) = T 15) :
    concatenate S2x16x4x128x128 1 [⟨S2x1x4x128x128, s0⟩, ⟨S2x1x4x128x128, s1⟩, ⟨S2x1x4x128x128, s2⟩, ⟨S2x1x4x128x128, s3⟩, ⟨S2x1x4x128x128, s4⟩, ⟨S2x1x4x128x128, s5⟩, ⟨S2x1x4x128x128, s6⟩, ⟨S2x1x4x128x128, s7⟩, ⟨S2x1x4x128x128, s8⟩, ⟨S2x1x4x128x128, s9⟩, ⟨S2x1x4x128x128, s10⟩, ⟨S2x1x4x128x128, s11⟩, ⟨S2x1x4x128x128, s12⟩, ⟨S2x1x4x128x128, s13⟩, ⟨S2x1x4x128x128, s14⟩, ⟨S2x1x4x128x128, s15⟩] hc (ix5 b n h i d) = T n.val := by
  refine (Cert.ReferenceIdeal.Chunks.cat16 ![s0, s1, s2, s3, s4, s5, s6, s7, s8, s9, s10, s11, s12, s13, s14, s15] hc b n h i d).trans ?_
  match n with
  | ⟨0, _⟩ => exact e0
  | ⟨1, _⟩ => exact e1
  | ⟨2, _⟩ => exact e2
  | ⟨3, _⟩ => exact e3
  | ⟨4, _⟩ => exact e4
  | ⟨5, _⟩ => exact e5
  | ⟨6, _⟩ => exact e6
  | ⟨7, _⟩ => exact e7
  | ⟨8, _⟩ => exact e8
  | ⟨9, _⟩ => exact e9
  | ⟨10, _⟩ => exact e10
  | ⟨11, _⟩ => exact e11
  | ⟨12, _⟩ => exact e12
  | ⟨13, _⟩ => exact e13
  | ⟨14, _⟩ => exact e14
  | ⟨15, _⟩ => exact e15
  | ⟨k + 16, hk⟩ => exact absurd hk (by omega)

/-- Two single chunks put together, entry by entry. -/
theorem two (s0 s1 : FVec Ideal S2x1x4x128x128 .f32) (hc) (b : Fin 2) (n : Fin 2) (h : Fin 4) (i d : Fin 128) (T : ℕ → EReal)
    (e0 : s0 (ix5 b 0 h i d) = T 16) (e1 : s1 (ix5 b 0 h i d) = T 17) :
    concatenate S2x2x4x128x128 1 [⟨S2x1x4x128x128, s0⟩, ⟨S2x1x4x128x128, s1⟩] hc (ix5 b n h i d) = T (n.val + 16) := by
  refine (Cert.ReferenceIdeal.Chunks.cat2 ![s0, s1] hc b n h i d).trans ?_
  match n with
  | ⟨0, _⟩ => exact e0
  | ⟨1, _⟩ => exact e1
  | ⟨k + 2, hk⟩ => exact absurd hk (by omega)

/-- Sixteen and two chunks put together, entry by entry. -/
theorem eighteen (x : FVec Ideal S2x16x4x128x128 .f32) (y : FVec Ideal S2x2x4x128x128 .f32) (hc) (b : Fin 2) (n : Fin 18) (h : Fin 4)
    (i d : Fin 128) (T : ℕ → EReal) (ex : ∀ k : Fin 16, x (ix5 b k h i d) = T k.val) (ey : ∀ k : Fin 2, y (ix5 b k h i d) = T (k.val + 16)) :
    concatenate S2x18x4x128x128 1 [⟨S2x16x4x128x128, x⟩, ⟨S2x2x4x128x128, y⟩] hc (ix5 b n h i d) = T n.val := by
  by_cases hn : n.val < 16
  · refine (concatenate_pair_apply_left (t := S2x18x4x128x128) 1 x y hc _ rfl (ix5 b ⟨n.val, hn⟩ h i d) (fun a => match a with
      | ⟨0, _⟩ => rfl | ⟨1, _⟩ => rfl | ⟨2, _⟩ => rfl | ⟨3, _⟩ => rfl | ⟨4, _⟩ => rfl)).trans ?_
    exact ex ⟨n.val, hn⟩
  · have hn' := n.isLt
    refine (concatenate_pair_apply_right (t := S2x18x4x128x128) 1 x y hc _ rfl rfl (ix5 b ⟨n.val - 16, by omega⟩ h i d) (fun a => match a with
      | ⟨0, _⟩ => fun _ => rfl | ⟨1, _⟩ => fun q => absurd rfl q | ⟨2, _⟩ => fun _ => rfl | ⟨3, _⟩ => fun _ => rfl
      | ⟨4, _⟩ => fun _ => rfl) (by show n.val - 16 + 16 = n.val; omega)).trans ?_
    refine (ey ⟨n.val - 16, by omega⟩).trans ?_
    show T (n.val - 16 + 16) = _
    rw [Nat.sub_add_cancel (by omega)]

set_option maxHeartbeats 4000000 in
/-- The first sixteen states. -/
theorem v206_apply (b : Fin 2) (n : Fin 16) (h : Fin 4) (i d : Fin 128) :
    V m c main_v206 (ix5 b n h i d) = St (a1 m c) (a2 m c) (a3 m c) (a4 m c) (a5 m c) (a6 m c) b h n.val i d :=
  (congrFun (readN m c (y := main_v206) (i := 216) rfl (by decide +kernel) (by decide +kernel)) _).trans
    (sixteen (V m c main_v24) (V m c main_v48) (V m c main_v53) (V m c main_v130) (V m c main_v135) (V m c main_v140) (V m c main_v145) (V m c main_v150) (V m c main_v155) (V m c main_v160) (V m c main_v165) (V m c main_v170) (V m c main_v175) (V m c main_v180) (V m c main_v185) (V m c main_v190) _ b n h i d (fun k => St (a1 m c) (a2 m c) (a3 m c) (a4 m c) (a5 m c) (a6 m c) b h k i d)
      ((congrFun (v24_eq m c) _).trans (Cert.ReferenceIdeal.Chunks.v18_eq (a1 m c) (a2 m c) (a3 m c) (a4 m c) (a5 m c) (a6 m c) b h i d))
      ((congrFun (v48_eq m c) _).trans (Cert.ReferenceIdeal.Chunks.v74_eq (a1 m c) (a2 m c) (a3 m c) (a4 m c) (a5 m c) (a6 m c) b h i d))
      ((congrFun (v53_eq m c) _).trans (Cert.ReferenceIdeal.Chunks.v79_eq (a1 m c) (a2 m c) (a3 m c) (a4 m c) (a5 m c) (a6 m c) b h i d))
      ((congrFun (v130_eq m c) _).trans (Cert.ReferenceIdeal.Chunks.v230_eq (a1 m c) (a2 m c) (a3 m c) (a4 m c) (a5 m c) (a6 m c) b h i d))
      ((congrFun (v135_eq m c) _).trans (Cert.ReferenceIdeal.Chunks.v235_eq (a1 m c) (a2 m c) (a3 m c) (a4 m c) (a5 m c) (a6 m c) b h i d))
      ((congrFun (v140_eq m c) _).trans (Cert.ReferenceIdeal.Chunks.v240_eq (a1 m c) (a2 m c) (a3 m c) (a4 m c) (a5 m c) (a6 m c) b h i d))
      ((congrFun (v145_eq m c) _).trans (Cert.ReferenceIdeal.Chunks.v245_eq (a1 m c) (a2 m c) (a3 m c) (a4 m c) (a5 m c) (a6 m c) b h i d))
      ((congrFun (v150_eq m c) _).trans (Cert.ReferenceIdeal.Chunks.v250_eq (a1 m c) (a2 m c) (a3 m c) (a4 m c) (a5 m c) (a6 m c) b h i d))
      ((congrFun (v155_eq m c) _).trans (Cert.ReferenceIdeal.Chunks.v255_eq (a1 m c) (a2 m c) (a3 m c) (a4 m c) (a5 m c) (a6 m c) b h i d))
      ((congrFun (v160_eq m c) _).trans (Cert.ReferenceIdeal.Chunks.v260_eq (a1 m c) (a2 m c) (a3 m c) (a4 m c) (a5 m c) (a6 m c) b h i d))
      ((congrFun (v165_eq m c) _).trans (Cert.ReferenceIdeal.Chunks.v265_eq (a1 m c) (a2 m c) (a3 m c) (a4 m c) (a5 m c) (a6 m c) b h i d))
      ((congrFun (v170_eq m c) _).trans (Cert.ReferenceIdeal.Chunks.v270_eq (a1 m c) (a2 m c) (a3 m c) (a4 m c) (a5 m c) (a6 m c) b h i d))
      ((congrFun (v175_eq m c) _).trans (Cert.ReferenceIdeal.Chunks.v275_eq (a1 m c) (a2 m c) (a3 m c) (a4 m c) (a5 m c) (a6 m c) b h i d))
      ((congrFun (v180_eq m c) _).trans (Cert.ReferenceIdeal.Chunks.v280_eq (a1 m c) (a2 m c) (a3 m c) (a4 m c) (a5 m c) (a6 m c) b h i d))
      ((congrFun (v185_eq m c) _).trans (Cert.ReferenceIdeal.Chunks.v285_eq (a1 m c) (a2 m c) (a3 m c) (a4 m c) (a5 m c) (a6 m c) b h i d))
      ((congrFun (v190_eq m c) _).trans (Cert.ReferenceIdeal.Chunks.v290_eq (a1 m c) (a2 m c) (a3 m c) (a4 m c) (a5 m c) (a6 m c) b h i d)))

set_option maxHeartbeats 4000000 in
/-- The last two. -/
theorem v207_apply (b : Fin 2) (n : Fin 2) (h : Fin 4) (i d : Fin 128) :
    V m c main_v207 (ix5 b n h i d) = St (a1 m c) (a2 m c) (a3 m c) (a4 m c) (a5 m c) (a6 m c) b h (n.val + 16) i d :=
  (congrFun (read2 m c (y := main_v207) (i := 217) rfl (by decide +kernel) (by decide +kernel) (by decide +kernel) rfl rfl) _).trans
    (two (V m c main_v195) (V m c main_v200) _ b n h i d (fun k => St (a1 m c) (a2 m c) (a3 m c) (a4 m c) (a5 m c) (a6 m c) b h k i d)
      ((congrFun (v195_eq m c) _).trans (Cert.ReferenceIdeal.Chunks.v295_eq (a1 m c) (a2 m c) (a3 m c) (a4 m c) (a5 m c) (a6 m c) b h i d))
      ((congrFun (v200_eq m c) _).trans (Cert.ReferenceIdeal.Chunks.v300_eq (a1 m c) (a2 m c) (a3 m c) (a4 m c) (a5 m c) (a6 m c) b h i d)))

set_option maxHeartbeats 4000000 in
/-- The array of states at an index: the state before chunk `n`. -/
theorem v208_apply (b : Fin 2) (n : Fin 18) (h : Fin 4) (i d : Fin 128) :
    V m c main_v208 (ix5 b n h i d) = St (a1 m c) (a2 m c) (a3 m c) (a4 m c) (a5 m c) (a6 m c) b h n.val i d :=
  (congrFun (read2 m c (y := main_v208) (i := 218) rfl (by decide +kernel) (by decide +kernel) (by decide +kernel) rfl rfl) _).trans
    (eighteen (V m c main_v206) (V m c main_v207) _ b n h i d (fun k => St (a1 m c) (a2 m c) (a3 m c) (a4 m c) (a5 m c) (a6 m c) b h k i d)
      (fun k => v206_apply m c b k h i d) (fun k => v207_apply m c b k h i d))

end Cert.KernelIdeal.HostLines

end
-- ==== Proof.Retention.Body.lean ====
/-
  One body of the kernel: what it stores for one example and one head, as functions of the windows it reads, the same text
  for all eight; and what those functions are at an index over the extended reals, in the vocabulary of Spec.lean.
-/
module

public import proofs.«01_k».proof.Proof.Gen.KernelIdeal.Skeleton
public import proofs.«01_k».proof.Proof.Retention.Spec

@[expose] public section

noncomputable section

namespace Cert.KernelIdeal.Body

open Cert.KernelIdeal Cert.KernelIdeal.Gen Idealize.ShloMosaic Cert.Retention

variable {F : FTy → Type} [FloatOps F]

/-- The logarithm of head `hd`'s decay, from the row of the decays' logarithms. -/
def lgV (hd : BitVec 32) (ld : Vec F S1x128 .f32) : FVec F S1x1 .f32 :=
  subf (broadcast S1x1 (Scalar.ofBits .f32 0x00000000#32)) (exp (shapeCast S1x1 (multiReduction .add [1] S1
    (select (cmpi .eq (iota .tc S1x128 32 [1] iota_S1x128_d1_w32) (broadcast S1x128 hd)) (shapeCast S1x128 ld shapeCasts_S1x128_S1x128)
      (broadcast S1x128 (Scalar.ofBits .f32 0x00000000#32))) 0x00000000#32 reduces_S1x128_S1 (.inl rfl) rfl) shapeCasts_S1_S1x1))

/-- Rows with the features exchanged in pairs. -/
def swp (x : FVec F S128x128 .f32) : FVec F S128x128 .f32 :=
  select k0_pay15 (dynamicRotate 1 96#32 none x rotates_S128x128_d1) (dynamicRotate 1 32#32 none x rotates_S128x128_d1)

/-- The rotation. -/
def rotV (cos sin x : FVec F S128x128 .f32) : FVec F S128x128 .f32 := addf (mulf x cos) (mulf (swp x) sin)

/-- The transposed rotation. -/
def unrotV (cos sin g : FVec F S128x128 .f32) : FVec F S128x128 .f32 := addf (swp (mulf g sin)) (mulf g cos)

/-- Products of two matrices, each rounded to bf16, with the contraction on the second axes, on the inner axes, on the
    first axes. -/
def nt (a b : FVec F S128x128 .f32) : FVec F S128x128 .f32 :=
  matmul dot_S128x128_S128x128_S128x128_1_1_0_0_n_n none (truncf .bf16 a bitsLt_bf16_f32) (truncf .bf16 b bitsLt_bf16_f32)
    (constant S128x128 .f32 0x00000000#32)
@[inherit_doc nt] def nn (a b : FVec F S128x128 .f32) : FVec F S128x128 .f32 :=
  matmul dot_S128x128_S128x128_S128x128_1_0_0_1_n_n none (truncf .bf16 a bitsLt_bf16_f32) (truncf .bf16 b bitsLt_bf16_f32)
    (constant S128x128 .f32 0x00000000#32)
@[inherit_doc nt] def tn (a b : FVec F S128x128 .f32) : FVec F S128x128 .f32 :=
  matmul dot_S128x128_S128x128_S128x128_0_0_1_1_n_n none (truncf .bf16 a bitsLt_bf16_f32) (truncf .bf16 b bitsLt_bf16_f32)
    (constant S128x128 .f32 0x00000000#32)

/-- A window as a matrix. -/
def m2 (x : Vec F S128x128 .f32) : FVec F S128x128 .f32 := shapeCast S128x128 x shapeCasts_S128x128_S128x128
@[inherit_doc m2] def m3 (x : Vec F S1x128x128 .f32) : FVec F S128x128 .f32 := shapeCast S128x128 x shapeCasts_S1x128x128_S128x128
@[inherit_doc m2] def m4 (x : Vec F S1x1x128x128 .f32) : FVec F S128x128 .f32 := shapeCast S128x128 x shapeCasts_S1x1x128x128_S128x128
@[inherit_doc m2] def m5 (x : Vec F S1x1x1x128x128 .f32) : FVec F S128x128 .f32 :=
  shapeCast S128x128 x shapeCasts_S1x1x1x128x128_S128x128

/-- The scale of the keys, at every entry. -/
def scaleV : FVec F S128x128 .f32 := broadcast S128x128 (Scalar.ofBits .f32 0x3DB504F3#32)

/-- The decays of Spec.lean as the body computes them. -/
def qeV (lg : FVec F S1x1 .f32) : FVec F S128x128 .f32 := broadcastTo S128x128 (k0_pay29 lg) broadcasts_S128x1_S128x128
@[inherit_doc qeV] def keV (lg : FVec F S1x1 .f32) : FVec F S128x128 .f32 := broadcastTo S128x128 (k0_pay32 lg) broadcasts_S128x1_S128x128
@[inherit_doc qeV] def ceV (lg : FVec F S1x1 .f32) : FVec F S128x128 .f32 := broadcastTo S128x128 (k0_pay31 lg) broadcasts_S1x1_S128x128

/-- The gradient of the rotated queries. -/
def dqV (lg : FVec F S1x1 .f32) (k v s o : FVec F S128x128 .f32) : FVec F S128x128 .f32 :=
  addf (mulf (nt o s) (qeV lg)) (nn (mulf (nt o v) (k0_pay26 lg)) k)

/-- The gradient of the rotated and scaled keys. -/
def dkV (lg : FVec F S1x1 .f32) (q v o d : FVec F S128x128 .f32) : FVec F S128x128 .f32 :=
  addf (mulf (nt v d) (keV lg)) (tn (mulf (nt o v) (k0_pay26 lg)) q)

/-- The gradient of the values. -/
def dvV (lg : FVec F S1x1 .f32) (q k o d : FVec F S128x128 .f32) : FVec F S128x128 .f32 :=
  addf (nn (mulf k (keV lg)) d) (tn (mulf (nt q k) (k0_pay26 lg)) o)

/-- The state's cotangent before the chunk. -/
def dsV (lg : FVec F S1x1 .f32) (q o d : FVec F S128x128 .f32) : FVec F S128x128 .f32 :=
  addf (mulf d (ceV lg)) (tn (mulf q (qeV lg)) o)

/-- What the body stores as the queries' gradient. -/
def outQ (hd : BitVec 32) (ld : Vec F S1x128 .f32) (cos sin : Vec F S128x128 .f32) (s : Vec F S1x1x1x128x128 .f32)
    (k v o : Vec F S1x128x128 .f32) : FVec F S1x128x128 .f32 :=
  shapeCast S1x128x128 (unrotV (m2 cos) (m2 sin)
    (dqV (lgV hd ld) (mulf (rotV (m2 cos) (m2 sin) (m3 k)) scaleV) (m3 v) (m5 s) (m3 o))) shapeCasts_S128x128_S1x128x128

/-- What the body stores as the keys' gradient. -/
def outK (hd : BitVec 32) (ld : Vec F S1x128 .f32) (cos sin : Vec F S128x128 .f32)
    (q v o : Vec F S1x128x128 .f32) (d : Vec F S1x1x128x128 .f32) : FVec F S1x128x128 .f32 :=
  shapeCast S1x128x128 (unrotV (m2 cos) (m2 sin)
    (mulf (dkV (lgV hd ld) (rotV (m2 cos) (m2 sin) (m3 q)) (m3 v) (m3 o) (m2 (m4 d))) scaleV)) shapeCasts_S128x128_S1x128x128

/-- What the body stores as the values' gradient. -/
def outV (hd : BitVec 32) (ld : Vec F S1x128 .f32) (cos sin : Vec F S128x128 .f32)
    (q k o : Vec F S1x128x128 .f32) (d : Vec F S1x1x128x128 .f32) : FVec F S1x128x128 .f32 :=
  shapeCast S1x128x128
    (dvV (lgV hd ld) (rotV (m2 cos) (m2 sin) (m3 q)) (mulf (rotV (m2 cos) (m2 sin) (m3 k)) scaleV) (m3 o) (m2 (m4 d)))
    shapeCasts_S128x128_S1x128x128

/-- What the body stores as the state's cotangent. -/
def outD (hd : BitVec 32) (ld : Vec F S1x128 .f32) (cos sin : Vec F S128x128 .f32)
    (q o : Vec F S1x128x128 .f32) (d : Vec F S1x1x128x128 .f32) : FVec F S1x1x128x128 .f32 :=
  shapeCast S1x1x128x128 (dsV (lgV hd ld) (rotV (m2 cos) (m2 sin) (m3 q)) (m2 (m3 o)) (m2 (m4 d))) shapeCasts_S128x128_S1x1x128x128

/-! ## At an index over the extended reals -/

/-- A matrix of the body as a function of its two coordinates. -/
abbrev fn (x : FVec Ideal S128x128 .f32) : M := fun i j => x (ix2 i j)

theorem mask_lane : ∀ d : Fin 128, (k0_pay15 (ix2 (0 : Fin 128) d) : BitVec 1) = if d.val % 64 < 32 then 1#1 else 0#1 := by
  decide +kernel

theorem mask_apply (i d : Fin 128) : (k0_pay15 (ix2 i d) : BitVec 1) = if d.val % 64 < 32 then 1#1 else 0#1 := by
  rw [← mask_lane d]; rfl

theorem swp_apply (x : FVec F S128x128 .f32) (i d : Fin 128) : swp x (ix2 i d) = x (ix2 i (sw d)) := by
  unfold swp
  pointwise
  rw [mask_apply]
  unfold sw
  split
  · show x _ = x _
    congr 2
  · show x _ = x _
    congr 2; ext; simp [Fin.ofNat]; omega

theorem nt_apply (a b : FVec Ideal S128x128 .f32) (i j : Fin 128) :
    nt a b (ix2 i j) = ∑ k : Fin 128, a (ix2 i k) * b (ix2 j k) := by
  pointwise [nt]

theorem nn_apply (a b : FVec Ideal S128x128 .f32) (i j : Fin 128) :
    nn a b (ix2 i j) = ∑ k : Fin 128, a (ix2 i k) * b (ix2 k j) := by
  pointwise [nn]

theorem tn_apply (a b : FVec Ideal S128x128 .f32) (i j : Fin 128) :
    tn a b (ix2 i j) = ∑ k : Fin 128, a (ix2 k i) * b (ix2 k j) := by
  pointwise [tn]

theorem lgV_apply (h : Fin 4) (ld : Vec Ideal S1x128 .f32) :
    lgV (BitVec.ofNat 32 h.val) ld (ix2 0 0) = -Ideal.exp (ld (ix2 0 (Fin.ofNat 128 h.val))) := by
  pointwise [lgV]
  rw [zero_sub]
  congr 2
  rw [Finset.sum_eq_single (Fin.ofNat 128 h.val)]
  · fin_cases h <;> rfl
  · intro b _ hb
    have hne : BitVec.ofNat 32 b.val ≠ BitVec.ofNat 32 h.val := by
      intro e
      apply hb
      have := congrArg BitVec.toNat e
      simp at this
      ext
      simp [Fin.ofNat]
      omega
    have : IntOp.cmpi CmpIPredicate.eq (BitVec.ofNat 32 b.val) (BitVec.ofNat 32 h.val) = 0#1 := by
      rw [show IntOp.cmpi CmpIPredicate.eq (BitVec.ofNat 32 b.val) (BitVec.ofNat 32 h.val) = BitVec.ofBool (BitVec.ofNat 32 b.val == BitVec.ofNat 32 h.val) from rfl, beq_false_of_ne hne]; rfl
    rw [this]
    rfl
  · simp

theorem pay26_apply (lg : FVec Ideal S1x1 .f32) (i j : Fin 128) : k0_pay26 lg (ix2 i j) = decay (lg (ix2 0 0)) i j := by
  pointwise [k0_pay26, k0_pay25, k0_pay24, k0_pay19, k0_pay20, k0_pay21, decay, pos]

theorem qeV_apply (lg : FVec Ideal S1x1 .f32) (i j : Fin 128) : qeV lg (ix2 i j) = qexp (lg (ix2 0 0)) i := by
  pointwise [qeV, k0_pay29, k0_pay22, k0_pay19, qexp, pos]

theorem keV_apply (lg : FVec Ideal S1x1 .f32) (i j : Fin 128) : keV lg (ix2 i j) = kexp (lg (ix2 0 0)) i := by
  pointwise [keV, k0_pay32, k0_pay23, k0_pay19, kexp, pos]

theorem ceV_apply (lg : FVec Ideal S1x1 .f32) (i j : Fin 128) : ceV lg (ix2 i j) = cexp (lg (ix2 0 0)) := by
  pointwise [ceV, k0_pay31, cexp]

theorem scaleV_apply (i j : Fin 128) : (scaleV : FVec Ideal S128x128 .f32) (ix2 i j) = scale := by
  pointwise [scaleV, scale]

theorem fn_rotV (c s x : FVec Ideal S128x128 .f32) : fn (rotV c s x) = rot (fn c) (fn s) (fn x) := by
  funext i d
  pointwise [rotV, rot, swp_apply]

theorem fn_unrotV (c s x : FVec Ideal S128x128 .f32) : fn (unrotV c s x) = unrot (fn c) (fn s) (fn x) := by
  funext i d
  pointwise [unrotV, unrot, swp_apply]

theorem fn_dqV (lg : FVec Ideal S1x1 .f32) (k v s o : FVec Ideal S128x128 .f32) :
    fn (dqV lg k v s o) = dq (lg (ix2 0 0)) (fn k) (fn v) (fn s) (fn o) := by
  funext i d
  pointwise [dqV, dq, dscores, nt_apply, nn_apply, qeV_apply, pay26_apply]

theorem fn_dkV (lg : FVec Ideal S1x1 .f32) (q v o D : FVec Ideal S128x128 .f32) :
    fn (dkV lg q v o D) = dk (lg (ix2 0 0)) (fn q) (fn v) (fn o) (fn D) := by
  funext i d
  pointwise! [dkV, dk, dscores, nt_apply, tn_apply, keV_apply, pay26_apply]

theorem fn_dvV (lg : FVec Ideal S1x1 .f32) (q k o D : FVec Ideal S128x128 .f32) :
    fn (dvV lg q k o D) = dv (lg (ix2 0 0)) (fn q) (fn k) (fn o) (fn D) := by
  funext i d
  pointwise [dvV, dv, scores, nt_apply, nn_apply, tn_apply, keV_apply, pay26_apply]
  rw [add_comm]
  exact congrArg₂ _ (Finset.sum_congr rfl fun _ _ => mul_comm _ _) (Finset.sum_congr rfl fun _ _ => mul_comm _ _)

theorem fn_dsV (lg : FVec Ideal S1x1 .f32) (q o D : FVec Ideal S128x128 .f32) :
    fn (dsV lg q o D) = dNext (lg (ix2 0 0)) (fn q) (fn o) (fn D) := by
  funext i d
  pointwise [dsV, dNext, tn_apply, qeV_apply, ceV_apply]
  rw [add_comm]
  exact congrArg₂ _ (Finset.sum_congr rfl fun _ _ => mul_comm _ _) rfl

/-- The scale is a positive real. -/
theorem scale_real : ∃ r : ℝ, 0 ≤ r ∧ scale = (r : EReal) := by
  refine ⟨_, ?_, by simp [scale, Ideal.ofBits, Ideal.ieee, -EReal.coe_mul]; rfl⟩
  norm_num

theorem add_mul_scale (a b : EReal) : (a + b) * scale = a * scale + b * scale := by
  obtain ⟨r, hr, e⟩ := scale_real
  rw [e]
  exact EReal.right_distrib_of_nonneg_of_ne_top (by exact_mod_cast hr) (EReal.coe_ne_top r) _ _

/-- A rotation of scaled rows is the scaled rotation. -/
theorem rot_scale (c s x : M) : rot c s (fun i d => x i d * scale) = fun i d => rot c s x i d * scale := by
  funext i d
  simp only [rot, add_mul_scale, mul_right_comm]

/-- A transposed rotation of scaled rows is the scaled one. -/
theorem unrot_scale (c s g : M) : unrot c s (fun i d => g i d * scale) = fun i d => unrot c s g i d * scale := by
  funext i d
  simp only [unrot, add_mul_scale, mul_right_comm]

end Cert.KernelIdeal.Body

end
-- ==== Proof.Retention.Pieces.lean ====
/-
  What a grid point of the kernel leaves in its output blocks and in the scratch it carries, store by store: eight stores of the body's functions
  (Body.lean), one for each example and head, at the window's matrices of that example and head.
-/
module

public import proofs.«01_k».proof.Proof.Gen.KernelIdeal.Value
public import Idealize.ShloMosaic.Lib.Pipeline.ReadBack
public import Idealize.ShloMosaic.Lib.Pipeline.ValueKit
public import proofs.«01_k».proof.Proof.Retention.Body

@[expose] public section

noncomputable section
namespace Cert.KernelIdeal.Body
open Cert.KernelIdeal Cert.KernelIdeal.Gen Idealize.ShloMosaic Idealize.ShloMosaic.TcCoe Idealize.SL.Sem
open Idealize.ShloMosaic.Pipeline (Dat)
variable {F : FTy → Type} [FloatOps F]

/-! ## The matrices of one example and one head -/

/-- In a block of rows: example `b`, the columns of head `h`. -/
abbrev r3 (b : Fin 2) (h : Fin 4) : Rect S2x128x512 :=
  Rect.unit ![b.val, 0, 128 * h.val] ![1, 128, 128] (fun a => match a with
    | ⟨0, _⟩ => by show b.val + 1 ≤ 2; omega | ⟨1, _⟩ => by show 0 + 128 ≤ 128; omega | ⟨2, _⟩ => by show 128 * h.val + 128 ≤ 512; omega)

/-- In a chunk of states. -/
abbrev r5 (b : Fin 2) (h : Fin 4) : Rect S2x1x4x128x128 :=
  Rect.unit ![b.val, 0, h.val, 0, 0] ![1, 1, 1, 128, 128] (fun a => match a with
    | ⟨0, _⟩ => by show b.val + 1 ≤ 2; omega | ⟨1, _⟩ => by show 0 + 1 ≤ 1; omega | ⟨2, _⟩ => by show h.val + 1 ≤ 4; omega
    | ⟨3, _⟩ => by show 0 + 128 ≤ 128; omega | ⟨4, _⟩ => by show 0 + 128 ≤ 128; omega)

/-- In the scratch. -/
abbrev r4 (b : Fin 2) (h : Fin 4) : Rect S2x4x128x128 :=
  Rect.unit ![b.val, h.val, 0, 0] ![1, 1, 128, 128] (fun a => match a with
    | ⟨0, _⟩ => by show b.val + 1 ≤ 2; omega | ⟨1, _⟩ => by show h.val + 1 ≤ 4; omega
    | ⟨2, _⟩ => by show 0 + 128 ≤ 128; omega | ⟨3, _⟩ => by show 0 + 128 ≤ 128; omega)

/-- The whole of a table and of a row. -/
abbrev r2 : Rect S128x128 := Rect.unit ![0, 0] ![128, 128] inb_S128x128_S128x128_0_0
@[inherit_doc r2] abbrev r1 : Rect S1x128 := Rect.unit ![0, 0] ![1, 128] inb_S1x128_S1x128_0_0

/-- Eight matrices stored, the last first. -/
def store3 (w : Fin 2 → Fin 4 → FVec F S1x128x128 .f32) : List (View.Piece (Elt F) S2x128x512 .f32) :=
  [⟨r3 1 3, w 1 3⟩, ⟨r3 1 2, w 1 2⟩, ⟨r3 1 1, w 1 1⟩, ⟨r3 1 0, w 1 0⟩, ⟨r3 0 3, w 0 3⟩, ⟨r3 0 2, w 0 2⟩, ⟨r3 0 1, w 0 1⟩, ⟨r3 0 0, w 0 0⟩]
@[inherit_doc store3] def store4 (w : Fin 2 → Fin 4 → FVec F S1x1x128x128 .f32) : List (View.Piece (Elt F) S2x4x128x128 .f32) :=
  [⟨r4 1 3, w 1 3⟩, ⟨r4 1 2, w 1 2⟩, ⟨r4 1 1, w 1 1⟩, ⟨r4 1 0, w 1 0⟩, ⟨r4 0 3, w 0 3⟩, ⟨r4 0 2, w 0 2⟩, ⟨r4 0 1, w 0 1⟩, ⟨r4 0 0, w 0 0⟩]

/-- The scratch before the last chunk: zero. -/
def zeroD : Vec F S2x4x128x128 .f32 := broadcast S2x4x128x128 (Scalar.ofBits .f32 0x00000000#32)

variable (x0 x1 x2 x3 : Vec F S2x128x512 .f32) (x4 : Vec F S2x1x4x128x128 .f32) (x5 x6 : Vec F S128x128 .f32) (x7 : Vec F S1x128 .f32) (xs0 : Vec F S2x4x128x128 .f32)

/-- The four stored matrices as functions of the point's blocks and of the scratch as the point found it. -/
def wQ (b : Fin 2) (h : Fin 4) : FVec F S1x128x128 .f32 :=
  outQ (BitVec.ofNat 32 h.val) (View.ld x7 r1) (View.ld x5 r2) (View.ld x6 r2) (View.ld x4 (r5 b h)) (View.ld x2 (r3 b h)) (View.ld x3 (r3 b h)) (View.ld x0 (r3 b h))
@[inherit_doc wQ] def wK (b : Fin 2) (h : Fin 4) : FVec F S1x128x128 .f32 :=
  outK (BitVec.ofNat 32 h.val) (View.ld x7 r1) (View.ld x5 r2) (View.ld x6 r2) (View.ld x1 (r3 b h)) (View.ld x3 (r3 b h)) (View.ld x0 (r3 b h)) (View.ld xs0 (r4 b h))
@[inherit_doc wQ] def wV (b : Fin 2) (h : Fin 4) : FVec F S1x128x128 .f32 :=
  outV (BitVec.ofNat 32 h.val) (View.ld x7 r1) (View.ld x5 r2) (View.ld x6 r2) (View.ld x1 (r3 b h)) (View.ld x2 (r3 b h)) (View.ld x0 (r3 b h)) (View.ld xs0 (r4 b h))
@[inherit_doc wQ] def wD (b : Fin 2) (h : Fin 4) : FVec F S1x1x128x128 .f32 :=
  outD (BitVec.ofNat 32 h.val) (View.ld x7 r1) (View.ld x5 r2) (View.ld x6 r2) (View.ld x1 (r3 b h)) (View.ld x0 (r3 b h)) (View.ld xs0 (r4 b h))

theorem out0_B_8_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : ¬cond0_0 i) (xo11 : Vec F S1x128 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0 = View.canon (store3 (wQ x0 x2 x3 x4 x5 x6 x7)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 0, 384] ![1, 128, 128] inb_S2x128x512_S1x128x128_1_0_384), outQ 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 3, 0, 0] ![1, 1, 1, 128, 128] inb_S2x1x4x128x128_S1x1x1x128x128_1_0_3_0_0)) (View.ld x2 (Rect.unit ![1, 0, 384] ![1, 128, 128] inb_S2x128x512_S1x128x128_1_0_384)) (View.ld x3 (Rect.unit ![1, 0, 384] ![1, 128, 128] inb_S2x128x512_S1x128x128_1_0_384)) (View.ld x0 (Rect.unit ![1, 0, 384] ![1, 128, 128] inb_S2x128x512_S1x128x128_1_0_384))⟩,
    ⟨(Rect.unit ![1, 0, 256] ![1, 128, 128] inb_S2x128x512_S1x128x128_1_0_256), outQ 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 2, 0, 0] ![1, 1, 1, 128, 128] inb_S2x1x4x128x128_S1x1x1x128x128_1_0_2_0_0)) (View.ld x2 (Rect.unit ![1, 0, 256] ![1, 128, 128] inb_S2x128x512_S1x128x128_1_0_256)) (View.ld x3 (Rect.unit ![1, 0, 256] ![1, 128, 128] inb_S2x128x512_S1x128x128_1_0_256)) (View.ld x0 (Rect.unit ![1, 0, 256] ![1, 128, 128] inb_S2x128x512_S1x128x128_1_0_256))⟩,
    ⟨(Rect.unit ![1, 0, 128] ![1, 128, 128] inb_S2x128x512_S1x128x128_1_0_128), outQ 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 1, 0, 0] ![1, 1, 1, 128, 128] inb_S2x1x4x128x128_S1x1x1x128x128_1_0_1_0_0)) (View.ld x2 (Rect.unit ![1, 0, 128] ![1, 128, 128] inb_S2x128x512_S1x128x128_1_0_128)) (View.ld x3 (Rect.unit ![1, 0, 128] ![1, 128, 128] inb_S2x128x512_S1x128x128_1_0_128)) (View.ld x0 (Rect.unit ![1, 0, 128] ![1, 128, 128] inb_S2x128x512_S1x128x128_1_0_128))⟩,
    ⟨(Rect.unit ![1, 0, 0] ![1, 128, 128] inb_S2x128x512_S1x128x128_1_0_0), outQ 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 0, 0, 0] ![1, 1, 1, 128, 128] inb_S2x1x4x128x128_S1x1x1x128x128_1_0_0_0_0)) (View.ld x2 (Rect.unit ![1, 0, 0] ![1, 128, 128] inb_S2x128x512_S1x128x128_1_0_0)) (View.ld x3 (Rect.unit ![1, 0, 0] ![1, 128, 128] inb_S2x128x512_S1x128x128_1_0_0)) (View.ld x0 (Rect.unit ![1, 0, 0] ![1, 128, 128] inb_S2x128x512_S1x128x128_1_0_0))⟩,
    ⟨(Rect.unit ![0, 0, 384] ![1, 128, 128] inb_S2x128x512_S1x128x128_0_0_384), outQ 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 3, 0, 0] ![1, 1, 1, 128, 128] inb_S2x1x4x128x128_S1x1x1x128x128_0_0_3_0_0)) (View.ld x2 (Rect.unit ![0, 0, 384] ![1, 128, 128] inb_S2x128x512_S1x128x128_0_0_384)) (View.ld x3 (Rect.unit ![0, 0, 384] ![1, 128, 128] inb_S2x128x512_S1x128x128_0_0_384)) (View.ld x0 (Rect.unit ![0, 0, 384] ![1, 128, 128] inb_S2x128x512_S1x128x128_0_0_384))⟩,
    ⟨(Rect.unit ![0, 0, 256] ![1, 128, 128] inb_S2x128x512_S1x128x128_0_0_256), outQ 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 2, 0, 0] ![1, 1, 1, 128, 128] inb_S2x1x4x128x128_S1x1x1x128x128_0_0_2_0_0)) (View.ld x2 (Rect.unit ![0, 0, 256] ![1, 128, 128] inb_S2x128x512_S1x128x128_0_0_256)) (View.ld x3 (Rect.unit ![0, 0, 256] ![1, 128, 128] inb_S2x128x512_S1x128x128_0_0_256)) (View.ld x0 (Rect.unit ![0, 0, 256] ![1, 128, 128] inb_S2x128x512_S1x128x128_0_0_256))⟩,
    ⟨(Rect.unit ![0, 0, 128] ![1, 128, 128] inb_S2x128x512_S1x128x128_0_0_128), outQ 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 1, 0, 0] ![1, 1, 1, 128, 128] inb_S2x1x4x128x128_S1x1x1x128x128_0_0_1_0_0)) (View.ld x2 (Rect.unit ![0, 0, 128] ![1, 128, 128] inb_S2x128x512_S1x128x128_0_0_128)) (View.ld x3 (Rect.unit ![0, 0, 128] ![1, 128, 128] inb_S2x128x512_S1x128x128_0_0_128)) (View.ld x0 (Rect.unit ![0, 0, 128] ![1, 128, 128] inb_S2x128x512_S1x128x128_0_0_128))⟩,
    ⟨(Rect.unit ![0, 0, 0] ![1, 128, 128] inb_S2x128x512_S1x128x128_0_0_0), outQ 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 0, 0, 0] ![1, 1, 1, 128, 128] inb_S2x1x4x128x128_S1x1x1x128x128_0_0_0_0_0)) (View.ld x2 (Rect.unit ![0, 0, 0] ![1, 128, 128] inb_S2x128x512_S1x128x128_0_0_0)) (View.ld x3 (Rect.unit ![0, 0, 0] ![1, 128, 128] inb_S2x128x512_S1x128x128_0_0_0)) (View.ld x0 (Rect.unit ![0, 0, 0] ![1, 128, 128] inb_S2x128x512_S1x128x128_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem out0_B_9_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : ¬cond0_0 i) (xo11 : Vec F S1x128 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0 = View.canon (store3 (wK x0 x1 x3 x5 x6 x7 xs0)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 0, 384] ![1, 128, 128] inb_S2x128x512_S1x128x128_1_0_384), outK 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 384] ![1, 128, 128] inb_S2x128x512_S1x128x128_1_0_384)) (View.ld x3 (Rect.unit ![1, 0, 384] ![1, 128, 128] inb_S2x128x512_S1x128x128_1_0_384)) (View.ld x0 (Rect.unit ![1, 0, 384] ![1, 128, 128] inb_S2x128x512_S1x128x128_1_0_384)) (View.ld xs0 (Rect.unit ![1, 3, 0, 0] ![1, 1, 128, 128] inb_S2x4x128x128_S1x1x128x128_1_3_0_0))⟩,
    ⟨(Rect.unit ![1, 0, 256] ![1, 128, 128] inb_S2x128x512_S1x128x128_1_0_256), outK 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 256] ![1, 128, 128] inb_S2x128x512_S1x128x128_1_0_256)) (View.ld x3 (Rect.unit ![1, 0, 256] ![1, 128, 128] inb_S2x128x512_S1x128x128_1_0_256)) (View.ld x0 (Rect.unit ![1, 0, 256] ![1, 128, 128] inb_S2x128x512_S1x128x128_1_0_256)) (View.ld xs0 (Rect.unit ![1, 2, 0, 0] ![1, 1, 128, 128] inb_S2x4x128x128_S1x1x128x128_1_2_0_0))⟩,
    ⟨(Rect.unit ![1, 0, 128] ![1, 128, 128] inb_S2x128x512_S1x128x128_1_0_128), outK 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 128] ![1, 128, 128] inb_S2x128x512_S1x128x128_1_0_128)) (View.ld x3 (Rect.unit ![1, 0, 128] ![1, 128, 128] inb_S2x128x512_S1x128x128_1_0_128)) (View.ld x0 (Rect.unit ![1, 0, 128] ![1, 128, 128] inb_S2x128x512_S1x128x128_1_0_128)) (View.ld xs0 (Rect.unit ![1, 1, 0, 0] ![1, 1, 128, 128] inb_S2x4x128x128_S1x1x128x128_1_1_0_0))⟩,
    ⟨(Rect.unit ![1, 0, 0] ![1, 128, 128] inb_S2x128x512_S1x128x128_1_0_0), outK 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 0] ![1, 128, 128] inb_S2x128x512_S1x128x128_1_0_0)) (View.ld x3 (Rect.unit ![1, 0, 0] ![1, 128, 128] inb_S2x128x512_S1x128x128_1_0_0)) (View.ld x0 (Rect.unit ![1, 0, 0] ![1, 128, 128] inb_S2x128x512_S1x128x128_1_0_0)) (View.ld xs0 (Rect.unit ![1, 0, 0, 0] ![1, 1, 128, 128] inb_S2x4x128x128_S1x1x128x128_1_0_0_0))⟩,
    ⟨(Rect.unit ![0, 0, 384] ![1, 128, 128] inb_S2x128x512_S1x128x128_0_0_384), outK 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 384] ![1, 128, 128] inb_S2x128x512_S1x128x128_0_0_384)) (View.ld x3 (Rect.unit ![0, 0, 384] ![1, 128, 128] inb_S2x128x512_S1x128x128_0_0_384)) (View.ld x0 (Rect.unit ![0, 0, 384] ![1, 128, 128] inb_S2x128x512_S1x128x128_0_0_384)) (View.ld xs0 (Rect.unit ![0, 3, 0, 0] ![1, 1, 128, 128] inb_S2x4x128x128_S1x1x128x128_0_3_0_0))⟩,
    ⟨(Rect.unit ![0, 0, 256] ![1, 128, 128] inb_S2x128x512_S1x128x128_0_0_256), outK 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 256] ![1, 128, 128] inb_S2x128x512_S1x128x128_0_0_256)) (View.ld x3 (Rect.unit ![0, 0, 256] ![1, 128, 128] inb_S2x128x512_S1x128x128_0_0_256)) (View.ld x0 (Rect.unit ![0, 0, 256] ![1, 128, 128] inb_S2x128x512_S1x128x128_0_0_256)) (View.ld xs0 (Rect.unit ![0, 2, 0, 0] ![1, 1, 128, 128] inb_S2x4x128x128_S1x1x128x128_0_2_0_0))⟩,
    ⟨(Rect.unit ![0, 0, 128] ![1, 128, 128] inb_S2x128x512_S1x128x128_0_0_128), outK 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 128] ![1, 128, 128] inb_S2x128x512_S1x128x128_0_0_128)) (View.ld x3 (Rect.unit ![0, 0, 128] ![1, 128, 128] inb_S2x128x512_S1x128x128_0_0_128)) (View.ld x0 (Rect.unit ![0, 0, 128] ![1, 128, 128] inb_S2x128x512_S1x128x128_0_0_128)) (View.ld xs0 (Rect.unit ![0, 1, 0, 0] ![1, 1, 128, 128] inb_S2x4x128x128_S1x1x128x128_0_1_0_0))⟩,
    ⟨(Rect.unit ![0, 0, 0] ![1, 128, 128] inb_S2x128x512_S1x128x128_0_0_0), outK 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 0] ![1, 128, 128] inb_S2x128x512_S1x128x128_0_0_0)) (View.ld x3 (Rect.unit ![0, 0, 0] ![1, 128, 128] inb_S2x128x512_S1x128x128_0_0_0)) (View.ld x0 (Rect.unit ![0, 0, 0] ![1, 128, 128] inb_S2x128x512_S1x128x128_0_0_0)) (View.ld xs0 (Rect.unit ![0, 0, 0, 0] ![1, 1, 128, 128] inb_S2x4x128x128_S1x1x128x128_0_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem out0_B_10_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : ¬cond0_0 i) (xo11 : Vec F S1x128 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0 = View.canon (store3 (wV x0 x1 x2 x5 x6 x7 xs0)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 0, 384] ![1, 128, 128] inb_S2x128x512_S1x128x128_1_0_384), outV 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 384] ![1, 128, 128] inb_S2x128x512_S1x128x128_1_0_384)) (View.ld x2 (Rect.unit ![1, 0, 384] ![1, 128, 128] inb_S2x128x512_S1x128x128_1_0_384)) (View.ld x0 (Rect.unit ![1, 0, 384] ![1, 128, 128] inb_S2x128x512_S1x128x128_1_0_384)) (View.ld xs0 (Rect.unit ![1, 3, 0, 0] ![1, 1, 128, 128] inb_S2x4x128x128_S1x1x128x128_1_3_0_0))⟩,
    ⟨(Rect.unit ![1, 0, 256] ![1, 128, 128] inb_S2x128x512_S1x128x128_1_0_256), outV 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 256] ![1, 128, 128] inb_S2x128x512_S1x128x128_1_0_256)) (View.ld x2 (Rect.unit ![1, 0, 256] ![1, 128, 128] inb_S2x128x512_S1x128x128_1_0_256)) (View.ld x0 (Rect.unit ![1, 0, 256] ![1, 128, 128] inb_S2x128x512_S1x128x128_1_0_256)) (View.ld xs0 (Rect.unit ![1, 2, 0, 0] ![1, 1, 128, 128] inb_S2x4x128x128_S1x1x128x128_1_2_0_0))⟩,
    ⟨(Rect.unit ![1, 0, 128] ![1, 128, 128] inb_S2x128x512_S1x128x128_1_0_128), outV 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 128] ![1, 128, 128] inb_S2x128x512_S1x128x128_1_0_128)) (View.ld x2 (Rect.unit ![1, 0, 128] ![1, 128, 128] inb_S2x128x512_S1x128x128_1_0_128)) (View.ld x0 (Rect.unit ![1, 0, 128] ![1, 128, 128] inb_S2x128x512_S1x128x128_1_0_128)) (View.ld xs0 (Rect.unit ![1, 1, 0, 0] ![1, 1, 128, 128] inb_S2x4x128x128_S1x1x128x128_1_1_0_0))⟩,
    ⟨(Rect.unit ![1, 0, 0] ![1, 128, 128] inb_S2x128x512_S1x128x128_1_0_0), outV 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 0] ![1, 128, 128] inb_S2x128x512_S1x128x128_1_0_0)) (View.ld x2 (Rect.unit ![1, 0, 0] ![1, 128, 128] inb_S2x128x512_S1x128x128_1_0_0)) (View.ld x0 (Rect.unit ![1, 0, 0] ![1, 128, 128] inb_S2x128x512_S1x128x128_1_0_0)) (View.ld xs0 (Rect.unit ![1, 0, 0, 0] ![1, 1, 128, 128] inb_S2x4x128x128_S1x1x128x128_1_0_0_0))⟩,
    ⟨(Rect.unit ![0, 0, 384] ![1, 128, 128] inb_S2x128x512_S1x128x128_0_0_384), outV 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 384] ![1, 128, 128] inb_S2x128x512_S1x128x128_0_0_384)) (View.ld x2 (Rect.unit ![0, 0, 384] ![1, 128, 128] inb_S2x128x512_S1x128x128_0_0_384)) (View.ld x0 (Rect.unit ![0, 0, 384] ![1, 128, 128] inb_S2x128x512_S1x128x128_0_0_384)) (View.ld xs0 (Rect.unit ![0, 3, 0, 0] ![1, 1, 128, 128] inb_S2x4x128x128_S1x1x128x128_0_3_0_0))⟩,
    ⟨(Rect.unit ![0, 0, 256] ![1, 128, 128] inb_S2x128x512_S1x128x128_0_0_256), outV 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 256] ![1, 128, 128] inb_S2x128x512_S1x128x128_0_0_256)) (View.ld x2 (Rect.unit ![0, 0, 256] ![1, 128, 128] inb_S2x128x512_S1x128x128_0_0_256)) (View.ld x0 (Rect.unit ![0, 0, 256] ![1, 128, 128] inb_S2x128x512_S1x128x128_0_0_256)) (View.ld xs0 (Rect.unit ![0, 2, 0, 0] ![1, 1, 128, 128] inb_S2x4x128x128_S1x1x128x128_0_2_0_0))⟩,
    ⟨(Rect.unit ![0, 0, 128] ![1, 128, 128] inb_S2x128x512_S1x128x128_0_0_128), outV 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 128] ![1, 128, 128] inb_S2x128x512_S1x128x128_0_0_128)) (View.ld x2 (Rect.unit ![0, 0, 128] ![1, 128, 128] inb_S2x128x512_S1x128x128_0_0_128)) (View.ld x0 (Rect.unit ![0, 0, 128] ![1, 128, 128] inb_S2x128x512_S1x128x128_0_0_128)) (View.ld xs0 (Rect.unit ![0, 1, 0, 0] ![1, 1, 128, 128] inb_S2x4x128x128_S1x1x128x128_0_1_0_0))⟩,
    ⟨(Rect.unit ![0, 0, 0] ![1, 128, 128] inb_S2x128x512_S1x128x128_0_0_0), outV 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 0] ![1, 128, 128] inb_S2x128x512_S1x128x128_0_0_0)) (View.ld x2 (Rect.unit ![0, 0, 0] ![1, 128, 128] inb_S2x128x512_S1x128x128_0_0_0)) (View.ld x0 (Rect.unit ![0, 0, 0] ![1, 128, 128] inb_S2x128x512_S1x128x128_0_0_0)) (View.ld xs0 (Rect.unit ![0, 0, 0, 0] ![1, 1, 128, 128] inb_S2x4x128x128_S1x1x128x128_0_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem sout0_B_0_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : ¬cond0_0 i) (xo11 : Vec F S1x128 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0 = View.canon (store4 (wD x0 x1 x5 x6 x7 xs0)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 3, 0, 0] ![1, 1, 128, 128] inb_S2x4x128x128_S1x1x128x128_1_3_0_0), outD 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 384] ![1, 128, 128] inb_S2x128x512_S1x128x128_1_0_384)) (View.ld x0 (Rect.unit ![1, 0, 384] ![1, 128, 128] inb_S2x128x512_S1x128x128_1_0_384)) (View.ld xs0 (Rect.unit ![1, 3, 0, 0] ![1, 1, 128, 128] inb_S2x4x128x128_S1x1x128x128_1_3_0_0))⟩,
    ⟨(Rect.unit ![1, 2, 0, 0] ![1, 1, 128, 128] inb_S2x4x128x128_S1x1x128x128_1_2_0_0), outD 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 256] ![1, 128, 128] inb_S2x128x512_S1x128x128_1_0_256)) (View.ld x0 (Rect.unit ![1, 0, 256] ![1, 128, 128] inb_S2x128x512_S1x128x128_1_0_256)) (View.ld xs0 (Rect.unit ![1, 2, 0, 0] ![1, 1, 128, 128] inb_S2x4x128x128_S1x1x128x128_1_2_0_0))⟩,
    ⟨(Rect.unit ![1, 1, 0, 0] ![1, 1, 128, 128] inb_S2x4x128x128_S1x1x128x128_1_1_0_0), outD 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 128] ![1, 128, 128] inb_S2x128x512_S1x128x128_1_0_128)) (View.ld x0 (Rect.unit ![1, 0, 128] ![1, 128, 128] inb_S2x128x512_S1x128x128_1_0_128)) (View.ld xs0 (Rect.unit ![1, 1, 0, 0] ![1, 1, 128, 128] inb_S2x4x128x128_S1x1x128x128_1_1_0_0))⟩,
    ⟨(Rect.unit ![1, 0, 0, 0] ![1, 1, 128, 128] inb_S2x4x128x128_S1x1x128x128_1_0_0_0), outD 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 0] ![1, 128, 128] inb_S2x128x512_S1x128x128_1_0_0)) (View.ld x0 (Rect.unit ![1, 0, 0] ![1, 128, 128] inb_S2x128x512_S1x128x128_1_0_0)) (View.ld xs0 (Rect.unit ![1, 0, 0, 0] ![1, 1, 128, 128] inb_S2x4x128x128_S1x1x128x128_1_0_0_0))⟩,
    ⟨(Rect.unit ![0, 3, 0, 0] ![1, 1, 128, 128] inb_S2x4x128x128_S1x1x128x128_0_3_0_0), outD 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 384] ![1, 128, 128] inb_S2x128x512_S1x128x128_0_0_384)) (View.ld x0 (Rect.unit ![0, 0, 384] ![1, 128, 128] inb_S2x128x512_S1x128x128_0_0_384)) (View.ld xs0 (Rect.unit ![0, 3, 0, 0] ![1, 1, 128, 128] inb_S2x4x128x128_S1x1x128x128_0_3_0_0))⟩,
    ⟨(Rect.unit ![0, 2, 0, 0] ![1, 1, 128, 128] inb_S2x4x128x128_S1x1x128x128_0_2_0_0), outD 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 256] ![1, 128, 128] inb_S2x128x512_S1x128x128_0_0_256)) (View.ld x0 (Rect.unit ![0, 0, 256] ![1, 128, 128] inb_S2x128x512_S1x128x128_0_0_256)) (View.ld xs0 (Rect.unit ![0, 2, 0, 0] ![1, 1, 128, 128] inb_S2x4x128x128_S1x1x128x128_0_2_0_0))⟩,
    ⟨(Rect.unit ![0, 1, 0, 0] ![1, 1, 128, 128] inb_S2x4x128x128_S1x1x128x128_0_1_0_0), outD 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 128] ![1, 128, 128] inb_S2x128x512_S1x128x128_0_0_128)) (View.ld x0 (Rect.unit ![0, 0, 128] ![1, 128, 128] inb_S2x128x512_S1x128x128_0_0_128)) (View.ld xs0 (Rect.unit ![0, 1, 0, 0] ![1, 1, 128, 128] inb_S2x4x128x128_S1x1x128x128_0_1_0_0))⟩,
    ⟨(Rect.unit ![0, 0, 0, 0] ![1, 1, 128, 128] inb_S2x4x128x128_S1x1x128x128_0_0_0_0), outD 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 0] ![1, 128, 128] inb_S2x128x512_S1x128x128_0_0_0)) (View.ld x0 (Rect.unit ![0, 0, 0] ![1, 128, 128] inb_S2x128x512_S1x128x128_0_0_0)) (View.ld xs0 (Rect.unit ![0, 0, 0, 0] ![1, 1, 128, 128] inb_S2x4x128x128_S1x1x128x128_0_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem out0_A_8_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = View.canon (store3 (wQ x0 x2 x3 x4 x5 x6 x7)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 0, 384] ![1, 128, 128] inb_S2x128x512_S1x128x128_1_0_384), outQ 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 3, 0, 0] ![1, 1, 1, 128, 128] inb_S2x1x4x128x128_S1x1x1x128x128_1_0_3_0_0)) (View.ld x2 (Rect.unit ![1, 0, 384] ![1, 128, 128] inb_S2x128x512_S1x128x128_1_0_384)) (View.ld x3 (Rect.unit ![1, 0, 384] ![1, 128, 128] inb_S2x128x512_S1x128x128_1_0_384)) (View.ld x0 (Rect.unit ![1, 0, 384] ![1, 128, 128] inb_S2x128x512_S1x128x128_1_0_384))⟩,
    ⟨(Rect.unit ![1, 0, 256] ![1, 128, 128] inb_S2x128x512_S1x128x128_1_0_256), outQ 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 2, 0, 0] ![1, 1, 1, 128, 128] inb_S2x1x4x128x128_S1x1x1x128x128_1_0_2_0_0)) (View.ld x2 (Rect.unit ![1, 0, 256] ![1, 128, 128] inb_S2x128x512_S1x128x128_1_0_256)) (View.ld x3 (Rect.unit ![1, 0, 256] ![1, 128, 128] inb_S2x128x512_S1x128x128_1_0_256)) (View.ld x0 (Rect.unit ![1, 0, 256] ![1, 128, 128] inb_S2x128x512_S1x128x128_1_0_256))⟩,
    ⟨(Rect.unit ![1, 0, 128] ![1, 128, 128] inb_S2x128x512_S1x128x128_1_0_128), outQ 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 1, 0, 0] ![1, 1, 1, 128, 128] inb_S2x1x4x128x128_S1x1x1x128x128_1_0_1_0_0)) (View.ld x2 (Rect.unit ![1, 0, 128] ![1, 128, 128] inb_S2x128x512_S1x128x128_1_0_128)) (View.ld x3 (Rect.unit ![1, 0, 128] ![1, 128, 128] inb_S2x128x512_S1x128x128_1_0_128)) (View.ld x0 (Rect.unit ![1, 0, 128] ![1, 128, 128] inb_S2x128x512_S1x128x128_1_0_128))⟩,
    ⟨(Rect.unit ![1, 0, 0] ![1, 128, 128] inb_S2x128x512_S1x128x128_1_0_0), outQ 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![1, 0, 0, 0, 0] ![1, 1, 1, 128, 128] inb_S2x1x4x128x128_S1x1x1x128x128_1_0_0_0_0)) (View.ld x2 (Rect.unit ![1, 0, 0] ![1, 128, 128] inb_S2x128x512_S1x128x128_1_0_0)) (View.ld x3 (Rect.unit ![1, 0, 0] ![1, 128, 128] inb_S2x128x512_S1x128x128_1_0_0)) (View.ld x0 (Rect.unit ![1, 0, 0] ![1, 128, 128] inb_S2x128x512_S1x128x128_1_0_0))⟩,
    ⟨(Rect.unit ![0, 0, 384] ![1, 128, 128] inb_S2x128x512_S1x128x128_0_0_384), outQ 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 3, 0, 0] ![1, 1, 1, 128, 128] inb_S2x1x4x128x128_S1x1x1x128x128_0_0_3_0_0)) (View.ld x2 (Rect.unit ![0, 0, 384] ![1, 128, 128] inb_S2x128x512_S1x128x128_0_0_384)) (View.ld x3 (Rect.unit ![0, 0, 384] ![1, 128, 128] inb_S2x128x512_S1x128x128_0_0_384)) (View.ld x0 (Rect.unit ![0, 0, 384] ![1, 128, 128] inb_S2x128x512_S1x128x128_0_0_384))⟩,
    ⟨(Rect.unit ![0, 0, 256] ![1, 128, 128] inb_S2x128x512_S1x128x128_0_0_256), outQ 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 2, 0, 0] ![1, 1, 1, 128, 128] inb_S2x1x4x128x128_S1x1x1x128x128_0_0_2_0_0)) (View.ld x2 (Rect.unit ![0, 0, 256] ![1, 128, 128] inb_S2x128x512_S1x128x128_0_0_256)) (View.ld x3 (Rect.unit ![0, 0, 256] ![1, 128, 128] inb_S2x128x512_S1x128x128_0_0_256)) (View.ld x0 (Rect.unit ![0, 0, 256] ![1, 128, 128] inb_S2x128x512_S1x128x128_0_0_256))⟩,
    ⟨(Rect.unit ![0, 0, 128] ![1, 128, 128] inb_S2x128x512_S1x128x128_0_0_128), outQ 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 1, 0, 0] ![1, 1, 1, 128, 128] inb_S2x1x4x128x128_S1x1x1x128x128_0_0_1_0_0)) (View.ld x2 (Rect.unit ![0, 0, 128] ![1, 128, 128] inb_S2x128x512_S1x128x128_0_0_128)) (View.ld x3 (Rect.unit ![0, 0, 128] ![1, 128, 128] inb_S2x128x512_S1x128x128_0_0_128)) (View.ld x0 (Rect.unit ![0, 0, 128] ![1, 128, 128] inb_S2x128x512_S1x128x128_0_0_128))⟩,
    ⟨(Rect.unit ![0, 0, 0] ![1, 128, 128] inb_S2x128x512_S1x128x128_0_0_0), outQ 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x4 (Rect.unit ![0, 0, 0, 0, 0] ![1, 1, 1, 128, 128] inb_S2x1x4x128x128_S1x1x1x128x128_0_0_0_0_0)) (View.ld x2 (Rect.unit ![0, 0, 0] ![1, 128, 128] inb_S2x128x512_S1x128x128_0_0_0)) (View.ld x3 (Rect.unit ![0, 0, 0] ![1, 128, 128] inb_S2x128x512_S1x128x128_0_0_0)) (View.ld x0 (Rect.unit ![0, 0, 0] ![1, 128, 128] inb_S2x128x512_S1x128x128_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem out0_A_9_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = View.canon (store3 (wK x0 x1 x3 x5 x6 x7 zeroD)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 0, 384] ![1, 128, 128] inb_S2x128x512_S1x128x128_1_0_384), outK 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 384] ![1, 128, 128] inb_S2x128x512_S1x128x128_1_0_384)) (View.ld x3 (Rect.unit ![1, 0, 384] ![1, 128, 128] inb_S2x128x512_S1x128x128_1_0_384)) (View.ld x0 (Rect.unit ![1, 0, 384] ![1, 128, 128] inb_S2x128x512_S1x128x128_1_0_384)) (View.ld zeroD (Rect.unit ![1, 3, 0, 0] ![1, 1, 128, 128] inb_S2x4x128x128_S1x1x128x128_1_3_0_0))⟩,
    ⟨(Rect.unit ![1, 0, 256] ![1, 128, 128] inb_S2x128x512_S1x128x128_1_0_256), outK 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 256] ![1, 128, 128] inb_S2x128x512_S1x128x128_1_0_256)) (View.ld x3 (Rect.unit ![1, 0, 256] ![1, 128, 128] inb_S2x128x512_S1x128x128_1_0_256)) (View.ld x0 (Rect.unit ![1, 0, 256] ![1, 128, 128] inb_S2x128x512_S1x128x128_1_0_256)) (View.ld zeroD (Rect.unit ![1, 2, 0, 0] ![1, 1, 128, 128] inb_S2x4x128x128_S1x1x128x128_1_2_0_0))⟩,
    ⟨(Rect.unit ![1, 0, 128] ![1, 128, 128] inb_S2x128x512_S1x128x128_1_0_128), outK 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 128] ![1, 128, 128] inb_S2x128x512_S1x128x128_1_0_128)) (View.ld x3 (Rect.unit ![1, 0, 128] ![1, 128, 128] inb_S2x128x512_S1x128x128_1_0_128)) (View.ld x0 (Rect.unit ![1, 0, 128] ![1, 128, 128] inb_S2x128x512_S1x128x128_1_0_128)) (View.ld zeroD (Rect.unit ![1, 1, 0, 0] ![1, 1, 128, 128] inb_S2x4x128x128_S1x1x128x128_1_1_0_0))⟩,
    ⟨(Rect.unit ![1, 0, 0] ![1, 128, 128] inb_S2x128x512_S1x128x128_1_0_0), outK 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 0] ![1, 128, 128] inb_S2x128x512_S1x128x128_1_0_0)) (View.ld x3 (Rect.unit ![1, 0, 0] ![1, 128, 128] inb_S2x128x512_S1x128x128_1_0_0)) (View.ld x0 (Rect.unit ![1, 0, 0] ![1, 128, 128] inb_S2x128x512_S1x128x128_1_0_0)) (View.ld zeroD (Rect.unit ![1, 0, 0, 0] ![1, 1, 128, 128] inb_S2x4x128x128_S1x1x128x128_1_0_0_0))⟩,
    ⟨(Rect.unit ![0, 0, 384] ![1, 128, 128] inb_S2x128x512_S1x128x128_0_0_384), outK 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 384] ![1, 128, 128] inb_S2x128x512_S1x128x128_0_0_384)) (View.ld x3 (Rect.unit ![0, 0, 384] ![1, 128, 128] inb_S2x128x512_S1x128x128_0_0_384)) (View.ld x0 (Rect.unit ![0, 0, 384] ![1, 128, 128] inb_S2x128x512_S1x128x128_0_0_384)) (View.ld zeroD (Rect.unit ![0, 3, 0, 0] ![1, 1, 128, 128] inb_S2x4x128x128_S1x1x128x128_0_3_0_0))⟩,
    ⟨(Rect.unit ![0, 0, 256] ![1, 128, 128] inb_S2x128x512_S1x128x128_0_0_256), outK 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 256] ![1, 128, 128] inb_S2x128x512_S1x128x128_0_0_256)) (View.ld x3 (Rect.unit ![0, 0, 256] ![1, 128, 128] inb_S2x128x512_S1x128x128_0_0_256)) (View.ld x0 (Rect.unit ![0, 0, 256] ![1, 128, 128] inb_S2x128x512_S1x128x128_0_0_256)) (View.ld zeroD (Rect.unit ![0, 2, 0, 0] ![1, 1, 128, 128] inb_S2x4x128x128_S1x1x128x128_0_2_0_0))⟩,
    ⟨(Rect.unit ![0, 0, 128] ![1, 128, 128] inb_S2x128x512_S1x128x128_0_0_128), outK 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 128] ![1, 128, 128] inb_S2x128x512_S1x128x128_0_0_128)) (View.ld x3 (Rect.unit ![0, 0, 128] ![1, 128, 128] inb_S2x128x512_S1x128x128_0_0_128)) (View.ld x0 (Rect.unit ![0, 0, 128] ![1, 128, 128] inb_S2x128x512_S1x128x128_0_0_128)) (View.ld zeroD (Rect.unit ![0, 1, 0, 0] ![1, 1, 128, 128] inb_S2x4x128x128_S1x1x128x128_0_1_0_0))⟩,
    ⟨(Rect.unit ![0, 0, 0] ![1, 128, 128] inb_S2x128x512_S1x128x128_0_0_0), outK 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 0] ![1, 128, 128] inb_S2x128x512_S1x128x128_0_0_0)) (View.ld x3 (Rect.unit ![0, 0, 0] ![1, 128, 128] inb_S2x128x512_S1x128x128_0_0_0)) (View.ld x0 (Rect.unit ![0, 0, 0] ![1, 128, 128] inb_S2x128x512_S1x128x128_0_0_0)) (View.ld zeroD (Rect.unit ![0, 0, 0, 0] ![1, 1, 128, 128] inb_S2x4x128x128_S1x1x128x128_0_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem out0_A_10_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = View.canon (store3 (wV x0 x1 x2 x5 x6 x7 zeroD)) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 0, 384] ![1, 128, 128] inb_S2x128x512_S1x128x128_1_0_384), outV 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 384] ![1, 128, 128] inb_S2x128x512_S1x128x128_1_0_384)) (View.ld x2 (Rect.unit ![1, 0, 384] ![1, 128, 128] inb_S2x128x512_S1x128x128_1_0_384)) (View.ld x0 (Rect.unit ![1, 0, 384] ![1, 128, 128] inb_S2x128x512_S1x128x128_1_0_384)) (View.ld zeroD (Rect.unit ![1, 3, 0, 0] ![1, 1, 128, 128] inb_S2x4x128x128_S1x1x128x128_1_3_0_0))⟩,
    ⟨(Rect.unit ![1, 0, 256] ![1, 128, 128] inb_S2x128x512_S1x128x128_1_0_256), outV 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 256] ![1, 128, 128] inb_S2x128x512_S1x128x128_1_0_256)) (View.ld x2 (Rect.unit ![1, 0, 256] ![1, 128, 128] inb_S2x128x512_S1x128x128_1_0_256)) (View.ld x0 (Rect.unit ![1, 0, 256] ![1, 128, 128] inb_S2x128x512_S1x128x128_1_0_256)) (View.ld zeroD (Rect.unit ![1, 2, 0, 0] ![1, 1, 128, 128] inb_S2x4x128x128_S1x1x128x128_1_2_0_0))⟩,
    ⟨(Rect.unit ![1, 0, 128] ![1, 128, 128] inb_S2x128x512_S1x128x128_1_0_128), outV 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 128] ![1, 128, 128] inb_S2x128x512_S1x128x128_1_0_128)) (View.ld x2 (Rect.unit ![1, 0, 128] ![1, 128, 128] inb_S2x128x512_S1x128x128_1_0_128)) (View.ld x0 (Rect.unit ![1, 0, 128] ![1, 128, 128] inb_S2x128x512_S1x128x128_1_0_128)) (View.ld zeroD (Rect.unit ![1, 1, 0, 0] ![1, 1, 128, 128] inb_S2x4x128x128_S1x1x128x128_1_1_0_0))⟩,
    ⟨(Rect.unit ![1, 0, 0] ![1, 128, 128] inb_S2x128x512_S1x128x128_1_0_0), outV 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 0] ![1, 128, 128] inb_S2x128x512_S1x128x128_1_0_0)) (View.ld x2 (Rect.unit ![1, 0, 0] ![1, 128, 128] inb_S2x128x512_S1x128x128_1_0_0)) (View.ld x0 (Rect.unit ![1, 0, 0] ![1, 128, 128] inb_S2x128x512_S1x128x128_1_0_0)) (View.ld zeroD (Rect.unit ![1, 0, 0, 0] ![1, 1, 128, 128] inb_S2x4x128x128_S1x1x128x128_1_0_0_0))⟩,
    ⟨(Rect.unit ![0, 0, 384] ![1, 128, 128] inb_S2x128x512_S1x128x128_0_0_384), outV 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 384] ![1, 128, 128] inb_S2x128x512_S1x128x128_0_0_384)) (View.ld x2 (Rect.unit ![0, 0, 384] ![1, 128, 128] inb_S2x128x512_S1x128x128_0_0_384)) (View.ld x0 (Rect.unit ![0, 0, 384] ![1, 128, 128] inb_S2x128x512_S1x128x128_0_0_384)) (View.ld zeroD (Rect.unit ![0, 3, 0, 0] ![1, 1, 128, 128] inb_S2x4x128x128_S1x1x128x128_0_3_0_0))⟩,
    ⟨(Rect.unit ![0, 0, 256] ![1, 128, 128] inb_S2x128x512_S1x128x128_0_0_256), outV 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 256] ![1, 128, 128] inb_S2x128x512_S1x128x128_0_0_256)) (View.ld x2 (Rect.unit ![0, 0, 256] ![1, 128, 128] inb_S2x128x512_S1x128x128_0_0_256)) (View.ld x0 (Rect.unit ![0, 0, 256] ![1, 128, 128] inb_S2x128x512_S1x128x128_0_0_256)) (View.ld zeroD (Rect.unit ![0, 2, 0, 0] ![1, 1, 128, 128] inb_S2x4x128x128_S1x1x128x128_0_2_0_0))⟩,
    ⟨(Rect.unit ![0, 0, 128] ![1, 128, 128] inb_S2x128x512_S1x128x128_0_0_128), outV 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 128] ![1, 128, 128] inb_S2x128x512_S1x128x128_0_0_128)) (View.ld x2 (Rect.unit ![0, 0, 128] ![1, 128, 128] inb_S2x128x512_S1x128x128_0_0_128)) (View.ld x0 (Rect.unit ![0, 0, 128] ![1, 128, 128] inb_S2x128x512_S1x128x128_0_0_128)) (View.ld zeroD (Rect.unit ![0, 1, 0, 0] ![1, 1, 128, 128] inb_S2x4x128x128_S1x1x128x128_0_1_0_0))⟩,
    ⟨(Rect.unit ![0, 0, 0] ![1, 128, 128] inb_S2x128x512_S1x128x128_0_0_0), outV 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 0] ![1, 128, 128] inb_S2x128x512_S1x128x128_0_0_0)) (View.ld x2 (Rect.unit ![0, 0, 0] ![1, 128, 128] inb_S2x128x512_S1x128x128_0_0_0)) (View.ld x0 (Rect.unit ![0, 0, 0] ![1, 128, 128] inb_S2x128x512_S1x128x128_0_0_0)) (View.ld zeroD (Rect.unit ![0, 0, 0, 0] ![1, 1, 128, 128] inb_S2x4x128x128_S1x1x128x128_0_0_0_0))⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

theorem sout0_A_0_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : Memref sig .tc .vmem S1x128 .f32) (harg12 : arg12.IsWhole) (arg13 : Memref sig .tc .vmem S2x4x128x128 .f32) (harg13 : arg13.IsWhole) (hc0 : cond0_0 i) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = View.canon (store4 (wD x0 x1 x5 x6 x7 zeroD) ++ [⟨Rect.unit ![0, 0, 0, 0] S2x4x128x128.size inb_S2x4x128x128_S2x4x128x128_0_0_0_0, zeroD⟩]) := by
  frame_open
  simp (disch := decide) only [↓ View.readCov_skip, ↓ View.readCov_cons_toLoadRect, ↓ View.readCov_fill, View.read_writes_junk_eq_canon, View.readAt_eq_ld, Memref.IsWhole.read_unread, read_unread_whole]
  refine Eq.trans (b := View.canon [⟨(Rect.unit ![1, 3, 0, 0] ![1, 1, 128, 128] inb_S2x4x128x128_S1x1x128x128_1_3_0_0), outD 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 384] ![1, 128, 128] inb_S2x128x512_S1x128x128_1_0_384)) (View.ld x0 (Rect.unit ![1, 0, 384] ![1, 128, 128] inb_S2x128x512_S1x128x128_1_0_384)) (View.ld zeroD (Rect.unit ![1, 3, 0, 0] ![1, 1, 128, 128] inb_S2x4x128x128_S1x1x128x128_1_3_0_0))⟩,
    ⟨(Rect.unit ![1, 2, 0, 0] ![1, 1, 128, 128] inb_S2x4x128x128_S1x1x128x128_1_2_0_0), outD 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 256] ![1, 128, 128] inb_S2x128x512_S1x128x128_1_0_256)) (View.ld x0 (Rect.unit ![1, 0, 256] ![1, 128, 128] inb_S2x128x512_S1x128x128_1_0_256)) (View.ld zeroD (Rect.unit ![1, 2, 0, 0] ![1, 1, 128, 128] inb_S2x4x128x128_S1x1x128x128_1_2_0_0))⟩,
    ⟨(Rect.unit ![1, 1, 0, 0] ![1, 1, 128, 128] inb_S2x4x128x128_S1x1x128x128_1_1_0_0), outD 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 128] ![1, 128, 128] inb_S2x128x512_S1x128x128_1_0_128)) (View.ld x0 (Rect.unit ![1, 0, 128] ![1, 128, 128] inb_S2x128x512_S1x128x128_1_0_128)) (View.ld zeroD (Rect.unit ![1, 1, 0, 0] ![1, 1, 128, 128] inb_S2x4x128x128_S1x1x128x128_1_1_0_0))⟩,
    ⟨(Rect.unit ![1, 0, 0, 0] ![1, 1, 128, 128] inb_S2x4x128x128_S1x1x128x128_1_0_0_0), outD 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![1, 0, 0] ![1, 128, 128] inb_S2x128x512_S1x128x128_1_0_0)) (View.ld x0 (Rect.unit ![1, 0, 0] ![1, 128, 128] inb_S2x128x512_S1x128x128_1_0_0)) (View.ld zeroD (Rect.unit ![1, 0, 0, 0] ![1, 1, 128, 128] inb_S2x4x128x128_S1x1x128x128_1_0_0_0))⟩,
    ⟨(Rect.unit ![0, 3, 0, 0] ![1, 1, 128, 128] inb_S2x4x128x128_S1x1x128x128_0_3_0_0), outD 3#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 384] ![1, 128, 128] inb_S2x128x512_S1x128x128_0_0_384)) (View.ld x0 (Rect.unit ![0, 0, 384] ![1, 128, 128] inb_S2x128x512_S1x128x128_0_0_384)) (View.ld zeroD (Rect.unit ![0, 3, 0, 0] ![1, 1, 128, 128] inb_S2x4x128x128_S1x1x128x128_0_3_0_0))⟩,
    ⟨(Rect.unit ![0, 2, 0, 0] ![1, 1, 128, 128] inb_S2x4x128x128_S1x1x128x128_0_2_0_0), outD 2#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 256] ![1, 128, 128] inb_S2x128x512_S1x128x128_0_0_256)) (View.ld x0 (Rect.unit ![0, 0, 256] ![1, 128, 128] inb_S2x128x512_S1x128x128_0_0_256)) (View.ld zeroD (Rect.unit ![0, 2, 0, 0] ![1, 1, 128, 128] inb_S2x4x128x128_S1x1x128x128_0_2_0_0))⟩,
    ⟨(Rect.unit ![0, 1, 0, 0] ![1, 1, 128, 128] inb_S2x4x128x128_S1x1x128x128_0_1_0_0), outD 1#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 128] ![1, 128, 128] inb_S2x128x512_S1x128x128_0_0_128)) (View.ld x0 (Rect.unit ![0, 0, 128] ![1, 128, 128] inb_S2x128x512_S1x128x128_0_0_128)) (View.ld zeroD (Rect.unit ![0, 1, 0, 0] ![1, 1, 128, 128] inb_S2x4x128x128_S1x1x128x128_0_1_0_0))⟩,
    ⟨(Rect.unit ![0, 0, 0, 0] ![1, 1, 128, 128] inb_S2x4x128x128_S1x1x128x128_0_0_0_0), outD 0#32 (View.ld x7 (Rect.unit ![0, 0] ![1, 128] inb_S1x128_S1x128_0_0)) (View.ld x5 (Rect.unit ![0, 0] ![128, 128] inb_S128x128_S128x128_0_0)) (View.ld x6 (Rect.unit ![0, 0] ![128, 128] inb_S128x128_S128x128_0_0)) (View.ld x1 (Rect.unit ![0, 0, 0] ![1, 128, 128] inb_S2x128x512_S1x128x128_0_0_0)) (View.ld x0 (Rect.unit ![0, 0, 0] ![1, 128, 128] inb_S2x128x512_S1x128x128_0_0_0)) (View.ld zeroD (Rect.unit ![0, 0, 0, 0] ![1, 1, 128, 128] inb_S2x4x128x128_S1x1x128x128_0_0_0_0))⟩,
    ⟨Rect.unit ![0, 0, 0, 0] S2x4x128x128.size inb_S2x4x128x128_S2x4x128x128_0_0_0_0, zeroD⟩]) ?_ rfl
  simp only [zeroD, outQ, outK, outV, outD, unrotV, rotV, swp, dqV, dkV, dvV, dsV, nt, nn, tn, lgV, qeV, keV, ceV, scaleV, m2, m3, m4, m5, shapeCast_id, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469]
  refine congrArg View.canon ?_
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  refine congrArg₂ List.cons (congrArg (Sigma.mk _) ?_) ?_
  · congr 3
  rfl

end Cert.KernelIdeal.Body

end
-- ==== Proof.Retention.Point.lean ====
/-
  A grid point over the extended reals: its stored blocks at an index are the entries of Spec.lean's chunk gradients, when the windows it reads hold
  the chunk's rows, tables and states.
-/
module

public import proofs.«01_k».proof.Proof.Retention.Pieces

@[expose] public section

noncomputable section

namespace Cert.KernelIdeal.Body

open Cert.KernelIdeal Cert.KernelIdeal.Gen Idealize.ShloMosaic Idealize.ShloMosaic.TcCoe Cert.Retention

/-! ## Reads -/

theorem ld_r3 (x : Vec Ideal S2x128x512 .f32) (b : Fin 2) (h : Fin 4) (i d : Fin 128) :
    View.ld x (r3 b h) (ix3 0 i d) = x (ix3 b i (hc h d)) := by
  refine congrArg x (funext fun a => ?_)
  have hh := h.isLt
  have hd := d.isLt
  match a with
  | ⟨0, _⟩ => exact Fin.ext (by show b.val + 1 * 0 = b.val; omega)
  | ⟨1, _⟩ => exact Fin.ext (by show 0 + 1 * i.val = i.val; omega)
  | ⟨2, _⟩ => exact Fin.ext (by show 128 * h.val + 1 * d.val = (h.val * 128 + d.val) % 512; omega)

theorem ld_r4 (x : Vec Ideal S2x4x128x128 .f32) (b : Fin 2) (h : Fin 4) (i d : Fin 128) :
    View.ld x (r4 b h) (ix4 0 0 i d) = x (ix4 b h i d) := by
  refine congrArg x (funext fun a => ?_)
  match a with
  | ⟨0, _⟩ => exact Fin.ext (by show b.val + 1 * 0 = b.val; omega)
  | ⟨1, _⟩ => exact Fin.ext (by show h.val + 1 * 0 = h.val; omega)
  | ⟨2, _⟩ => exact Fin.ext (by show 0 + 1 * i.val = i.val; omega)
  | ⟨3, _⟩ => exact Fin.ext (by show 0 + 1 * d.val = d.val; omega)

theorem ld_r5 (x : Vec Ideal S2x1x4x128x128 .f32) (b : Fin 2) (h : Fin 4) (i d : Fin 128) :
    View.ld x (r5 b h) (ix5 0 0 0 i d) = x (ix5 b 0 h i d) := by
  refine congrArg x (funext fun a => ?_)
  match a with
  | ⟨0, _⟩ => exact Fin.ext (by show b.val + 1 * 0 = b.val; omega)
  | ⟨1, _⟩ => exact Fin.ext (by show 0 + 1 * 0 = 0; omega)
  | ⟨2, _⟩ => exact Fin.ext (by show h.val + 1 * 0 = h.val; omega)
  | ⟨3, _⟩ => exact Fin.ext (by show 0 + 1 * i.val = i.val; omega)
  | ⟨4, _⟩ => exact Fin.ext (by show 0 + 1 * d.val = d.val; omega)

theorem ld_r2 (x : Vec Ideal S128x128 .f32) (i d : Fin 128) : View.ld x r2 (ix2 i d) = x (ix2 i d) := by
  refine congrArg x (funext fun a => ?_)
  match a with
  | ⟨0, _⟩ => exact Fin.ext (by show 0 + 1 * i.val = i.val; omega)
  | ⟨1, _⟩ => exact Fin.ext (by show 0 + 1 * d.val = d.val; omega)

theorem ld_r1 (x : Vec Ideal S1x128 .f32) (d : Fin 128) : View.ld x r1 (ix2 0 d) = x (ix2 0 d) := by
  refine congrArg x (funext fun a => ?_)
  match a with
  | ⟨0, _⟩ => exact Fin.ext (by show 0 + 1 * 0 = 0; omega)
  | ⟨1, _⟩ => exact Fin.ext (by show 0 + 1 * d.val = d.val; omega)

theorem m3_apply (x : Vec Ideal S1x128x128 .f32) (i d : Fin 128) : m3 x (ix2 i d) = x (ix3 0 i d) := by pointwise [m3]
theorem m4_apply (x : Vec Ideal S1x1x128x128 .f32) (i d : Fin 128) : m4 x (ix2 i d) = x (ix4 0 0 i d) := by pointwise [m4]
theorem m5_apply (x : Vec Ideal S1x1x1x128x128 .f32) (i d : Fin 128) : m5 x (ix2 i d) = x (ix5 0 0 0 i d) := by pointwise [m5]
theorem m2_apply (x : Vec Ideal S128x128 .f32) (i d : Fin 128) : m2 x (ix2 i d) = x (ix2 i d) := by pointwise [m2]

theorem fn_m3 (x : Vec Ideal S2x128x512 .f32) (b : Fin 2) (h : Fin 4) :
    fn (m3 (View.ld x (r3 b h))) = fun i d => x (ix3 b i (hc h d)) :=
  funext fun i => funext fun d => (m3_apply _ i d).trans (ld_r3 x b h i d)
theorem fn_m23 (x : Vec Ideal S2x128x512 .f32) (b : Fin 2) (h : Fin 4) :
    fn (m2 (m3 (View.ld x (r3 b h)))) = fun i d => x (ix3 b i (hc h d)) :=
  funext fun i => funext fun d => (m2_apply _ i d).trans ((m3_apply _ i d).trans (ld_r3 x b h i d))
theorem fn_m4 (x : Vec Ideal S2x4x128x128 .f32) (b : Fin 2) (h : Fin 4) :
    fn (m2 (m4 (View.ld x (r4 b h)))) = fun i d => x (ix4 b h i d) :=
  funext fun i => funext fun d => (m2_apply _ i d).trans ((m4_apply _ i d).trans (ld_r4 x b h i d))
theorem fn_m5 (x : Vec Ideal S2x1x4x128x128 .f32) (b : Fin 2) (h : Fin 4) :
    fn (m5 (View.ld x (r5 b h))) = fun i d => x (ix5 b 0 h i d) :=
  funext fun i => funext fun d => (m5_apply _ i d).trans (ld_r5 x b h i d)
theorem fn_m2 (x : Vec Ideal S128x128 .f32) : fn (m2 (View.ld x r2)) = fun i d => x (ix2 i d) :=
  funext fun i => funext fun d => (m2_apply _ i d).trans (ld_r2 x i d)

theorem fn_mulScale (x : FVec Ideal S128x128 .f32) : fn (mulf x scaleV) = fun i d => fn x i d * scale := by
  funext i d
  pointwise [scaleV_apply]

/-! ## The stored matrices, from windows that hold a chunk -/

variable (x0 x1 x2 x3 : Vec Ideal S2x128x512 .f32) (x4 : Vec Ideal S2x1x4x128x128 .f32) (x5 x6 : Vec Ideal S128x128 .f32)
  (x7 : Vec Ideal S1x128 .f32) (xs0 : Vec Ideal S2x4x128x128 .f32)
variable (y0 : (⟨3, ![2, 2304, 512]⟩ : Shape).Idx → EReal) (y1 : (⟨3, ![2, 2304, 3840]⟩ : Shape).Idx → EReal)
  (y2 y3 y4 y5 : (⟨2, ![2048, 32]⟩ : Shape).Idx → EReal) (y6 : (⟨1, ![4]⟩ : Shape).Idx → EReal) (n : ℕ)

/-- The windows hold chunk `n`: the cotangent's rows, the three column groups of the projection, the states before the chunk, the
    tables and the logarithms of the decays. -/
structure Holds : Prop where
  o : ∀ b h, (fun i d => x0 (ix3 b i (hc h d)) : M) = O y0 b h n
  q : ∀ b h, (fun i d => x1 (ix3 b i (hc h d)) : M) = P y1 0 b h n
  k : ∀ b h, (fun i d => x2 (ix3 b i (hc h d)) : M) = P y1 512 b h n
  v : ∀ b h, (fun i d => x3 (ix3 b i (hc h d)) : M) = P y1 1024 b h n
  s : ∀ b h, (fun i d => x4 (ix5 b 0 h i d) : M) = St y1 y2 y3 y4 y5 y6 b h n
  c : (fun i d => x5 (ix2 i d) : M) = cs y2 y4 n
  t : (fun i d => x6 (ix2 i d) : M) = sn y3 y5 n
  l : ∀ h : Fin 4, x7 (ix2 0 (Fin.ofNat 128 h.val)) = y6 (ix1 h)

variable {x0 x1 x2 x3 x4 x5 x6 x7 y0 y1 y2 y3 y4 y5 y6 n}

theorem lgV_ld (H : Holds x0 x1 x2 x3 x4 x5 x6 x7 y0 y1 y2 y3 y4 y5 y6 n) (h : Fin 4) :
    lgV (BitVec.ofNat 32 h.val) (View.ld x7 r1) (ix2 0 0) = lg y6 h := by
  rw [lgV_apply, ld_r1, H.l, lg]

theorem store_apply (y : FVec Ideal S128x128 .f32) (i d : Fin 128) :
    shapeCast S1x128x128 y shapeCasts_S128x128_S1x128x128 (ix3 0 i d) = fn y i d := by pointwise []
theorem store4_apply (y : FVec Ideal S128x128 .f32) (i d : Fin 128) :
    shapeCast S1x1x128x128 y shapeCasts_S128x128_S1x1x128x128 (ix4 0 0 i d) = fn y i d := by pointwise []

theorem wQ_apply (H : Holds x0 x1 x2 x3 x4 x5 x6 x7 y0 y1 y2 y3 y4 y5 y6 n) (b : Fin 2) (h : Fin 4) (i d : Fin 128) :
    wQ x0 x2 x3 x4 x5 x6 x7 b h (ix3 0 i d) = dQ y0 y1 y2 y3 y4 y5 y6 b h n i d := by
  unfold wQ outQ
  rw [store_apply, fn_unrotV, fn_dqV, fn_mulScale, fn_rotV, fn_m3, fn_m3, fn_m3, fn_m5, fn_m2, fn_m2, lgV_ld H, H.o, H.k, H.v, H.s, H.c, H.t, dQ, K,
    rot_scale]

theorem wK_apply (H : Holds x0 x1 x2 x3 x4 x5 x6 x7 y0 y1 y2 y3 y4 y5 y6 n)
    (hs : ∀ b h, (fun i d => xs0 (ix4 b h i d) : M) = Dt y0 y1 y2 y3 y4 y5 y6 b h (17 - n)) (b : Fin 2) (h : Fin 4) (i d : Fin 128) :
    wK x0 x1 x3 x5 x6 x7 xs0 b h (ix3 0 i d) = dK y0 y1 y2 y3 y4 y5 y6 b h n i d := by
  unfold wK outK
  rw [store_apply, fn_unrotV, fn_mulScale, fn_dkV, fn_rotV, fn_m3, fn_m3, fn_m3, fn_m4, fn_m2, fn_m2, lgV_ld H, H.o, H.q, H.v, H.c, H.t, hs, dK, Q,
    unrot_scale]

theorem wV_apply (H : Holds x0 x1 x2 x3 x4 x5 x6 x7 y0 y1 y2 y3 y4 y5 y6 n)
    (hs : ∀ b h, (fun i d => xs0 (ix4 b h i d) : M) = Dt y0 y1 y2 y3 y4 y5 y6 b h (17 - n)) (b : Fin 2) (h : Fin 4) (i d : Fin 128) :
    wV x0 x1 x2 x5 x6 x7 xs0 b h (ix3 0 i d) = dV y0 y1 y2 y3 y4 y5 y6 b h n i d := by
  unfold wV outV
  rw [store_apply, fn_dvV, fn_mulScale, fn_rotV, fn_rotV, fn_m3, fn_m3, fn_m3, fn_m4, fn_m2, fn_m2, lgV_ld H, H.o, H.q, H.k, H.c, H.t, hs, dV, Q, K,
    rot_scale]

theorem wD_apply (H : Holds x0 x1 x2 x3 x4 x5 x6 x7 y0 y1 y2 y3 y4 y5 y6 n)
    (hs : ∀ b h, (fun i d => xs0 (ix4 b h i d) : M) = Dt y0 y1 y2 y3 y4 y5 y6 b h (17 - n)) (hn : n ≤ 17)
    (b : Fin 2) (h : Fin 4) (i d : Fin 128) :
    wD x0 x1 x5 x6 x7 xs0 b h (ix4 0 0 i d) = Dt y0 y1 y2 y3 y4 y5 y6 b h (17 - n + 1) i d := by
  unfold wD outD
  rw [store4_apply, fn_dsV, fn_rotV, fn_m3, fn_m23, fn_m4, fn_m2, fn_m2, lgV_ld H, H.o, H.q, H.c, H.t, hs, Dt, Q,
    show 17 - (17 - n) = n by omega]

/-! ## The blocks and the scratch, at an index -/

/-- The eight stored matrices cover the block: each entry is its matrix's. -/
theorem canon3_apply (w : Fin 2 → Fin 4 → FVec Ideal S1x128x128 .f32) (b : Fin 2) (i : Fin 128) (c : Fin 512) :
    View.canon (store3 w) (ix3 b i c) = w b (Fin.ofNat 4 (c.val / 128)) (ix3 0 i (Fin.ofNat 128 c.val)) := by
  let G : Vec Ideal S2x128x512 .f32 := fun j => w (j 0) (Fin.ofNat 4 ((j 2).val / 128)) (ix3 0 (j 1) (Fin.ofNat 128 (j 2).val))
  have hG : ∀ (b : Fin 2) (h : Fin 4) (x : S1x128x128.Idx), w b h x = G ((r3 b h).emb x) := by
    intro b h x
    have hh := h.isLt
    have h0 : (x 0).val < 1 := (x 0).isLt
    have h1 : (x 1).val < 128 := (x 1).isLt
    have h2 : (x 2).val < 128 := (x 2).isLt
    show w b h x = w _ _ _
    have e0 : ((r3 b h).emb x 0 : Fin 2) = b := Fin.ext (by show b.val + 1 * (x 0).val = b.val; omega)
    have e1 : Fin.ofNat 4 (((r3 b h).emb x 2).val / 128) = h :=
      Fin.ext (by show (128 * h.val + 1 * (x 2).val) / 128 % 4 = h.val; omega)
    have e2 : ix3 (0 : Fin 1) ((r3 b h).emb x 1 : Fin 128) (Fin.ofNat 128 ((r3 b h).emb x 2).val) = x := by
      funext a
      match a with
      | ⟨0, _⟩ => exact Fin.ext (by show 0 = (x 0).val; omega)
      | ⟨1, _⟩ => exact Fin.ext (by show 0 + 1 * (x 1).val = (x 1).val; omega)
      | ⟨2, _⟩ => exact Fin.ext (by show (128 * h.val + 1 * (x 2).val) % 128 = (x 2).val; omega)
    exact congr (congr (congr rfl e0.symm) e1.symm) e2.symm
  have hP : ∀ p ∈ store3 w, ∀ x, p.2 x = G (p.1.emb x) := by
    intro p hp
    simp only [store3, List.mem_cons, List.not_mem_nil, or_false] at hp
    rcases hp with rfl | rfl | rfl | rfl | rfl | rfl | rfl | rfl <;> exact fun x => hG _ _ x
  refine View.canon_apply_of_pieces G (store3 w) hP (ix3 b i c) ?_
  have hmem : ∀ (b : Fin 2) (h : Fin 4), (⟨r3 b h, w b h⟩ : View.Piece (Elt Ideal) S2x128x512 .f32) ∈ store3 w := by
    intro b h
    fin_cases b <;> fin_cases h <;> simp [store3]
  refine ⟨_, hmem b (Fin.ofNat 4 (c.val / 128)), ?_⟩
  have hc := c.isLt
  refine (LoadRect.mem_set _).2 fun a => ?_
  match a with
  | ⟨0, _⟩ => exact ⟨0, by show 0 < 1; omega, by show b.val = b.val + 1 * 0; omega⟩
  | ⟨1, _⟩ => exact ⟨i.val, i.isLt, by show i.val = 0 + 1 * i.val; omega⟩
  | ⟨2, _⟩ => exact ⟨c.val % 128, by show c.val % 128 < 128; omega, by show c.val = 128 * (c.val / 128 % 4) + 1 * (c.val % 128); omega⟩

/-- The same of the scratch, whatever was stored before the eight. -/
theorem canon4_apply (w : Fin 2 → Fin 4 → FVec Ideal S1x1x128x128 .f32) (L : List (View.Piece (Elt Ideal) S2x4x128x128 .f32))
    (b : Fin 2) (h : Fin 4) (i d : Fin 128) :
    View.canon (store4 w ++ L) (ix4 b h i d) = w b h (ix4 0 0 i d) := by
  let G : Vec Ideal S2x4x128x128 .f32 := fun j => w (j 0) (j 1) (ix4 0 0 (j 2) (j 3))
  have hG : ∀ (b : Fin 2) (h : Fin 4) (x : S1x1x128x128.Idx), w b h x = G ((r4 b h).emb x) := by
    intro b h x
    have h0 : (x 0).val < 1 := (x 0).isLt
    have h1 : (x 1).val < 1 := (x 1).isLt
    show w b h x = w _ _ _
    have e0 : ((r4 b h).emb x 0 : Fin 2) = b := Fin.ext (by show b.val + 1 * (x 0).val = b.val; omega)
    have e1 : ((r4 b h).emb x 1 : Fin 4) = h := Fin.ext (by show h.val + 1 * (x 1).val = h.val; omega)
    have e2 : ix4 (0 : Fin 1) (0 : Fin 1) ((r4 b h).emb x 2 : Fin 128) ((r4 b h).emb x 3 : Fin 128) = x := by
      funext a
      match a with
      | ⟨0, _⟩ => exact Fin.ext (by show 0 = (x 0).val; omega)
      | ⟨1, _⟩ => exact Fin.ext (by show 0 = (x 1).val; omega)
      | ⟨2, _⟩ => exact Fin.ext (by show 0 + 1 * (x 2).val = (x 2).val; omega)
      | ⟨3, _⟩ => exact Fin.ext (by show 0 + 1 * (x 3).val = (x 3).val; omega)
    exact congr (congr (congr rfl e0.symm) e1.symm) e2.symm
  have hP : ∀ p ∈ store4 w, ∀ x, p.2 x = G (p.1.emb x) := by
    intro p hp
    simp only [store4, List.mem_cons, List.not_mem_nil, or_false] at hp
    rcases hp with rfl | rfl | rfl | rfl | rfl | rfl | rfl | rfl <;> exact fun x => hG _ _ x
  have hmem : ∀ (b : Fin 2) (h : Fin 4), (⟨r4 b h, w b h⟩ : View.Piece (Elt Ideal) S2x4x128x128 .f32) ∈ store4 w := by
    intro b h
    fin_cases b <;> fin_cases h <;> simp [store4]
  have hset : ix4 b h i d ∈ (r4 b h).set := by
    refine (LoadRect.mem_set _).2 fun a => ?_
    match a with
    | ⟨0, _⟩ => exact ⟨0, by show 0 < 1; omega, by show b.val = b.val + 1 * 0; omega⟩
    | ⟨1, _⟩ => exact ⟨0, by show 0 < 1; omega, by show h.val = h.val + 1 * 0; omega⟩
    | ⟨2, _⟩ => exact ⟨i.val, i.isLt, by show i.val = 0 + 1 * i.val; omega⟩
    | ⟨3, _⟩ => exact ⟨d.val, d.isLt, by show d.val = 0 + 1 * d.val; omega⟩
  refine View.canon_append_of_pieces G L (store4 w) hP (ix4 b h i d) ⟨_, hmem b h, hset⟩

end Cert.KernelIdeal.Body

end
-- ==== Proof.Retention.Blocks.lean ====
/-
  The blocks that a grid point reads, at an index: point `t` reads the rows, tables and states of chunk `17 - t`.
-/
module

public import proofs.«01_k».proof.Proof.Retention.Tables
public import proofs.«01_k».proof.Proof.Retention.Point
public import Idealize.ShloMosaic.Lib.Pipeline.ValueKit

@[expose] public section

set_option maxRecDepth 16384

noncomputable section

namespace Cert.KernelIdeal.Blocks

open Cert.KernelIdeal Cert.KernelIdeal.Gen Cert.KernelIdeal.HostLines Idealize.ShloMosaic Idealize.ShloMosaic.TcCoe Cert.Retention

variable (m : (ℓ : Loc nD τ sig) → Buf (Elt Ideal) ℓ) (c : Dev nD)

/-! ## Where a point's blocks lie -/

theorem index0 : ∀ t : Fin cfg0.N, win0_0.index t = ![0, 17 - t.val, 0] := (by decide +kernel : ∀ t : Fin grid0.N, _)
theorem index1 : ∀ t : Fin cfg0.N, win0_1.index t = ![0, 17 - t.val, 0] := (by decide +kernel : ∀ t : Fin grid0.N, _)
theorem index2 : ∀ t : Fin cfg0.N, win0_2.index t = ![0, 17 - t.val, 1] := (by decide +kernel : ∀ t : Fin grid0.N, _)
theorem index3 : ∀ t : Fin cfg0.N, win0_3.index t = ![0, 17 - t.val, 2] := (by decide +kernel : ∀ t : Fin grid0.N, _)
theorem index4 : ∀ t : Fin cfg0.N, win0_4.index t = ![0, 17 - t.val, 0, 0, 0] := (by decide +kernel : ∀ t : Fin grid0.N, _)
theorem index5 : ∀ t : Fin cfg0.N, win0_5.index t = ![17 - t.val, 0] := (by decide +kernel : ∀ t : Fin grid0.N, _)
theorem index6 : ∀ t : Fin cfg0.N, win0_6.index t = ![17 - t.val, 0] := (by decide +kernel : ∀ t : Fin grid0.N, _)
theorem index7 : ∀ t : Fin cfg0.N, win0_7.index t = ![0, 0] := (by decide +kernel : ∀ t : Fin grid0.N, _)

/-! ## The blocks at an index -/

theorem iblk0 (t : Fin cfg0.N) (b : Fin 2) (i : Fin 128) (d : Fin 512) :
    iblk m c 0 t (ix3 b i d) = a0 m c (ix3 b (Fin.ofNat 2304 ((17 - t.val) * 128 + i.val)) d) := by
  blk_simp [iblk]
  rw [V_main_arg0]
  refine congrArg _ ?_
  blk_ext [index0 t]
  all_goals (show _ = _ % _; omega)

theorem X1 (t : Fin cfg0.N) (b : Fin 2) (i : Fin 128) (d : Fin 512) :
    X0_1 m c t (ix3 b i d) = a1 m c (ix3 b (Fin.ofNat 2304 ((17 - t.val) * 128 + i.val)) (Fin.ofNat 3840 (0 + d.val))) := by
  unfold X0_1 Pipeline.Window.fill
  rw [dif_pos (moved0_1 t _)]
  blk_simp [iblk]
  rw [V_main_arg1]
  refine congrArg _ ?_
  blk_ext [index1 t]
  all_goals (show _ = _ % _; omega)

theorem X2 (t : Fin cfg0.N) (b : Fin 2) (i : Fin 128) (d : Fin 512) :
    X0_2 m c t (ix3 b i d) = a1 m c (ix3 b (Fin.ofNat 2304 ((17 - t.val) * 128 + i.val)) (Fin.ofNat 3840 (512 + d.val))) := by
  unfold X0_2 Pipeline.Window.fill
  rw [dif_pos (moved0_2 t _)]
  blk_simp [iblk]
  rw [V_main_arg1]
  refine congrArg _ ?_
  blk_ext [index2 t]
  all_goals (show _ = _ % _; omega)

theorem X3 (t : Fin cfg0.N) (b : Fin 2) (i : Fin 128) (d : Fin 512) :
    X0_3 m c t (ix3 b i d) = a1 m c (ix3 b (Fin.ofNat 2304 ((17 - t.val) * 128 + i.val)) (Fin.ofNat 3840 (1024 + d.val))) := by
  unfold X0_3 Pipeline.Window.fill
  rw [dif_pos (moved0_3 t _)]
  blk_simp [iblk]
  rw [V_main_arg1]
  refine congrArg _ ?_
  blk_ext [index3 t]
  all_goals (show _ = _ % _; omega)

theorem iblk4 (t : Fin cfg0.N) (b : Fin 2) (h : Fin 4) (i d : Fin 128) :
    iblk m c 4 t (ix5 b 0 h i d) = V m c main_v208 (ix5 b (Fin.ofNat 18 (17 - t.val)) h i d) := by
  blk_simp [iblk]
  refine congrArg _ ?_
  blk_ext [index4 t]
  all_goals (show _ = _ % _; omega)

theorem iblk5 (t : Fin cfg0.N) (i d : Fin 128) :
    iblk m c 5 t (ix2 i d) = V m c main_v5 (ix2 (Fin.ofNat 2304 ((17 - t.val) * 128 + i.val)) d) := by
  blk_simp [iblk]
  refine congrArg _ ?_
  blk_ext [index5 t]
  all_goals (show _ = _ % _; omega)

theorem iblk6 (t : Fin cfg0.N) (i d : Fin 128) :
    iblk m c 6 t (ix2 i d) = V m c main_v7 (ix2 (Fin.ofNat 2304 ((17 - t.val) * 128 + i.val)) d) := by
  blk_simp [iblk]
  refine congrArg _ ?_
  blk_ext [index6 t]
  all_goals (show _ = _ % _; omega)

theorem iblk7 (t : Fin cfg0.N) (d : Fin 128) : iblk m c 7 t (ix2 0 d) = V m c main_v9 (ix2 0 d) := by
  blk_simp [iblk]
  refine congrArg _ ?_
  blk_ext [index7 t]

end Cert.KernelIdeal.Blocks

end
-- ==== Proof.Retention.Arrays.lean ====
/-
  The arrays that the kernel call leaves, at an index: the gradients of Spec.lean. The scratch that the call carries from chunk to chunk holds the
  cotangent of the state.
-/
module

public import proofs.«01_k».proof.Proof.Retention.States
public import proofs.«01_k».proof.Proof.Retention.Blocks

@[expose] public section

set_option maxRecDepth 16384

noncomputable section

namespace Cert.KernelIdeal.Blocks

open Cert.KernelIdeal Cert.KernelIdeal.Gen Cert.KernelIdeal.HostLines Cert.KernelIdeal.Body Idealize.ShloMosaic Idealize.ShloMosaic.TcCoe Cert.Retention

variable (m : (ℓ : Loc nD τ sig) → Buf (Elt Ideal) ℓ) (c : Dev nD)

theorem pc_hc (o : ℕ) (ho : o ≤ 1024) (h : Fin 4) (d : Fin 128) : Fin.ofNat 3840 (o + (hc h d).val) = pc o h d := by
  have hh := h.isLt
  have hd := d.isLt
  refine Fin.ext ?_
  show (o + (h.val * 128 + d.val) % 512) % 3840 = (o + h.val * 128 + d.val) % 3840
  omega

/-- What point `t` reads is chunk `17 - t`'s. -/
theorem holds (t : Fin cfg0.N) :
    Holds (iblk m c 0 t) (X0_1 m c t) (X0_2 m c t) (X0_3 m c t) (iblk m c 4 t) (iblk m c 5 t) (iblk m c 6 t) (iblk m c 7 t)
      (a0 m c) (a1 m c) (a2 m c) (a3 m c) (a4 m c) (a5 m c) (a6 m c) (17 - t.val) where
  o b h := funext fun i => funext fun d => iblk0 m c t b i (hc h d)
  q b h := funext fun i => funext fun d => (X1 m c t b i (hc h d)).trans (by rw [pc_hc 0 (by omega)]; rfl)
  k b h := funext fun i => funext fun d => (X2 m c t b i (hc h d)).trans (by rw [pc_hc 512 (by omega)]; rfl)
  v b h := funext fun i => funext fun d => (X3 m c t b i (hc h d)).trans (by rw [pc_hc 1024 (by omega)]; rfl)
  s b h := funext fun i => funext fun d => ((iblk4 m c t b h i d).trans (v208_apply m c b _ h i d)).trans (by
    have e : (Fin.ofNat 18 (17 - t.val)).val = 17 - t.val := by show (17 - t.val) % 18 = _; omega
    rw [e])
  c := funext fun i => funext fun d => (iblk5 m c t i d).trans (v5_apply m c _ (by omega) i d)
  t := funext fun i => funext fun d => (iblk6 m c t i d).trans (v7_apply m c _ (by omega) i d)
  l h := (iblk7 m c t _).trans (v9_apply m c h)

theorem zeroD_apply (b : Fin 2) (h : Fin 4) :
    (fun i d => (zeroD : Vec Ideal S2x4x128x128 .f32) (ix4 b h i d) : M) = Dt (a0 m c) (a1 m c) (a2 m c) (a3 m c) (a4 m c) (a5 m c) (a6 m c) b h 0 :=
  funext fun _ => funext fun _ => Ideal.ofBits_zero_f32

/-- The columns of a gradient's row: column `e` is feature `e % 128` of head `e / 128`. -/
abbrev at3 (g : Fin 2 → Fin 4 → ℕ → M) (n : ℕ) (b : Fin 2) (i : Fin 128) (e : Fin 512) : EReal :=
  g b (Fin.ofNat 4 (e.val / 128)) n i (Fin.ofNat 128 e.val)

/-- What point `t` leaves, when the point before left the state's cotangent in the scratch. -/
theorem outs_apply (t : Fin cfg0.N)
    (hs : ¬ t.val % 18 = 0 → ∀ b h, (fun i d => (outsAt0 m c (t.val - 1) (Nat.lt_of_le_of_lt (Nat.sub_le _ _) t.isLt)).2.2.2.2 (ix4 b h i d) : M)
      = Dt (a0 m c) (a1 m c) (a2 m c) (a3 m c) (a4 m c) (a5 m c) (a6 m c) b h t.val) :
    (∀ b i e, (outsAt0 m c t.val t.isLt).1 (ix3 b i e) = at3 (dQ (a0 m c) (a1 m c) (a2 m c) (a3 m c) (a4 m c) (a5 m c) (a6 m c)) (17 - t.val) b i e)
    ∧ (∀ b i e, (outsAt0 m c t.val t.isLt).2.1 (ix3 b i e) = at3 (dK (a0 m c) (a1 m c) (a2 m c) (a3 m c) (a4 m c) (a5 m c) (a6 m c)) (17 - t.val) b i e)
    ∧ (∀ b i e, (outsAt0 m c t.val t.isLt).2.2.1 (ix3 b i e) = at3 (dV (a0 m c) (a1 m c) (a2 m c) (a3 m c) (a4 m c) (a5 m c) (a6 m c)) (17 - t.val) b i e)
    ∧ (∀ b h i d, (outsAt0 m c t.val t.isLt).2.2.2.2 (ix4 b h i d)
        = Dt (a0 m c) (a1 m c) (a2 m c) (a3 m c) (a4 m c) (a5 m c) (a6 m c) b h (t.val + 1) i d) := by
  have ht : t.val < 18 := lt_of_lt_of_eq t.isLt N_0
  have e : 17 - (17 - t.val) = t.val := by omega
  by_cases h0 : t.val % 18 = 0
  · have hz : ∀ b h, (fun i d => (zeroD : Vec Ideal S2x4x128x128 .f32) (ix4 b h i d) : M)
        = Dt (a0 m c) (a1 m c) (a2 m c) (a3 m c) (a4 m c) (a5 m c) (a6 m c) b h (17 - (17 - t.val)) := by
      intro b h
      rw [e, show t.val = 0 by omega]
      exact zeroD_apply m c b h
    rw [outsAt0_A m c t h0]
    refine ⟨fun b i e => ?_, fun b i e => ?_, fun b i e => ?_, fun b h i d => ?_⟩
    · dsimp only
      rw [out0_A_8_eq, canon3_apply]
      exact wQ_apply (holds m c t) b _ i _
    · dsimp only
      rw [out0_A_9_eq, canon3_apply]
      exact wK_apply _ (holds m c t) hz b _ i _
    · dsimp only
      rw [out0_A_10_eq, canon3_apply]
      exact wV_apply _ (holds m c t) hz b _ i _
    · dsimp only
      rw [sout0_A_0_eq, canon4_apply]
      refine (wD_apply _ (holds m c t) hz (by omega) b h i d).trans ?_
      rw [e]
  · have hz := hs h0
    rw [outsAt0_B m c t h0]
    generalize (outsAt0 m c (t.val - 1) (Nat.lt_of_le_of_lt (Nat.sub_le _ _) t.isLt)).2.2.2.2 = xs0 at hz ⊢
    replace hz : ∀ b h, (fun i d => xs0 (ix4 b h i d) : M)
        = Dt (a0 m c) (a1 m c) (a2 m c) (a3 m c) (a4 m c) (a5 m c) (a6 m c) b h (17 - (17 - t.val)) := by
      rw [e]; exact hz
    refine ⟨fun b i e => ?_, fun b i e => ?_, fun b i e => ?_, fun b h i d => ?_⟩
    · dsimp only
      rw [out0_B_8_eq, canon3_apply]
      exact wQ_apply (holds m c t) b _ i _
    · dsimp only
      rw [out0_B_9_eq, canon3_apply]
      exact wK_apply _ (holds m c t) hz b _ i _
    · dsimp only
      rw [out0_B_10_eq, canon3_apply]
      exact wV_apply _ (holds m c t) hz b _ i _
    · dsimp only
      rw [sout0_B_0_eq, ← List.append_nil (store4 _), canon4_apply]
      refine (wD_apply _ (holds m c t) hz (by omega) b h i d).trans ?_
      rw [e]

/-- After point `n` the scratch holds the cotangent of the state after `n + 1` chunks from the end. -/
theorem scratch_apply : ∀ (n : ℕ) (hn : n < cfg0.N) (b : Fin 2) (h : Fin 4),
    (fun i d => (outsAt0 m c n hn).2.2.2.2 (ix4 b h i d) : M)
      = Dt (a0 m c) (a1 m c) (a2 m c) (a3 m c) (a4 m c) (a5 m c) (a6 m c) b h (n + 1)
  | 0, hn, b, h => funext fun i => funext fun d =>
    (outs_apply m c ⟨0, hn⟩ (fun q => absurd rfl q)).2.2.2 b h i d
  | n + 1, hn, b, h => funext fun i => funext fun d =>
    (outs_apply m c ⟨n + 1, hn⟩ (fun _ b h => scratch_apply n (by omega) b h)).2.2.2 b h i d

/-- What point `t` leaves. -/
theorem outs (t : Fin cfg0.N) :
    (∀ b i e, (outsAt0 m c t.val t.isLt).1 (ix3 b i e) = at3 (dQ (a0 m c) (a1 m c) (a2 m c) (a3 m c) (a4 m c) (a5 m c) (a6 m c)) (17 - t.val) b i e)
    ∧ (∀ b i e, (outsAt0 m c t.val t.isLt).2.1 (ix3 b i e) = at3 (dK (a0 m c) (a1 m c) (a2 m c) (a3 m c) (a4 m c) (a5 m c) (a6 m c)) (17 - t.val) b i e)
    ∧ (∀ b i e, (outsAt0 m c t.val t.isLt).2.2.1 (ix3 b i e) = at3 (dV (a0 m c) (a1 m c) (a2 m c) (a3 m c) (a4 m c) (a5 m c) (a6 m c)) (17 - t.val) b i e)
    ∧ (∀ b h i d, (outsAt0 m c t.val t.isLt).2.2.2.2 (ix4 b h i d)
        = Dt (a0 m c) (a1 m c) (a2 m c) (a3 m c) (a4 m c) (a5 m c) (a6 m c) b h (t.val + 1) i d) :=
  outs_apply m c t fun q b h => by
    have hp : t.val - 1 + 1 = t.val := Nat.sub_add_cancel (Nat.pos_of_ne_zero fun z => q (by rw [z]))
    have := scratch_apply m c (t.val - 1) (Nat.lt_of_le_of_lt (Nat.sub_le _ _) t.isLt) b h
    rw [hp] at this
    exact this

/-! ## The arrays -/

theorem index8 : ∀ t : Fin cfg0.N, win0_8.index t = ![0, 17 - t.val, 0] := (by decide +kernel : ∀ t : Fin grid0.N, _)
theorem index9 : ∀ t : Fin cfg0.N, win0_9.index t = ![0, 17 - t.val, 0] := (by decide +kernel : ∀ t : Fin grid0.N, _)
theorem index10 : ∀ t : Fin cfg0.N, win0_10.index t = ![0, 17 - t.val, 0] := (by decide +kernel : ∀ t : Fin grid0.N, _)

/-- A gradient's entry at a place of block `n`. -/
theorem entry_block (g : Fin 2 → Fin 4 → ℕ → M) (n : ℕ) (hn : n < 18) (y : S2x128x512.Idx) (j : S2x2304x512.Idx)
    (h0 : (j 0).val = (y 0).val) (h1 : (j 1).val = n * 128 + (y 1).val) (h2 : (j 2).val = (y 2).val) :
    at3 g n (y 0) (y 1) (y 2) = entry g j := by
  have b1 : (y 1).val < 128 := (y 1).isLt
  have e0 : y 0 = j 0 := Fin.ext h0.symm
  have e1 : (j 1).val / 128 = n := by omega
  have e2 : y 1 = Fin.ofNat 128 (j 1).val := Fin.ext (by show (y 1).val = (j 1).val % 128; omega)
  show g (y 0) (Fin.ofNat 4 ((y 2).val / 128)) n (y 1) (Fin.ofNat 128 (y 2).val)
    = g (j 0) (Fin.ofNat 4 ((j 2).val / 128)) ((j 1).val / 128) (Fin.ofNat 128 (j 1).val) (Fin.ofNat 128 (j 2).val)
  rw [e0, e1, h2, ← e2]

theorem ix3_eta (y : S2x128x512.Idx) : y = ix3 (y 0) (y 1) (y 2) :=
  funext fun a => match a with | ⟨0, _⟩ => rfl | ⟨1, _⟩ => rfl | ⟨2, _⟩ => rfl

/-- The first output array: the queries' gradient. -/
theorem out8 : (dats m 0 c).arrAt 8 cfg0.N = entry (dQ (a0 m c) (a1 m c) (a2 m c) (a3 m c) (a4 m c) (a5 m c) (a6 m c)) := by
  refine (dats m 0 c).arrAt_eq_of_covers 8 _ (by decide +kernel) fun t hf y => ?_
  blk_simp
  rw [after0_8]
  have ht : t.val < 18 := lt_of_lt_of_eq t.isLt N_0
  refine ((congrArg _ (ix3_eta y)).trans ((outs m c t).1 (y 0) (y 1) (y 2))).trans ?_
  refine entry_block _ (17 - t.val) (by omega) y _ ?_ ?_ ?_
  all_goals (blk_simp [index8 t]; first | done | omega)

/-- The second: the keys' gradient. -/
theorem out9 : (dats m 0 c).arrAt 9 cfg0.N = entry (dK (a0 m c) (a1 m c) (a2 m c) (a3 m c) (a4 m c) (a5 m c) (a6 m c)) := by
  refine (dats m 0 c).arrAt_eq_of_covers 9 _ (by decide +kernel) fun t hf y => ?_
  blk_simp
  rw [after0_9]
  have ht : t.val < 18 := lt_of_lt_of_eq t.isLt N_0
  refine ((congrArg _ (ix3_eta y)).trans ((outs m c t).2.1 (y 0) (y 1) (y 2))).trans ?_
  refine entry_block _ (17 - t.val) (by omega) y _ ?_ ?_ ?_
  all_goals (blk_simp [index9 t]; first | done | omega)

/-- The third: the values' gradient. -/
theorem out10 : (dats m 0 c).arrAt 10 cfg0.N = entry (dV (a0 m c) (a1 m c) (a2 m c) (a3 m c) (a4 m c) (a5 m c) (a6 m c)) := by
  refine (dats m 0 c).arrAt_eq_of_covers 10 _ (by decide +kernel) fun t hf y => ?_
  blk_simp
  rw [after0_10]
  have ht : t.val < 18 := lt_of_lt_of_eq t.isLt N_0
  refine ((congrArg _ (ix3_eta y)).trans ((outs m c t).2.2.1 (y 0) (y 1) (y 2))).trans ?_
  refine entry_block _ (17 - t.val) (by omega) y _ ?_ ?_ ?_
  all_goals (blk_simp [index10 t]; first | done | omega)

end Cert.KernelIdeal.Blocks

end
-- ==== Proof.Retention.RefRope.lean ====
/-
  The reference's transposed rotation of a gradient, at an index: the two halves of the features with their tables, added from padded halves.
-/
module

public import proofs.«01_k».proof.Proof.Gen.ReferenceIdeal.Read
public import proofs.«01_k».proof.Proof.Retention.RefParts

@[expose] public section

noncomputable section

namespace Cert.ReferenceIdeal.Chunks

open Cert.ReferenceIdeal Cert.ReferenceIdeal.Gen Cert.ReferenceIdeal.Read Idealize.ShloMosaic Idealize.ShloMosaic.TcCoe Cert.Retention

variable (x0 : (⟨S2x2304x512, .f32⟩ : BufTy).Contents (Elt Ideal)) (x1 : (⟨S2x2304x3840, .f32⟩ : BufTy).Contents (Elt Ideal))
  (x2 x3 x4 x5 : (⟨S2048x32, .f32⟩ : BufTy).Contents (Elt Ideal)) (x6 : (⟨S4, .f32⟩ : BufTy).Contents (Elt Ideal))

theorem v443_eq (b : Fin 2) (t : Fin 2048) (h : Fin 4) (d : Fin 32) : val_main_v443 (F := Ideal) x0 x1 x2 x3 x4 x5 x6 (ix4 b t h d) =
    val_main_v414 (F := Ideal) x0 x1 x2 x3 x4 x5 x6 (ix4 b t h (Fin.ofNat 128 (d.val + 32))) * x2 (ix2 t d) + -(val_main_v414 (F := Ideal) x0 x1 x2 x3 x4 x5 x6 (ix4 b t h (Fin.ofNat 128 (d.val + 0)))) * x3 (ix2 t d) := by
  unfold val_main_v443 val_main_v442 val_main_v441 val_main_v440 val_main_v437 val_main_v436 val_main_v435 val_main_v434 val_main_v417 val_main_v132 val_main_v131
  generalize val_main_v414 (F := Ideal) x0 x1 x2 x3 x4 x5 x6 = y0
  pointwise []
  have hd := d.isLt
  refine congrArg₂ (fun i j => y0 (ix4 b t h i) * _ + -y0 (ix4 b t h j) * _) (Fin.ext ?_) (Fin.ext ?_) <;>
    (simp only [Fin.ofNat]; omega)

theorem v446_eq (b : Fin 2) (t : Fin 2048) (h : Fin 4) (d : Fin 32) : val_main_v446 (F := Ideal) x0 x1 x2 x3 x4 x5 x6 (ix4 b t h d) =
    val_main_v414 (F := Ideal) x0 x1 x2 x3 x4 x5 x6 (ix4 b t h (Fin.ofNat 128 (d.val + 32))) * x3 (ix2 t d) + val_main_v414 (F := Ideal) x0 x1 x2 x3 x4 x5 x6 (ix4 b t h (Fin.ofNat 128 (d.val + 0))) * x2 (ix2 t d) := by
  unfold val_main_v446 val_main_v445 val_main_v444 val_main_v439 val_main_v438 val_main_v435 val_main_v434 val_main_v417 val_main_v132 val_main_v131
  generalize val_main_v414 (F := Ideal) x0 x1 x2 x3 x4 x5 x6 = y0
  pointwise []
  have hd := d.isLt
  refine congrArg₂ (fun i j => y0 (ix4 b t h i) * _ + y0 (ix4 b t h j) * _) (Fin.ext ?_) (Fin.ext ?_) <;>
    (simp only [Fin.ofNat]; omega)

theorem v428_eq (b : Fin 2) (t : Fin 2048) (h : Fin 4) (d : Fin 32) : val_main_v428 (F := Ideal) x0 x1 x2 x3 x4 x5 x6 (ix4 b t h d) =
    val_main_v414 (F := Ideal) x0 x1 x2 x3 x4 x5 x6 (ix4 b t h (Fin.ofNat 128 (d.val + 96))) * x4 (ix2 t d) + -(val_main_v414 (F := Ideal) x0 x1 x2 x3 x4 x5 x6 (ix4 b t h (Fin.ofNat 128 (d.val + 64)))) * x5 (ix2 t d) := by
  unfold val_main_v428 val_main_v427 val_main_v426 val_main_v425 val_main_v422 val_main_v421 val_main_v420 val_main_v419 val_main_v418 val_main_v148 val_main_v147
  generalize val_main_v414 (F := Ideal) x0 x1 x2 x3 x4 x5 x6 = y0
  pointwise []
  have hd := d.isLt
  refine congrArg₂ (fun i j => y0 (ix4 b t h i) * _ + -y0 (ix4 b t h j) * _) (Fin.ext ?_) (Fin.ext ?_) <;>
    (simp only [Fin.ofNat]; omega)

theorem v431_eq (b : Fin 2) (t : Fin 2048) (h : Fin 4) (d : Fin 32) : val_main_v431 (F := Ideal) x0 x1 x2 x3 x4 x5 x6 (ix4 b t h d) =
    val_main_v414 (F := Ideal) x0 x1 x2 x3 x4 x5 x6 (ix4 b t h (Fin.ofNat 128 (d.val + 96))) * x5 (ix2 t d) + val_main_v414 (F := Ideal) x0 x1 x2 x3 x4 x5 x6 (ix4 b t h (Fin.ofNat 128 (d.val + 64))) * x4 (ix2 t d) := by
  unfold val_main_v431 val_main_v430 val_main_v429 val_main_v424 val_main_v423 val_main_v420 val_main_v419 val_main_v418 val_main_v148 val_main_v147
  generalize val_main_v414 (F := Ideal) x0 x1 x2 x3 x4 x5 x6 = y0
  pointwise []
  have hd := d.isLt
  refine congrArg₂ (fun i j => y0 (ix4 b t h i) * _ + y0 (ix4 b t h j) * _) (Fin.ext ?_) (Fin.ext ?_) <;>
    (simp only [Fin.ofNat]; omega)

theorem v447_eq (b : Fin 2) (t : Fin 2048) (h : Fin 4) (d : Fin 64) : val_main_v447 (F := Ideal) x0 x1 x2 x3 x4 x5 x6 (ix4 b t h d) =
    if d.val < 32 then val_main_v446 (F := Ideal) x0 x1 x2 x3 x4 x5 x6 (ix4 b t h (Fin.ofNat 32 d.val)) else val_main_v443 (F := Ideal) x0 x1 x2 x3 x4 x5 x6 (ix4 b t h (Fin.ofNat 32 d.val)) := by
  unfold val_main_v447
  generalize val_main_v446 (F := Ideal) x0 x1 x2 x3 x4 x5 x6 = y0
  generalize val_main_v443 (F := Ideal) x0 x1 x2 x3 x4 x5 x6 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v432_eq (b : Fin 2) (t : Fin 2048) (h : Fin 4) (d : Fin 64) : val_main_v432 (F := Ideal) x0 x1 x2 x3 x4 x5 x6 (ix4 b t h d) =
    if d.val < 32 then val_main_v431 (F := Ideal) x0 x1 x2 x3 x4 x5 x6 (ix4 b t h (Fin.ofNat 32 d.val)) else val_main_v428 (F := Ideal) x0 x1 x2 x3 x4 x5 x6 (ix4 b t h (Fin.ofNat 32 d.val)) := by
  unfold val_main_v432
  generalize val_main_v431 (F := Ideal) x0 x1 x2 x3 x4 x5 x6 = y0
  generalize val_main_v428 (F := Ideal) x0 x1 x2 x3 x4 x5 x6 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v449_cat (b : Fin 2) (t : Fin 2048) (h : Fin 4) (d : Fin 128) : val_main_v449 (F := Ideal) x0 x1 x2 x3 x4 x5 x6 (ix4 b t h d) =
    if d.val < 64 then val_main_v447 (F := Ideal) x0 x1 x2 x3 x4 x5 x6 (ix4 b t h (Fin.ofNat 64 d.val)) else val_main_v432 (F := Ideal) x0 x1 x2 x3 x4 x5 x6 (ix4 b t h (Fin.ofNat 64 d.val)) := by
  unfold val_main_v449 val_main_v448 val_main_cst_16 val_main_v433 val_main_cst_15
  generalize val_main_v432 (F := Ideal) x0 x1 x2 x3 x4 x5 x6 = y0
  generalize val_main_v447 (F := Ideal) x0 x1 x2 x3 x4 x5 x6 = y1
  pointwise []
  have hd := d.isLt
  by_cases h1 : d.val < 64
  · have h2 : ¬ 64 ≤ d.val := by omega
    simp only [h1, h2, if_true, if_false, false_and, dite_true, dite_false, zero_add, Ideal.ofBits_zero_f32]
    refine congrArg (fun i => y1 (ix4 b t h i)) (Fin.ext ?_); simp only [Fin.ofNat]; omega
  · have h2 : 64 ≤ d.val := by omega
    have h3 : d.val - 64 < 64 := by omega
    simp only [h1, h2, h3, if_true, if_false, true_and, dite_true, dite_false, add_zero, Ideal.ofBits_zero_f32]
    refine congrArg (fun i => y0 (ix4 b t h i)) (Fin.ext ?_); simp only [Fin.ofNat]; omega

theorem v449_eq (b : Fin 2) (t : Fin 2048) (h : Fin 4) (d : Fin 128) : val_main_v449 (F := Ideal) x0 x1 x2 x3 x4 x5 x6 (ix4 b t h d) =
    val_main_v414 (F := Ideal) x0 x1 x2 x3 x4 x5 x6 (ix4 b t h (sw d)) * snT x3 x5 t (sw d) + val_main_v414 (F := Ideal) x0 x1 x2 x3 x4 x5 x6 (ix4 b t h (d)) * csT x2 x4 t d := by
  rw [v449_cat]
  have hd := d.isLt
  by_cases h1 : d.val < 64
  · rw [if_pos h1, v447_eq]
    have i0 : Fin.ofNat 32 (Fin.ofNat 64 d.val).val = Fin.ofNat 32 d.val := Fin.ext (by simp only [Fin.ofNat]; omega)
    rw [i0]
    by_cases h2 : d.val < 32
    · have e := sw_lo d (by omega)
      have i1 : Fin.ofNat 128 ((Fin.ofNat 32 d.val).val + 0) = d := Fin.ext (by simp only [Fin.ofNat]; omega)
      have i2 : Fin.ofNat 128 ((Fin.ofNat 32 d.val).val + 32) = sw d := Fin.ext (by rw [e]; simp only [Fin.ofNat]; omega)
      have i3 : Fin.ofNat 32 (sw d).val = Fin.ofNat 32 d.val := Fin.ext (by rw [e]; simp only [Fin.ofNat]; omega)
      rw [if_pos (by simp only [Fin.ofNat]; omega), v446_eq, i1, i2, csT, snT, if_pos h1, if_pos (by omega), if_neg (by omega), i3]
    · have e := sw_hi d (by omega)
      have i1 : Fin.ofNat 128 ((Fin.ofNat 32 d.val).val + 32) = d := Fin.ext (by simp only [Fin.ofNat]; omega)
      have i2 : Fin.ofNat 128 ((Fin.ofNat 32 d.val).val + 0) = sw d := Fin.ext (by rw [e]; simp only [Fin.ofNat]; omega)
      have i3 : Fin.ofNat 32 (sw d).val = Fin.ofNat 32 d.val := Fin.ext (by rw [e]; simp only [Fin.ofNat]; omega)
      rw [if_neg (by simp only [Fin.ofNat]; omega), v443_eq, i1, i2, csT, snT, if_pos h1, if_pos (by omega), if_pos (by omega), i3,
        mul_neg, EReal.neg_mul, add_comm]
  · rw [if_neg h1, v432_eq]
    have i0 : Fin.ofNat 32 (Fin.ofNat 64 d.val).val = Fin.ofNat 32 d.val := Fin.ext (by simp only [Fin.ofNat]; omega)
    rw [i0]
    by_cases h2 : d.val < 96
    · have e := sw_lo d (by omega)
      have i1 : Fin.ofNat 128 ((Fin.ofNat 32 d.val).val + 64) = d := Fin.ext (by simp only [Fin.ofNat]; omega)
      have i2 : Fin.ofNat 128 ((Fin.ofNat 32 d.val).val + 96) = sw d := Fin.ext (by rw [e]; simp only [Fin.ofNat]; omega)
      have i3 : Fin.ofNat 32 (sw d).val = Fin.ofNat 32 d.val := Fin.ext (by rw [e]; simp only [Fin.ofNat]; omega)
      rw [if_pos (by simp only [Fin.ofNat]; omega), v431_eq, i1, i2, csT, snT, if_neg h1, if_neg (by omega), if_neg (by omega), i3]
    · have e := sw_hi d (by omega)
      have i1 : Fin.ofNat 128 ((Fin.ofNat 32 d.val).val + 96) = d := Fin.ext (by simp only [Fin.ofNat]; omega)
      have i2 : Fin.ofNat 128 ((Fin.ofNat 32 d.val).val + 64) = sw d := Fin.ext (by rw [e]; simp only [Fin.ofNat]; omega)
      have i3 : Fin.ofNat 32 (sw d).val = Fin.ofNat 32 d.val := Fin.ext (by rw [e]; simp only [Fin.ofNat]; omega)
      rw [if_neg (by simp only [Fin.ofNat]; omega), v428_eq, i1, i2, csT, snT, if_neg h1, if_neg (by omega), if_pos (by omega), i3,
        mul_neg, EReal.neg_mul, add_comm]

theorem v476_eq (b : Fin 2) (t : Fin 2048) (h : Fin 4) (d : Fin 32) : val_main_v476 (F := Ideal) x0 x1 x2 x3 x4 x5 x6 (ix4 b t h d) =
    val_main_v416 (F := Ideal) x0 x1 x2 x3 x4 x5 x6 (ix4 b t h (Fin.ofNat 128 (d.val + 32))) * x2 (ix2 t d) + -(val_main_v416 (F := Ideal) x0 x1 x2 x3 x4 x5 x6 (ix4 b t h (Fin.ofNat 128 (d.val + 0)))) * x3 (ix2 t d) := by
  unfold val_main_v476 val_main_v475 val_main_v474 val_main_v473 val_main_v470 val_main_v469 val_main_v468 val_main_v467 val_main_v450 val_main_v99 val_main_v98
  generalize val_main_v416 (F := Ideal) x0 x1 x2 x3 x4 x5 x6 = y0
  pointwise []
  have hd := d.isLt
  refine congrArg₂ (fun i j => y0 (ix4 b t h i) * _ + -y0 (ix4 b t h j) * _) (Fin.ext ?_) (Fin.ext ?_) <;>
    (simp only [Fin.ofNat]; omega)

theorem v479_eq (b : Fin 2) (t : Fin 2048) (h : Fin 4) (d : Fin 32) : val_main_v479 (F := Ideal) x0 x1 x2 x3 x4 x5 x6 (ix4 b t h d) =
    val_main_v416 (F := Ideal) x0 x1 x2 x3 x4 x5 x6 (ix4 b t h (Fin.ofNat 128 (d.val + 32))) * x3 (ix2 t d) + val_main_v416 (F := Ideal) x0 x1 x2 x3 x4 x5 x6 (ix4 b t h (Fin.ofNat 128 (d.val + 0))) * x2 (ix2 t d) := by
  unfold val_main_v479 val_main_v478 val_main_v477 val_main_v472 val_main_v471 val_main_v468 val_main_v467 val_main_v450 val_main_v99 val_main_v98
  generalize val_main_v416 (F := Ideal) x0 x1 x2 x3 x4 x5 x6 = y0
  pointwise []
  have hd := d.isLt
  refine congrArg₂ (fun i j => y0 (ix4 b t h i) * _ + y0 (ix4 b t h j) * _) (Fin.ext ?_) (Fin.ext ?_) <;>
    (simp only [Fin.ofNat]; omega)

theorem v461_eq (b : Fin 2) (t : Fin 2048) (h : Fin 4) (d : Fin 32) : val_main_v461 (F := Ideal) x0 x1 x2 x3 x4 x5 x6 (ix4 b t h d) =
    val_main_v416 (F := Ideal) x0 x1 x2 x3 x4 x5 x6 (ix4 b t h (Fin.ofNat 128 (d.val + 96))) * x4 (ix2 t d) + -(val_main_v416 (F := Ideal) x0 x1 x2 x3 x4 x5 x6 (ix4 b t h (Fin.ofNat 128 (d.val + 64)))) * x5 (ix2 t d) := by
  unfold val_main_v461 val_main_v460 val_main_v459 val_main_v458 val_main_v455 val_main_v454 val_main_v453 val_main_v452 val_main_v451 val_main_v115 val_main_v114
  generalize val_main_v416 (F := Ideal) x0 x1 x2 x3 x4 x5 x6 = y0
  pointwise []
  have hd := d.isLt
  refine congrArg₂ (fun i j => y0 (ix4 b t h i) * _ + -y0 (ix4 b t h j) * _) (Fin.ext ?_) (Fin.ext ?_) <;>
    (simp only [Fin.ofNat]; omega)

theorem v464_eq (b : Fin 2) (t : Fin 2048) (h : Fin 4) (d : Fin 32) : val_main_v464 (F := Ideal) x0 x1 x2 x3 x4 x5 x6 (ix4 b t h d) =
    val_main_v416 (F := Ideal) x0 x1 x2 x3 x4 x5 x6 (ix4 b t h (Fin.ofNat 128 (d.val + 96))) * x5 (ix2 t d) + val_main_v416 (F := Ideal) x0 x1 x2 x3 x4 x5 x6 (ix4 b t h (Fin.ofNat 128 (d.val + 64))) * x4 (ix2 t d) := by
  unfold val_main_v464 val_main_v463 val_main_v462 val_main_v457 val_main_v456 val_main_v453 val_main_v452 val_main_v451 val_main_v115 val_main_v114
  generalize val_main_v416 (F := Ideal) x0 x1 x2 x3 x4 x5 x6 = y0
  pointwise []
  have hd := d.isLt
  refine congrArg₂ (fun i j => y0 (ix4 b t h i) * _ + y0 (ix4 b t h j) * _) (Fin.ext ?_) (Fin.ext ?_) <;>
    (simp only [Fin.ofNat]; omega)

theorem v480_eq (b : Fin 2) (t : Fin 2048) (h : Fin 4) (d : Fin 64) : val_main_v480 (F := Ideal) x0 x1 x2 x3 x4 x5 x6 (ix4 b t h d) =
    if d.val < 32 then val_main_v479 (F := Ideal) x0 x1 x2 x3 x4 x5 x6 (ix4 b t h (Fin.ofNat 32 d.val)) else val_main_v476 (F := Ideal) x0 x1 x2 x3 x4 x5 x6 (ix4 b t h (Fin.ofNat 32 d.val)) := by
  unfold val_main_v480
  generalize val_main_v479 (F := Ideal) x0 x1 x2 x3 x4 x5 x6 = y0
  generalize val_main_v476 (F := Ideal) x0 x1 x2 x3 x4 x5 x6 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v465_eq (b : Fin 2) (t : Fin 2048) (h : Fin 4) (d : Fin 64) : val_main_v465 (F := Ideal) x0 x1 x2 x3 x4 x5 x6 (ix4 b t h d) =
    if d.val < 32 then val_main_v464 (F := Ideal) x0 x1 x2 x3 x4 x5 x6 (ix4 b t h (Fin.ofNat 32 d.val)) else val_main_v461 (F := Ideal) x0 x1 x2 x3 x4 x5 x6 (ix4 b t h (Fin.ofNat 32 d.val)) := by
  unfold val_main_v465
  generalize val_main_v464 (F := Ideal) x0 x1 x2 x3 x4 x5 x6 = y0
  generalize val_main_v461 (F := Ideal) x0 x1 x2 x3 x4 x5 x6 = y1
  pointwise []
  split
  · rename_i hd; refine congrArg (fun i => y0 (ix4 b t h i)) (Fin.ext ?_); simp only [Fin.ofNat]; omega
  · rename_i hd; refine congrArg (fun i => y1 (ix4 b t h i)) (Fin.ext ?_); have := d.isLt; simp only [Fin.ofNat]; omega

theorem v482_cat (b : Fin 2) (t : Fin 2048) (h : Fin 4) (d : Fin 128) : val_main_v482 (F := Ideal) x0 x1 x2 x3 x4 x5 x6 (ix4 b t h d) =
    if d.val < 64 then val_main_v480 (F := Ideal) x0 x1 x2 x3 x4 x5 x6 (ix4 b t h (Fin.ofNat 64 d.val)) else val_main_v465 (F := Ideal) x0 x1 x2 x3 x4 x5 x6 (ix4 b t h (Fin.ofNat 64 d.val)) := by
  unfold val_main_v482 val_main_v481 val_main_cst_18 val_main_v466 val_main_cst_17
  generalize val_main_v465 (F := Ideal) x0 x1 x2 x3 x4 x5 x6 = y0
  generalize val_main_v480 (F := Ideal) x0 x1 x2 x3 x4 x5 x6 = y1
  pointwise []
  have hd := d.isLt
  by_cases h1 : d.val < 64
  · have h2 : ¬ 64 ≤ d.val := by omega
    simp only [h1, h2, if_true, if_false, false_and, dite_true, dite_false, zero_add, Ideal.ofBits_zero_f32]
    refine congrArg (fun i => y1 (ix4 b t h i)) (Fin.ext ?_); simp only [Fin.ofNat]; omega
  · have h2 : 64 ≤ d.val := by omega
    have h3 : d.val - 64 < 64 := by omega
    simp only [h1, h2, h3, if_true, if_false, true_and, dite_true, dite_false, add_zero, Ideal.ofBits_zero_f32]
    refine congrArg (fun i => y0 (ix4 b t h i)) (Fin.ext ?_); simp only [Fin.ofNat]; omega

theorem v482_eq (b : Fin 2) (t : Fin 2048) (h : Fin 4) (d : Fin 128) : val_main_v482 (F := Ideal) x0 x1 x2 x3 x4 x5 x6 (ix4 b t h d) =
    val_main_v416 (F := Ideal) x0 x1 x2 x3 x4 x5 x6 (ix4 b t h (sw d)) * snT x3 x5 t (sw d) + val_main_v416 (F := Ideal) x0 x1 x2 x3 x4 x5 x6 (ix4 b t h (d)) * csT x2 x4 t d := by
  rw [v482_cat]
  have hd := d.isLt
  by_cases h1 : d.val < 64
  · rw [if_pos h1, v480_eq]
    have i0 : Fin.ofNat 32 (Fin.ofNat 64 d.val).val = Fin.ofNat 32 d.val := Fin.ext (by simp only [Fin.ofNat]; omega)
    rw [i0]
    by_cases h2 : d.val < 32
    · have e := sw_lo d (by omega)
      have i1 : Fin.ofNat 128 ((Fin.ofNat 32 d.val).val + 0) = d := Fin.ext (by simp only [Fin.ofNat]; omega)
      have i2 : Fin.ofNat 128 ((Fin.ofNat 32 d.val).val + 32) = sw d := Fin.ext (by rw [e]; simp only [Fin.ofNat]; omega)
      have i3 : Fin.ofNat 32 (sw d).val = Fin.ofNat 32 d.val := Fin.ext (by rw [e]; simp only [Fin.ofNat]; omega)
      rw [if_pos (by simp only [Fin.ofNat]; omega), v479_eq, i1, i2, csT, snT, if_pos h1, if_pos (by omega), if_neg (by omega), i3]
    · have e := sw_hi d (by omega)
      have i1 : Fin.ofNat 128 ((Fin.ofNat 32 d.val).val + 32) = d := Fin.ext (by simp only [Fin.ofNat]; omega)
      have i2 : Fin.ofNat 128 ((Fin.ofNat 32 d.val).val + 0) = sw d := Fin.ext (by rw [e]; simp only [Fin.ofNat]; omega)
      have i3 : Fin.ofNat 32 (sw d).val = Fin.ofNat 32 d.val := Fin.ext (by rw [e]; simp only [Fin.ofNat]; omega)
      rw [if_neg (by simp only [Fin.ofNat]; omega), v476_eq, i1, i2, csT, snT, if_pos h1, if_pos (by omega), if_pos (by omega), i3,
        mul_neg, EReal.neg_mul, add_comm]
  · rw [if_neg h1, v465_eq]
    have i0 : Fin.ofNat 32 (Fin.ofNat 64 d.val).val = Fin.ofNat 32 d.val := Fin.ext (by simp only [Fin.ofNat]; omega)
    rw [i0]
    by_cases h2 : d.val < 96
    · have e := sw_lo d (by omega)
      have i1 : Fin.ofNat 128 ((Fin.ofNat 32 d.val).val + 64) = d := Fin.ext (by simp only [Fin.ofNat]; omega)
      have i2 : Fin.ofNat 128 ((Fin.ofNat 32 d.val).val + 96) = sw d := Fin.ext (by rw [e]; simp only [Fin.ofNat]; omega)
      have i3 : Fin.ofNat 32 (sw d).val = Fin.ofNat 32 d.val := Fin.ext (by rw [e]; simp only [Fin.ofNat]; omega)
      rw [if_pos (by simp only [Fin.ofNat]; omega), v464_eq, i1, i2, csT, snT, if_neg h1, if_neg (by omega), if_neg (by omega), i3]
    · have e := sw_hi d (by omega)
      have i1 : Fin.ofNat 128 ((Fin.ofNat 32 d.val).val + 96) = d := Fin.ext (by simp only [Fin.ofNat]; omega)
      have i2 : Fin.ofNat 128 ((Fin.ofNat 32 d.val).val + 64) = sw d := Fin.ext (by rw [e]; simp only [Fin.ofNat]; omega)
      have i3 : Fin.ofNat 32 (sw d).val = Fin.ofNat 32 d.val := Fin.ext (by rw [e]; simp only [Fin.ofNat]; omega)
      rw [if_neg (by simp only [Fin.ofNat]; omega), v461_eq, i1, i2, csT, snT, if_neg h1, if_neg (by omega), if_pos (by omega), i3,
        mul_neg, EReal.neg_mul, add_comm]

end Cert.ReferenceIdeal.Chunks

end
-- ==== Proof.Retention.RefOut.lean ====
/-
  The reference's results at an index: entries of the gradients of the chunks.
-/
module

public import proofs.«01_k».proof.Proof.Gen.ReferenceIdeal.Read
public import proofs.«01_k».proof.Proof.Retention.RefRope
public import proofs.«01_k».proof.Proof.Retention.RefChunks

@[expose] public section

noncomputable section

namespace Cert.ReferenceIdeal.Chunks

open Cert.ReferenceIdeal Cert.ReferenceIdeal.Gen Cert.ReferenceIdeal.Read Idealize.ShloMosaic Idealize.ShloMosaic.TcCoe Cert.Retention

variable (x0 : (⟨S2x2304x512, .f32⟩ : BufTy).Contents (Elt Ideal)) (x1 : (⟨S2x2304x3840, .f32⟩ : BufTy).Contents (Elt Ideal))
  (x2 x3 x4 x5 : (⟨S2048x32, .f32⟩ : BufTy).Contents (Elt Ideal)) (x6 : (⟨S4, .f32⟩ : BufTy).Contents (Elt Ideal))

/-- The tokens of the context before the others. -/
theorem catTokens (y0 : FVec Ideal S2x256x4x128 .f32) (y1 : FVec Ideal S2x2048x4x128 .f32) (b : Fin 2) (t : Fin 2304) (h : Fin 4) (d : Fin 128) :
    concatenate S2x2304x4x128 1 [⟨S2x256x4x128, y0⟩, ⟨S2x2048x4x128, y1⟩] concatenates_S2x256x4x128_S2x2048x4x128_S2x2304x4x128_d1 (ix4 b t h d) =
    if t.val < 256 then y0 (ix4 b (Fin.ofNat 256 t.val) h d) else y1 (ix4 b (Fin.ofNat 2048 (t.val - 256)) h d) := by
  pointwise []
  split
  · rename_i ht; refine congrArg (fun i => y0 (ix4 b i h d)) (Fin.ext ?_); simp only [Fin.ofNat]; omega
  · rename_i ht; refine congrArg (fun i => y1 (ix4 b i h d)) (Fin.ext ?_); have := t.isLt; simp only [Fin.ofNat]; omega

/-- The chunk and the place in it of a token of the context. -/
theorem ctx_n (t : Fin 2304) (ht : t.val < 256) : (Fin.ofNat 2 ((Fin.ofNat 256 t.val).val / 128)).val = t.val / 128 := by
  simp only [Fin.ofNat]; omega
@[inherit_doc ctx_n] theorem ctx_i (t : Fin 2304) (ht : t.val < 256) : Fin.ofNat 128 (Fin.ofNat 256 t.val).val = Fin.ofNat 128 t.val :=
  Fin.ext (by simp only [Fin.ofNat]; omega)

/-- The chunk and the place in it of a token after the context. -/
theorem x_n (t : Fin 2304) (ht : ¬ t.val < 256) : (Fin.ofNat 16 ((Fin.ofNat 2048 (t.val - 256)).val / 128)).val + 2 = t.val / 128 := by
  have := t.isLt; simp only [Fin.ofNat]; omega
@[inherit_doc x_n] theorem x_i (t : Fin 2304) (ht : ¬ t.val < 256) : Fin.ofNat 128 (Fin.ofNat 2048 (t.val - 256)).val = Fin.ofNat 128 t.val :=
  Fin.ext (by have := t.isLt; simp only [Fin.ofNat]; omega)
@[inherit_doc x_n] theorem x_k (t : Fin 2304) (ht : ¬ t.val < 256) : 15 - (Fin.ofNat 16 ((Fin.ofNat 2048 (t.val - 256)).val / 128)).val = 17 - t.val / 128 := by
  have := x_n t ht; omega
@[inherit_doc x_n] theorem x_t (t : Fin 2048) : (Fin.ofNat 16 (t.val / 128)).val * 128 + (Fin.ofNat 128 t.val).val = t.val := by
  have := t.isLt; simp only [Fin.ofNat]; omega

/-- The context's tables leave the gradient as it is. -/
theorem unrot_ctx (n : ℕ) (hn : n < 2) (g : M) : unrot (cs x2 x4 n) (sn x3 x5 n) g = g := by
  funext i d
  simp only [unrot, cs, sn, if_pos hn, mul_zero, mul_one, zero_add]

theorem v412_eq (b : Fin 2) (t : Fin 2048) (h : Fin 4) (d : Fin 128) : val_main_v412 (F := Ideal) x0 x1 x2 x3 x4 x5 x6 (ix4 b t h d) =
    val_main_v405 (F := Ideal) x0 x1 x2 x3 x4 x5 x6 (ix5 b (Fin.ofNat 16 (t.val / 128)) h (Fin.ofNat 128 t.val) d) :=
  unchunk16 (val_main_v405 (F := Ideal) x0 x1 x2 x3 x4 x5 x6) b t h d

theorem v414_eq (b : Fin 2) (t : Fin 2048) (h : Fin 4) (d : Fin 128) : val_main_v414 (F := Ideal) x0 x1 x2 x3 x4 x5 x6 (ix4 b t h d) =
    val_main_v410 (F := Ideal) x0 x1 x2 x3 x4 x5 x6 (ix5 b (Fin.ofNat 16 (t.val / 128)) h (Fin.ofNat 128 t.val) d) :=
  unchunk16 (val_main_v410 (F := Ideal) x0 x1 x2 x3 x4 x5 x6) b t h d

theorem v416_eq (b : Fin 2) (t : Fin 2048) (h : Fin 4) (d : Fin 128) : val_main_v416 (F := Ideal) x0 x1 x2 x3 x4 x5 x6 (ix4 b t h d) =
    val_main_v355 (F := Ideal) x0 x1 x2 x3 x4 x5 x6 (ix5 b (Fin.ofNat 16 (t.val / 128)) h (Fin.ofNat 128 t.val) d) :=
  unchunk16 (val_main_v355 (F := Ideal) x0 x1 x2 x3 x4 x5 x6) b t h d

theorem v513_eq (b : Fin 2) (t : Fin 256) (h : Fin 4) (d : Fin 128) : val_main_v513 (F := Ideal) x0 x1 x2 x3 x4 x5 x6 (ix4 b t h d) =
    val_main_v506 (F := Ideal) x0 x1 x2 x3 x4 x5 x6 (ix5 b (Fin.ofNat 2 (t.val / 128)) h (Fin.ofNat 128 t.val) d) :=
  unchunk2 (val_main_v506 (F := Ideal) x0 x1 x2 x3 x4 x5 x6) b t h d

theorem v515_eq (b : Fin 2) (t : Fin 256) (h : Fin 4) (d : Fin 128) : val_main_v515 (F := Ideal) x0 x1 x2 x3 x4 x5 x6 (ix4 b t h d) =
    val_main_v511 (F := Ideal) x0 x1 x2 x3 x4 x5 x6 (ix5 b (Fin.ofNat 2 (t.val / 128)) h (Fin.ofNat 128 t.val) d) :=
  unchunk2 (val_main_v511 (F := Ideal) x0 x1 x2 x3 x4 x5 x6) b t h d

theorem v517_eq (b : Fin 2) (t : Fin 256) (h : Fin 4) (d : Fin 128) : val_main_v517 (F := Ideal) x0 x1 x6 (ix4 b t h d) =
    val_main_v499 (F := Ideal) x0 x1 x6 (ix5 b (Fin.ofNat 2 (t.val / 128)) h (Fin.ofNat 128 t.val) d) :=
  unchunk2 (val_main_v499 (F := Ideal) x0 x1 x6) b t h d

theorem v449_chunk (b : Fin 2) (t : Fin 2048) (h : Fin 4) (d : Fin 128) : val_main_v449 (F := Ideal) x0 x1 x2 x3 x4 x5 x6 (ix4 b t h d) =
    unrot (cs x2 x4 ((Fin.ofNat 16 (t.val / 128)).val + 2)) (sn x3 x5 ((Fin.ofNat 16 (t.val / 128)).val + 2))
      (dk (lg x6 h) (Q x1 x2 x3 x4 x5 b h ((Fin.ofNat 16 (t.val / 128)).val + 2)) (P x1 1024 b h ((Fin.ofNat 16 (t.val / 128)).val + 2)) (O x0 b h ((Fin.ofNat 16 (t.val / 128)).val + 2)) (Dt x0 x1 x2 x3 x4 x5 x6 b h (15 - (Fin.ofNat 16 (t.val / 128)).val))) (Fin.ofNat 128 t.val) d := by
  rw [v449_eq, v414_eq, v414_eq, v410_eq, v410_eq, unrot, cs_x, sn_x, x_t]
  rw [show Fin.ofNat 2048 t.val = t from Fin.ext (Nat.mod_eq_of_lt t.isLt)]

theorem v482_chunk (b : Fin 2) (t : Fin 2048) (h : Fin 4) (d : Fin 128) : val_main_v482 (F := Ideal) x0 x1 x2 x3 x4 x5 x6 (ix4 b t h d) =
    unrot (cs x2 x4 ((Fin.ofNat 16 (t.val / 128)).val + 2)) (sn x3 x5 ((Fin.ofNat 16 (t.val / 128)).val + 2))
      (dq (lg x6 h) (K x1 x2 x3 x4 x5 b h ((Fin.ofNat 16 (t.val / 128)).val + 2)) (P x1 1024 b h ((Fin.ofNat 16 (t.val / 128)).val + 2)) (St x1 x2 x3 x4 x5 x6 b h ((Fin.ofNat 16 (t.val / 128)).val + 2)) (O x0 b h ((Fin.ofNat 16 (t.val / 128)).val + 2))) (Fin.ofNat 128 t.val) d := by
  rw [v482_eq, v416_eq, v416_eq, v355_eq, v355_eq, unrot, cs_x, sn_x, x_t]
  rw [show Fin.ofNat 2048 t.val = t from Fin.ext (Nat.mod_eq_of_lt t.isLt)]

theorem v518_eq (b : Fin 2) (t : Fin 2304) (h : Fin 4) (d : Fin 128) : val_main_v518 (F := Ideal) x0 x1 x2 x3 x4 x5 x6 (ix4 b t h d) =
    dV x0 x1 x2 x3 x4 x5 x6 b h (t.val / 128) (Fin.ofNat 128 t.val) d := by
  refine (catTokens _ _ b t h d).trans ?_
  by_cases ht : t.val < 256
  · rw [if_pos ht, v513_eq, v506_eq, ctx_n t ht, ctx_i t ht, dV]
  · rw [if_neg ht, v412_eq, v405_eq, x_k t ht, x_n t ht, x_i t ht, dV]

theorem v519_eq (b : Fin 2) (t : Fin 2304) (h : Fin 4) (d : Fin 128) : val_main_v519 (F := Ideal) x0 x1 x2 x3 x4 x5 x6 (ix4 b t h d) * scale =
    dK x0 x1 x2 x3 x4 x5 x6 b h (t.val / 128) (Fin.ofNat 128 t.val) d := by
  refine (congrArg (· * scale) (catTokens _ _ b t h d)).trans ?_
  rw [dK]
  refine congrArg (· * scale) ?_
  by_cases ht : t.val < 256
  · rw [if_pos ht, v515_eq, v511_eq, ctx_n t ht, ctx_i t ht, unrot_ctx x2 x3 x4 x5 _ (by omega)]
  · rw [if_neg ht, v449_chunk, x_k t ht, x_n t ht, x_i t ht]

theorem v520_eq (b : Fin 2) (t : Fin 2304) (h : Fin 4) (d : Fin 128) : val_main_v520 (F := Ideal) x0 x1 x2 x3 x4 x5 x6 (ix4 b t h d) =
    dQ x0 x1 x2 x3 x4 x5 x6 b h (t.val / 128) (Fin.ofNat 128 t.val) d := by
  refine (catTokens _ _ b t h d).trans ?_
  rw [dQ]
  by_cases ht : t.val < 256
  · rw [if_pos ht, v517_eq, v499_eq x0 x1 x2 x3 x4 x5 x6, ctx_n t ht, ctx_i t ht, unrot_ctx x2 x3 x4 x5 _ (by omega)]
  · rw [if_neg ht, v482_chunk, x_n t ht, x_i t ht]

/-- An index of a gradient's array, by its coordinates. -/
theorem ix3_eta (j : S2x2304x512.Idx) : ix3 (j 0) (j 1) (j 2) = j :=
  funext fun a => match a with | ⟨0, _⟩ => rfl | ⟨1, _⟩ => rfl | ⟨2, _⟩ => rfl

/-- The reference's gradient of the values holds the entries of the chunks' gradients. -/
theorem v521_eq (j : S2x2304x512.Idx) : val_main_v521 (F := Ideal) x0 x1 x2 x3 x4 x5 x6 j = entry (dV x0 x1 x2 x3 x4 x5 x6) j := by
  rw [← ix3_eta j]
  exact (unheads (val_main_v518 (F := Ideal) x0 x1 x2 x3 x4 x5 x6) (j 0) (j 1) (j 2)).trans (v518_eq x0 x1 x2 x3 x4 x5 x6 (j 0) (j 1) _ _)

/-- The reference's gradient of the keys holds the entries of the chunks' gradients. -/
theorem v524_eq (j : S2x2304x512.Idx) : val_main_v524 (F := Ideal) x0 x1 x2 x3 x4 x5 x6 j = entry (dK x0 x1 x2 x3 x4 x5 x6) j := by
  rw [← ix3_eta j]
  exact (unheads (val_main_v523 (F := Ideal) x0 x1 x2 x3 x4 x5 x6) (j 0) (j 1) (j 2)).trans (v519_eq x0 x1 x2 x3 x4 x5 x6 (j 0) (j 1) _ _)

/-- The reference's gradient of the queries holds the entries of the chunks' gradients. -/
theorem v525_eq (j : S2x2304x512.Idx) : val_main_v525 (F := Ideal) x0 x1 x2 x3 x4 x5 x6 j = entry (dQ x0 x1 x2 x3 x4 x5 x6) j := by
  rw [← ix3_eta j]
  exact (unheads (val_main_v520 (F := Ideal) x0 x1 x2 x3 x4 x5 x6) (j 0) (j 1) (j 2)).trans (v520_eq x0 x1 x2 x3 x4 x5 x6 (j 0) (j 1) _ _)

end Cert.ReferenceIdeal.Chunks

end
-- ==== Proof.Retention.RefRun.lean ====
/-
  The reference's run: it ends with the entries of the chunks' gradients of its arguments.
-/
module

public import proofs.«01_k».proof.Proof.Gen.ReferenceIdeal.Run
public import proofs.«01_k».proof.Proof.Retention.RefOut

@[expose] public section

noncomputable section

namespace Cert.ReferenceIdeal.Chunks

open Cert.ReferenceIdeal Cert.ReferenceIdeal.Gen Cert.ReferenceIdeal.Read Idealize.ShloMosaic Idealize.ShloMosaic.TcCoe Idealize.SL.Sem Cert.Retention

variable (m : (ℓ : Loc Cert.ReferenceIdeal.nD Cert.ReferenceIdeal.τ Cert.ReferenceIdeal.sig) → Buf (Elt Ideal) ℓ) (g : Dev Cert.ReferenceIdeal.nD → PrngReg)

/-- What the program leaves for the gradient of the queries, as its steps build it. -/
theorem stage_v525 (c : Dev nD) : val_main_v525 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) = entry (dQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  funext fun j => Cert.ReferenceIdeal.Chunks.v525_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) j

/-- What the program leaves for the gradient of the keys, as its steps build it. -/
theorem stage_v524 (c : Dev nD) : val_main_v524 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) = entry (dK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  funext fun j => Cert.ReferenceIdeal.Chunks.v524_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) j

/-- What the program leaves for the gradient of the values, as its steps build it. -/
theorem stage_v521 (c : Dev nD) : val_main_v521 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) = entry (dV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  funext fun j => Cert.ReferenceIdeal.Chunks.v521_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) j

/-- The reference ends with the entries of the chunks' gradients of its launched arguments, the arguments unchanged. -/
theorem run : θ_run (defs (F := Ideal)) (onTc (τ := τ) (main (F := Ideal))) ⟨m, fun _ => 0, g⟩ (fun r => ∀ c : Dev nD,
      r.2.mem ((c.tc : Thread nD τ).loc main_v525) = entry (dQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v524) = entry (dK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v521) = entry (dV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨((h c).1.trans (val_main_v525_eq (StableHlo.launchContents m c))).trans (stage_v525 m c),
      ((h c).2.1.trans (val_main_v524_eq (StableHlo.launchContents m c))).trans (stage_v524 m c),
      ((h c).2.2.1.trans (val_main_v521_eq (StableHlo.launchContents m c))).trans (stage_v521 m c),
      (h c).2.2.2⟩)
    (Cert.ReferenceIdeal.Value.run (F := Ideal) m g)

end Cert.ReferenceIdeal.Chunks

end
-- ==== Proof.Products.Ff2Dw.lean ====
/-
  The call `ff2_dw`: its output, accumulated over 4 steps, is the product of its two operands (the first transposed times the second).
-/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

noncomputable section

namespace Cert.Kernel2Ideal.Product

open Cert.Kernel2Ideal Cert.Kernel2Ideal.Gen Idealize.ShloMosaic Idealize.ShloMosaic.TcCoe

/-- The accumulator starts at zero. -/
theorem zero_apply (j : S1024x1024.Idx) : k0_pay1 (F := Ideal) j = 0 := by pointwise [k0_pay1]

/-- A step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 k (j 0)) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- At the last step of an output block the accumulator holds the sum of its steps' products. -/
theorem accumulated (t : Fin cfg0.N) (h : t.val % 4 = 3) (j : S1024x1024.Idx) :
    (outsAt0 m c t.val t.isLt).2 j = 0 + ∑ s : Fin 4, ∑ k : Fin 1024, (show Vec Ideal S1024x1024 .bf16 from iblk m c 0 ⟨4 * (t.val / 4) + s.val, Pipeline.run_point_lt_of_flush t h s⟩) (ix2 k (j 0)) * (show Vec Ideal S1024x1024 .bf16 from iblk m c 1 ⟨4 * (t.val / 4) + s.val, Pipeline.run_point_lt_of_flush t h s⟩) (ix2 k (j 1)) := by
  rw [Pipeline.eq_sum_fin_of_reset_step_apply_of_flush (fun n h => (outsAt0 m c n h).2) 4 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; dsimp only; frame_out; rw [add_apply, zero_apply])
    (fun t h j => by
      by_cases h1 : t.val % 4 = 3
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator. -/
theorem stored (t : Fin cfg0.N) (h : t.val % 4 = 3) (j : S1024x1024.Idx) :
    (outsAt0 m c t.val t.isLt).1 j = (outsAt0 m c t.val t.isLt).2 j := by
  rw [outsAt0_C m c t (by omega) h]
  dsimp only
  frame_out
  pointwise [k0_pay3]

/-- The product of the two whole arrays. -/
def product (a0 : Vec Ideal S4096x4096 .bf16) (a1 : Vec Ideal S4096x1024 .bf16) : Vec Ideal S4096x1024 .bf16 :=
  fun i => ∑ k : Fin 4096, a0 (ix2 k (i 0)) * a1 (ix2 k (i 1))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), accumulated m c t ((flush0_2 t).mp hf), zero_add]
  refine Fin.sum_mul_add_congr fun s k hl => ?_
  have hs := idx ⟨_, Pipeline.run_point_lt_of_flush t ((flush0_2 t).mp hf) s⟩
  refine congrArg₂ (fun x y : EReal => x * y) ?_ ?_
  · blk_ext [iblk, V, idx t, hs]
  · blk_ext [iblk, V, idx t, hs]

end Cert.Kernel2Ideal.Product

namespace Cert.Reference2Ideal.Product

open Cert.Reference2Ideal Cert.Reference2Ideal.Gen Idealize.ShloMosaic Idealize.ShloMosaic.TcCoe

/-- The reference's result at an index. -/
theorem term_apply (a0 : FVec Ideal S4096x4096 .bf16) (a1 : FVec Ideal S4096x1024 .bf16) (i : S4096x1024.Idx) :
    (truncf .bf16 (transpose S4096x1024 [1, 0] (Host.dotGeneral dot_S4096x1024_S4096x4096_S1024x4096_0_0_1_1_n_n none (extf .f32 a1 bitsLt_bf16_f32) (extf .f32 a0 bitsLt_bf16_f32)) transposes_S1024x4096_S4096x1024_1_0) bitsLt_bf16_f32 : FVec Ideal S4096x1024 .bf16) i = ∑ k : Fin 4096, a1 (ix2 k (i 1)) * a0 (ix2 k (i 0)) := by
  pointwise []

end Cert.Reference2Ideal.Product

namespace Cert.Proof

open Idealize.ShloMosaic Idealize.SL.Sem

/-- The call's output and the reference's result agree at every entry. -/
theorem algebraic2 : Cert.algebraic_Kernel2Ideal_Reference2Ideal (hKernel2Ideal := Cert.Kernel2Ideal.Gen.facts) (hReference2Ideal := Cert.Reference2Ideal.Gen.facts) := by
  intro m g m' g' _ e
  refine ⟨_, Cert.Kernel2Ideal.Value.run_blocks (F := Ideal) m g, (θ_run Cert.Reference2Ideal.defs _ _).mono (fun _ h c => ⟨(h c).1.trans ?_, (h c).2⟩) (Cert.Reference2Ideal.Value.run (F := Ideal) m' g')⟩
  rw [(e c).1, (e c).2]
  refine Eq.trans ?_ (Cert.Kernel2Ideal.Product.array m c).symm
  refine funext fun i => (Cert.Reference2Ideal.Product.term_apply _ _ i).trans ?_
  exact Finset.sum_congr rfl fun k _ => mul_comm _ _

end Cert.Proof

end
-- ==== Proof.Products.Ff1Dw.lean ====
/-
  The call `ff1_dw`: its output, accumulated over 4 steps, is the product of its two operands (the first transposed times the second).
-/
module

public import proofs.«01_k».proof.Defs
public import proofs.«01_k».proof.Proof.Gen.Kernel3Ideal.Value
public import proofs.«01_k».proof.Proof.Gen.Reference3Ideal.Run
public import Idealize.ShloMosaic.Lib.Pipeline.ValueKit

@[expose] public section

noncomputable section

namespace Cert.Kernel3Ideal.Product

open Cert.Kernel3Ideal Cert.Kernel3Ideal.Gen Idealize.ShloMosaic Idealize.ShloMosaic.TcCoe

/-- The accumulator starts at zero. -/
theorem zero_apply (j : S1024x1024.Idx) : k0_pay1 (F := Ideal) j = 0 := by pointwise [k0_pay1]

/-- A step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 k (j 0)) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- At the last step of an output block the accumulator holds the sum of its steps' products. -/
theorem accumulated (t : Fin cfg0.N) (h : t.val % 4 = 3) (j : S1024x1024.Idx) :
    (outsAt0 m c t.val t.isLt).2 j = 0 + ∑ s : Fin 4, ∑ k : Fin 1024, (show Vec Ideal S1024x1024 .bf16 from iblk m c 0 ⟨4 * (t.val / 4) + s.val, Pipeline.run_point_lt_of_flush t h s⟩) (ix2 k (j 0)) * (show Vec Ideal S1024x1024 .bf16 from iblk m c 1 ⟨4 * (t.val / 4) + s.val, Pipeline.run_point_lt_of_flush t h s⟩) (ix2 k (j 1)) := by
  rw [Pipeline.eq_sum_fin_of_reset_step_apply_of_flush (fun n h => (outsAt0 m c n h).2) 4 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; dsimp only; frame_out; rw [add_apply, zero_apply])
    (fun t h j => by
      by_cases h1 : t.val % 4 = 3
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator. -/
theorem stored (t : Fin cfg0.N) (h : t.val % 4 = 3) (j : S1024x1024.Idx) :
    (outsAt0 m c t.val t.isLt).1 j = (outsAt0 m c t.val t.isLt).2 j := by
  rw [outsAt0_C m c t (by omega) h]
  dsimp only
  frame_out
  pointwise [k0_pay3]

/-- The product of the two whole arrays. -/
def product (a0 : Vec Ideal S4096x1024 .bf16) (a1 : Vec Ideal S4096x4096 .bf16) : Vec Ideal S1024x4096 .bf16 :=
  fun i => ∑ k : Fin 4096, a0 (ix2 k (i 0)) * a1 (ix2 k (i 1))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), accumulated m c t ((flush0_2 t).mp hf), zero_add]
  refine Fin.sum_mul_add_congr fun s k hl => ?_
  have hs := idx ⟨_, Pipeline.run_point_lt_of_flush t ((flush0_2 t).mp hf) s⟩
  refine congrArg₂ (fun x y : EReal => x * y) ?_ ?_
  · blk_ext [iblk, V, idx t, hs]
  · blk_ext [iblk, V, idx t, hs]

end Cert.Kernel3Ideal.Product

namespace Cert.Reference3Ideal.Product

open Cert.Reference3Ideal Cert.Reference3Ideal.Gen Idealize.ShloMosaic Idealize.ShloMosaic.TcCoe

/-- The reference's result at an index. -/
theorem term_apply (a0 : FVec Ideal S4096x1024 .bf16) (a1 : FVec Ideal S4096x4096 .bf16) (i : S1024x4096.Idx) :
    (truncf .bf16 (transpose S1024x4096 [1, 0] (Host.dotGeneral dot_S4096x4096_S4096x1024_S4096x1024_0_0_1_1_n_n none (extf .f32 a1 bitsLt_bf16_f32) (extf .f32 a0 bitsLt_bf16_f32)) transposes_S4096x1024_S1024x4096_1_0) bitsLt_bf16_f32 : FVec Ideal S1024x4096 .bf16) i = ∑ k : Fin 4096, a1 (ix2 k (i 1)) * a0 (ix2 k (i 0)) := by
  pointwise []

end Cert.Reference3Ideal.Product

namespace Cert.Proof

open Idealize.ShloMosaic Idealize.SL.Sem

/-- The call's output and the reference's result agree at every entry. -/
theorem algebraic3 : Cert.algebraic_Kernel3Ideal_Reference3Ideal (hKernel3Ideal := Cert.Kernel3Ideal.Gen.facts) (hReference3Ideal := Cert.Reference3Ideal.Gen.facts) := by
  intro m g m' g' _ e
  refine ⟨_, Cert.Kernel3Ideal.Value.run_blocks (F := Ideal) m g, (θ_run Cert.Reference3Ideal.defs _ _).mono (fun _ h c => ⟨(h c).1.trans ?_, (h c).2⟩) (Cert.Reference3Ideal.Value.run (F := Ideal) m' g')⟩
  rw [(e c).1, (e c).2]
  refine Eq.trans ?_ (Cert.Kernel3Ideal.Product.array m c).symm
  refine funext fun i => (Cert.Reference3Ideal.Product.term_apply _ _ i).trans ?_
  exact Finset.sum_congr rfl fun k _ => mul_comm _ _

end Cert.Proof

end
-- ==== Proof.Products.Ff1Dx.lean ====
/-
  The call `ff1_dx`: its output, accumulated over 4 steps, is the product of its two operands (the first times the second transposed).
-/
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section

noncomputable section

namespace Cert.Kernel4Ideal.Product

open Cert.Kernel4Ideal Cert.Kernel4Ideal.Gen Idealize.ShloMosaic Idealize.ShloMosaic.TcCoe

/-- The accumulator starts at zero. -/
theorem zero_apply (j : S1024x1024.Idx) : k0_pay1 (F := Ideal) j = 0 := by pointwise [k0_pay1]

/-- A step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 (j 0) k) * b (ix2 (j 1) k) := by pointwise [k0_pay2]

variable (m : (ℓ : Loc nD τ sig) → Buf (Elt Ideal) ℓ) (c : Dev nD)

/-- The blocks at a step. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- At the last step of an output block the accumulator holds the sum of its steps' products. -/
theorem accumulated (t : Fin cfg0.N) (h : t.val % 4 = 3) (j : S1024x1024.Idx) :
    (outsAt0 m c t.val t.isLt).2 j = 0 + ∑ s : Fin 4, ∑ k : Fin 1024, (show Vec Ideal S1024x1024 .bf16 from iblk m c 0 ⟨4 * (t.val / 4) + s.val, Pipeline.run_point_lt_of_flush t h s⟩) (ix2 (j 0) k) * (show Vec Ideal S1024x1024 .bf16 from iblk m c 1 ⟨4 * (t.val / 4) + s.val, Pipeline.run_point_lt_of_flush t h s⟩) (ix2 (j 1) k) := by
  rw [Pipeline.eq_sum_fin_of_reset_step_apply_of_flush (fun n h => (outsAt0 m c n h).2) 4 (fun _ => 0)
    (fun p j => ∑ k : Fin 1024, (show Vec Ideal S1024x1024 .bf16 from iblk m c 0 p) (ix2 (j 0) k) * (show Vec Ideal S1024x1024 .bf16 from iblk m c 1 p) (ix2 (j 1) k))
    (fun t h j => by rw [outsAt0_A m c t h (by omega)]; dsimp only; frame_out; rw [add_apply, zero_apply])
    (fun t h j => by
      by_cases h1 : t.val % 4 = 3
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator. -/
theorem stored (t : Fin cfg0.N) (h : t.val % 4 = 3) (j : S1024x1024.Idx) :
    (outsAt0 m c t.val t.isLt).1 j = (outsAt0 m c t.val t.isLt).2 j := by
  rw [outsAt0_C m c t (by omega) h]
  dsimp only
  frame_out

/-- The product of the two whole arrays. -/
def product (a0 : Vec Ideal S4096x4096 .bf16) (a1 : Vec Ideal S1024x4096 .bf16) : Vec Ideal S4096x1024 .f32 :=
  fun i => ∑ k : Fin 4096, a0 (ix2 (i 0) k) * a1 (ix2 (i 1) k)

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), accumulated m c t ((flush0_2 t).mp hf), zero_add]
  refine Fin.sum_mul_add_congr fun s k hl => ?_
  have hs := idx ⟨_, Pipeline.run_point_lt_of_flush t ((flush0_2 t).mp hf) s⟩
  refine congrArg₂ (fun x y : EReal => x * y) ?_ ?_
  · blk_ext [iblk, V, idx t, hs]
  · blk_ext [iblk, V, idx t, hs]

end Cert.Kernel4Ideal.Product

namespace Cert.Reference4Ideal.Product

open Cert.Reference4Ideal Cert.Reference4Ideal.Gen Idealize.ShloMosaic Idealize.ShloMosaic.TcCoe

/-- The reference's result at an index. -/
theorem term_apply (a0 : FVec Ideal S4096x4096 .bf16) (a1 : FVec Ideal S1024x4096 .bf16) (i : S4096x1024.Idx) :
    (Host.dotGeneral dot_S4096x4096_S1024x4096_S4096x1024_1_1_0_0_n_n none (extf .f32 a0 bitsLt_bf16_f32) (extf .f32 a1 bitsLt_bf16_f32) : FVec Ideal S4096x1024 .f32) i = ∑ k : Fin 4096, a0 (ix2 (i 0) k) * a1 (ix2 (i 1) k) := by
  pointwise []

end Cert.Reference4Ideal.Product

namespace Cert.Proof

open Idealize.ShloMosaic Idealize.SL.Sem

/-- The call's output and the reference's result agree at every entry. -/
theorem algebraic4 : Cert.algebraic_Kernel4Ideal_Reference4Ideal (hKernel4Ideal := Cert.Kernel4Ideal.Gen.facts) (hReference4Ideal := Cert.Reference4Ideal.Gen.facts) := by
  intro m g m' g' _ e
  refine ⟨_, Cert.Kernel4Ideal.Value.run_blocks (F := Ideal) m g, (θ_run Cert.Reference4Ideal.defs _ _).mono (fun _ h c => ⟨(h c).1.trans ?_, (h c).2⟩) (Cert.Reference4Ideal.Value.run (F := Ideal) m' g')⟩
  rw [(e c).1, (e c).2]
  refine Eq.trans ?_ (Cert.Kernel4Ideal.Product.array m c).symm
  refine funext fun i => (Cert.Reference4Ideal.Product.term_apply _ _ i).trans ?_
  rfl

end Cert.Proof

end
-- ==== Proof.Products.Ff2Dx.lean ====
/-
  The call `ff2_dx`: each block of its output is computed in one step, as the product of its two operands (the first times the second transposed).
-/
module

public import proofs.«01_k».proof.Defs
public import proofs.«01_k».proof.Proof.Gen.Kernel5Ideal.Value
public import proofs.«01_k».proof.Proof.Gen.Reference5Ideal.Run
public import Idealize.ShloMosaic.Lib.Pipeline.ValueKit

@[expose] public section

noncomputable section

namespace Cert.Kernel5Ideal.Product

open Cert.Kernel5Ideal Cert.Kernel5Ideal.Gen Idealize.ShloMosaic Idealize.ShloMosaic.TcCoe

/-- The accumulator starts at zero. -/
theorem zero_apply (j : S1024x1024.Idx) : k0_pay1 (F := Ideal) j = 0 := by pointwise [k0_pay1]

/-- The step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 (j 0) k) * b (ix2 (j 1) k) := by pointwise [k0_pay2]

/-- It stores the accumulator. -/
theorem store_apply (acc : Vec Ideal S1024x1024 .f32) (j : S1024x1024.Idx) : k0_pay3 (F := Ideal) acc j = acc j := by pointwise [k0_pay3]

variable (m : (ℓ : Loc nD τ sig) → Buf (Elt Ideal) ℓ) (c : Dev nD)

/-- The blocks at a step. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The block a step stores. -/
theorem stored (t : Fin cfg0.N) (j : S1024x1024.Idx) :
    outsAt0 m c t j = (∑ k : Fin 1024, (show Vec Ideal S1024x1024 .bf16 from iblk m c 0 t) (ix2 (j 0) k) * (show Vec Ideal S1024x1024 .bf16 from iblk m c 1 t) (ix2 (j 1) k)) := by
  simp only [outsAt0]
  frame_out
  rw [store_apply, add_apply, zero_apply, zero_add]

/-- The product of the two whole arrays. -/
def product (a0 : Vec Ideal S4096x1024 .bf16) (a1 : Vec Ideal S4096x1024 .bf16) : Vec Ideal S4096x4096 .bf16 :=
  fun i => (∑ k : Fin 1024, a0 (ix2 (i 0) k) * a1 (ix2 (i 1) k))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t]
  refine Fin.sum_fin_congr fun k => ?_
  refine congrArg₂ (fun x y : EReal => x * y) ?_ ?_
  · blk_ext [iblk, V, idx t]
  · blk_ext [iblk, V, idx t]

end Cert.Kernel5Ideal.Product

namespace Cert.Reference5Ideal.Product

open Cert.Reference5Ideal Cert.Reference5Ideal.Gen Idealize.ShloMosaic Idealize.ShloMosaic.TcCoe

/-- The reference's result at an index. -/
theorem term_apply (a0 : FVec Ideal S4096x1024 .bf16) (a1 : FVec Ideal S4096x1024 .bf16) (i : S4096x4096.Idx) :
    (truncf .bf16 (Host.dotGeneral dot_S4096x1024_S4096x1024_S4096x4096_1_1_0_0_n_n none (extf .f32 a0 bitsLt_bf16_f32) (extf .f32 a1 bitsLt_bf16_f32)) bitsLt_bf16_f32 : FVec Ideal S4096x4096 .bf16) i = (∑ k : Fin 1024, a0 (ix2 (i 0) k) * a1 (ix2 (i 1) k)) := by
  pointwise []

end Cert.Reference5Ideal.Product

namespace Cert.Proof

open Idealize.ShloMosaic Idealize.SL.Sem

/-- The call's output and the reference's result agree at every entry. -/
theorem algebraic5 : Cert.algebraic_Kernel5Ideal_Reference5Ideal (hKernel5Ideal := Cert.Kernel5Ideal.Gen.facts) (hReference5Ideal := Cert.Reference5Ideal.Gen.facts) := by
  intro m g m' g' _ e
  refine ⟨_, Cert.Kernel5Ideal.Value.run_blocks (F := Ideal) m g, (θ_run Cert.Reference5Ideal.defs _ _).mono (fun _ h c => ⟨(h c).1.trans ?_, (h c).2⟩) (Cert.Reference5Ideal.Value.run (F := Ideal) m' g')⟩
  rw [(e c).1, (e c).2]
  refine Eq.trans ?_ (Cert.Kernel5Ideal.Product.array m c).symm
  exact funext fun i => Cert.Reference5Ideal.Product.term_apply _ _ i

end Cert.Proof

end
-- ==== Proof.Products.ProjInDw.lean ====
/-
  The call `proj_in_dw`: its output, accumulated over 6 steps, is the product of its two operands (the first transposed times the second).
-/
module

public import proofs.«01_k».proof.Defs
public import proofs.«01_k».proof.Proof.Gen.Kernel6Ideal.Value
public import proofs.«01_k».proof.Proof.Gen.Reference6Ideal.Run
public import Idealize.ShloMosaic.Lib.Pipeline.ValueKit

@[expose] public section

noncomputable section

namespace Cert.Kernel6Ideal.Product

open Cert.Kernel6Ideal Cert.Kernel6Ideal.Gen Idealize.ShloMosaic Idealize.ShloMosaic.TcCoe

/-- The accumulator starts at zero. -/
theorem zero_apply (j : S1024x768.Idx) : k0_pay1 (F := Ideal) j = 0 := by pointwise [k0_pay1]

/-- A step adds the product of its two blocks. -/
theorem add_apply (acc : Vec Ideal S1024x768 .f32) (a : Vec Ideal S768x1024 .bf16) (b : Vec Ideal S768x768 .bf16) (j : S1024x768.Idx) :
    k0_pay2 (F := Ideal) acc a b j = acc j + ∑ k : Fin 768, a (ix2 k (j 0)) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val % 6, 0] ∧ win0_1.index t = ![t.val % 6, t.val / 6] ∧ win0_2.index t = ![0, t.val / 6] :=
  (by decide +kernel : ∀ t : Fin grid0.N, _)

/-- At the last step of an output block the accumulator holds the sum of its steps' products. -/
theorem accumulated (t : Fin cfg0.N) (h : t.val % 6 = 5) (j : S1024x768.Idx) :
    (outsAt0 m c t.val t.isLt).2 j = 0 + ∑ s : Fin 6, ∑ k : Fin 768, (show Vec Ideal S768x1024 .bf16 from iblk m c 0 ⟨6 * (t.val / 6) + s.val, Pipeline.run_point_lt_of_flush t h s⟩) (ix2 k (j 0)) * (show Vec Ideal S768x768 .bf16 from iblk m c 1 ⟨6 * (t.val / 6) + s.val, Pipeline.run_point_lt_of_flush t h s⟩) (ix2 k (j 1)) := by
  rw [Pipeline.eq_sum_fin_of_reset_step_apply_of_flush (fun n h => (outsAt0 m c n h).2) 6 (fun _ => 0)
    (fun p j => ∑ k : Fin 768, (show Vec Ideal S768x1024 .bf16 from iblk m c 0 p) (ix2 k (j 0)) * (show Vec Ideal S768x768 .bf16 from iblk m c 1 p) (ix2 k (j 1)))
    (fun t h j => by rw [outsAt0_A m c t h (by omega)]; dsimp only; frame_out; rw [add_apply, zero_apply])
    (fun t h j => by
      by_cases h1 : t.val % 6 = 5
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator. -/
theorem stored (t : Fin cfg0.N) (h : t.val % 6 = 5) (j : S1024x768.Idx) :
    (outsAt0 m c t.val t.isLt).1 j = (outsAt0 m c t.val t.isLt).2 j := by
  rw [outsAt0_C m c t (by omega) h]
  dsimp only
  frame_out
  pointwise [k0_pay3]

/-- The product of the two whole arrays. -/
def product (a0 : Vec Ideal S4608x1024 .bf16) (a1 : Vec Ideal S4608x3840 .bf16) : Vec Ideal S1024x3840 .bf16 :=
  fun i => ∑ k : Fin 4608, a0 (ix2 k (i 0)) * a1 (ix2 k (i 1))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), accumulated m c t ((flush0_2 t).mp hf), zero_add]
  refine Fin.sum_mul_add_congr fun s k hl => ?_
  have hs := idx ⟨_, Pipeline.run_point_lt_of_flush t ((flush0_2 t).mp hf) s⟩
  refine congrArg₂ (fun x y : EReal => x * y) ?_ ?_
  · blk_ext [iblk, V, idx t, hs]
  · blk_ext [iblk, V, idx t, hs]

end Cert.Kernel6Ideal.Product

namespace Cert.Reference6Ideal.Product

open Cert.Reference6Ideal Cert.Reference6Ideal.Gen Idealize.ShloMosaic Idealize.ShloMosaic.TcCoe

/-- The reference's result at an index. -/
theorem term_apply (a0 : FVec Ideal S4608x1024 .bf16) (a1 : FVec Ideal S4608x3840 .bf16) (i : S1024x3840.Idx) :
    (truncf .bf16 (transpose S1024x3840 [1, 0] (Host.dotGeneral dot_S4608x3840_S4608x1024_S3840x1024_0_0_1_1_n_n none (extf .f32 a1 bitsLt_bf16_f32) (extf .f32 a0 bitsLt_bf16_f32)) transposes_S3840x1024_S1024x3840_1_0) bitsLt_bf16_f32 : FVec Ideal S1024x3840 .bf16) i = ∑ k : Fin 4608, a1 (ix2 k (i 1)) * a0 (ix2 k (i 0)) := by
  pointwise []

end Cert.Reference6Ideal.Product

namespace Cert.Proof

open Idealize.ShloMosaic Idealize.SL.Sem

/-- The call's output and the reference's result agree at every entry. -/
theorem algebraic6 : Cert.algebraic_Kernel6Ideal_Reference6Ideal (hKernel6Ideal := Cert.Kernel6Ideal.Gen.facts) (hReference6Ideal := Cert.Reference6Ideal.Gen.facts) := by
  intro m g m' g' _ e
  refine ⟨_, Cert.Kernel6Ideal.Value.run_blocks (F := Ideal) m g, (θ_run Cert.Reference6Ideal.defs _ _).mono (fun _ h c => ⟨(h c).1.trans ?_, (h c).2⟩) (Cert.Reference6Ideal.Value.run (F := Ideal) m' g')⟩
  rw [(e c).1, (e c).2]
  refine Eq.trans ?_ (Cert.Kernel6Ideal.Product.array m c).symm
  refine funext fun i => (Cert.Reference6Ideal.Product.term_apply _ _ i).trans ?_
  exact Finset.sum_congr rfl fun k _ => mul_comm _ _

end Cert.Proof

end
-- ==== Proof.Products.ProjInDx.lean ====
/-
  The call `proj_in_dx`: its output, accumulated over 5 steps, is the product of its two operands (the first times the second transposed)
  plus the row given with them.
-/
module

public import proofs.«01_k».proof.Defs
public import proofs.«01_k».proof.Proof.Gen.Kernel7Ideal.Value
public import proofs.«01_k».proof.Proof.Gen.Reference7Ideal.Run
public import Idealize.ShloMosaic.Lib.Pipeline.ValueKit

@[expose] public section

noncomputable section

namespace Cert.Kernel7Ideal.Product

open Cert.Kernel7Ideal Cert.Kernel7Ideal.Gen Idealize.ShloMosaic Idealize.ShloMosaic.TcCoe

/-- The accumulator starts at zero. -/
theorem zero_apply (j : S768x1024.Idx) : k0_pay1 (F := Ideal) j = 0 := by pointwise [k0_pay1]

/-- A step adds the product of its two blocks. -/
theorem add_apply (acc : Vec Ideal S768x1024 .f32) (a : Vec Ideal S768x768 .bf16) (b : Vec Ideal S1024x768 .bf16) (j : S768x1024.Idx) :
    k0_pay2 (F := Ideal) acc a b j = acc j + ∑ k : Fin 768, a (ix2 (j 0) k) * b (ix2 (j 1) k) := by pointwise [k0_pay2]

variable (m : (ℓ : Loc nD τ sig) → Buf (Elt Ideal) ℓ) (c : Dev nD)

/-- The blocks at a step. -/
theorem idx : ∀ t : Fin cfg0.N, win0_0.index t = ![t.val / 5, t.val % 5] ∧ win0_1.index t = ![0, t.val % 5] ∧ win0_2.index t = ![0, 0] ∧ win0_3.index t = ![t.val / 5, 0] :=
  (by decide +kernel : ∀ t : Fin grid0.N, _)

/-- At the last step of an output block the accumulator holds the sum of its steps' products. -/
theorem accumulated (t : Fin cfg0.N) (h : t.val % 5 = 4) (j : S768x1024.Idx) :
    (outsAt0 m c t.val t.isLt).2 j = 0 + ∑ s : Fin 5, ∑ k : Fin 768, (show Vec Ideal S768x768 .bf16 from iblk m c 0 ⟨5 * (t.val / 5) + s.val, Pipeline.run_point_lt_of_flush t h s⟩) (ix2 (j 0) k) * (show Vec Ideal S1024x768 .bf16 from iblk m c 1 ⟨5 * (t.val / 5) + s.val, Pipeline.run_point_lt_of_flush t h s⟩) (ix2 (j 1) k) := by
  rw [Pipeline.eq_sum_fin_of_reset_step_apply_of_flush (fun n h => (outsAt0 m c n h).2) 5 (fun _ => 0)
    (fun p j => ∑ k : Fin 768, (show Vec Ideal S768x768 .bf16 from iblk m c 0 p) (ix2 (j 0) k) * (show Vec Ideal S1024x768 .bf16 from iblk m c 1 p) (ix2 (j 1) k))
    (fun t h j => by rw [outsAt0_A m c t h (by omega)]; dsimp only; frame_out; rw [add_apply, zero_apply])
    (fun t h j => by
      by_cases h1 : t.val % 5 = 4
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator plus the row. -/
theorem stored (t : Fin cfg0.N) (h : t.val % 5 = 4) (j : S768x1024.Idx) :
    (outsAt0 m c t.val t.isLt).1 j = (show Vec Ideal S768x1024 .f32 from (outsAt0 m c t.val t.isLt).2) j + (show Vec Ideal S1x1024 .f32 from iblk m c 2 t) (ix2 0 (j 1)) := by
  rw [outsAt0_C m c t (by omega) h]
  dsimp only
  frame_out
  pointwise [k0_pay3]

/-- The stored block, as the sum of the steps' products plus the row. -/
theorem stored_sum (t : Fin cfg0.N) (h : t.val % 5 = 4) (j : S768x1024.Idx) :
    (outsAt0 m c t.val t.isLt).1 j = (∑ s : Fin 5, ∑ k : Fin 768, (show Vec Ideal S768x768 .bf16 from iblk m c 0 ⟨5 * (t.val / 5) + s.val, Pipeline.run_point_lt_of_flush t h s⟩) (ix2 (j 0) k) * (show Vec Ideal S1024x768 .bf16 from iblk m c 1 ⟨5 * (t.val / 5) + s.val, Pipeline.run_point_lt_of_flush t h s⟩) (ix2 (j 1) k)) + (show Vec Ideal S1x1024 .f32 from iblk m c 2 t) (ix2 0 (j 1)) :=
  (stored m c t h j).trans (congrArg (fun x : EReal => x + (show Vec Ideal S1x1024 .f32 from iblk m c 2 t) (ix2 0 (j 1))) ((accumulated m c t h j).trans (zero_add _)))

/-- The product of the two whole arrays, plus the row. -/
def product (a0 : Vec Ideal S4608x3840 .bf16) (a1 : Vec Ideal S1024x3840 .bf16) (a2 : Vec Ideal S1x1024 .f32) : Vec Ideal S4608x1024 .f32 :=
  fun i => (∑ k : Fin 3840, a0 (ix2 (i 0) k) * a1 (ix2 (i 1) k)) + a2 (ix2 0 (i 1))

/-- The array the call leaves. -/
theorem array : (dats m 0 c).arrAt 3 cfg0.N = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, stored_sum m c t ((flush0_3 t).mp hf)]
  refine congrArg₂ (fun x y : EReal => x + y) ?_ ?_
  rotate_left
  · blk_ext [iblk, V, idx t]
  refine Fin.sum_mul_add_congr fun s k hl => ?_
  have hs := idx ⟨_, Pipeline.run_point_lt_of_flush t ((flush0_3 t).mp hf) s⟩
  refine congrArg₂ (fun x y : EReal => x * y) ?_ ?_
  · blk_ext [iblk, V, idx t, hs]
  · blk_ext [iblk, V, idx t, hs]

end Cert.Kernel7Ideal.Product

namespace Cert.Reference7Ideal.Product

open Cert.Reference7Ideal Cert.Reference7Ideal.Gen Idealize.ShloMosaic Idealize.ShloMosaic.TcCoe

/-- The reference's result at an index. -/
theorem term_apply (a0 : FVec Ideal S4608x3840 .bf16) (a1 : FVec Ideal S1024x3840 .bf16) (a2 : FVec Ideal S1x1024 .f32) (i : S4608x1024.Idx) :
    (addf (Host.dotGeneral dot_S4608x3840_S1024x3840_S4608x1024_1_1_0_0_n_n none (extf .f32 a0 bitsLt_bf16_f32) (extf .f32 a1 bitsLt_bf16_f32)) (broadcastInDim S4608x1024 ![0, 1] bcast_S1x1024_S4608x1024_0_1 a2) : FVec Ideal S4608x1024 .f32) i = (∑ k : Fin 3840, a0 (ix2 (i 0) k) * a1 (ix2 (i 1) k)) + a2 (ix2 0 (i 1)) := by
  pointwise []

end Cert.Reference7Ideal.Product

namespace Cert.Proof

open Idealize.ShloMosaic Idealize.SL.Sem

/-- The call's output and the reference's result agree at every entry. -/
theorem algebraic7 : Cert.algebraic_Kernel7Ideal_Reference7Ideal (hKernel7Ideal := Cert.Kernel7Ideal.Gen.facts) (hReference7Ideal := Cert.Reference7Ideal.Gen.facts) := by
  intro m g m' g' _ e
  refine ⟨_, Cert.Kernel7Ideal.Value.run_blocks (F := Ideal) m g, (θ_run Cert.Reference7Ideal.defs _ _).mono (fun _ h c => ⟨(h c).1.trans ?_, (h c).2⟩) (Cert.Reference7Ideal.Value.run (F := Ideal) m' g')⟩
  rw [(e c).1, (e c).2.1, (e c).2.2]
  refine Eq.trans ?_ (Cert.Kernel7Ideal.Product.array m c).symm
  refine funext fun i => (Cert.Reference7Ideal.Product.term_apply _ _ _ i).trans ?_
  rfl

end Cert.Proof

end
-- ==== Proof.Products.ProjIn.lean ====
/-
  The call `proj_in`: each block of its output is computed in one step, as the product of its two operands (the first times the second).
-/
module

public import proofs.«01_k».proof.Defs
public import proofs.«01_k».proof.Proof.Gen.Kernel8Ideal.Value
public import proofs.«01_k».proof.Proof.Gen.Reference8Ideal.Run
public import Idealize.ShloMosaic.Lib.Pipeline.ValueKit

@[expose] public section

noncomputable section

namespace Cert.Kernel8Ideal.Product

open Cert.Kernel8Ideal Cert.Kernel8Ideal.Gen Idealize.ShloMosaic Idealize.ShloMosaic.TcCoe

/-- The accumulator starts at zero. -/
theorem zero_apply (j : S768x768.Idx) : k0_pay1 (F := Ideal) j = 0 := by pointwise [k0_pay1]

/-- The step adds the product of its two blocks. -/
theorem add_apply (acc : Vec Ideal S768x768 .f32) (a : Vec Ideal S768x1024 .bf16) (b : Vec Ideal S1024x768 .bf16) (j : S768x768.Idx) :
    k0_pay2 (F := Ideal) acc a b j = acc j + ∑ k : Fin 1024, a (ix2 (j 0) k) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The block a step stores. -/
theorem stored (t : Fin cfg0.N) (j : S768x768.Idx) :
    outsAt0 m c t j = (∑ k : Fin 1024, (show Vec Ideal S768x1024 .bf16 from iblk m c 0 t) (ix2 (j 0) k) * (show Vec Ideal S1024x768 .bf16 from iblk m c 1 t) (ix2 k (j 1))) := by
  simp only [outsAt0]
  frame_out
  rw [add_apply, zero_apply, zero_add]

/-- The product of the two whole arrays. -/
def product (a0 : Vec Ideal S4608x1024 .bf16) (a1 : Vec Ideal S1024x3840 .bf16) : Vec Ideal S4608x3840 .f32 :=
  fun i => (∑ k : Fin 1024, a0 (ix2 (i 0) k) * a1 (ix2 k (i 1)))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t]
  refine Fin.sum_fin_congr fun k => ?_
  refine congrArg₂ (fun x y : EReal => x * y) ?_ ?_
  · blk_ext [iblk, V, idx t]
  · blk_ext [iblk, V, idx t]

end Cert.Kernel8Ideal.Product

namespace Cert.Reference8Ideal.Product

open Cert.Reference8Ideal Cert.Reference8Ideal.Gen Idealize.ShloMosaic Idealize.ShloMosaic.TcCoe

/-- The reference's result at an index. -/
theorem term_apply (a0 : FVec Ideal S4608x1024 .bf16) (a1 : FVec Ideal S1024x3840 .bf16) (i : S4608x3840.Idx) :
    (Host.dotGeneral dot_S4608x1024_S1024x3840_S4608x3840_1_0_0_1_n_n none (extf .f32 a0 bitsLt_bf16_f32) (extf .f32 a1 bitsLt_bf16_f32) : FVec Ideal S4608x3840 .f32) i = (∑ k : Fin 1024, a0 (ix2 (i 0) k) * a1 (ix2 k (i 1))) := by
  pointwise []

end Cert.Reference8Ideal.Product

namespace Cert.Proof

open Idealize.ShloMosaic Idealize.SL.Sem

/-- The call's output and the reference's result agree at every entry. -/
theorem algebraic8 : Cert.algebraic_Kernel8Ideal_Reference8Ideal (hKernel8Ideal := Cert.Kernel8Ideal.Gen.facts) (hReference8Ideal := Cert.Reference8Ideal.Gen.facts) := by
  intro m g m' g' _ e
  refine ⟨_, Cert.Kernel8Ideal.Value.run_blocks (F := Ideal) m g, (θ_run Cert.Reference8Ideal.defs _ _).mono (fun _ h c => ⟨(h c).1.trans ?_, (h c).2⟩) (Cert.Reference8Ideal.Value.run (F := Ideal) m' g')⟩
  rw [(e c).1, (e c).2]
  refine Eq.trans ?_ (Cert.Kernel8Ideal.Product.array m c).symm
  exact funext fun i => Cert.Reference8Ideal.Product.term_apply _ _ i

end Cert.Proof

end
-- ==== Proof.Products.Ff1.lean ====
/-
  The call `ff1`: each block of its output is computed in one step, as the product of its two operands (the first times the second)
  plus the bias, then the square of its positive part.
-/
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

noncomputable section

namespace Cert.Kernel9Ideal.Product

open Cert.Kernel9Ideal Cert.Kernel9Ideal.Gen Idealize.ShloMosaic Idealize.ShloMosaic.TcCoe

/-- The square of the positive part. -/
def act (x : EReal) : EReal := max x 0 * max x 0

/-- The accumulator starts at zero. -/
theorem zero_apply (j : S1024x1024.Idx) : k0_pay1 (F := Ideal) j = 0 := by pointwise [k0_pay1]

/-- The step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 (j 0) k) * b (ix2 k (j 1)) := by pointwise [k0_pay2]

/-- It stores the square of the positive part of the accumulator plus the bias. -/
theorem store_apply (acc : Vec Ideal S1024x1024 .f32) (row : Vec Ideal S1x1024 .f32) (j : S1024x1024.Idx) :
    k0_pay3 (F := Ideal) acc row j = act (acc j + row (ix2 0 (j 1))) := by pointwise [k0_pay3, act]

variable (m : (ℓ : Loc nD τ sig) → Buf (Elt Ideal) ℓ) (c : Dev nD)

/-- The blocks at a step. -/
theorem idx : ∀ t : Fin cfg0.N, win0_0.index t = ![t.val / 4, 0] ∧ win0_1.index t = ![0, t.val % 4] ∧ win0_2.index t = ![0, t.val % 4] ∧ win0_3.index t = ![t.val / 4, t.val % 4] :=
  (by decide +kernel : ∀ t : Fin grid0.N, _)

/-- The block a step stores. -/
theorem stored (t : Fin cfg0.N) (j : S1024x1024.Idx) :
    outsAt0 m c t j = act ((∑ k : Fin 1024, (show Vec Ideal S1024x1024 .bf16 from iblk m c 0 t) (ix2 (j 0) k) * (show Vec Ideal S1024x1024 .bf16 from iblk m c 1 t) (ix2 k (j 1))) + (show Vec Ideal S1x1024 .f32 from iblk m c 2 t) (ix2 0 (j 1))) := by
  simp only [outsAt0]
  frame_out
  rw [store_apply, add_apply, zero_apply, zero_add]

/-- The product of the two whole arrays, plus the bias, through the activation. -/
def product (a0 : Vec Ideal S4096x1024 .bf16) (a1 : Vec Ideal S1024x4096 .bf16) (a2 : Vec Ideal S1x4096 .f32) : Vec Ideal S4096x4096 .bf16 :=
  fun i => act ((∑ k : Fin 1024, a0 (ix2 (i 0) k) * a1 (ix2 k (i 1))) + a2 (ix2 0 (i 1)))

/-- The array the call leaves. -/
theorem array : (dats m 0 c).arrAt 3 cfg0.N = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, stored m c t]
  refine congrArg act (congrArg₂ (fun x y : EReal => x + y) ?_ ?_)
  rotate_left
  · blk_ext [iblk, V, idx t]
  refine Fin.sum_fin_congr fun k => ?_
  refine congrArg₂ (fun x y : EReal => x * y) ?_ ?_
  · blk_ext [iblk, V, idx t]
  · blk_ext [iblk, V, idx t]

end Cert.Kernel9Ideal.Product

namespace Cert.Reference9Ideal.Product

open Cert.Reference9Ideal Cert.Reference9Ideal.Gen Idealize.ShloMosaic Idealize.ShloMosaic.TcCoe

/-- The reference's result at an index. -/
theorem term_apply (a0 : FVec Ideal S4096x1024 .bf16) (a1 : FVec Ideal S1024x4096 .bf16) (a2 : FVec Ideal S1x4096 .f32) (i : S4096x4096.Idx) :
    (truncf .bf16 (mulf (maximumf (addf (Host.dotGeneral dot_S4096x1024_S1024x4096_S4096x4096_1_0_0_1_n_n none (extf .f32 a0 bitsLt_bf16_f32) (extf .f32 a1 bitsLt_bf16_f32)) (broadcastInDim S4096x4096 ![0, 1] bcast_S1x4096_S4096x4096_0_1 a2)) (broadcastInDim S4096x4096 ![] bcast_S_S4096x4096 (constant S_ .f32 0x00000000#32))) (maximumf (addf (Host.dotGeneral dot_S4096x1024_S1024x4096_S4096x4096_1_0_0_1_n_n none (extf .f32 a0 bitsLt_bf16_f32) (extf .f32 a1 bitsLt_bf16_f32)) (broadcastInDim S4096x4096 ![0, 1] bcast_S1x4096_S4096x4096_0_1 a2)) (broadcastInDim S4096x4096 ![] bcast_S_S4096x4096 (constant S_ .f32 0x00000000#32)))) bitsLt_bf16_f32 : FVec Ideal S4096x4096 .bf16) i = Cert.Kernel9Ideal.Product.act ((∑ k : Fin 1024, a0 (ix2 (i 0) k) * a1 (ix2 k (i 1))) + a2 (ix2 0 (i 1))) := by
  pointwise [Cert.Kernel9Ideal.Product.act]

end Cert.Reference9Ideal.Product

namespace Cert.Proof

open Idealize.ShloMosaic Idealize.SL.Sem

/-- The call's output and the reference's result agree at every entry. -/
theorem algebraic9 : Cert.algebraic_Kernel9Ideal_Reference9Ideal (hKernel9Ideal := Cert.Kernel9Ideal.Gen.facts) (hReference9Ideal := Cert.Reference9Ideal.Gen.facts) := by
  intro m g m' g' _ e
  refine ⟨_, Cert.Kernel9Ideal.Value.run_blocks (F := Ideal) m g, (θ_run Cert.Reference9Ideal.defs _ _).mono (fun _ h c => ⟨(h c).1.trans ?_, (h c).2⟩) (Cert.Reference9Ideal.Value.run (F := Ideal) m' g')⟩
  rw [(e c).1, (e c).2.1, (e c).2.2]
  refine Eq.trans ?_ (Cert.Kernel9Ideal.Product.array m c).symm
  exact funext fun i => Cert.Reference9Ideal.Product.term_apply _ _ _ i

end Cert.Proof

end
-- ==== Proof.Products.Ff2.lean ====
/-
  The call `ff2`: its output, accumulated over 4 steps, is the product of its two operands (the first times the second).
-/
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

noncomputable section

namespace Cert.Kernel10Ideal.Product

open Cert.Kernel10Ideal Cert.Kernel10Ideal.Gen Idealize.ShloMosaic Idealize.ShloMosaic.TcCoe

/-- The accumulator starts at zero. -/
theorem zero_apply (j : S1024x1024.Idx) : k0_pay1 (F := Ideal) j = 0 := by pointwise [k0_pay1]

/-- A step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 (j 0) k) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

/-- At the last step of an output block the accumulator holds the sum of its steps' products. -/
theorem accumulated (t : Fin cfg0.N) (h : t.val % 4 = 3) (j : S1024x1024.Idx) :
    (outsAt0 m c t.val t.isLt).2 j = 0 + ∑ s : Fin 4, ∑ k : Fin 1024, (show Vec Ideal S1024x1024 .bf16 from iblk m c 0 ⟨4 * (t.val / 4) + s.val, Pipeline.run_point_lt_of_flush t h s⟩) (ix2 (j 0) k) * (show Vec Ideal S1024x1024 .bf16 from iblk m c 1 ⟨4 * (t.val / 4) + s.val, Pipeline.run_point_lt_of_flush t h s⟩) (ix2 k (j 1)) := by
  rw [Pipeline.eq_sum_fin_of_reset_step_apply_of_flush (fun n h => (outsAt0 m c n h).2) 4 (fun _ => 0)
    (fun p j => ∑ k : Fin 1024, (show Vec Ideal S1024x1024 .bf16 from iblk m c 0 p) (ix2 (j 0) k) * (show Vec Ideal S1024x1024 .bf16 from iblk m c 1 p) (ix2 k (j 1)))
    (fun t h j => by rw [outsAt0_A m c t h (by omega)]; dsimp only; frame_out; rw [add_apply, zero_apply])
    (fun t h j => by
      by_cases h1 : t.val % 4 = 3
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator. -/
theorem stored (t : Fin cfg0.N) (h : t.val % 4 = 3) (j : S1024x1024.Idx) :
    (outsAt0 m c t.val t.isLt).1 j = (outsAt0 m c t.val t.isLt).2 j := by
  rw [outsAt0_C m c t (by omega) h]
  dsimp only
  frame_out

/-- The product of the two whole arrays. -/
def product (a0 : Vec Ideal S4096x4096 .bf16) (a1 : Vec Ideal S4096x1024 .bf16) : Vec Ideal S4096x1024 .f32 :=
  fun i => ∑ k : Fin 4096, a0 (ix2 (i 0) k) * a1 (ix2 k (i 1))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), accumulated m c t ((flush0_2 t).mp hf), zero_add]
  refine Fin.sum_mul_add_congr fun s k hl => ?_
  have hs := idx ⟨_, Pipeline.run_point_lt_of_flush t ((flush0_2 t).mp hf) s⟩
  refine congrArg₂ (fun x y : EReal => x * y) ?_ ?_
  · blk_ext [iblk, V, idx t, hs]
  · blk_ext [iblk, V, idx t, hs]

end Cert.Kernel10Ideal.Product

namespace Cert.Reference10Ideal.Product

open Cert.Reference10Ideal Cert.Reference10Ideal.Gen Idealize.ShloMosaic Idealize.ShloMosaic.TcCoe

/-- The reference's result at an index. -/
theorem term_apply (a0 : FVec Ideal S4096x4096 .bf16) (a1 : FVec Ideal S4096x1024 .bf16) (i : S4096x1024.Idx) :
    (Host.dotGeneral dot_S4096x4096_S4096x1024_S4096x1024_1_0_0_1_n_n none (extf .f32 a0 bitsLt_bf16_f32) (extf .f32 a1 bitsLt_bf16_f32) : FVec Ideal S4096x1024 .f32) i = ∑ k : Fin 4096, a0 (ix2 (i 0) k) * a1 (ix2 k (i 1)) := by
  pointwise []

end Cert.Reference10Ideal.Product

namespace Cert.Proof

open Idealize.ShloMosaic Idealize.SL.Sem

/-- The call's output and the reference's result agree at every entry. -/
theorem algebraic10 : Cert.algebraic_Kernel10Ideal_Reference10Ideal (hKernel10Ideal := Cert.Kernel10Ideal.Gen.facts) (hReference10Ideal := Cert.Reference10Ideal.Gen.facts) := by
  intro m g m' g' _ e
  refine ⟨_, Cert.Kernel10Ideal.Value.run_blocks (F := Ideal) m g, (θ_run Cert.Reference10Ideal.defs _ _).mono (fun _ h c => ⟨(h c).1.trans ?_, (h c).2⟩) (Cert.Reference10Ideal.Value.run (F := Ideal) m' g')⟩
  rw [(e c).1, (e c).2]
  refine Eq.trans ?_ (Cert.Kernel10Ideal.Product.array m c).symm
  refine funext fun i => (Cert.Reference10Ideal.Product.term_apply _ _ i).trans ?_
  rfl

end Cert.Proof

end
-- ==== Proof.Products.ProjOutDw.lean ====
/-
  The call `proj_out_dw`: its output, accumulated over 4 steps, is the product of its two operands (the first transposed times the second).
-/
module

public import proofs.«01_k».proof.Defs
public import proofs.«01_k».proof.Proof.Gen.Kernel11Ideal.Value
public import proofs.«01_k».proof.Proof.Gen.Reference11Ideal.Run
public import Idealize.ShloMosaic.Lib.Pipeline.ValueKit

@[expose] public section

noncomputable section

namespace Cert.Kernel11Ideal.Product

open Cert.Kernel11Ideal Cert.Kernel11Ideal.Gen Idealize.ShloMosaic Idealize.ShloMosaic.TcCoe

/-- The accumulator starts at zero. -/
theorem zero_apply (j : S1024x1024.Idx) : k0_pay1 (F := Ideal) j = 0 := by pointwise [k0_pay1]

/-- A step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 k (j 0)) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val % 4, 0] ∧ win0_1.index t = ![t.val % 4, 0] ∧ win0_2.index t = ![0, 0] :=
  (by decide +kernel : ∀ t : Fin grid0.N, _)

/-- At the last step of an output block the accumulator holds the sum of its steps' products. -/
theorem accumulated (t : Fin cfg0.N) (h : t.val % 4 = 3) (j : S1024x1024.Idx) :
    (outsAt0 m c t.val t.isLt).2 j = 0 + ∑ s : Fin 4, ∑ k : Fin 1024, (show Vec Ideal S1024x1024 .bf16 from iblk m c 0 ⟨4 * (t.val / 4) + s.val, Pipeline.run_point_lt_of_flush t h s⟩) (ix2 k (j 0)) * (show Vec Ideal S1024x1024 .bf16 from iblk m c 1 ⟨4 * (t.val / 4) + s.val, Pipeline.run_point_lt_of_flush t h s⟩) (ix2 k (j 1)) := by
  rw [Pipeline.eq_sum_fin_of_reset_step_apply_of_flush (fun n h => (outsAt0 m c n h).2) 4 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; dsimp only; frame_out; rw [add_apply, zero_apply])
    (fun t h j => by
      by_cases h1 : t.val % 4 = 3
      · rw [outsAt0_C m c t h h1]; dsimp only; frame_out; rw [add_apply]; exact congrArg (· + _) (congrFun ((Memref.isWhole_whole cc0_scratch0).read_unread _) j)
      · rw [outsAt0_B m c t h h1]; dsimp only; frame_out; rw [add_apply]; exact congrArg (· + _) (congrFun ((Memref.isWhole_whole cc0_scratch0).read_unread _) j))
    t h j]

/-- That step stores the accumulator. -/
theorem stored (t : Fin cfg0.N) (h : t.val % 4 = 3) (j : S1024x1024.Idx) :
    (outsAt0 m c t.val t.isLt).1 j = (outsAt0 m c t.val t.isLt).2 j := by
  rw [outsAt0_C m c t (by omega) h]
  dsimp only
  frame_out
  pointwise [k0_pay3]

/-- The product of the two whole arrays. -/
def product (a0 : Vec Ideal S4096x1024 .bf16) (a1 : Vec Ideal S4096x1024 .bf16) : Vec Ideal S1024x1024 .bf16 :=
  fun i => ∑ k : Fin 4096, a0 (ix2 k (i 0)) * a1 (ix2 k (i 1))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), accumulated m c t ((flush0_2 t).mp hf), zero_add]
  refine Fin.sum_mul_add_congr fun s k hl => ?_
  have hs := idx ⟨_, Pipeline.run_point_lt_of_flush t ((flush0_2 t).mp hf) s⟩
  refine congrArg₂ (fun x y : EReal => x * y) ?_ ?_
  · blk_ext [iblk, V, idx t, hs]
  · blk_ext [iblk, V, idx t, hs]

end Cert.Kernel11Ideal.Product

namespace Cert.Reference11Ideal.Product

open Cert.Reference11Ideal Cert.Reference11Ideal.Gen Idealize.ShloMosaic Idealize.ShloMosaic.TcCoe

/-- The reference's result at an index. -/
theorem term_apply (a0 : FVec Ideal S4096x1024 .bf16) (a1 : FVec Ideal S4096x1024 .bf16) (i : S1024x1024.Idx) :
    (truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32 : FVec Ideal S1024x1024 .bf16) i = ∑ k : Fin 4096, a1 (ix2 k (i 1)) * a0 (ix2 k (i 0)) := by
  pointwise []

end Cert.Reference11Ideal.Product

namespace Cert.Proof

open Idealize.ShloMosaic Idealize.SL.Sem

/-- The call's output and the reference's result agree at every entry. -/
theorem algebraic11 : Cert.algebraic_Kernel11Ideal_Reference11Ideal (hKernel11Ideal := Cert.Kernel11Ideal.Gen.facts) (hReference11Ideal := Cert.Reference11Ideal.Gen.facts) := by
  intro m g m' g' _ e
  refine ⟨_, Cert.Kernel11Ideal.Value.run_blocks (F := Ideal) m g, (θ_run Cert.Reference11Ideal.defs _ _).mono (fun _ h c => ⟨(h c).1.trans ?_, (h c).2⟩) (Cert.Reference11Ideal.Value.run (F := Ideal) m' g')⟩
  rw [(e c).1, (e c).2]
  refine Eq.trans ?_ (Cert.Kernel11Ideal.Product.array m c).symm
  refine funext fun i => (Cert.Reference11Ideal.Product.term_apply _ _ i).trans ?_
  exact Finset.sum_congr rfl fun k _ => mul_comm _ _

end Cert.Proof

end
-- ==== Proof.Products.ProjOutDx.lean ====
/-
  The call `proj_out_dx`: each block of its output is computed in one step, as the product of its two operands (the first times the second transposed).
-/
module

public import proofs.«01_k».proof.Defs
public import proofs.«01_k».proof.Proof.Gen.Kernel12Ideal.Value
public import proofs.«01_k».proof.Proof.Gen.Reference12Ideal.Run
public import Idealize.ShloMosaic.Lib.Pipeline.ValueKit

@[expose] public section

noncomputable section

namespace Cert.Kernel12Ideal.Product

open Cert.Kernel12Ideal Cert.Kernel12Ideal.Gen Idealize.ShloMosaic Idealize.ShloMosaic.TcCoe

/-- The accumulator starts at zero. -/
theorem zero_apply (j : S1024x1024.Idx) : k0_pay1 (F := Ideal) j = 0 := by pointwise [k0_pay1]

/-- The step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 (j 0) k) * b (ix2 (j 1) k) := by pointwise [k0_pay2]

variable (m : (ℓ : Loc nD τ sig) → Buf (Elt Ideal) ℓ) (c : Dev nD)

/-- The blocks at a step. -/
theorem idx : ∀ t : Fin cfg0.N, win0_0.index t = ![t.val, 0] ∧ win0_1.index t = ![0, 0] ∧ win0_2.index t = ![t.val, 0] :=
  (by decide +kernel : ∀ t : Fin grid0.N, _)

/-- The block a step stores. -/
theorem stored (t : Fin cfg0.N) (j : S1024x1024.Idx) :
    outsAt0 m c t j = (∑ k : Fin 1024, (show Vec Ideal S1024x1024 .bf16 from iblk m c 0 t) (ix2 (j 0) k) * (show Vec Ideal S1024x1024 .bf16 from iblk m c 1 t) (ix2 (j 1) k)) := by
  simp only [outsAt0]
  frame_out
  rw [add_apply, zero_apply, zero_add]

/-- The product of the two whole arrays. -/
def product (a0 : Vec Ideal S4096x1024 .bf16) (a1 : Vec Ideal S1024x1024 .bf16) : Vec Ideal S4096x1024 .f32 :=
  fun i => (∑ k : Fin 1024, a0 (ix2 (i 0) k) * a1 (ix2 (i 1) k))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t]
  refine Fin.sum_fin_congr fun k => ?_
  refine congrArg₂ (fun x y : EReal => x * y) ?_ ?_
  · blk_ext [iblk, V, idx t]
  · blk_ext [iblk, V, idx t]

end Cert.Kernel12Ideal.Product

namespace Cert.Reference12Ideal.Product

open Cert.Reference12Ideal Cert.Reference12Ideal.Gen Idealize.ShloMosaic Idealize.ShloMosaic.TcCoe

/-- The reference's result at an index. -/
theorem term_apply (a0 : FVec Ideal S4096x1024 .bf16) (a1 : FVec Ideal S1024x1024 .bf16) (i : S4096x1024.Idx) :
    (Host.dotGeneral dot_S4096x1024_S1024x1024_S4096x1024_1_1_0_0_n_n none (extf .f32 a0 bitsLt_bf16_f32) (extf .f32 a1 bitsLt_bf16_f32) : FVec Ideal S4096x1024 .f32) i = (∑ k : Fin 1024, a0 (ix2 (i 0) k) * a1 (ix2 (i 1) k)) := by
  pointwise []

end Cert.Reference12Ideal.Product

namespace Cert.Proof

open Idealize.ShloMosaic Idealize.SL.Sem

/-- The call's output and the reference's result agree at every entry. -/
theorem algebraic12 : Cert.algebraic_Kernel12Ideal_Reference12Ideal (hKernel12Ideal := Cert.Kernel12Ideal.Gen.facts) (hReference12Ideal := Cert.Reference12Ideal.Gen.facts) := by
  intro m g m' g' _ e
  refine ⟨_, Cert.Kernel12Ideal.Value.run_blocks (F := Ideal) m g, (θ_run Cert.Reference12Ideal.defs _ _).mono (fun _ h c => ⟨(h c).1.trans ?_, (h c).2⟩) (Cert.Reference12Ideal.Value.run (F := Ideal) m' g')⟩
  rw [(e c).1, (e c).2]
  refine Eq.trans ?_ (Cert.Kernel12Ideal.Product.array m c).symm
  exact funext fun i => Cert.Reference12Ideal.Product.term_apply _ _ i

end Cert.Proof

end
-- ==== Proof.Products.ProjOut.lean ====
/-
  The call `proj_out`: each block of its output is computed in one step, as the product of its two operands (the first times the second).
-/
module

public import proofs.«01_k».proof.Defs
public import proofs.«01_k».proof.Proof.Gen.Kernel13Ideal.Value
public import proofs.«01_k».proof.Proof.Gen.Reference13Ideal.Run
public import Idealize.ShloMosaic.Lib.Pipeline.ValueKit

@[expose] public section

noncomputable section

namespace Cert.Kernel13Ideal.Product

open Cert.Kernel13Ideal Cert.Kernel13Ideal.Gen Idealize.ShloMosaic Idealize.ShloMosaic.TcCoe

/-- The accumulator starts at zero. -/
theorem zero_apply (j : S1024x1024.Idx) : k0_pay1 (F := Ideal) j = 0 := by pointwise [k0_pay1]

/-- The step adds the product of its two blocks. -/
theorem add_apply (acc : Vec Ideal S1024x1024 .f32) (a : Vec Ideal S1024x1024 .bf16) (b : Vec Ideal S1024x1024 .bf16) (j : S1024x1024.Idx) :
    k0_pay2 (F := Ideal) acc a b j = acc j + ∑ k : Fin 1024, a (ix2 (j 0) k) * b (ix2 k (j 1)) := by pointwise [k0_pay2]

variable (m : (ℓ : Loc nD τ sig) → Buf (Elt Ideal) ℓ) (c : Dev nD)

/-- The blocks at a step. -/
theorem idx : ∀ t : Fin cfg0.N, win0_0.index t = ![t.val, 0] ∧ win0_1.index t = ![0, 0] ∧ win0_2.index t = ![t.val, 0] :=
  (by decide +kernel : ∀ t : Fin grid0.N, _)

/-- The block a step stores. -/
theorem stored (t : Fin cfg0.N) (j : S1024x1024.Idx) :
    outsAt0 m c t j = (∑ k : Fin 1024, (show Vec Ideal S1024x1024 .bf16 from iblk m c 0 t) (ix2 (j 0) k) * (show Vec Ideal S1024x1024 .bf16 from iblk m c 1 t) (ix2 k (j 1))) := by
  simp only [outsAt0]
  frame_out
  rw [add_apply, zero_apply, zero_add]

/-- The product of the two whole arrays. -/
def product (a0 : Vec Ideal S4096x1024 .bf16) (a1 : Vec Ideal S1024x1024 .bf16) : Vec Ideal S4096x1024 .f32 :=
  fun i => (∑ k : Fin 1024, a0 (ix2 (i 0) k) * a1 (ix2 k (i 1)))

/-- The array the call leaves. -/
theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2, stored m c t]
  refine Fin.sum_fin_congr fun k => ?_
  refine congrArg₂ (fun x y : EReal => x * y) ?_ ?_
  · blk_ext [iblk, V, idx t]
  · blk_ext [iblk, V, idx t]

end Cert.Kernel13Ideal.Product

namespace Cert.Reference13Ideal.Product

open Cert.Reference13Ideal Cert.Reference13Ideal.Gen Idealize.ShloMosaic Idealize.ShloMosaic.TcCoe

/-- The reference's result at an index. -/
theorem term_apply (a0 : FVec Ideal S4096x1024 .bf16) (a1 : FVec Ideal S1024x1024 .bf16) (i : S4096x1024.Idx) :
    (Host.dotGeneral dot_S4096x1024_S1024x1024_S4096x1024_1_0_0_1_n_n none (extf .f32 a0 bitsLt_bf16_f32) (extf .f32 a1 bitsLt_bf16_f32) : FVec Ideal S4096x1024 .f32) i = (∑ k : Fin 1024, a0 (ix2 (i 0) k) * a1 (ix2 k (i 1))) := by
  pointwise []

end Cert.Reference13Ideal.Product

namespace Cert.Proof

open Idealize.ShloMosaic Idealize.SL.Sem

/-- The call's output and the reference's result agree at every entry. -/
theorem algebraic13 : Cert.algebraic_Kernel13Ideal_Reference13Ideal (hKernel13Ideal := Cert.Kernel13Ideal.Gen.facts) (hReference13Ideal := Cert.Reference13Ideal.Gen.facts) := by
  intro m g m' g' _ e
  refine ⟨_, Cert.Kernel13Ideal.Value.run_blocks (F := Ideal) m g, (θ_run Cert.Reference13Ideal.defs _ _).mono (fun _ h c => ⟨(h c).1.trans ?_, (h c).2⟩) (Cert.Reference13Ideal.Value.run (F := Ideal) m' g')⟩
  rw [(e c).1, (e c).2]
  refine Eq.trans ?_ (Cert.Kernel13Ideal.Product.array m c).symm
  exact funext fun i => Cert.Reference13Ideal.Product.term_apply _ _ i

end Cert.Proof

end
-- ==== Proof.Other.Relu2Bwd.lean ====
/-
  The call `relu2_bwd`: the gradient of the squared ReLU at its argument, and that gradient's sum over the tokens, accumulated over 16 steps.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.IdealHost

@[expose] public section

noncomputable section

/-- The constant two. -/
theorem Cert.two : Idealize.ShloMosaic.Ideal.ofBits .f32 0x40000000#32 = 2 := by
  rw [show (2 : EReal) = ((2 : ℝ) : EReal) by norm_cast]
  simp [Idealize.ShloMosaic.Ideal.ofBits, Idealize.ShloMosaic.Ideal.ieee, -EReal.coe_mul]; norm_num

/-- The root of a squared ReLU is the ReLU. -/
theorem Cert.sqrt_relu (z : EReal) : Idealize.ShloMosaic.Ideal.sqrt (max z 0 * max z 0) = max z 0 := by
  induction z using EReal.rec with
  | bot =>
    rw [max_eq_right bot_le, mul_zero, ← EReal.coe_zero, Idealize.ShloMosaic.Ideal.sqrt_coe]
    simp
  | top => simp
  | coe r =>
    have h : max (r : EReal) 0 = ((max r 0 : ℝ) : EReal) := by
      rw [← EReal.coe_zero]; exact (EReal.coe_strictMono.monotone.map_max).symm
    have hn : (0 : ℝ) ≤ max r 0 := le_max_right _ _
    rw [h, ← EReal.coe_mul, Idealize.ShloMosaic.Ideal.sqrt_coe, if_neg (not_lt.mpr (mul_nonneg hn hn)), Real.sqrt_mul_self hn]

namespace Cert.Kernel14Ideal.Relu

open Cert.Kernel14Ideal Cert.Kernel14Ideal.Gen Idealize.ShloMosaic Idealize.ShloMosaic.TcCoe Idealize.ShloMosaic.StableHlo

/-- The gradient of the squared ReLU: the cotangent times twice the ReLU. -/
def grad (z : Vec Ideal S2x2048x4096 .f32) (d : Vec Ideal S2x2048x4096 .bf16) : Vec Ideal S2x2048x4096 .bf16 :=
  fun i => d i * (2 * max (z i) 0)

/-- Its sum over the tokens of both examples. -/
def columns (z : Vec Ideal S2x2048x4096 .f32) (d : Vec Ideal S2x2048x4096 .bf16) : Vec Ideal S1x4096 .f32 :=
  fun j => ∑ i : Fin 4096, grad z d (ix3 (⟨i.val / 2048, by omega⟩ : Fin 2) (⟨i.val % 2048, by omega⟩ : Fin 2048) (j 1))

/-- What a step stores of the gradient. -/
theorem block_apply (d : Vec Ideal S1x256x4096 .bf16) (a : Vec Ideal S1x256x4096 .bf16) (j : S1x256x4096.Idx) :
    k0_pay2 (F := Ideal) d a j = d j * (2 * Ideal.sqrt (a j)) := by
  pointwise [k0_pay2, k0_pay1]
  simp only [Cert.two]

/-- The sum starts at zero. -/
theorem zero_apply (j : S1x4096.Idx) : k0_pay3 (F := Ideal) j = 0 := by pointwise [k0_pay3]

/-- A step adds the sum of its block's rows. -/
theorem add_apply (d : Vec Ideal S1x256x4096 .bf16) (a : Vec Ideal S1x256x4096 .bf16) (acc : Vec Ideal S1x4096 .f32) (j : S1x4096.Idx) :
    k0_pay4 (F := Ideal) d a acc j = acc j + ∑ k : Fin 256, d (ix3 0 k (j 1)) * (2 * Ideal.sqrt (a (ix3 0 k (j 1)))) := by
  pointwise [k0_pay4, k0_pay1]
  simp only [Cert.two]

variable (m : (ℓ : Loc nD τ sig) → Buf (Elt Ideal) ℓ) (c : Dev nD)

/-- The squared ReLU as the lines before the call compute it. -/
def squared (z : FVec Ideal S2x2048x4096 .f32) : FVec Ideal S2x2048x4096 .bf16 :=
  truncf .bf16 (mulf (maximumf z (broadcastInDim S2x2048x4096 ![] bcast_S_S2x2048x4096 (constant S_ .f32 0x00000000#32))) (maximumf z (broadcastInDim S2x2048x4096 ![] bcast_S_S2x2048x4096 (constant S_ .f32 0x00000000#32)))) bitsLt_bf16_f32

/-- The activation the call is given is the squared ReLU. -/
theorem activation (i : S2x2048x4096.Idx) :
    (show Vec Ideal S2x2048x4096 .bf16 from V m c main_v2) i = max ((show Vec Ideal S2x2048x4096 .f32 from m ((c : Thread nD τ).loc main_arg0)) i) 0 * max ((show Vec Ideal S2x2048x4096 .f32 from m ((c : Thread nD τ).loc main_arg0)) i) 0 := by
  have h : (show Vec Ideal S2x2048x4096 .bf16 from V m c main_v2) = squared (m ((c : Thread nD τ).loc main_arg0)) := by
    simp only [V, hostOps0, hostOps0_1, List.flatten_cons, List.flatten_nil, List.append_nil, List.cons_append, List.nil_append, TRef.binary, TRef.nullary, TRef.unary, TRef.toBuf, TRef.ofBuf, cast_eq, squared]
    after_results
  rw [h]
  pointwise [squared]

/-- The blocks at a step. -/
theorem idx : ∀ t : Fin cfg0.N, win0_0.index t = ![t.val / 8, t.val % 8, 0] ∧ win0_1.index t = ![t.val / 8, t.val % 8, 0] ∧ win0_2.index t = ![t.val / 8, t.val % 8, 0] ∧ win0_3.index t = ![0, 0] :=
  (by decide +kernel : ∀ t : Fin grid0.N, _)

/-- A step's two blocks give its block of the gradient. -/
theorem block_grad (t : Fin cfg0.N) (y : S1x256x4096.Idx) (i : S2x2048x4096.Idx) (h0 : (i 0).val = t.val / 8) (h1 : (i 1).val = t.val % 8 * 256 + (y 1).val) (h2 : (i 2).val = (y 2).val) :
    (show Vec Ideal S1x256x4096 .bf16 from iblk m c 1 t) y * (2 * Ideal.sqrt ((show Vec Ideal S1x256x4096 .bf16 from iblk m c 0 t) y))
      = grad (m ((c : Thread nD τ).loc main_arg0)) (m ((c : Thread nD τ).loc main_arg1)) i := by
  have e0 : (show Vec Ideal S1x256x4096 .bf16 from iblk m c 0 t) y = (show Vec Ideal S2x2048x4096 .bf16 from V m c main_v2) i := by
    refine congrArg (V m c main_v2) (funext fun a => Fin.ext ?_)
    fin_cases a <;> blk_simp [idx t] <;> simp [h0, h1, h2]
  have e1 : (show Vec Ideal S1x256x4096 .bf16 from iblk m c 1 t) y = (show Vec Ideal S2x2048x4096 .bf16 from V m c main_arg1) i := by
    refine congrArg (V m c main_arg1) (funext fun a => Fin.ext ?_)
    fin_cases a <;> blk_simp [idx t] <;> simp [h0, h1, h2]
  rw [e0, e1, activation, Cert.sqrt_relu, V_main_arg1]
  rfl

/-- Each step leaves its block of the gradient. -/
theorem stored (t : Fin cfg0.N) (j : S1x256x4096.Idx) :
    (outsAt0 m c t.val t.isLt).1 j = (show Vec Ideal S1x256x4096 .bf16 from iblk m c 1 t) j * (2 * Ideal.sqrt ((show Vec Ideal S1x256x4096 .bf16 from iblk m c 0 t) j)) := by
  by_cases h : t.val % 16 = 0
  · rw [outsAt0_A m c t h]; dsimp only; frame_out; rw [block_apply]
  · rw [outsAt0_B m c t h]; dsimp only; frame_out; rw [block_apply]

/-- After the last step the sum is over all steps. -/
theorem accumulated (t : Fin cfg0.N) (h : t.val % 16 = 15) (j : S1x4096.Idx) :
    (outsAt0 m c t.val t.isLt).2 j = 0 + ∑ s : Fin 16, ∑ k : Fin 256, (show Vec Ideal S1x256x4096 .bf16 from iblk m c 1 ⟨16 * (t.val / 16) + s.val, Pipeline.run_point_lt_of_flush t h s⟩) (ix3 0 k (j 1)) * (2 * Ideal.sqrt ((show Vec Ideal S1x256x4096 .bf16 from iblk m c 0 ⟨16 * (t.val / 16) + s.val, Pipeline.run_point_lt_of_flush t h s⟩) (ix3 0 k (j 1)))) := by
  rw [Pipeline.eq_sum_fin_of_reset_step_apply_of_flush (fun n h => (outsAt0 m c n h).2) 16 (fun _ => 0)
    (fun p j => ∑ k : Fin 256, (show Vec Ideal S1x256x4096 .bf16 from iblk m c 1 p) (ix3 0 k (j 1)) * (2 * Ideal.sqrt ((show Vec Ideal S1x256x4096 .bf16 from iblk m c 0 p) (ix3 0 k (j 1)))))
    (fun t h j => by rw [outsAt0_A m c t h]; dsimp only; frame_out; rw [add_apply, zero_apply])
    (fun t h j => by rw [outsAt0_B m c t h]; dsimp only; frame_out; rw [add_apply])
    t h j]

/-- The first array the call leaves. -/
theorem gradient : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, stored m c t]
  refine block_grad m c t _ _ ?_ ?_ ?_
  · blk_simp [idx t]
  · blk_simp [idx t]
  · blk_simp [idx t]

/-- The second array the call leaves. -/
theorem sums : (dats m 0 c).arrAt 3 cfg0.N = columns (m ((c : Thread nD τ).loc main_arg0)) (m ((c : Thread nD τ).loc main_arg1)) := by
  refine (dats m 0 c).arrAt_eq_of_covers 3 _ (by decide +kernel) fun t hf y => ?_
  blk_simp
  rw [after0_3, accumulated m c t ((flush0_3 t).mp hf), zero_add]
  refine Fin.sum_mul_add_congr fun s k hl => ?_
  refine block_grad m c _ _ _ ?_ ?_ ?_
  · exact show (s.val * 256 + k.val) / 2048 = (16 * (t.val / 16) + s.val) / 8 by have := (flush0_3 t).mp hf; have := t.isLt; have : cfg0.N = 16 := N_0; omega
  · exact show (s.val * 256 + k.val) % 2048 = (16 * (t.val / 16) + s.val) % 8 * 256 + k.val by omega
  · blk_simp [idx t]

end Cert.Kernel14Ideal.Relu

namespace Cert.Reference14Ideal.Relu

open Cert.Reference14Ideal Cert.Reference14Ideal.Gen Idealize.ShloMosaic Idealize.ShloMosaic.TcCoe

/-- The ReLU's derivative is zero where the ReLU is. -/
theorem twice (z d : EReal) : (if 0 < z then d * (Ideal.ofBits .f32 0x40000000#32 * max z 0) else 0) = d * (2 * max z 0) := by
  rw [Cert.two]
  split_ifs with h
  · rfl
  · rw [max_eq_right (not_lt.mp h), mul_zero, mul_zero]

/-- The reference's gradient at an index. -/
theorem grad_apply (a0 : FVec Ideal S2x2048x4096 .f32) (a1 : FVec Ideal S2x2048x4096 .bf16) (i : S2x2048x4096.Idx) :
    (truncf .bf16 (select (cmpf .ogt a0 (broadcastInDim S2x2048x4096 ![] bcast_S_S2x2048x4096 (constant S_ .f32 0x00000000#32))) (mulf (extf .f32 a1 bitsLt_bf16_f32) (mulf (broadcastInDim S2x2048x4096 ![] bcast_S_S2x2048x4096 (constant S_ .f32 0x40000000#32)) (maximumf a0 (broadcastInDim S2x2048x4096 ![] bcast_S_S2x2048x4096 (constant S_ .f32 0x00000000#32))))) (broadcastInDim S2x2048x4096 ![] bcast_S_S2x2048x4096 (constant S_ .f32 0x00000000#32))) bitsLt_bf16_f32 : FVec Ideal S2x2048x4096 .bf16) i = Cert.Kernel14Ideal.Relu.grad a0 a1 i := by
  pointwise [Cert.Kernel14Ideal.Relu.grad]
  exact twice _ _

/-- The reference's sum at an index. -/
theorem columns_apply (a0 : FVec Ideal S2x2048x4096 .f32) (a1 : FVec Ideal S2x2048x4096 .bf16) (i : S1x4096.Idx) :
    (broadcastInDim S1x4096 ![1] bcast_S4096_S1x4096_1 (Host.reduceAdd (shapeCast _ (select (cmpf .ogt a0 (broadcastInDim S2x2048x4096 ![] bcast_S_S2x2048x4096 (constant S_ .f32 0x00000000#32))) (mulf (extf .f32 a1 bitsLt_bf16_f32) (mulf (broadcastInDim S2x2048x4096 ![] bcast_S_S2x2048x4096 (constant S_ .f32 0x40000000#32)) (maximumf a0 (broadcastInDim S2x2048x4096 ![] bcast_S_S2x2048x4096 (constant S_ .f32 0x00000000#32))))) (broadcastInDim S2x2048x4096 ![] bcast_S_S2x2048x4096 (constant S_ .f32 0x00000000#32))) shapeCasts_S2x2048x4096_S4096x4096) (constant S_ .f32 0x00000000#32) reducesTo_S4096x4096_S4096_d0 h_S_) : FVec Ideal S1x4096 .f32) i = Cert.Kernel14Ideal.Relu.columns a0 a1 i := by
  pointwise [Cert.Kernel14Ideal.Relu.columns]
  refine Finset.sum_congr rfl fun k _ => ?_
  exact twice _ _

end Cert.Reference14Ideal.Relu

namespace Cert.Proof

open Idealize.ShloMosaic Idealize.SL.Sem

/-- The call's outputs and the reference's results agree at every entry. -/
theorem algebraic14 : Cert.algebraic_Kernel14Ideal_Reference14Ideal (hKernel14Ideal := Cert.Kernel14Ideal.Gen.facts) (hReference14Ideal := Cert.Reference14Ideal.Gen.facts) := by
  intro m g m' g' _ e
  refine ⟨_, _, Cert.Kernel14Ideal.Value.run_blocks (F := Ideal) m g, (θ_run Cert.Reference14Ideal.defs _ _).mono (fun _ h c => ⟨(h c).1.trans ?_, (h c).2.1.trans ?_, (h c).2.2⟩) (Cert.Reference14Ideal.Value.run (F := Ideal) m' g')⟩
  · rw [(e c).1, (e c).2]
    exact (funext fun i => Cert.Reference14Ideal.Relu.grad_apply _ _ i).trans (Cert.Kernel14Ideal.Relu.gradient m c).symm
  · rw [(e c).1, (e c).2]
    exact (funext fun i => Cert.Reference14Ideal.Relu.columns_apply _ _ i).trans (Cert.Kernel14Ideal.Relu.sums m c).symm

end Cert.Proof

end
-- ==== Proof.Other.AdalnBwd.lean ====
/-
  The call `adaln_bwd`: the gradient of the modulation's weights and the gradient that goes on to its activation.
-/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.IdealHost

@[expose] public section

noncomputable section

namespace Cert.Kernel15Ideal.Modulation

open Cert.Kernel15Ideal Cert.Kernel15Ideal.Gen Idealize.ShloMosaic Idealize.ShloMosaic.TcCoe

/-- The call's first output at an index. -/
theorem weights_apply (a0 : Vec Ideal S24x1024 .f32) (a1 : Vec Ideal S24x1536 .f32) (i : S1024x1536.Idx) :
    k0_pay1 (F := Ideal) a0 a1 i = ∑ k : Fin 24, (a0 (ix2 k (i 0)) * Ideal.logistic (a0 (ix2 k (i 0)))) * a1 (ix2 k (i 1)) := by
  pointwise [k0_pay1]

/-- The call's second output at an index. -/
theorem activation_apply (a1 : Vec Ideal S24x1536 .f32) (a2 : Vec Ideal S1024x1536 .f32) (i : S24x1024.Idx) :
    k0_pay2 (F := Ideal) a1 a2 i = ∑ k : Fin 1536, a1 (ix2 (i 0) k) * a2 (ix2 (i 1) k) := by
  pointwise [k0_pay2]

end Cert.Kernel15Ideal.Modulation

namespace Cert.Reference15Ideal.Modulation

open Cert.Reference15Ideal Cert.Reference15Ideal.Gen Idealize.ShloMosaic Idealize.ShloMosaic.TcCoe

/-- The reference's first result at an index. -/
theorem weights_apply (a0 : FVec Ideal S24x1024 .f32) (a1 : FVec Ideal S24x1536 .f32) (i : S1024x1536.Idx) :
    (transpose S1024x1536 [1, 0] (Host.dotGeneral dot_S24x1536_S24x1024_S1536x1024_0_0_1_1_n_n none a1 (mulf a0 (Host.divf (broadcastInDim S24x1024 ![] bcast_S_S24x1024 (constant S_ .f32 0x3F800000#32)) (addf (broadcastInDim S24x1024 ![] bcast_S_S24x1024 (constant S_ .f32 0x3F800000#32)) (Host.exp (Host.negf a0)))))) transposes_S1536x1024_S1024x1536_1_0 : FVec Ideal S1024x1536 .f32) i = ∑ k : Fin 24, a1 (ix2 k (i 1)) * (a0 (ix2 k (i 0)) * Ideal.logistic (a0 (ix2 k (i 0)))) := by
  pointwise []
  simp only [Ideal.logistic, Ideal.ofBits_one_f32]

/-- The reference's second result at an index. -/
theorem activation_apply (a1 : FVec Ideal S24x1536 .f32) (a2 : FVec Ideal S1024x1536 .f32) (i : S24x1024.Idx) :
    (Host.dotGeneral dot_S24x1536_S1024x1536_S24x1024_1_1_0_0_n_n none a1 a2 : FVec Ideal S24x1024 .f32) i = ∑ k : Fin 1536, a1 (ix2 (i 0) k) * a2 (ix2 (i 1) k) := by
  pointwise []

end Cert.Reference15Ideal.Modulation

namespace Cert.Proof

open Idealize.ShloMosaic Idealize.SL.Sem

/-- The call's outputs and the reference's results agree at every entry. -/
theorem algebraic15 : Cert.algebraic_Kernel15Ideal_Reference15Ideal (hKernel15Ideal := Cert.Kernel15Ideal.Gen.facts) (hReference15Ideal := Cert.Reference15Ideal.Gen.facts) := by
  intro m g m' g' _ e
  refine ⟨_, _, Cert.Kernel15Ideal.Value.run (F := Ideal) m g, (θ_run Cert.Reference15Ideal.defs _ _).mono (fun _ h c => ⟨(h c).1.trans ?_, (h c).2.1.trans ?_, (h c).2.2⟩) (Cert.Reference15Ideal.Value.run (F := Ideal) m' g')⟩
  · rw [(e c).1, (e c).2.1]
    refine funext fun i => (Cert.Reference15Ideal.Modulation.weights_apply _ _ i).trans (Eq.trans ?_ (Cert.Kernel15Ideal.Modulation.weights_apply _ _ i).symm)
    exact Finset.sum_congr rfl fun k _ => mul_comm _ _
  · rw [(e c).2.1, (e c).2.2]
    exact funext fun i => (Cert.Reference15Ideal.Modulation.activation_apply _ _ i).trans (Cert.Kernel15Ideal.Modulation.activation_apply _ _ i).symm

end Cert.Proof

end
-- ==== Proof.Other.AdamwAda.lean ====
/-
  The call `adamw_w_ada`: its three outputs are the optimizer's change of the weights and its two new moments, entry by entry.
-/
module

public import proofs.«01_k».proof.Defs
public import proofs.«01_k».proof.Proof.Gen.Kernel16Ideal.Value
public import proofs.«01_k».proof.Proof.Gen.Reference16Ideal.Run
public import Idealize.ShloMosaic.Lib.Pipeline.ValueKit

@[expose] public section

noncomputable section

namespace Cert.Proof

open Idealize.ShloMosaic Idealize.SL.Sem

/-- The call's outputs and the reference's results agree at every entry. -/
theorem algebraic16 : Cert.algebraic_Kernel16Ideal_Reference16Ideal (hKernel16Ideal := Cert.Kernel16Ideal.Gen.facts) (hReference16Ideal := Cert.Reference16Ideal.Gen.facts) := by
  intro m g m' g' _ e
  refine ⟨_, _, _, Cert.Kernel16Ideal.Value.run (F := Ideal) m g, (θ_run Cert.Reference16Ideal.defs _ _).mono (fun _ h c => ⟨(h c).1.trans ?_, (h c).2.1.trans ?_, (h c).2.2.1.trans ?_, (h c).2.2.2⟩) (Cert.Reference16Ideal.Value.run (F := Ideal) m' g')⟩
  · rw [(e c).1, (e c).2.1, (e c).2.2.1, (e c).2.2.2]
    rfl
  · rw [(e c).2.1, (e c).2.2.1]
    rfl
  · rw [(e c).2.1, (e c).2.2.2]
    rfl

end Cert.Proof

end
-- ==== Proof.Other.AdamwIn.lean ====
/-
  The call `adamw_w_in`: its three outputs are the optimizer's change of the weights and its two new moments, entry by entry.
-/
module

public import proofs.«01_k».proof.Defs
public import proofs.«01_k».proof.Proof.Gen.Kernel17Ideal.Value
public import proofs.«01_k».proof.Proof.Gen.Reference17Ideal.Run
public import Idealize.ShloMosaic.Lib.Pipeline.ValueKit

@[expose] public section

noncomputable section

namespace Cert.Proof

open Idealize.ShloMosaic Idealize.SL.Sem

/-- The call's outputs and the reference's results agree at every entry. -/
theorem algebraic17 : Cert.algebraic_Kernel17Ideal_Reference17Ideal (hKernel17Ideal := Cert.Kernel17Ideal.Gen.facts) (hReference17Ideal := Cert.Reference17Ideal.Gen.facts) := by
  intro m g m' g' _ e
  refine ⟨_, _, _, Cert.Kernel17Ideal.Value.run (F := Ideal) m g, (θ_run Cert.Reference17Ideal.defs _ _).mono (fun _ h c => ⟨(h c).1.trans ?_, (h c).2.1.trans ?_, (h c).2.2.1.trans ?_, (h c).2.2.2⟩) (Cert.Reference17Ideal.Value.run (F := Ideal) m' g')⟩
  · rw [(e c).1, (e c).2.1, (e c).2.2.1, (e c).2.2.2]
    rfl
  · rw [(e c).2.1, (e c).2.2.1]
    rfl
  · rw [(e c).2.1, (e c).2.2.2]
    rfl

end Cert.Proof

end
-- ==== Proof.Other.AdamwFf.lean ====
/-
  The call `adamw_w_ff1`: its three outputs are the optimizer's change of the weights and its two new moments, entry by entry.
-/
module

public import proofs.«01_k».proof.Defs
public import proofs.«01_k».proof.Proof.Gen.Kernel18Ideal.Value
public import proofs.«01_k».proof.Proof.Gen.Reference18Ideal.Run
public import Idealize.ShloMosaic.Lib.Pipeline.ValueKit

@[expose] public section

noncomputable section

namespace Cert.Proof

open Idealize.ShloMosaic Idealize.SL.Sem

/-- The call's outputs and the reference's results agree at every entry. -/
theorem algebraic18 : Cert.algebraic_Kernel18Ideal_Reference18Ideal (hKernel18Ideal := Cert.Kernel18Ideal.Gen.facts) (hReference18Ideal := Cert.Reference18Ideal.Gen.facts) := by
  intro m g m' g' _ e
  refine ⟨_, _, _, Cert.Kernel18Ideal.Value.run (F := Ideal) m g, (θ_run Cert.Reference18Ideal.defs _ _).mono (fun _ h c => ⟨(h c).1.trans ?_, (h c).2.1.trans ?_, (h c).2.2.1.trans ?_, (h c).2.2.2⟩) (Cert.Reference18Ideal.Value.run (F := Ideal) m' g')⟩
  · rw [(e c).1, (e c).2.1, (e c).2.2.1, (e c).2.2.2]
    rfl
  · rw [(e c).2.1, (e c).2.2.1]
    rfl
  · rw [(e c).2.1, (e c).2.2.2]
    rfl

end Cert.Proof

end
-- ==== Proof.Other.AdamwOut.lean ====
/-
  The call `adamw_w_out`: its three outputs are the optimizer's change of the weights and its two new moments, entry by entry.
-/
module

public import proofs.«01_k».proof.Defs
public import proofs.«01_k».proof.Proof.Gen.Kernel19Ideal.Value
public import proofs.«01_k».proof.Proof.Gen.Reference19Ideal.Run
public import Idealize.ShloMosaic.Lib.Pipeline.ValueKit

@[expose] public section

noncomputable section

namespace Cert.Proof

open Idealize.ShloMosaic Idealize.SL.Sem

/-- The call's outputs and the reference's results agree at every entry. -/
theorem algebraic19 : Cert.algebraic_Kernel19Ideal_Reference19Ideal (hKernel19Ideal := Cert.Kernel19Ideal.Gen.facts) (hReference19Ideal := Cert.Reference19Ideal.Gen.facts) := by
  intro m g m' g' _ e
  refine ⟨_, _, _, Cert.Kernel19Ideal.Value.run (F := Ideal) m g, (θ_run Cert.Reference19Ideal.defs _ _).mono (fun _ h c => ⟨(h c).1.trans ?_, (h c).2.1.trans ?_, (h c).2.2.1.trans ?_, (h c).2.2.2⟩) (Cert.Reference19Ideal.Value.run (F := Ideal) m' g')⟩
  · rw [(e c).1, (e c).2.1, (e c).2.2.1, (e c).2.2.2]
    rfl
  · rw [(e c).2.1, (e c).2.2.1]
    rfl
  · rw [(e c).2.1, (e c).2.2.2]
    rfl

end Cert.Proof

end
-- ==== Proof.Other.AdamwSmall.lean ====
/-
  The call `adamw_small`: its three outputs are the optimizer's change of the weights and its two new moments, entry by entry.
-/
module

public import proofs.«01_k».proof.Defs
public import proofs.«01_k».proof.Proof.Gen.Kernel20Ideal.Value
public import proofs.«01_k».proof.Proof.Gen.Reference20Ideal.Run
public import Idealize.ShloMosaic.Lib.Pipeline.ValueKit

@[expose] public section

noncomputable section

namespace Cert.Proof

open Idealize.ShloMosaic Idealize.SL.Sem

/-- The call's outputs and the reference's results agree at every entry. -/
theorem algebraic20 : Cert.algebraic_Kernel20Ideal_Reference20Ideal (hKernel20Ideal := Cert.Kernel20Ideal.Gen.facts) (hReference20Ideal := Cert.Reference20Ideal.Gen.facts) := by
  intro m g m' g' _ e
  refine ⟨_, _, _, Cert.Kernel20Ideal.Value.run (F := Ideal) m g, (θ_run Cert.Reference20Ideal.defs _ _).mono (fun _ h c => ⟨(h c).1.trans ?_, (h c).2.1.trans ?_, (h c).2.2.1.trans ?_, (h c).2.2.2⟩) (Cert.Reference20Ideal.Value.run (F := Ideal) m' g')⟩
  · rw [(e c).1, (e c).2.1, (e c).2.2.1, (e c).2.2.2]
    rfl
  · rw [(e c).2.1, (e c).2.2.1]
    rfl
  · rw [(e c).2.1, (e c).2.2.2]
    rfl

end Cert.Proof

end
-- ==== Proof.Other.BAdaGrad.lean ====
/-
  The call `b_ada_grad`: its output is the sum of its argument's rows.
-/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.IdealHost

@[expose] public section

noncomputable section

namespace Cert.Kernel21Ideal.ColumnSum

open Cert.Kernel21Ideal Cert.Kernel21Ideal.Gen Idealize.ShloMosaic Idealize.ShloMosaic.TcCoe

/-- The call's output at an index. -/
theorem apply (a0 : Vec Ideal S24x6144 .f32) (i : S1x6144.Idx) : k0_pay1 (F := Ideal) a0 i = ∑ k : Fin 24, a0 (ix2 k (i 1)) := by
  pointwise [k0_pay1]

end Cert.Kernel21Ideal.ColumnSum

namespace Cert.Reference21Ideal.ColumnSum

open Cert.Reference21Ideal Cert.Reference21Ideal.Gen Idealize.ShloMosaic Idealize.ShloMosaic.TcCoe

/-- The reference's result at an index. -/
theorem apply (a0 : FVec Ideal S24x6144 .f32) (i : S1x6144.Idx) :
    (broadcastInDim S1x6144 ![1] bcast_S6144_S1x6144_1 (Host.reduceAdd a0 (constant S_ .f32 0x00000000#32) reducesTo_S24x6144_S6144_d0 h_S_) : FVec Ideal S1x6144 .f32) i = ∑ k : Fin 24, a0 (ix2 k (i 1)) := by
  pointwise []

end Cert.Reference21Ideal.ColumnSum

namespace Cert.Proof

open Idealize.ShloMosaic Idealize.SL.Sem

/-- The call's output and the reference's result agree at every entry. -/
theorem algebraic21 : Cert.algebraic_Kernel21Ideal_Reference21Ideal (hKernel21Ideal := Cert.Kernel21Ideal.Gen.facts) (hReference21Ideal := Cert.Reference21Ideal.Gen.facts) := by
  intro m g m' g' _ e
  refine ⟨_, Cert.Kernel21Ideal.Value.run (F := Ideal) m g, (θ_run Cert.Reference21Ideal.defs _ _).mono (fun _ h c => ⟨(h c).1.trans ?_, (h c).2⟩) (Cert.Reference21Ideal.Value.run (F := Ideal) m' g')⟩
  rw [e c]
  exact funext fun i => (Cert.Reference21Ideal.ColumnSum.apply _ i).trans (Cert.Kernel21Ideal.ColumnSum.apply _ i).symm

end Cert.Proof

end
-- ==== Proof.Other.CCtxGrad.lean ====
/-
  The call `c_ctx_grad`: its output is the gradient of the activation of the context's modulation input, of the sum of the shards' parts.
-/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.IdealHost

@[expose] public section

noncomputable section

namespace Cert.Kernel22Ideal.Context

open Cert.Kernel22Ideal Cert.Kernel22Ideal.Gen Idealize.ShloMosaic Idealize.ShloMosaic.TcCoe

/-- The call's output at an index. -/
theorem apply (a0 : Vec Ideal S4x8x1024 .f32) (a1 : Vec Ideal S1x1024 .f32) (i : S1x1024.Idx) :
    Cert.Kernel22Ideal.Value.G2 (F := Ideal) a0 a1 i = (∑ s : Fin 4, a0 (ix3 s 0 (i 1))) * Ideal.logistic (a1 i) + (a1 i * ∑ s : Fin 4, a0 (ix3 s 0 (i 1))) * (Ideal.logistic (a1 i) * (1 - Ideal.logistic (a1 i))) := by
  rw [Fin.sum_univ_four]
  pointwise [k0_pay1]

end Cert.Kernel22Ideal.Context

namespace Cert.Reference22Ideal.Context

open Cert.Reference22Ideal Cert.Reference22Ideal.Gen Idealize.ShloMosaic Idealize.ShloMosaic.TcCoe

/-- The reference's result at an index. -/
theorem apply (a0 : FVec Ideal S4x8x1024 .f32) (a1 : FVec Ideal S1x1024 .f32) (i : S1x1024.Idx) :
    (addf (mulf (Host.reduceAdd (extractStridedSlice S4x1x1024 ![0, 0, 0] a0 slices_S4x8x1024_S4x1x1024_0_0_0) (constant S_ .f32 0x00000000#32) reducesTo_S4x1x1024_S1x1024_d0 h_S_) (Host.divf (broadcastInDim S1x1024 ![] bcast_S_S1x1024 (constant S_ .f32 0x3F800000#32)) (addf (broadcastInDim S1x1024 ![] bcast_S_S1x1024 (constant S_ .f32 0x3F800000#32)) (Host.exp (Host.negf a1))))) (mulf (mulf a1 (Host.reduceAdd (extractStridedSlice S4x1x1024 ![0, 0, 0] a0 slices_S4x8x1024_S4x1x1024_0_0_0) (constant S_ .f32 0x00000000#32) reducesTo_S4x1x1024_S1x1024_d0 h_S_)) (mulf (Host.divf (broadcastInDim S1x1024 ![] bcast_S_S1x1024 (constant S_ .f32 0x3F800000#32)) (addf (broadcastInDim S1x1024 ![] bcast_S_S1x1024 (constant S_ .f32 0x3F800000#32)) (Host.exp (Host.negf a1)))) (subf (broadcastInDim S1x1024 ![] bcast_S_S1x1024 (constant S_ .f32 0x3F800000#32)) (Host.divf (broadcastInDim S1x1024 ![] bcast_S_S1x1024 (constant S_ .f32 0x3F800000#32)) (addf (broadcastInDim S1x1024 ![] bcast_S_S1x1024 (constant S_ .f32 0x3F800000#32)) (Host.exp (Host.negf a1))))))) : FVec Ideal S1x1024 .f32) i = (∑ s : Fin 4, a0 (ix3 s 0 (i 1))) * Ideal.logistic (a1 i) + (a1 i * ∑ s : Fin 4, a0 (ix3 s 0 (i 1))) * (Ideal.logistic (a1 i) * (1 - Ideal.logistic (a1 i))) := by
  pointwise []
  simp only [Ideal.logistic, Ideal.ofBits_one_f32]

end Cert.Reference22Ideal.Context

namespace Cert.Proof

open Idealize.ShloMosaic Idealize.SL.Sem

/-- The call's output and the reference's result agree at every entry. -/
theorem algebraic22 : Cert.algebraic_Kernel22Ideal_Reference22Ideal (hKernel22Ideal := Cert.Kernel22Ideal.Gen.facts) (hReference22Ideal := Cert.Reference22Ideal.Gen.facts) := by
  intro m g m' g' _ e
  refine ⟨_, Cert.Kernel22Ideal.Value.run (F := Ideal) m g, (θ_run Cert.Reference22Ideal.defs _ _).mono (fun _ h c => ⟨(h c).1.trans ?_, (h c).2⟩) (Cert.Reference22Ideal.Value.run (F := Ideal) m' g')⟩
  rw [(e c).1, (e c).2]
  exact funext fun i => (Cert.Reference22Ideal.Context.apply _ _ i).trans (Cert.Kernel22Ideal.Context.apply _ _ i).symm

end Cert.Proof

end
-- ==== Proof.Other.AdalnFwd.lean ====
/-
  The call `adaln_fwd`: its output is the modulation, the activation of its input times the weights plus the bias.
-/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.IdealHost

@[expose] public section

noncomputable section

namespace Cert.Kernel23Ideal.Modulation

open Cert.Kernel23Ideal Cert.Kernel23Ideal.Gen Idealize.ShloMosaic Idealize.ShloMosaic.TcCoe

/-- The call's output at an index. -/
theorem apply (a0 : Vec Ideal S24x1024 .f32) (a1 : Vec Ideal S1024x1536 .f32) (a2 : Vec Ideal S1x1536 .f32) (i : S24x1536.Idx) :
    k0_pay1 (F := Ideal) a0 a1 a2 i = (∑ k : Fin 1024, (a0 (ix2 (i 0) k) * Ideal.logistic (a0 (ix2 (i 0) k))) * a1 (ix2 k (i 1))) + a2 (ix2 0 (i 1)) := by
  pointwise [k0_pay1]

end Cert.Kernel23Ideal.Modulation

namespace Cert.Reference23Ideal.Modulation

open Cert.Reference23Ideal Cert.Reference23Ideal.Gen Idealize.ShloMosaic Idealize.ShloMosaic.TcCoe

/-- The reference's result at an index. -/
theorem apply (a0 : FVec Ideal S24x1024 .f32) (a1 : FVec Ideal S1024x1536 .f32) (a2 : FVec Ideal S1x1536 .f32) (i : S24x1536.Idx) :
    (addf (Host.dotGeneral dot_S24x1024_S1024x1536_S24x1536_1_0_0_1_n_n none (mulf a0 (Host.divf (broadcastInDim S24x1024 ![] bcast_S_S24x1024 (constant S_ .f32 0x3F800000#32)) (addf (broadcastInDim S24x1024 ![] bcast_S_S24x1024 (constant S_ .f32 0x3F800000#32)) (Host.exp (Host.negf a0))))) a1) (broadcastInDim S24x1536 ![0, 1] bcast_S1x1536_S24x1536_0_1 a2) : FVec Ideal S24x1536 .f32) i = (∑ k : Fin 1024, (a0 (ix2 (i 0) k) * Ideal.logistic (a0 (ix2 (i 0) k))) * a1 (ix2 k (i 1))) + a2 (ix2 0 (i 1)) := by
  pointwise []
  simp only [Ideal.logistic, Ideal.ofBits_one_f32]

end Cert.Reference23Ideal.Modulation

namespace Cert.Proof

open Idealize.ShloMosaic Idealize.SL.Sem

/-- The call's output and the reference's result agree at every entry. -/
theorem algebraic23 : Cert.algebraic_Kernel23Ideal_Reference23Ideal (hKernel23Ideal := Cert.Kernel23Ideal.Gen.facts) (hReference23Ideal := Cert.Reference23Ideal.Gen.facts) := by
  intro m g m' g' _ e
  refine ⟨_, Cert.Kernel23Ideal.Value.run (F := Ideal) m g, (θ_run Cert.Reference23Ideal.defs _ _).mono (fun _ h c => ⟨(h c).1.trans ?_, (h c).2⟩) (Cert.Reference23Ideal.Value.run (F := Ideal) m' g')⟩
  rw [(e c).1, (e c).2.1, (e c).2.2]
  exact funext fun i => (Cert.Reference23Ideal.Modulation.apply _ _ _ i).trans (Cert.Kernel23Ideal.Modulation.apply _ _ _ i).symm

end Cert.Proof

end
-- ==== Proof.Other.SumIn.lean ====
/-
  The call `sum_w_in`: its output is the sum of the eight devices' parts.
-/
module

public import proofs.«01_k».proof.Defs
public import proofs.«01_k».proof.Proof.Gen.Kernel24Ideal.Value
public import proofs.«01_k».proof.Proof.Gen.Reference24Ideal.Run
public import Idealize.ShloMosaic.Lib.Pipeline.ValueKit
public import Idealize.ShloMosaic.Lib.IdealHost

@[expose] public section

noncomputable section

namespace Cert.Kernel24Ideal.Total

open Cert.Kernel24Ideal Cert.Kernel24Ideal.Gen Idealize.ShloMosaic Idealize.ShloMosaic.TcCoe

/-- The sum of the parts. -/
def total (a0 : Vec Ideal S8x512x960 .bf16) : Vec Ideal S512x960 .f32 := fun i => ∑ s : Fin 8, a0 (ix3 s (i 0) (i 1))

/-- The call's block at an index. -/
theorem block_apply (a0 : Vec Ideal S8x256x960 .bf16) (i : S256x960.Idx) : out0_1 (F := Ideal) a0 i = ∑ s : Fin 8, a0 (ix3 s (i 0) (i 1)) := by
  rw [Fin.sum_univ_eight]
  frame_out
  pointwise [k0_pay1]

/-- A block of the sum is the sum of the parts' blocks. -/
theorem block_total (a0 : Vec Ideal S8x512x960 .bf16) (b : Vec Ideal S8x256x960 .bf16) (j : S256x960.Idx) (i : S512x960.Idx) (h : ∀ s : Fin 8, b (ix3 s (j 0) (j 1)) = a0 (ix3 s (i 0) (i 1))) :
    out0_1 (F := Ideal) b j = total a0 i :=
  (block_apply b j).trans (Finset.sum_congr rfl fun s _ => h s)

variable (m : (ℓ : Loc nD τ sig) → Buf (Elt Ideal) ℓ) (c : Dev nD)

/-- The input's block at each step. -/
theorem idx (t : Fin cfg0.N) : win0_0.index t = ![0, t.val, 0] := by
  revert t; decide +kernel

/-- The output's block at each step. -/
theorem idx' (t : Fin cfg0.N) : win0_1.index t = ![t.val, 0] := by
  revert t; decide +kernel

/-- The array the call leaves. -/
theorem value : (dats m 0 c).arrAt 1 cfg0.N = total (m ((c : Thread nD τ).loc main_arg0)) := by
  refine (dats m 0 c).arrAt_eq_of_covers 1 _ (by decide +kernel) fun t hf y => ?_
  blk_simp
  rw [after0_1]
  refine block_total _ _ _ _ fun s => ?_
  rw [iblk, ← V_main_arg0 m c]
  refine congrArg (V m c main_arg0) (funext fun a => Fin.ext ?_)
  fin_cases a <;> blk_simp [idx t]
  · rfl
  · show t.val * 256 + (y 0).val = ((win0_1.blk t).view.emb y 0).val
    blk_simp [idx' t]
  · show (y 1).val = ((win0_1.blk t).view.emb y 1).val
    blk_simp [idx' t]

end Cert.Kernel24Ideal.Total

namespace Cert.Reference24Ideal.Total

open Cert.Reference24Ideal Cert.Reference24Ideal.Gen Idealize.ShloMosaic Idealize.ShloMosaic.TcCoe

/-- The reference's result at an index. -/
theorem apply (a0 : FVec Ideal S8x512x960 .bf16) (i : S512x960.Idx) :
    (Host.reduceAdd (extf .f32 a0 bitsLt_bf16_f32) (constant S_ .f32 0x00000000#32) reducesTo_S8x512x960_S512x960_d0 h_S_ : FVec Ideal S512x960 .f32) i = Cert.Kernel24Ideal.Total.total a0 i := by
  pointwise [Cert.Kernel24Ideal.Total.total]

end Cert.Reference24Ideal.Total

namespace Cert.Proof

open Idealize.ShloMosaic Idealize.SL.Sem

/-- The call's output and the reference's result agree at every entry. -/
theorem algebraic24 : Cert.algebraic_Kernel24Ideal_Reference24Ideal (hKernel24Ideal := Cert.Kernel24Ideal.Gen.facts) (hReference24Ideal := Cert.Reference24Ideal.Gen.facts) := by
  intro m g m' g' _ e
  refine ⟨_, Cert.Kernel24Ideal.Value.run_blocks (F := Ideal) m g, (θ_run Cert.Reference24Ideal.defs _ _).mono (fun _ h c => ⟨(h c).1.trans ?_, (h c).2⟩) (Cert.Reference24Ideal.Value.run (F := Ideal) m' g')⟩
  rw [e c]
  exact (funext fun i => Cert.Reference24Ideal.Total.apply _ i).trans (Cert.Kernel24Ideal.Total.value m c).symm

end Cert.Proof

end
-- ==== Proof.Other.SumFf.lean ====
/-
  The call `sum_w_ff1`: its output is the sum of the eight devices' parts.
-/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.IdealHost

@[expose] public section

noncomputable section

namespace Cert.Kernel25Ideal.Total

open Cert.Kernel25Ideal Cert.Kernel25Ideal.Gen Idealize.ShloMosaic Idealize.ShloMosaic.TcCoe

/-- The sum of the parts. -/
def total (a0 : Vec Ideal S8x512x1024 .bf16) : Vec Ideal S512x1024 .f32 := fun i => ∑ s : Fin 8, a0 (ix3 s (i 0) (i 1))

/-- The call's block at an index. -/
theorem block_apply (a0 : Vec Ideal S8x256x1024 .bf16) (i : S256x1024.Idx) : out0_1 (F := Ideal) a0 i = ∑ s : Fin 8, a0 (ix3 s (i 0) (i 1)) := by
  rw [Fin.sum_univ_eight]
  frame_out
  pointwise [k0_pay1]

/-- A block of the sum is the sum of the parts' blocks. -/
theorem block_total (a0 : Vec Ideal S8x512x1024 .bf16) (b : Vec Ideal S8x256x1024 .bf16) (j : S256x1024.Idx) (i : S512x1024.Idx) (h : ∀ s : Fin 8, b (ix3 s (j 0) (j 1)) = a0 (ix3 s (i 0) (i 1))) :
    out0_1 (F := Ideal) b j = total a0 i :=
  (block_apply b j).trans (Finset.sum_congr rfl fun s _ => h s)

variable (m : (ℓ : Loc nD τ sig) → Buf (Elt Ideal) ℓ) (c : Dev nD)

/-- The input's block at each step. -/
theorem idx (t : Fin cfg0.N) : win0_0.index t = ![0, t.val, 0] := by
  revert t; decide +kernel

/-- The output's block at each step. -/
theorem idx' (t : Fin cfg0.N) : win0_1.index t = ![t.val, 0] := by
  revert t; decide +kernel

/-- The array the call leaves. -/
theorem value : (dats m 0 c).arrAt 1 cfg0.N = total (m ((c : Thread nD τ).loc main_arg0)) := by
  refine (dats m 0 c).arrAt_eq_of_covers 1 _ (by decide +kernel) fun t hf y => ?_
  blk_simp
  rw [after0_1]
  refine block_total _ _ _ _ fun s => ?_
  rw [iblk, ← V_main_arg0 m c]
  refine congrArg (V m c main_arg0) (funext fun a => Fin.ext ?_)
  fin_cases a <;> blk_simp [idx t]
  · rfl
  · show t.val * 256 + (y 0).val = ((win0_1.blk t).view.emb y 0).val
    blk_simp [idx' t]
  · show (y 1).val = ((win0_1.blk t).view.emb y 1).val
    blk_simp [idx' t]

end Cert.Kernel25Ideal.Total

namespace Cert.Reference25Ideal.Total

open Cert.Reference25Ideal Cert.Reference25Ideal.Gen Idealize.ShloMosaic Idealize.ShloMosaic.TcCoe

/-- The reference's result at an index. -/
theorem apply (a0 : FVec Ideal S8x512x1024 .bf16) (i : S512x1024.Idx) :
    (Host.reduceAdd (extf .f32 a0 bitsLt_bf16_f32) (constant S_ .f32 0x00000000#32) reducesTo_S8x512x1024_S512x1024_d0 h_S_ : FVec Ideal S512x1024 .f32) i = Cert.Kernel25Ideal.Total.total a0 i := by
  pointwise [Cert.Kernel25Ideal.Total.total]

end Cert.Reference25Ideal.Total

namespace Cert.Proof

open Idealize.ShloMosaic Idealize.SL.Sem

/-- The call's output and the reference's result agree at every entry. -/
theorem algebraic25 : Cert.algebraic_Kernel25Ideal_Reference25Ideal (hKernel25Ideal := Cert.Kernel25Ideal.Gen.facts) (hReference25Ideal := Cert.Reference25Ideal.Gen.facts) := by
  intro m g m' g' _ e
  refine ⟨_, Cert.Kernel25Ideal.Value.run_blocks (F := Ideal) m g, (θ_run Cert.Reference25Ideal.defs _ _).mono (fun _ h c => ⟨(h c).1.trans ?_, (h c).2⟩) (Cert.Reference25Ideal.Value.run (F := Ideal) m' g')⟩
  rw [e c]
  exact (funext fun i => Cert.Reference25Ideal.Total.apply _ i).trans (Cert.Kernel25Ideal.Total.value m c).symm

end Cert.Proof

end
-- ==== Proof.Other.SumOut.lean ====
/-
  The call `sum_w_out`: its output is the sum of the eight devices' parts.
-/
module

public import proofs.«01_k».proof.Defs
public import proofs.«01_k».proof.Proof.Gen.Kernel26Ideal.Value
public import proofs.«01_k».proof.Proof.Gen.Reference26Ideal.Run
public import Idealize.ShloMosaic.Lib.Pipeline.ValueKit
public import Idealize.ShloMosaic.Lib.IdealHost

@[expose] public section

noncomputable section

namespace Cert.Kernel26Ideal.Total

open Cert.Kernel26Ideal Cert.Kernel26Ideal.Gen Idealize.ShloMosaic Idealize.ShloMosaic.TcCoe

/-- The sum of the parts. -/
def total (a0 : Vec Ideal S8x128x1024 .bf16) : Vec Ideal S128x1024 .f32 := fun i => ∑ s : Fin 8, a0 (ix3 s (i 0) (i 1))

/-- The call's output at an index. -/
theorem apply (a0 : Vec Ideal S8x128x1024 .bf16) (i : S128x1024.Idx) : Cert.Kernel26Ideal.Value.G1 (F := Ideal) a0 i = total a0 i := by
  rw [total, Fin.sum_univ_eight]
  pointwise [k0_pay1]

end Cert.Kernel26Ideal.Total

namespace Cert.Reference26Ideal.Total

open Cert.Reference26Ideal Cert.Reference26Ideal.Gen Idealize.ShloMosaic Idealize.ShloMosaic.TcCoe

/-- The reference's result at an index. -/
theorem apply (a0 : FVec Ideal S8x128x1024 .bf16) (i : S128x1024.Idx) :
    (Host.reduceAdd (extf .f32 a0 bitsLt_bf16_f32) (constant S_ .f32 0x00000000#32) reducesTo_S8x128x1024_S128x1024_d0 h_S_ : FVec Ideal S128x1024 .f32) i = Cert.Kernel26Ideal.Total.total a0 i := by
  pointwise [Cert.Kernel26Ideal.Total.total]

end Cert.Reference26Ideal.Total

namespace Cert.Proof

open Idealize.ShloMosaic Idealize.SL.Sem

/-- The call's output and the reference's result agree at every entry. -/
theorem algebraic26 : Cert.algebraic_Kernel26Ideal_Reference26Ideal (hKernel26Ideal := Cert.Kernel26Ideal.Gen.facts) (hReference26Ideal := Cert.Reference26Ideal.Gen.facts) := by
  intro m g m' g' _ e
  refine ⟨_, Cert.Kernel26Ideal.Value.run (F := Ideal) m g, (θ_run Cert.Reference26Ideal.defs _ _).mono (fun _ h c => ⟨(h c).1.trans ?_, (h c).2⟩) (Cert.Reference26Ideal.Value.run (F := Ideal) m' g')⟩
  rw [e c]
  exact (funext fun i => Cert.Reference26Ideal.Total.apply _ i).trans (funext fun i => Cert.Kernel26Ideal.Total.apply _ i).symm

end Cert.Proof

end
-- ==== Proof.Other.SumShards.lean ====
/-
  The call `sum_small_shards`: its output is the sum of the eight devices' parts.
-/
module

public import proofs.«01_k».proof.Defs
public import proofs.«01_k».proof.Proof.Gen.Kernel27Ideal.Value
public import proofs.«01_k».proof.Proof.Gen.Reference27Ideal.Run
public import Idealize.ShloMosaic.Lib.Pipeline.ValueKit
public import Idealize.ShloMosaic.Lib.IdealHost

@[expose] public section

noncomputable section

namespace Cert.Kernel27Ideal.Total

open Cert.Kernel27Ideal Cert.Kernel27Ideal.Gen Idealize.ShloMosaic Idealize.ShloMosaic.TcCoe

/-- The sum of the parts. -/
def total (a0 : Vec Ideal S8x40x1024 .f32) : Vec Ideal S40x1024 .f32 := fun i => ∑ s : Fin 8, a0 (ix3 s (i 0) (i 1))

/-- The call's block at an index. -/
theorem block_apply (a0 : Vec Ideal S8x8x1024 .f32) (i : S8x1024.Idx) : out0_1 (F := Ideal) a0 i = ∑ s : Fin 8, a0 (ix3 s (i 0) (i 1)) := by
  rw [Fin.sum_univ_eight]
  frame_out
  pointwise [k0_pay1]

/-- A block of the sum is the sum of the parts' blocks. -/
theorem block_total (a0 : Vec Ideal S8x40x1024 .f32) (b : Vec Ideal S8x8x1024 .f32) (j : S8x1024.Idx) (i : S40x1024.Idx) (h : ∀ s : Fin 8, b (ix3 s (j 0) (j 1)) = a0 (ix3 s (i 0) (i 1))) :
    out0_1 (F := Ideal) b j = total a0 i :=
  (block_apply b j).trans (Finset.sum_congr rfl fun s _ => h s)

variable (m : (ℓ : Loc nD τ sig) → Buf (Elt Ideal) ℓ) (c : Dev nD)

/-- The input's block at each step. -/
theorem idx (t : Fin cfg0.N) : win0_0.index t = ![0, t.val, 0] := by
  revert t; decide +kernel

/-- The output's block at each step. -/
theorem idx' (t : Fin cfg0.N) : win0_1.index t = ![t.val, 0] := by
  revert t; decide +kernel

/-- The array the call leaves. -/
theorem value : (dats m 0 c).arrAt 1 cfg0.N = total (m ((c : Thread nD τ).loc main_arg0)) := by
  refine (dats m 0 c).arrAt_eq_of_covers 1 _ (by decide +kernel) fun t hf y => ?_
  blk_simp
  rw [after0_1]
  refine block_total _ _ _ _ fun s => ?_
  rw [iblk, ← V_main_arg0 m c]
  refine congrArg (V m c main_arg0) (funext fun a => Fin.ext ?_)
  fin_cases a <;> blk_simp [idx t]
  · rfl
  · show t.val * 8 + (y 0).val = ((win0_1.blk t).view.emb y 0).val
    blk_simp [idx' t]
  · show (y 1).val = ((win0_1.blk t).view.emb y 1).val
    blk_simp [idx' t]

end Cert.Kernel27Ideal.Total

namespace Cert.Reference27Ideal.Total

open Cert.Reference27Ideal Cert.Reference27Ideal.Gen Idealize.ShloMosaic Idealize.ShloMosaic.TcCoe

/-- The reference's result at an index. -/
theorem apply (a0 : FVec Ideal S8x40x1024 .f32) (i : S40x1024.Idx) :
    (Host.reduceAdd a0 (constant S_ .f32 0x00000000#32) reducesTo_S8x40x1024_S40x1024_d0 h_S_ : FVec Ideal S40x1024 .f32) i = Cert.Kernel27Ideal.Total.total a0 i := by
  pointwise [Cert.Kernel27Ideal.Total.total]

end Cert.Reference27Ideal.Total

namespace Cert.Proof

open Idealize.ShloMosaic Idealize.SL.Sem

/-- The call's output and the reference's result agree at every entry. -/
theorem algebraic27 : Cert.algebraic_Kernel27Ideal_Reference27Ideal (hKernel27Ideal := Cert.Kernel27Ideal.Gen.facts) (hReference27Ideal := Cert.Reference27Ideal.Gen.facts) := by
  intro m g m' g' _ e
  refine ⟨_, Cert.Kernel27Ideal.Value.run_blocks (F := Ideal) m g, (θ_run Cert.Reference27Ideal.defs _ _).mono (fun _ h c => ⟨(h c).1.trans ?_, (h c).2⟩) (Cert.Reference27Ideal.Value.run (F := Ideal) m' g')⟩
  rw [e c]
  exact (funext fun i => Cert.Reference27Ideal.Total.apply _ i).trans (Cert.Kernel27Ideal.Total.value m c).symm

end Cert.Proof

end
-- ==== Proof.Other.SumGrads.lean ====
/-
  The call `sum_small_grads`: its output is the sum of the eight devices' parts.
-/
module

public import proofs.«01_k».proof.Defs
public import proofs.«01_k».proof.Proof.Gen.Kernel28Ideal.Value
public import proofs.«01_k».proof.Proof.Gen.Reference28Ideal.Run
public import Idealize.ShloMosaic.Lib.Pipeline.ValueKit
public import Idealize.ShloMosaic.Lib.IdealHost

@[expose] public section

noncomputable section

namespace Cert.Kernel28Ideal.Total

open Cert.Kernel28Ideal Cert.Kernel28Ideal.Gen Idealize.ShloMosaic Idealize.ShloMosaic.TcCoe

/-- The sum of the parts. -/
def total (a0 : Vec Ideal S8x120x1024 .f32) : Vec Ideal S120x1024 .f32 := fun i => ∑ s : Fin 8, a0 (ix3 s (i 0) (i 1))

/-- The call's block at an index. -/
theorem block_apply (a0 : Vec Ideal S8x8x1024 .f32) (i : S8x1024.Idx) : out0_1 (F := Ideal) a0 i = ∑ s : Fin 8, a0 (ix3 s (i 0) (i 1)) := by
  rw [Fin.sum_univ_eight]
  frame_out
  pointwise [k0_pay1]

/-- A block of the sum is the sum of the parts' blocks. -/
theorem block_total (a0 : Vec Ideal S8x120x1024 .f32) (b : Vec Ideal S8x8x1024 .f32) (j : S8x1024.Idx) (i : S120x1024.Idx) (h : ∀ s : Fin 8, b (ix3 s (j 0) (j 1)) = a0 (ix3 s (i 0) (i 1))) :
    out0_1 (F := Ideal) b j = total a0 i :=
  (block_apply b j).trans (Finset.sum_congr rfl fun s _ => h s)

variable (m : (ℓ : Loc nD τ sig) → Buf (Elt Ideal) ℓ) (c : Dev nD)

/-- The input's block at each step. -/
theorem idx (t : Fin cfg0.N) : win0_0.index t = ![0, t.val, 0] := by
  revert t; decide +kernel

/-- The output's block at each step. -/
theorem idx' (t : Fin cfg0.N) : win0_1.index t = ![t.val, 0] := by
  revert t; decide +kernel

/-- The array the call leaves. -/
theorem value : (dats m 0 c).arrAt 1 cfg0.N = total (m ((c : Thread nD τ).loc main_arg0)) := by
  refine (dats m 0 c).arrAt_eq_of_covers 1 _ (by decide +kernel) fun t hf y => ?_
  blk_simp
  rw [after0_1]
  refine block_total _ _ _ _ fun s => ?_
  rw [iblk, ← V_main_arg0 m c]
  refine congrArg (V m c main_arg0) (funext fun a => Fin.ext ?_)
  fin_cases a <;> blk_simp [idx t]
  · rfl
  · show t.val * 8 + (y 0).val = ((win0_1.blk t).view.emb y 0).val
    blk_simp [idx' t]
  · show (y 1).val = ((win0_1.blk t).view.emb y 1).val
    blk_simp [idx' t]

end Cert.Kernel28Ideal.Total

namespace Cert.Reference28Ideal.Total

open Cert.Reference28Ideal Cert.Reference28Ideal.Gen Idealize.ShloMosaic Idealize.ShloMosaic.TcCoe

/-- The reference's result at an index. -/
theorem apply (a0 : FVec Ideal S8x120x1024 .f32) (i : S120x1024.Idx) :
    (Host.reduceAdd a0 (constant S_ .f32 0x00000000#32) reducesTo_S8x120x1024_S120x1024_d0 h_S_ : FVec Ideal S120x1024 .f32) i = Cert.Kernel28Ideal.Total.total a0 i := by
  pointwise [Cert.Kernel28Ideal.Total.total]

end Cert.Reference28Ideal.Total

namespace Cert.Proof

open Idealize.ShloMosaic Idealize.SL.Sem

/-- The call's output and the reference's result agree at every entry. -/
theorem algebraic28 : Cert.algebraic_Kernel28Ideal_Reference28Ideal (hKernel28Ideal := Cert.Kernel28Ideal.Gen.facts) (hReference28Ideal := Cert.Reference28Ideal.Gen.facts) := by
  intro m g m' g' _ e
  refine ⟨_, Cert.Kernel28Ideal.Value.run_blocks (F := Ideal) m g, (θ_run Cert.Reference28Ideal.defs _ _).mono (fun _ h c => ⟨(h c).1.trans ?_, (h c).2⟩) (Cert.Reference28Ideal.Value.run (F := Ideal) m' g')⟩
  rw [e c]
  exact (funext fun i => Cert.Reference28Ideal.Total.apply _ i).trans (Cert.Kernel28Ideal.Total.value m c).symm

end Cert.Proof

end
-- ==== Proof.lean ====
/-
  The proof of `Cert.Claim`: the retention's gradient (`Proof/Retention`), the matrix products (`Proof/Products`) and
  other calls (`Proof/Other`) of the step. Each program's frame comes first, then the equality of each kernel's results with its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Retention.Arrays
public import proofs.«01_k».proof.Proof.Retention.RefRun
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Products.Ff2Dw
public import proofs.«01_k».proof.Proof.Products.Ff1Dw
public import proofs.«01_k».proof.Proof.Products.Ff1Dx
public import proofs.«01_k».proof.Proof.Products.Ff2Dx
public import proofs.«01_k».proof.Proof.Products.ProjInDw
public import proofs.«01_k».proof.Proof.Products.ProjInDx
public import proofs.«01_k».proof.Proof.Products.ProjIn
public import proofs.«01_k».proof.Proof.Products.Ff1
public import proofs.«01_k».proof.Proof.Products.Ff2
public import proofs.«01_k».proof.Proof.Products.ProjOutDw
public import proofs.«01_k».proof.Proof.Products.ProjOutDx
public import proofs.«01_k».proof.Proof.Products.ProjOut
public import Idealize.ShloMosaic.Adequacy
public import Idealize.ShloMosaic.Init
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Other.Relu2Bwd
public import proofs.«01_k».proof.Proof.Other.AdalnBwd
public import proofs.«01_k».proof.Proof.Other.AdamwAda
public import proofs.«01_k».proof.Proof.Other.AdamwIn
public import proofs.«01_k».proof.Proof.Other.AdamwFf
public import proofs.«01_k».proof.Proof.Other.AdamwOut
public import proofs.«01_k».proof.Proof.Other.AdamwSmall
public import proofs.«01_k».proof.Proof.Other.BAdaGrad
public import proofs.«01_k».proof.Proof.Other.CCtxGrad
public import proofs.«01_k».proof.Proof.Other.AdalnFwd
public import proofs.«01_k».proof.Proof.Other.SumIn
public import proofs.«01_k».proof.Proof.Other.SumFf
public import proofs.«01_k».proof.Proof.Other.SumOut
public import proofs.«01_k».proof.Proof.Other.SumShards
public import proofs.«01_k».proof.Proof.Other.SumGrads

@[expose] public section

noncomputable section

-- The claims also say that every semaphore counter ends at zero; the proof shows that too.

namespace Cert.Proof

open Idealize.ShloMosaic Idealize.SL.Sem Cert.Retention

variable (mk : (ℓ : Loc Cert.KernelIdeal.nD Cert.KernelIdeal.τ Cert.KernelIdeal.sig) → Buf (Elt Ideal) ℓ) (gk : Dev Cert.KernelIdeal.nD → PrngReg)

/-- The kernel, over the extended reals, ends with the entries of the chunks' gradients of its launched arguments, the
    arguments unchanged. -/
theorem kernel_run : θ_run (Cert.KernelIdeal.defs (F := Ideal)) (onTc (τ := Cert.KernelIdeal.τ) (Cert.KernelIdeal.main (F := Ideal))) ⟨mk, fun _ => 0, gk⟩ (fun r => ∀ c : Dev Cert.KernelIdeal.nD,
      r.2.mem ((c.tc : Thread Cert.KernelIdeal.nD Cert.KernelIdeal.τ).loc Cert.KernelIdeal.main_v209_0) = entry (dQ (mk ((c.tc : Thread Cert.KernelIdeal.nD Cert.KernelIdeal.τ).loc Cert.KernelIdeal.main_arg0)) (mk ((c.tc : Thread Cert.KernelIdeal.nD Cert.KernelIdeal.τ).loc Cert.KernelIdeal.main_arg1)) (mk ((c.tc : Thread Cert.KernelIdeal.nD Cert.KernelIdeal.τ).loc Cert.KernelIdeal.main_arg2)) (mk ((c.tc : Thread Cert.KernelIdeal.nD Cert.KernelIdeal.τ).loc Cert.KernelIdeal.main_arg3)) (mk ((c.tc : Thread Cert.KernelIdeal.nD Cert.KernelIdeal.τ).loc Cert.KernelIdeal.main_arg4)) (mk ((c.tc : Thread Cert.KernelIdeal.nD Cert.KernelIdeal.τ).loc Cert.KernelIdeal.main_arg5)) (mk ((c.tc : Thread Cert.KernelIdeal.nD Cert.KernelIdeal.τ).loc Cert.KernelIdeal.main_arg6)))
      ∧ r.2.mem ((c.tc : Thread Cert.KernelIdeal.nD Cert.KernelIdeal.τ).loc Cert.KernelIdeal.main_v209_1) = entry (dK (mk ((c.tc : Thread Cert.KernelIdeal.nD Cert.KernelIdeal.τ).loc Cert.KernelIdeal.main_arg0)) (mk ((c.tc : Thread Cert.KernelIdeal.nD Cert.KernelIdeal.τ).loc Cert.KernelIdeal.main_arg1)) (mk ((c.tc : Thread Cert.KernelIdeal.nD Cert.KernelIdeal.τ).loc Cert.KernelIdeal.main_arg2)) (mk ((c.tc : Thread Cert.KernelIdeal.nD Cert.KernelIdeal.τ).loc Cert.KernelIdeal.main_arg3)) (mk ((c.tc : Thread Cert.KernelIdeal.nD Cert.KernelIdeal.τ).loc Cert.KernelIdeal.main_arg4)) (mk ((c.tc : Thread Cert.KernelIdeal.nD Cert.KernelIdeal.τ).loc Cert.KernelIdeal.main_arg5)) (mk ((c.tc : Thread Cert.KernelIdeal.nD Cert.KernelIdeal.τ).loc Cert.KernelIdeal.main_arg6)))
      ∧ r.2.mem ((c.tc : Thread Cert.KernelIdeal.nD Cert.KernelIdeal.τ).loc Cert.KernelIdeal.main_v209_2) = entry (dV (mk ((c.tc : Thread Cert.KernelIdeal.nD Cert.KernelIdeal.τ).loc Cert.KernelIdeal.main_arg0)) (mk ((c.tc : Thread Cert.KernelIdeal.nD Cert.KernelIdeal.τ).loc Cert.KernelIdeal.main_arg1)) (mk ((c.tc : Thread Cert.KernelIdeal.nD Cert.KernelIdeal.τ).loc Cert.KernelIdeal.main_arg2)) (mk ((c.tc : Thread Cert.KernelIdeal.nD Cert.KernelIdeal.τ).loc Cert.KernelIdeal.main_arg3)) (mk ((c.tc : Thread Cert.KernelIdeal.nD Cert.KernelIdeal.τ).loc Cert.KernelIdeal.main_arg4)) (mk ((c.tc : Thread Cert.KernelIdeal.nD Cert.KernelIdeal.τ).loc Cert.KernelIdeal.main_arg5)) (mk ((c.tc : Thread Cert.KernelIdeal.nD Cert.KernelIdeal.τ).loc Cert.KernelIdeal.main_arg6)))
      ∧ r.2.mem ((c.tc : Thread Cert.KernelIdeal.nD Cert.KernelIdeal.τ).loc Cert.KernelIdeal.main_arg0) = mk ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = mk ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = mk ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = mk ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = mk ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = mk ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = mk ((c.tc : Thread Cert.KernelIdeal.nD Cert.KernelIdeal.τ).loc Cert.KernelIdeal.main_arg6)) :=
  (θ_run Cert.KernelIdeal.defs _ _).mono
    (fun _ h c => ⟨(h c).1.trans (Cert.KernelIdeal.Blocks.out8 mk c), (h c).2.1.trans (Cert.KernelIdeal.Blocks.out9 mk c),
      (h c).2.2.1.trans (Cert.KernelIdeal.Blocks.out10 mk c), (h c).2.2.2.2⟩)
    (Cert.KernelIdeal.Value.run_blocks (F := Ideal) mk gk)

/-- The kernel's and the reference's gradients of the queries, keys and values agree at every entry: both are the
    chunks' gradients of the launched arguments. -/
theorem algebraic : Cert.algebraic_KernelIdeal_ReferenceIdeal (hKernelIdeal := Cert.KernelIdeal.Gen.facts) (hReferenceIdeal := Cert.ReferenceIdeal.Gen.facts) := by
  intro m g m' g' _ e
  refine ⟨fun c => entry (dQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => entry (dK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => entry (dV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    kernel_run m g, (θ_run Cert.ReferenceIdeal.defs _ _).mono (fun _ h c => ?_) (Cert.ReferenceIdeal.Chunks.run m' g')⟩
  obtain ⟨e0, e1, e2, e3, e4, e5, e6⟩ := e c
  obtain ⟨hq, hk, hv, ha⟩ := h c
  refine ⟨hq.trans ?_, hk.trans ?_, hv.trans ?_, ha⟩ <;> rw [e0, e1, e2, e3, e4, e5, e6]

/-- The reference ends with its arguments unchanged, and it declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩) (Cert.ReferenceIdeal.Chunks.run m g)

/-- The reference ends with its arguments unchanged, and it declares no semaphore. -/
theorem reference_frame2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run (F := Ideal) m g)

/-- The reference ends with its arguments unchanged, and it declares no semaphore. -/
theorem reference_frame3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩) (Cert.Reference3Ideal.Value.run (F := Ideal) m g)

/-- The reference ends with its arguments unchanged, and it declares no semaphore. -/
theorem reference_frame4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩) (Cert.Reference4Ideal.Value.run (F := Ideal) m g)

/-- The reference ends with its arguments unchanged, and it declares no semaphore. -/
theorem reference_frame5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩) (Cert.Reference5Ideal.Value.run (F := Ideal) m g)

/-- The reference ends with its arguments unchanged, and it declares no semaphore. -/
theorem reference_frame6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩) (Cert.Reference6Ideal.Value.run (F := Ideal) m g)

/-- The reference ends with its arguments unchanged, and it declares no semaphore. -/
theorem reference_frame7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩) (Cert.Reference7Ideal.Value.run (F := Ideal) m g)

/-- The reference ends with its arguments unchanged, and it declares no semaphore. -/
theorem reference_frame8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩) (Cert.Reference8Ideal.Value.run (F := Ideal) m g)

/-- The reference ends with its arguments unchanged, and it declares no semaphore. -/
theorem reference_frame9 : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩) (Cert.Reference9Ideal.Value.run (F := Ideal) m g)

/-- The reference ends with its arguments unchanged, and it declares no semaphore. -/
theorem reference_frame10 : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩) (Cert.Reference10Ideal.Value.run (F := Ideal) m g)

/-- The reference ends with its arguments unchanged, and it declares no semaphore. -/
theorem reference_frame11 : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩) (Cert.Reference11Ideal.Value.run (F := Ideal) m g)

/-- The reference ends with its arguments unchanged, and it declares no semaphore. -/
theorem reference_frame12 : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩) (Cert.Reference12Ideal.Value.run (F := Ideal) m g)

/-- The reference ends with its arguments unchanged, and it declares no semaphore. -/
theorem reference_frame13 : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩) (Cert.Reference13Ideal.Value.run (F := Ideal) m g)

/-- The reference ends with its arguments unchanged, and it declares no semaphore. -/
theorem reference_frame14 : Cert.quiescent_Reference14Ideal (hReference14Ideal := Cert.Reference14Ideal.Gen.facts) := fun m g _ =>
  (θ_run Cert.Reference14Ideal.defs _ _).mono (fun r h => ⟨fun c => (h c).2.2, sem_eq_zero_of_no_sems (by decide) r.2⟩) (Cert.Reference14Ideal.Value.run (F := Ideal) m g)

/-- The reference ends with its arguments unchanged, and it declares no semaphore. -/
theorem reference_frame15 : Cert.quiescent_Reference15Ideal (hReference15Ideal := Cert.Reference15Ideal.Gen.facts) := fun m g _ =>
  (θ_run Cert.Reference15Ideal.defs _ _).mono (fun r h => ⟨fun c => (h c).2.2, sem_eq_zero_of_no_sems (by decide) r.2⟩) (Cert.Reference15Ideal.Value.run (F := Ideal) m g)

/-- The reference ends with its arguments unchanged, and it declares no semaphore. -/
theorem reference_frame16 : Cert.quiescent_Reference16Ideal (hReference16Ideal := Cert.Reference16Ideal.Gen.facts) := fun m g _ =>
  (θ_run Cert.Reference16Ideal.defs _ _).mono (fun r h => ⟨fun c => (h c).2.2.2, sem_eq_zero_of_no_sems (by decide) r.2⟩) (Cert.Reference16Ideal.Value.run (F := Ideal) m g)

/-- The reference ends with its arguments unchanged, and it declares no semaphore. -/
theorem reference_frame17 : Cert.quiescent_Reference17Ideal (hReference17Ideal := Cert.Reference17Ideal.Gen.facts) := fun m g _ =>
  (θ_run Cert.Reference17Ideal.defs _ _).mono (fun r h => ⟨fun c => (h c).2.2.2, sem_eq_zero_of_no_sems (by decide) r.2⟩) (Cert.Reference17Ideal.Value.run (F := Ideal) m g)

/-- The reference ends with its arguments unchanged, and it declares no semaphore. -/
theorem reference_frame18 : Cert.quiescent_Reference18Ideal (hReference18Ideal := Cert.Reference18Ideal.Gen.facts) := fun m g _ =>
  (θ_run Cert.Reference18Ideal.defs _ _).mono (fun r h => ⟨fun c => (h c).2.2.2, sem_eq_zero_of_no_sems (by decide) r.2⟩) (Cert.Reference18Ideal.Value.run (F := Ideal) m g)

/-- The reference ends with its arguments unchanged, and it declares no semaphore. -/
theorem reference_frame19 : Cert.quiescent_Reference19Ideal (hReference19Ideal := Cert.Reference19Ideal.Gen.facts) := fun m g _ =>
  (θ_run Cert.Reference19Ideal.defs _ _).mono (fun r h => ⟨fun c => (h c).2.2.2, sem_eq_zero_of_no_sems (by decide) r.2⟩) (Cert.Reference19Ideal.Value.run (F := Ideal) m g)

/-- The reference ends with its arguments unchanged, and it declares no semaphore. -/
theorem reference_frame20 : Cert.quiescent_Reference20Ideal (hReference20Ideal := Cert.Reference20Ideal.Gen.facts) := fun m g _ =>
  (θ_run Cert.Reference20Ideal.defs _ _).mono (fun r h => ⟨fun c => (h c).2.2.2, sem_eq_zero_of_no_sems (by decide) r.2⟩) (Cert.Reference20Ideal.Value.run (F := Ideal) m g)

/-- The reference ends with its arguments unchanged, and it declares no semaphore. -/
theorem reference_frame21 : Cert.quiescent_Reference21Ideal (hReference21Ideal := Cert.Reference21Ideal.Gen.facts) := fun m g _ =>
  (θ_run Cert.Reference21Ideal.defs _ _).mono (fun r h => ⟨fun c => (h c).2, sem_eq_zero_of_no_sems (by decide) r.2⟩) (Cert.Reference21Ideal.Value.run (F := Ideal) m g)

/-- The reference ends with its arguments unchanged, and it declares no semaphore. -/
theorem reference_frame22 : Cert.quiescent_Reference22Ideal (hReference22Ideal := Cert.Reference22Ideal.Gen.facts) := fun m g _ =>
  (θ_run Cert.Reference22Ideal.defs _ _).mono (fun r h => ⟨fun c => (h c).2, sem_eq_zero_of_no_sems (by decide) r.2⟩) (Cert.Reference22Ideal.Value.run (F := Ideal) m g)

/-- The reference ends with its arguments unchanged, and it declares no semaphore. -/
theorem reference_frame23 : Cert.quiescent_Reference23Ideal (hReference23Ideal := Cert.Reference23Ideal.Gen.facts) := fun m g _ =>
  (θ_run Cert.Reference23Ideal.defs _ _).mono (fun r h => ⟨fun c => (h c).2, sem_eq_zero_of_no_sems (by decide) r.2⟩) (Cert.Reference23Ideal.Value.run (F := Ideal) m g)

/-- The reference ends with its arguments unchanged, and it declares no semaphore. -/
theorem reference_frame24 : Cert.quiescent_Reference24Ideal (hReference24Ideal := Cert.Reference24Ideal.Gen.facts) := fun m g _ =>
  (θ_run Cert.Reference24Ideal.defs _ _).mono (fun r h => ⟨fun c => (h c).2, sem_eq_zero_of_no_sems (by decide) r.2⟩) (Cert.Reference24Ideal.Value.run (F := Ideal) m g)

/-- The reference ends with its arguments unchanged, and it declares no semaphore. -/
theorem reference_frame25 : Cert.quiescent_Reference25Ideal (hReference25Ideal := Cert.Reference25Ideal.Gen.facts) := fun m g _ =>
  (θ_run Cert.Reference25Ideal.defs _ _).mono (fun r h => ⟨fun c => (h c).2, sem_eq_zero_of_no_sems (by decide) r.2⟩) (Cert.Reference25Ideal.Value.run (F := Ideal) m g)

/-- The reference ends with its arguments unchanged, and it declares no semaphore. -/
theorem reference_frame26 : Cert.quiescent_Reference26Ideal (hReference26Ideal := Cert.Reference26Ideal.Gen.facts) := fun m g _ =>
  (θ_run Cert.Reference26Ideal.defs _ _).mono (fun r h => ⟨fun c => (h c).2, sem_eq_zero_of_no_sems (by decide) r.2⟩) (Cert.Reference26Ideal.Value.run (F := Ideal) m g)

/-- The reference ends with its arguments unchanged, and it declares no semaphore. -/
theorem reference_frame27 : Cert.quiescent_Reference27Ideal (hReference27Ideal := Cert.Reference27Ideal.Gen.facts) := fun m g _ =>
  (θ_run Cert.Reference27Ideal.defs _ _).mono (fun r h => ⟨fun c => (h c).2, sem_eq_zero_of_no_sems (by decide) r.2⟩) (Cert.Reference27Ideal.Value.run (F := Ideal) m g)

/-- The reference ends with its arguments unchanged, and it declares no semaphore. -/
theorem reference_frame28 : Cert.quiescent_Reference28Ideal (hReference28Ideal := Cert.Reference28Ideal.Gen.facts) := fun m g _ =>
  (θ_run Cert.Reference28Ideal.defs _ _).mono (fun r h => ⟨fun c => (h c).2, sem_eq_zero_of_no_sems (by decide) r.2⟩) (Cert.Reference28Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    fun m g _ => Cert.Kernel.Gen.frame m g, fun m g _ => Cert.KernelIdeal.Gen.frame m g, reference_frame,
    fun m g _ => Cert.Kernel2.Gen.frame m g, fun m g _ => Cert.Kernel2Ideal.Gen.frame m g, reference_frame2,
    fun m g _ => Cert.Kernel3.Gen.frame m g, fun m g _ => Cert.Kernel3Ideal.Gen.frame m g, reference_frame3,
    fun m g _ => Cert.Kernel4.Gen.frame m g, fun m g _ => Cert.Kernel4Ideal.Gen.frame m g, reference_frame4,
    fun m g _ => Cert.Kernel5.Gen.frame m g, fun m g _ => Cert.Kernel5Ideal.Gen.frame m g, reference_frame5,
    fun m g _ => Cert.Kernel6.Gen.frame m g, fun m g _ => Cert.Kernel6Ideal.Gen.frame m g, reference_frame6,
    fun m g _ => Cert.Kernel7.Gen.frame m g, fun m g _ => Cert.Kernel7Ideal.Gen.frame m g, reference_frame7,
    fun m g _ => Cert.Kernel8.Gen.frame m g, fun m g _ => Cert.Kernel8Ideal.Gen.frame m g, reference_frame8,
    fun m g _ => Cert.Kernel9.Gen.frame m g, fun m g _ => Cert.Kernel9Ideal.Gen.frame m g, reference_frame9,
    fun m g _ => Cert.Kernel10.Gen.frame m g, fun m g _ => Cert.Kernel10Ideal.Gen.frame m g, reference_frame10,
    fun m g _ => Cert.Kernel11.Gen.frame m g, fun m g _ => Cert.Kernel11Ideal.Gen.frame m g, reference_frame11,
    fun m g _ => Cert.Kernel12.Gen.frame m g, fun m g _ => Cert.Kernel12Ideal.Gen.frame m g, reference_frame12,
    fun m g _ => Cert.Kernel13.Gen.frame m g, fun m g _ => Cert.Kernel13Ideal.Gen.frame m g, reference_frame13,
    fun m g _ => Cert.Kernel14.Gen.frame m g, fun m g _ => Cert.Kernel14Ideal.Gen.frame m g, reference_frame14,
    fun m g _ => Cert.Kernel15.Gen.frame m g, fun m g _ => Cert.Kernel15Ideal.Gen.frame m g, reference_frame15,
    fun m g _ => Cert.Kernel16.Gen.frame m g, fun m g _ => Cert.Kernel16Ideal.Gen.frame m g, reference_frame16,
    fun m g _ => Cert.Kernel17.Gen.frame m g, fun m g _ => Cert.Kernel17Ideal.Gen.frame m g, reference_frame17,
    fun m g _ => Cert.Kernel18.Gen.frame m g, fun m g _ => Cert.Kernel18Ideal.Gen.frame m g, reference_frame18,
    fun m g _ => Cert.Kernel19.Gen.frame m g, fun m g _ => Cert.Kernel19Ideal.Gen.frame m g, reference_frame19,
    fun m g _ => Cert.Kernel20.Gen.frame m g, fun m g _ => Cert.Kernel20Ideal.Gen.frame m g, reference_frame20,
    fun m g _ => Cert.Kernel21.Gen.frame m g, fun m g _ => Cert.Kernel21Ideal.Gen.frame m g, reference_frame21,
    fun m g _ => Cert.Kernel22.Gen.frame m g, fun m g _ => Cert.Kernel22Ideal.Gen.frame m g, reference_frame22,
    fun m g _ => Cert.Kernel23.Gen.frame m g, fun m g _ => Cert.Kernel23Ideal.Gen.frame m g, reference_frame23,
    fun m g _ => Cert.Kernel24.Gen.frame m g, fun m g _ => Cert.Kernel24Ideal.Gen.frame m g, reference_frame24,
    fun m g _ => Cert.Kernel25.Gen.frame m g, fun m g _ => Cert.Kernel25Ideal.Gen.frame m g, reference_frame25,
    fun m g _ => Cert.Kernel26.Gen.frame m g, fun m g _ => Cert.Kernel26Ideal.Gen.frame m g, reference_frame26,
    fun m g _ => Cert.Kernel27.Gen.frame m g, fun m g _ => Cert.Kernel27Ideal.Gen.frame m g, reference_frame27,
    fun m g _ => Cert.Kernel28.Gen.frame m g, fun m g _ => Cert.Kernel28Ideal.Gen.frame m g, reference_frame28,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13,
    trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28⟩

end Cert.Proof

end
